-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_logits [hPre_finite_logits : Cert.Pre_finite_logits.Facts] (m : (ℓ : Loc Cert.KernelIdeal.nD Cert.KernelIdeal.τ Cert.KernelIdeal.sig) → Buf (Elt Ideal) ℓ) : Prop :=
  ∀ c : Dev Cert.KernelIdeal.nD,
    (Cert.Pre_finite_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_logits [hPre_finite_logits : Cert.Pre_finite_logits.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_Pool (m : (ℓ : Loc Cert.Pool.nD Cert.Pool.τ Cert.Pool.sig) → Buf (Elt Bits) ℓ) : Prop :=
  True

def Pre_PoolIdeal (m : (ℓ : Loc Cert.PoolIdeal.nD Cert.PoolIdeal.τ Cert.PoolIdeal.sig) → Buf (Elt Ideal) ℓ) : Prop :=
  True

def Pre_PoolIdeal_finite_rows [hPre_finite_rows : Cert.Pre_finite_rows.Facts] (m : (ℓ : Loc Cert.PoolIdeal.nD Cert.PoolIdeal.τ Cert.PoolIdeal.sig) → Buf (Elt Ideal) ℓ) : Prop :=
  ∀ c : Dev Cert.PoolIdeal.nD,
    (Cert.Pre_finite_rows.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2))) = (fun _ => 1#1)

def Pre_PoolReferenceIdeal (m : (ℓ : Loc Cert.PoolReferenceIdeal.nD Cert.PoolReferenceIdeal.τ Cert.PoolReferenceIdeal.sig) → Buf (Elt Ideal) ℓ) : Prop :=
  True

def Pre_PoolReferenceIdeal_finite_rows [hPre_finite_rows : Cert.Pre_finite_rows.Facts] (m : (ℓ : Loc Cert.PoolReferenceIdeal.nD Cert.PoolReferenceIdeal.τ Cert.PoolReferenceIdeal.sig) → Buf (Elt Ideal) ℓ) : Prop :=
  ∀ c : Dev Cert.PoolReferenceIdeal.nD,
    (Cert.Pre_finite_rows.fn (F := Ideal) (m ((c.tc : Thread Cert.PoolReferenceIdeal.nD Cert.PoolReferenceIdeal.τ).loc Cert.PoolReferenceIdeal.main_arg0)) (m ((c.tc : Thread Cert.PoolReferenceIdeal.nD Cert.PoolReferenceIdeal.τ).loc Cert.PoolReferenceIdeal.main_arg1)) (m ((c.tc : Thread Cert.PoolReferenceIdeal.nD Cert.PoolReferenceIdeal.τ).loc Cert.PoolReferenceIdeal.main_arg2))) = (fun _ => 1#1)

def Pre_Sparse (m : (ℓ : Loc Cert.Sparse.nD Cert.Sparse.τ Cert.Sparse.sig) → Buf (Elt Bits) ℓ) : Prop :=
  True

def Pre_SparseIdeal (m : (ℓ : Loc Cert.SparseIdeal.nD Cert.SparseIdeal.τ Cert.SparseIdeal.sig) → Buf (Elt Ideal) ℓ) : Prop :=
  True

def Pre_SparseIdeal_picked_keys [hPre_picked_keys : Cert.Pre_picked_keys.Facts] (m : (ℓ : Loc Cert.SparseIdeal.nD Cert.SparseIdeal.τ Cert.SparseIdeal.sig) → Buf (Elt Ideal) ℓ) : Prop :=
  ∀ c : Dev Cert.SparseIdeal.nD,
    (Cert.Pre_picked_keys.fn (F := Ideal) (m ((c.tc : Thread Cert.SparseIdeal.nD Cert.SparseIdeal.τ).loc Cert.SparseIdeal.main_arg0)) (m ((c.tc : Thread Cert.SparseIdeal.nD Cert.SparseIdeal.τ).loc Cert.SparseIdeal.main_arg1)) (m ((c.tc : Thread Cert.SparseIdeal.nD Cert.SparseIdeal.τ).loc Cert.SparseIdeal.main_arg2)) (m ((c.tc : Thread Cert.SparseIdeal.nD Cert.SparseIdeal.τ).loc Cert.SparseIdeal.main_arg3))) = (fun _ => 1#1)

def Pre_SparseReferenceIdeal (m : (ℓ : Loc Cert.SparseReferenceIdeal.nD Cert.SparseReferenceIdeal.τ Cert.SparseReferenceIdeal.sig) → Buf (Elt Ideal) ℓ) : Prop :=
  True

def Pre_SparseReferenceIdeal_picked_keys [hPre_picked_keys : Cert.Pre_picked_keys.Facts] (m : (ℓ : Loc Cert.SparseReferenceIdeal.nD Cert.SparseReferenceIdeal.τ Cert.SparseReferenceIdeal.sig) → Buf (Elt Ideal) ℓ) : Prop :=
  ∀ c : Dev Cert.SparseReferenceIdeal.nD,
    (Cert.Pre_picked_keys.fn (F := Ideal) (m ((c.tc : Thread Cert.SparseReferenceIdeal.nD Cert.SparseReferenceIdeal.τ).loc Cert.SparseReferenceIdeal.main_arg0)) (m ((c.tc : Thread Cert.SparseReferenceIdeal.nD Cert.SparseReferenceIdeal.τ).loc Cert.SparseReferenceIdeal.main_arg1)) (m ((c.tc : Thread Cert.SparseReferenceIdeal.nD Cert.SparseReferenceIdeal.τ).loc Cert.SparseReferenceIdeal.main_arg2)) (m ((c.tc : Thread Cert.SparseReferenceIdeal.nD Cert.SparseReferenceIdeal.τ).loc Cert.SparseReferenceIdeal.main_arg3))) = (fun _ => 1#1)

def Pre_Sample (m : (ℓ : Loc Cert.Sample.nD Cert.Sample.τ Cert.Sample.sig) → Buf (Elt Bits) ℓ) : Prop :=
  True

def Pre_SampleIdeal (m : (ℓ : Loc Cert.SampleIdeal.nD Cert.SampleIdeal.τ Cert.SampleIdeal.sig) → Buf (Elt Ideal) ℓ) : Prop :=
  True

def Pre_SampleReferenceIdeal (m : (ℓ : Loc Cert.SampleReferenceIdeal.nD Cert.SampleReferenceIdeal.τ Cert.SampleReferenceIdeal.sig) → Buf (Elt Ideal) ℓ) : Prop :=
  True

def Pre_Close (m : (ℓ : Loc Cert.Close.nD Cert.Close.τ Cert.Close.sig) → Buf (Elt Bits) ℓ) : Prop :=
  True

def Pre_CloseIdeal (m : (ℓ : Loc Cert.CloseIdeal.nD Cert.CloseIdeal.τ Cert.CloseIdeal.sig) → Buf (Elt Ideal) ℓ) : Prop :=
  True

def Pre_CloseReferenceIdeal (m : (ℓ : Loc Cert.CloseReferenceIdeal.nD Cert.CloseReferenceIdeal.τ Cert.CloseReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_logits [hKernelIdeal : Cert.KernelIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_logits m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_logits [hReferenceIdeal : Cert.ReferenceIdeal.Facts] [hPre_finite_logits : Cert.Pre_finite_logits.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_logits m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5))
      ∧ r.2.sem = fun _ => 0)

def quiescent_Pool [hPool : Cert.Pool.Facts] : Prop :=
  ∀ (m : (ℓ : Loc Cert.Pool.nD Cert.Pool.τ Cert.Pool.sig) → Buf (Elt Bits) ℓ) (g : Dev Cert.Pool.nD → PrngReg), Pre_Pool m →
    θ_run (Cert.Pool.defs (F := Bits)) (onTc (τ := Cert.Pool.τ) (Cert.Pool.main (F := Bits))) ⟨m, fun _ => 0, g⟩ (fun r => (∀ c : Dev Cert.Pool.nD,
      r.2.mem ((c.tc : Thread Cert.Pool.nD Cert.Pool.τ).loc Cert.Pool.main_arg0) = m ((c.tc : Thread Cert.Pool.nD Cert.Pool.τ).loc Cert.Pool.main_arg0)
      ∧ r.2.mem ((c.tc : Thread Cert.Pool.nD Cert.Pool.τ).loc Cert.Pool.main_arg1) = m ((c.tc : Thread Cert.Pool.nD Cert.Pool.τ).loc Cert.Pool.main_arg1)
      ∧ r.2.mem ((c.tc : Thread Cert.Pool.nD Cert.Pool.τ).loc Cert.Pool.main_arg2) = m ((c.tc : Thread Cert.Pool.nD Cert.Pool.τ).loc Cert.Pool.main_arg2))
      ∧ r.2.sem = fun _ => 0)

def quiescent_PoolIdeal [hPoolIdeal : Cert.PoolIdeal.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2))
      ∧ r.2.sem = fun _ => 0)

def quiescent_PoolIdeal_pre_finite_rows [hPoolIdeal : Cert.PoolIdeal.Facts] [hPre_finite_rows : Cert.Pre_finite_rows.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal_finite_rows m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2))
      ∧ r.2.sem = fun _ => 0)

def quiescent_PoolReferenceIdeal [hPoolReferenceIdeal : Cert.PoolReferenceIdeal.Facts] : Prop :=
  ∀ (m : (ℓ : Loc Cert.PoolReferenceIdeal.nD Cert.PoolReferenceIdeal.τ Cert.PoolReferenceIdeal.sig) → Buf (Elt Ideal) ℓ) (g : Dev Cert.PoolReferenceIdeal.nD → PrngReg), Pre_PoolReferenceIdeal m →
    θ_run (Cert.PoolReferenceIdeal.defs (F := Ideal)) (onTc (τ := Cert.PoolReferenceIdeal.τ) (Cert.PoolReferenceIdeal.main (F := Ideal))) ⟨m, fun _ => 0, g⟩ (fun r => (∀ c : Dev Cert.PoolReferenceIdeal.nD,
      r.2.mem ((c.tc : Thread Cert.PoolReferenceIdeal.nD Cert.PoolReferenceIdeal.τ).loc Cert.PoolReferenceIdeal.main_arg0) = m ((c.tc : Thread Cert.PoolReferenceIdeal.nD Cert.PoolReferenceIdeal.τ).loc Cert.PoolReferenceIdeal.main_arg0)
      ∧ r.2.mem ((c.tc : Thread Cert.PoolReferenceIdeal.nD Cert.PoolReferenceIdeal.τ).loc Cert.PoolReferenceIdeal.main_arg1) = m ((c.tc : Thread Cert.PoolReferenceIdeal.nD Cert.PoolReferenceIdeal.τ).loc Cert.PoolReferenceIdeal.main_arg1)
      ∧ r.2.mem ((c.tc : Thread Cert.PoolReferenceIdeal.nD Cert.PoolReferenceIdeal.τ).loc Cert.PoolReferenceIdeal.main_arg2) = m ((c.tc : Thread Cert.PoolReferenceIdeal.nD Cert.PoolReferenceIdeal.τ).loc Cert.PoolReferenceIdeal.main_arg2))
      ∧ r.2.sem = fun _ => 0)

def quiescent_PoolReferenceIdeal_pre_finite_rows [hPoolReferenceIdeal : Cert.PoolReferenceIdeal.Facts] [hPre_finite_rows : Cert.Pre_finite_rows.Facts] : Prop :=
  ∀ (m : (ℓ : Loc Cert.PoolReferenceIdeal.nD Cert.PoolReferenceIdeal.τ Cert.PoolReferenceIdeal.sig) → Buf (Elt Ideal) ℓ) (g : Dev Cert.PoolReferenceIdeal.nD → PrngReg), Pre_PoolReferenceIdeal_finite_rows m →
    θ_run (Cert.PoolReferenceIdeal.defs (F := Ideal)) (onTc (τ := Cert.PoolReferenceIdeal.τ) (Cert.PoolReferenceIdeal.main (F := Ideal))) ⟨m, fun _ => 0, g⟩ (fun r => (∀ c : Dev Cert.PoolReferenceIdeal.nD,
      r.2.mem ((c.tc : Thread Cert.PoolReferenceIdeal.nD Cert.PoolReferenceIdeal.τ).loc Cert.PoolReferenceIdeal.main_arg0) = m ((c.tc : Thread Cert.PoolReferenceIdeal.nD Cert.PoolReferenceIdeal.τ).loc Cert.PoolReferenceIdeal.main_arg0)
      ∧ r.2.mem ((c.tc : Thread Cert.PoolReferenceIdeal.nD Cert.PoolReferenceIdeal.τ).loc Cert.PoolReferenceIdeal.main_arg1) = m ((c.tc : Thread Cert.PoolReferenceIdeal.nD Cert.PoolReferenceIdeal.τ).loc Cert.PoolReferenceIdeal.main_arg1)
      ∧ r.2.mem ((c.tc : Thread Cert.PoolReferenceIdeal.nD Cert.PoolReferenceIdeal.τ).loc Cert.PoolReferenceIdeal.main_arg2) = m ((c.tc : Thread Cert.PoolReferenceIdeal.nD Cert.PoolReferenceIdeal.τ).loc Cert.PoolReferenceIdeal.main_arg2))
      ∧ r.2.sem = fun _ => 0)

def quiescent_Sparse [hSparse : Cert.Sparse.Facts] : Prop :=
  ∀ (m : (ℓ : Loc Cert.Sparse.nD Cert.Sparse.τ Cert.Sparse.sig) → Buf (Elt Bits) ℓ) (g : Dev Cert.Sparse.nD → PrngReg), Pre_Sparse m →
    θ_run (Cert.Sparse.defs (F := Bits)) (onTc (τ := Cert.Sparse.τ) (Cert.Sparse.main (F := Bits))) ⟨m, fun _ => 0, g⟩ (fun r => (∀ c : Dev Cert.Sparse.nD,
      r.2.mem ((c.tc : Thread Cert.Sparse.nD Cert.Sparse.τ).loc Cert.Sparse.main_arg0) = m ((c.tc : Thread Cert.Sparse.nD Cert.Sparse.τ).loc Cert.Sparse.main_arg0)
      ∧ r.2.mem ((c.tc : Thread Cert.Sparse.nD Cert.Sparse.τ).loc Cert.Sparse.main_arg1) = m ((c.tc : Thread Cert.Sparse.nD Cert.Sparse.τ).loc Cert.Sparse.main_arg1)
      ∧ r.2.mem ((c.tc : Thread Cert.Sparse.nD Cert.Sparse.τ).loc Cert.Sparse.main_arg2) = m ((c.tc : Thread Cert.Sparse.nD Cert.Sparse.τ).loc Cert.Sparse.main_arg2)
      ∧ r.2.mem ((c.tc : Thread Cert.Sparse.nD Cert.Sparse.τ).loc Cert.Sparse.main_arg3) = m ((c.tc : Thread Cert.Sparse.nD Cert.Sparse.τ).loc Cert.Sparse.main_arg3))
      ∧ r.2.sem = fun _ => 0)

def quiescent_SparseIdeal [hSparseIdeal : Cert.SparseIdeal.Facts] : Prop :=
  ∀ (m : (ℓ : Loc Cert.SparseIdeal.nD Cert.SparseIdeal.τ Cert.SparseIdeal.sig) → Buf (Elt Ideal) ℓ) (g : Dev Cert.SparseIdeal.nD → PrngReg), Pre_SparseIdeal m →
    θ_run (Cert.SparseIdeal.defs (F := Ideal)) (onTc (τ := Cert.SparseIdeal.τ) (Cert.SparseIdeal.main (F := Ideal))) ⟨m, fun _ => 0, g⟩ (fun r => (∀ c : Dev Cert.SparseIdeal.nD,
      r.2.mem ((c.tc : Thread Cert.SparseIdeal.nD Cert.SparseIdeal.τ).loc Cert.SparseIdeal.main_arg0) = m ((c.tc : Thread Cert.SparseIdeal.nD Cert.SparseIdeal.τ).loc Cert.SparseIdeal.main_arg0)
      ∧ r.2.mem ((c.tc : Thread Cert.SparseIdeal.nD Cert.SparseIdeal.τ).loc Cert.SparseIdeal.main_arg1) = m ((c.tc : Thread Cert.SparseIdeal.nD Cert.SparseIdeal.τ).loc Cert.SparseIdeal.main_arg1)
      ∧ r.2.mem ((c.tc : Thread Cert.SparseIdeal.nD Cert.SparseIdeal.τ).loc Cert.SparseIdeal.main_arg2) = m ((c.tc : Thread Cert.SparseIdeal.nD Cert.SparseIdeal.τ).loc Cert.SparseIdeal.main_arg2)
      ∧ r.2.mem ((c.tc : Thread Cert.SparseIdeal.nD Cert.SparseIdeal.τ).loc Cert.SparseIdeal.main_arg3) = m ((c.tc : Thread Cert.SparseIdeal.nD Cert.SparseIdeal.τ).loc Cert.SparseIdeal.main_arg3))
      ∧ r.2.sem = fun _ => 0)

def quiescent_SparseIdeal_pre_picked_keys [hSparseIdeal : Cert.SparseIdeal.Facts] [hPre_picked_keys : Cert.Pre_picked_keys.Facts] : Prop :=
  ∀ (m : (ℓ : Loc Cert.SparseIdeal.nD Cert.SparseIdeal.τ Cert.SparseIdeal.sig) → Buf (Elt Ideal) ℓ) (g : Dev Cert.SparseIdeal.nD → PrngReg), Pre_SparseIdeal_picked_keys m →
    θ_run (Cert.SparseIdeal.defs (F := Ideal)) (onTc (τ := Cert.SparseIdeal.τ) (Cert.SparseIdeal.main (F := Ideal))) ⟨m, fun _ => 0, g⟩ (fun r => (∀ c : Dev Cert.SparseIdeal.nD,
      r.2.mem ((c.tc : Thread Cert.SparseIdeal.nD Cert.SparseIdeal.τ).loc Cert.SparseIdeal.main_arg0) = m ((c.tc : Thread Cert.SparseIdeal.nD Cert.SparseIdeal.τ).loc Cert.SparseIdeal.main_arg0)
      ∧ r.2.mem ((c.tc : Thread Cert.SparseIdeal.nD Cert.SparseIdeal.τ).loc Cert.SparseIdeal.main_arg1) = m ((c.tc : Thread Cert.SparseIdeal.nD Cert.SparseIdeal.τ).loc Cert.SparseIdeal.main_arg1)
      ∧ r.2.mem ((c.tc : Thread Cert.SparseIdeal.nD Cert.SparseIdeal.τ).loc Cert.SparseIdeal.main_arg2) = m ((c.tc : Thread Cert.SparseIdeal.nD Cert.SparseIdeal.τ).loc Cert.SparseIdeal.main_arg2)
      ∧ r.2.mem ((c.tc : Thread Cert.SparseIdeal.nD Cert.SparseIdeal.τ).loc Cert.SparseIdeal.main_arg3) = m ((c.tc : Thread Cert.SparseIdeal.nD Cert.SparseIdeal.τ).loc Cert.SparseIdeal.main_arg3))
      ∧ r.2.sem = fun _ => 0)

def quiescent_SparseReferenceIdeal [hSparseReferenceIdeal : Cert.SparseReferenceIdeal.Facts] : Prop :=
  ∀ (m : (ℓ : Loc Cert.SparseReferenceIdeal.nD Cert.SparseReferenceIdeal.τ Cert.SparseReferenceIdeal.sig) → Buf (Elt Ideal) ℓ) (g : Dev Cert.SparseReferenceIdeal.nD → PrngReg), Pre_SparseReferenceIdeal m →
    θ_run (Cert.SparseReferenceIdeal.defs (F := Ideal)) (onTc (τ := Cert.SparseReferenceIdeal.τ) (Cert.SparseReferenceIdeal.main (F := Ideal))) ⟨m, fun _ => 0, g⟩ (fun r => (∀ c : Dev Cert.SparseReferenceIdeal.nD,
      r.2.mem ((c.tc : Thread Cert.SparseReferenceIdeal.nD Cert.SparseReferenceIdeal.τ).loc Cert.SparseReferenceIdeal.main_arg0) = m ((c.tc : Thread Cert.SparseReferenceIdeal.nD Cert.SparseReferenceIdeal.τ).loc Cert.SparseReferenceIdeal.main_arg0)
      ∧ r.2.mem ((c.tc : Thread Cert.SparseReferenceIdeal.nD Cert.SparseReferenceIdeal.τ).loc Cert.SparseReferenceIdeal.main_arg1) = m ((c.tc : Thread Cert.SparseReferenceIdeal.nD Cert.SparseReferenceIdeal.τ).loc Cert.SparseReferenceIdeal.main_arg1)
      ∧ r.2.mem ((c.tc : Thread Cert.SparseReferenceIdeal.nD Cert.SparseReferenceIdeal.τ).loc Cert.SparseReferenceIdeal.main_arg2) = m ((c.tc : Thread Cert.SparseReferenceIdeal.nD Cert.SparseReferenceIdeal.τ).loc Cert.SparseReferenceIdeal.main_arg2)
      ∧ r.2.mem ((c.tc : Thread Cert.SparseReferenceIdeal.nD Cert.SparseReferenceIdeal.τ).loc Cert.SparseReferenceIdeal.main_arg3) = m ((c.tc : Thread Cert.SparseReferenceIdeal.nD Cert.SparseReferenceIdeal.τ).loc Cert.SparseReferenceIdeal.main_arg3))
      ∧ r.2.sem = fun _ => 0)

def quiescent_SparseReferenceIdeal_pre_picked_keys [hSparseReferenceIdeal : Cert.SparseReferenceIdeal.Facts] [hPre_picked_keys : Cert.Pre_picked_keys.Facts] : Prop :=
  ∀ (m : (ℓ : Loc Cert.SparseReferenceIdeal.nD Cert.SparseReferenceIdeal.τ Cert.SparseReferenceIdeal.sig) → Buf (Elt Ideal) ℓ) (g : Dev Cert.SparseReferenceIdeal.nD → PrngReg), Pre_SparseReferenceIdeal_picked_keys m →
    θ_run (Cert.SparseReferenceIdeal.defs (F := Ideal)) (onTc (τ := Cert.SparseReferenceIdeal.τ) (Cert.SparseReferenceIdeal.main (F := Ideal))) ⟨m, fun _ => 0, g⟩ (fun r => (∀ c : Dev Cert.SparseReferenceIdeal.nD,
      r.2.mem ((c.tc : Thread Cert.SparseReferenceIdeal.nD Cert.SparseReferenceIdeal.τ).loc Cert.SparseReferenceIdeal.main_arg0) = m ((c.tc : Thread Cert.SparseReferenceIdeal.nD Cert.SparseReferenceIdeal.τ).loc Cert.SparseReferenceIdeal.main_arg0)
      ∧ r.2.mem ((c.tc : Thread Cert.SparseReferenceIdeal.nD Cert.SparseReferenceIdeal.τ).loc Cert.SparseReferenceIdeal.main_arg1) = m ((c.tc : Thread Cert.SparseReferenceIdeal.nD Cert.SparseReferenceIdeal.τ).loc Cert.SparseReferenceIdeal.main_arg1)
      ∧ r.2.mem ((c.tc : Thread Cert.SparseReferenceIdeal.nD Cert.SparseReferenceIdeal.τ).loc Cert.SparseReferenceIdeal.main_arg2) = m ((c.tc : Thread Cert.SparseReferenceIdeal.nD Cert.SparseReferenceIdeal.τ).loc Cert.SparseReferenceIdeal.main_arg2)
      ∧ r.2.mem ((c.tc : Thread Cert.SparseReferenceIdeal.nD Cert.SparseReferenceIdeal.τ).loc Cert.SparseReferenceIdeal.main_arg3) = m ((c.tc : Thread Cert.SparseReferenceIdeal.nD Cert.SparseReferenceIdeal.τ).loc Cert.SparseReferenceIdeal.main_arg3))
      ∧ r.2.sem = fun _ => 0)

def quiescent_Sample [hSample : Cert.Sample.Facts] : Prop :=
  ∀ (m : (ℓ : Loc Cert.Sample.nD Cert.Sample.τ Cert.Sample.sig) → Buf (Elt Bits) ℓ) (g : Dev Cert.Sample.nD → PrngReg), Pre_Sample m →
    θ_run (Cert.Sample.defs (F := Bits)) (onTc (τ := Cert.Sample.τ) (Cert.Sample.main (F := Bits))) ⟨m, fun _ => 0, g⟩ (fun r => (∀ c : Dev Cert.Sample.nD,
      r.2.mem ((c.tc : Thread Cert.Sample.nD Cert.Sample.τ).loc Cert.Sample.main_arg0) = m ((c.tc : Thread Cert.Sample.nD Cert.Sample.τ).loc Cert.Sample.main_arg0)
      ∧ r.2.mem ((c.tc : Thread Cert.Sample.nD Cert.Sample.τ).loc Cert.Sample.main_arg1) = m ((c.tc : Thread Cert.Sample.nD Cert.Sample.τ).loc Cert.Sample.main_arg1)
      ∧ r.2.mem ((c.tc : Thread Cert.Sample.nD Cert.Sample.τ).loc Cert.Sample.main_arg2) = m ((c.tc : Thread Cert.Sample.nD Cert.Sample.τ).loc Cert.Sample.main_arg2)
      ∧ r.2.mem ((c.tc : Thread Cert.Sample.nD Cert.Sample.τ).loc Cert.Sample.main_arg3) = m ((c.tc : Thread Cert.Sample.nD Cert.Sample.τ).loc Cert.Sample.main_arg3)
      ∧ r.2.mem ((c.tc : Thread Cert.Sample.nD Cert.Sample.τ).loc Cert.Sample.main_arg4) = m ((c.tc : Thread Cert.Sample.nD Cert.Sample.τ).loc Cert.Sample.main_arg4))
      ∧ r.2.sem = fun _ => 0)

def quiescent_SampleIdeal [hSampleIdeal : Cert.SampleIdeal.Facts] : Prop :=
  ∀ (m : (ℓ : Loc Cert.SampleIdeal.nD Cert.SampleIdeal.τ Cert.SampleIdeal.sig) → Buf (Elt Ideal) ℓ) (g : Dev Cert.SampleIdeal.nD → PrngReg), Pre_SampleIdeal m →
    θ_run (Cert.SampleIdeal.defs (F := Ideal)) (onTc (τ := Cert.SampleIdeal.τ) (Cert.SampleIdeal.main (F := Ideal))) ⟨m, fun _ => 0, g⟩ (fun r => (∀ c : Dev Cert.SampleIdeal.nD,
      r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
      ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
      ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2)
      ∧ r.2.mem ((c.tc : Thread Cert.SampleIdeal.nD Cert.SampleIdeal.τ).loc Cert.SampleIdeal.main_arg3) = m ((c.tc : Thread Cert.SampleIdeal.nD Cert.SampleIdeal.τ).loc Cert.SampleIdeal.main_arg3)
      ∧ r.2.mem ((c.tc : Thread Cert.SampleIdeal.nD Cert.SampleIdeal.τ).loc Cert.SampleIdeal.main_arg4) = m ((c.tc : Thread Cert.SampleIdeal.nD Cert.SampleIdeal.τ).loc Cert.SampleIdeal.main_arg4))
      ∧ r.2.sem = fun _ => 0)

def quiescent_SampleReferenceIdeal [hSampleReferenceIdeal : Cert.SampleReferenceIdeal.Facts] : Prop :=
  ∀ (m : (ℓ : Loc Cert.SampleReferenceIdeal.nD Cert.SampleReferenceIdeal.τ Cert.SampleReferenceIdeal.sig) → Buf (Elt Ideal) ℓ) (g : Dev Cert.SampleReferenceIdeal.nD → PrngReg), Pre_SampleReferenceIdeal m →
    θ_run (Cert.SampleReferenceIdeal.defs (F := Ideal)) (onTc (τ := Cert.SampleReferenceIdeal.τ) (Cert.SampleReferenceIdeal.main (F := Ideal))) ⟨m, fun _ => 0, g⟩ (fun r => (∀ c : Dev Cert.SampleReferenceIdeal.nD,
      r.2.mem ((c.tc : Thread Cert.SampleReferenceIdeal.nD Cert.SampleReferenceIdeal.τ).loc Cert.SampleReferenceIdeal.main_arg0) = m ((c.tc : Thread Cert.SampleReferenceIdeal.nD Cert.SampleReferenceIdeal.τ).loc Cert.SampleReferenceIdeal.main_arg0)
      ∧ r.2.mem ((c.tc : Thread Cert.SampleReferenceIdeal.nD Cert.SampleReferenceIdeal.τ).loc Cert.SampleReferenceIdeal.main_arg1) = m ((c.tc : Thread Cert.SampleReferenceIdeal.nD Cert.SampleReferenceIdeal.τ).loc Cert.SampleReferenceIdeal.main_arg1)
      ∧ r.2.mem ((c.tc : Thread Cert.SampleReferenceIdeal.nD Cert.SampleReferenceIdeal.τ).loc Cert.SampleReferenceIdeal.main_arg2) = m ((c.tc : Thread Cert.SampleReferenceIdeal.nD Cert.SampleReferenceIdeal.τ).loc Cert.SampleReferenceIdeal.main_arg2)
      ∧ r.2.mem ((c.tc : Thread Cert.SampleReferenceIdeal.nD Cert.SampleReferenceIdeal.τ).loc Cert.SampleReferenceIdeal.main_arg3) = m ((c.tc : Thread Cert.SampleReferenceIdeal.nD Cert.SampleReferenceIdeal.τ).loc Cert.SampleReferenceIdeal.main_arg3)
      ∧ r.2.mem ((c.tc : Thread Cert.SampleReferenceIdeal.nD Cert.SampleReferenceIdeal.τ).loc Cert.SampleReferenceIdeal.main_arg4) = m ((c.tc : Thread Cert.SampleReferenceIdeal.nD Cert.SampleReferenceIdeal.τ).loc Cert.SampleReferenceIdeal.main_arg4))
      ∧ r.2.sem = fun _ => 0)

def quiescent_Close [hClose : Cert.Close.Facts] : Prop :=
  ∀ (m : (ℓ : Loc Cert.Close.nD Cert.Close.τ Cert.Close.sig) → Buf (Elt Bits) ℓ) (g : Dev Cert.Close.nD → PrngReg), Pre_Close m →
    θ_run (Cert.Close.defs (F := Bits)) (onTc (τ := Cert.Close.τ) (Cert.Close.main (F := Bits))) ⟨m, fun _ => 0, g⟩ (fun r => (∀ c : Dev Cert.Close.nD,
      r.2.mem ((c.tc : Thread Cert.Close.nD Cert.Close.τ).loc Cert.Close.main_arg0) = m ((c.tc : Thread Cert.Close.nD Cert.Close.τ).loc Cert.Close.main_arg0)
      ∧ r.2.mem ((c.tc : Thread Cert.Close.nD Cert.Close.τ).loc Cert.Close.main_arg1) = m ((c.tc : Thread Cert.Close.nD Cert.Close.τ).loc Cert.Close.main_arg1)
      ∧ r.2.mem ((c.tc : Thread Cert.Close.nD Cert.Close.τ).loc Cert.Close.main_arg2) = m ((c.tc : Thread Cert.Close.nD Cert.Close.τ).loc Cert.Close.main_arg2)
      ∧ r.2.mem ((c.tc : Thread Cert.Close.nD Cert.Close.τ).loc Cert.Close.main_arg3) = m ((c.tc : Thread Cert.Close.nD Cert.Close.τ).loc Cert.Close.main_arg3)
      ∧ r.2.mem ((c.tc : Thread Cert.Close.nD Cert.Close.τ).loc Cert.Close.main_arg4) = m ((c.tc : Thread Cert.Close.nD Cert.Close.τ).loc Cert.Close.main_arg4)
      ∧ r.2.mem ((c.tc : Thread Cert.Close.nD Cert.Close.τ).loc Cert.Close.main_arg5) = m ((c.tc : Thread Cert.Close.nD Cert.Close.τ).loc Cert.Close.main_arg5))
      ∧ r.2.sem = fun _ => 0)

def quiescent_CloseIdeal [hCloseIdeal : Cert.CloseIdeal.Facts] : Prop :=
  ∀ (m : (ℓ : Loc Cert.CloseIdeal.nD Cert.CloseIdeal.τ Cert.CloseIdeal.sig) → Buf (Elt Ideal) ℓ) (g : Dev Cert.CloseIdeal.nD → PrngReg), Pre_CloseIdeal m →
    θ_run (Cert.CloseIdeal.defs (F := Ideal)) (onTc (τ := Cert.CloseIdeal.τ) (Cert.CloseIdeal.main (F := Ideal))) ⟨m, fun _ => 0, g⟩ (fun r => (∀ c : Dev Cert.CloseIdeal.nD,
      r.2.mem ((c.tc : Thread Cert.CloseIdeal.nD Cert.CloseIdeal.τ).loc Cert.CloseIdeal.main_arg0) = m ((c.tc : Thread Cert.CloseIdeal.nD Cert.CloseIdeal.τ).loc Cert.CloseIdeal.main_arg0)
      ∧ r.2.mem ((c.tc : Thread Cert.CloseIdeal.nD Cert.CloseIdeal.τ).loc Cert.CloseIdeal.main_arg1) = m ((c.tc : Thread Cert.CloseIdeal.nD Cert.CloseIdeal.τ).loc Cert.CloseIdeal.main_arg1)
      ∧ r.2.mem ((c.tc : Thread Cert.CloseIdeal.nD Cert.CloseIdeal.τ).loc Cert.CloseIdeal.main_arg2) = m ((c.tc : Thread Cert.CloseIdeal.nD Cert.CloseIdeal.τ).loc Cert.CloseIdeal.main_arg2)
      ∧ r.2.mem ((c.tc : Thread Cert.CloseIdeal.nD Cert.CloseIdeal.τ).loc Cert.CloseIdeal.main_arg3) = m ((c.tc : Thread Cert.CloseIdeal.nD Cert.CloseIdeal.τ).loc Cert.CloseIdeal.main_arg3)
      ∧ r.2.mem ((c.tc : Thread Cert.CloseIdeal.nD Cert.CloseIdeal.τ).loc Cert.CloseIdeal.main_arg4) = m ((c.tc : Thread Cert.CloseIdeal.nD Cert.CloseIdeal.τ).loc Cert.CloseIdeal.main_arg4)
      ∧ r.2.mem ((c.tc : Thread Cert.CloseIdeal.nD Cert.CloseIdeal.τ).loc Cert.CloseIdeal.main_arg5) = m ((c.tc : Thread Cert.CloseIdeal.nD Cert.CloseIdeal.τ).loc Cert.CloseIdeal.main_arg5))
      ∧ r.2.sem = fun _ => 0)

def quiescent_CloseReferenceIdeal [hCloseReferenceIdeal : Cert.CloseReferenceIdeal.Facts] : Prop :=
  ∀ (m : (ℓ : Loc Cert.CloseReferenceIdeal.nD Cert.CloseReferenceIdeal.τ Cert.CloseReferenceIdeal.sig) → Buf (Elt Ideal) ℓ) (g : Dev Cert.CloseReferenceIdeal.nD → PrngReg), Pre_CloseReferenceIdeal m →
    θ_run (Cert.CloseReferenceIdeal.defs (F := Ideal)) (onTc (τ := Cert.CloseReferenceIdeal.τ) (Cert.CloseReferenceIdeal.main (F := Ideal))) ⟨m, fun _ => 0, g⟩ (fun r => (∀ c : Dev Cert.CloseReferenceIdeal.nD,
      r.2.mem ((c.tc : Thread Cert.CloseReferenceIdeal.nD Cert.CloseReferenceIdeal.τ).loc Cert.CloseReferenceIdeal.main_arg0) = m ((c.tc : Thread Cert.CloseReferenceIdeal.nD Cert.CloseReferenceIdeal.τ).loc Cert.CloseReferenceIdeal.main_arg0)
      ∧ r.2.mem ((c.tc : Thread Cert.CloseReferenceIdeal.nD Cert.CloseReferenceIdeal.τ).loc Cert.CloseReferenceIdeal.main_arg1) = m ((c.tc : Thread Cert.CloseReferenceIdeal.nD Cert.CloseReferenceIdeal.τ).loc Cert.CloseReferenceIdeal.main_arg1)
      ∧ r.2.mem ((c.tc : Thread Cert.CloseReferenceIdeal.nD Cert.CloseReferenceIdeal.τ).loc Cert.CloseReferenceIdeal.main_arg2) = m ((c.tc : Thread Cert.CloseReferenceIdeal.nD Cert.CloseReferenceIdeal.τ).loc Cert.CloseReferenceIdeal.main_arg2)
      ∧ r.2.mem ((c.tc : Thread Cert.CloseReferenceIdeal.nD Cert.CloseReferenceIdeal.τ).loc Cert.CloseReferenceIdeal.main_arg3) = m ((c.tc : Thread Cert.CloseReferenceIdeal.nD Cert.CloseReferenceIdeal.τ).loc Cert.CloseReferenceIdeal.main_arg3)
      ∧ r.2.mem ((c.tc : Thread Cert.CloseReferenceIdeal.nD Cert.CloseReferenceIdeal.τ).loc Cert.CloseReferenceIdeal.main_arg4) = m ((c.tc : Thread Cert.CloseReferenceIdeal.nD Cert.CloseReferenceIdeal.τ).loc Cert.CloseReferenceIdeal.main_arg4)
      ∧ r.2.mem ((c.tc : Thread Cert.CloseReferenceIdeal.nD Cert.CloseReferenceIdeal.τ).loc Cert.CloseReferenceIdeal.main_arg5) = m ((c.tc : Thread Cert.CloseReferenceIdeal.nD Cert.CloseReferenceIdeal.τ).loc Cert.CloseReferenceIdeal.main_arg5))
      ∧ r.2.sem = fun _ => 0)

def preserves_Kernel_KernelIdeal : Prop :=
  True

def algebraic_KernelIdeal_ReferenceIdeal_pre_finite_logits [hKernelIdeal : Cert.KernelIdeal.Facts] [hReferenceIdeal : Cert.ReferenceIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_logits m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Proj_ProjIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)
      ∧ m' ((c.tc : Thread Cert.ProjReferenceIdeal.nD Cert.ProjReferenceIdeal.τ).loc Cert.ProjReferenceIdeal.main_arg2) = m ((c.tc : Thread Cert.ProjIdeal.nD Cert.ProjIdeal.τ).loc Cert.ProjIdeal.main_arg2)
      ∧ m' ((c.tc : Thread Cert.ProjReferenceIdeal.nD Cert.ProjReferenceIdeal.τ).loc Cert.ProjReferenceIdeal.main_arg3) = m ((c.tc : Thread Cert.ProjIdeal.nD Cert.ProjIdeal.τ).loc Cert.ProjIdeal.main_arg3)) →
    ∃ (v0 : (c : Dev Cert.ProjIdeal.nD) → Buf (Elt Ideal) ((c.tc : Thread Cert.ProjIdeal.nD Cert.ProjIdeal.τ).loc Cert.ProjIdeal.main_v56)) (v1 : (c : Dev Cert.ProjIdeal.nD) → Buf (Elt Ideal) ((c.tc : Thread Cert.ProjIdeal.nD Cert.ProjIdeal.τ).loc Cert.ProjIdeal.main_v67)) (v2 : (c : Dev Cert.ProjIdeal.nD) → Buf (Elt Ideal) ((c.tc : Thread Cert.ProjIdeal.nD Cert.ProjIdeal.τ).loc Cert.ProjIdeal.main_v57_1)) (v3 : (c : Dev Cert.ProjIdeal.nD) → Buf (Elt Ideal) ((c.tc : Thread Cert.ProjIdeal.nD Cert.ProjIdeal.τ).loc Cert.ProjIdeal.main_v58)) (v4 : (c : Dev Cert.ProjIdeal.nD) → Buf (Elt Ideal) ((c.tc : Thread Cert.ProjIdeal.nD Cert.ProjIdeal.τ).loc Cert.ProjIdeal.main_v59)) (v5 : (c : Dev Cert.ProjIdeal.nD) → Buf (Elt Ideal) ((c.tc : Thread Cert.ProjIdeal.nD Cert.ProjIdeal.τ).loc Cert.ProjIdeal.main_v60)) (v6 : (c : Dev Cert.ProjIdeal.nD) → Buf (Elt Ideal) ((c.tc : Thread Cert.ProjIdeal.nD Cert.ProjIdeal.τ).loc Cert.ProjIdeal.main_v69)) (v7 : (c : Dev Cert.ProjIdeal.nD) → Buf (Elt Ideal) ((c.tc : Thread Cert.ProjIdeal.nD Cert.ProjIdeal.τ).loc Cert.ProjIdeal.main_v61_1)) (v8 : (c : Dev Cert.ProjIdeal.nD) → Buf (Elt Ideal) ((c.tc : Thread Cert.ProjIdeal.nD Cert.ProjIdeal.τ).loc Cert.ProjIdeal.main_v62)) (v9 : (c : Dev Cert.ProjIdeal.nD) → Buf (Elt Ideal) ((c.tc : Thread Cert.ProjIdeal.nD Cert.ProjIdeal.τ).loc Cert.ProjIdeal.main_v63)) (v10 : (c : Dev Cert.ProjIdeal.nD) → Buf (Elt Ideal) ((c.tc : Thread Cert.ProjIdeal.nD Cert.ProjIdeal.τ).loc Cert.ProjIdeal.main_v70)) (v11 : (c : Dev Cert.ProjIdeal.nD) → Buf (Elt Ideal) ((c.tc : Thread Cert.ProjIdeal.nD Cert.ProjIdeal.τ).loc Cert.ProjIdeal.main_v71)) (v12 : (c : Dev Cert.ProjIdeal.nD) → Buf (Elt Ideal) ((c.tc : Thread Cert.ProjIdeal.nD Cert.ProjIdeal.τ).loc Cert.ProjIdeal.main_v72)) (v13 : (c : Dev Cert.ProjIdeal.nD) → Buf (Elt Ideal) ((c.tc : Thread Cert.ProjIdeal.nD Cert.ProjIdeal.τ).loc Cert.ProjIdeal.main_v74)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v56) = v0 c
          ∧ r.2.mem ((c.tc : Thread Cert.ProjIdeal.nD Cert.ProjIdeal.τ).loc Cert.ProjIdeal.main_v67) = v1 c
          ∧ r.2.mem ((c.tc : Thread Cert.ProjIdeal.nD Cert.ProjIdeal.τ).loc Cert.ProjIdeal.main_v57_1) = v2 c
          ∧ r.2.mem ((c.tc : Thread Cert.ProjIdeal.nD Cert.ProjIdeal.τ).loc Cert.ProjIdeal.main_v58) = v3 c
          ∧ r.2.mem ((c.tc : Thread Cert.ProjIdeal.nD Cert.ProjIdeal.τ).loc Cert.ProjIdeal.main_v59) = v4 c
          ∧ r.2.mem ((c.tc : Thread Cert.ProjIdeal.nD Cert.ProjIdeal.τ).loc Cert.ProjIdeal.main_v60) = v5 c
          ∧ r.2.mem ((c.tc : Thread Cert.ProjIdeal.nD Cert.ProjIdeal.τ).loc Cert.ProjIdeal.main_v69) = v6 c
          ∧ r.2.mem ((c.tc : Thread Cert.ProjIdeal.nD Cert.ProjIdeal.τ).loc Cert.ProjIdeal.main_v61_1) = v7 c
          ∧ r.2.mem ((c.tc : Thread Cert.ProjIdeal.nD Cert.ProjIdeal.τ).loc Cert.ProjIdeal.main_v62) = v8 c
          ∧ r.2.mem ((c.tc : Thread Cert.ProjIdeal.nD Cert.ProjIdeal.τ).loc Cert.ProjIdeal.main_v63) = v9 c
          ∧ r.2.mem ((c.tc : Thread Cert.ProjIdeal.nD Cert.ProjIdeal.τ).loc Cert.ProjIdeal.main_v70) = v10 c
          ∧ r.2.mem ((c.tc : Thread Cert.ProjIdeal.nD Cert.ProjIdeal.τ).loc Cert.ProjIdeal.main_v71) = v11 c
          ∧ r.2.mem ((c.tc : Thread Cert.ProjIdeal.nD Cert.ProjIdeal.τ).loc Cert.ProjIdeal.main_v72) = v12 c
          ∧ r.2.mem ((c.tc : Thread Cert.ProjIdeal.nD Cert.ProjIdeal.τ).loc Cert.ProjIdeal.main_v74) = v13 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v112) = v0 c
          ∧ r.2.mem ((c.tc : Thread Cert.ProjReferenceIdeal.nD Cert.ProjReferenceIdeal.τ).loc Cert.ProjReferenceIdeal.main_v37) = v1 c
          ∧ r.2.mem ((c.tc : Thread Cert.ProjReferenceIdeal.nD Cert.ProjReferenceIdeal.τ).loc Cert.ProjReferenceIdeal.main_v115) = v2 c
          ∧ r.2.mem ((c.tc : Thread Cert.ProjReferenceIdeal.nD Cert.ProjReferenceIdeal.τ).loc Cert.ProjReferenceIdeal.main_v116) = v3 c
          ∧ r.2.mem ((c.tc : Thread Cert.ProjReferenceIdeal.nD Cert.ProjReferenceIdeal.τ).loc Cert.ProjReferenceIdeal.main_v118) = v4 c
          ∧ r.2.mem ((c.tc : Thread Cert.ProjReferenceIdeal.nD Cert.ProjReferenceIdeal.τ).loc Cert.ProjReferenceIdeal.main_v154) = v5 c
          ∧ r.2.mem ((c.tc : Thread Cert.ProjReferenceIdeal.nD Cert.ProjReferenceIdeal.τ).loc Cert.ProjReferenceIdeal.main_v75) = v6 c
          ∧ r.2.mem ((c.tc : Thread Cert.ProjReferenceIdeal.nD Cert.ProjReferenceIdeal.τ).loc Cert.ProjReferenceIdeal.main_v157) = v7 c
          ∧ r.2.mem ((c.tc : Thread Cert.ProjReferenceIdeal.nD Cert.ProjReferenceIdeal.τ).loc Cert.ProjReferenceIdeal.main_v158) = v8 c
          ∧ r.2.mem ((c.tc : Thread Cert.ProjReferenceIdeal.nD Cert.ProjReferenceIdeal.τ).loc Cert.ProjReferenceIdeal.main_v194) = v9 c
          ∧ r.2.mem ((c.tc : Thread Cert.ProjReferenceIdeal.nD Cert.ProjReferenceIdeal.τ).loc Cert.ProjReferenceIdeal.main_v32) = v10 c
          ∧ r.2.mem ((c.tc : Thread Cert.ProjReferenceIdeal.nD Cert.ProjReferenceIdeal.τ).loc Cert.ProjReferenceIdeal.main_v27) = v11 c
          ∧ r.2.mem ((c.tc : Thread Cert.ProjReferenceIdeal.nD Cert.ProjReferenceIdeal.τ).loc Cert.ProjReferenceIdeal.main_v110) = v12 c
          ∧ r.2.mem ((c.tc : Thread Cert.ProjReferenceIdeal.nD Cert.ProjReferenceIdeal.τ).loc Cert.ProjReferenceIdeal.main_v195) = v13 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2)
          ∧ r.2.mem ((c.tc : Thread Cert.ProjReferenceIdeal.nD Cert.ProjReferenceIdeal.τ).loc Cert.ProjReferenceIdeal.main_arg3) = m' ((c.tc : Thread Cert.ProjReferenceIdeal.nD Cert.ProjReferenceIdeal.τ).loc Cert.ProjReferenceIdeal.main_arg3))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)) →
    ∃ (v0 : (c : Dev Cert.MergeIdeal.nD) → Buf (Elt Ideal) ((c.tc : Thread Cert.MergeIdeal.nD Cert.MergeIdeal.τ).loc Cert.MergeIdeal.main_v10)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v10) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v21) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5))

def preserves_Pool_PoolIdeal : Prop :=
  True

def algebraic_PoolIdeal_PoolReferenceIdeal_pre_finite_rows [hPoolIdeal : Cert.PoolIdeal.Facts] [hPoolReferenceIdeal : Cert.PoolReferenceIdeal.Facts] [hPre_finite_rows : Cert.Pre_finite_rows.Facts] : Prop :=
  ∀ (m : (ℓ : Loc Cert.PoolIdeal.nD Cert.PoolIdeal.τ Cert.PoolIdeal.sig) → Buf (Elt Ideal) ℓ) (g : Dev Cert.PoolIdeal.nD → PrngReg)
    (m' : (ℓ : Loc Cert.PoolReferenceIdeal.nD Cert.PoolReferenceIdeal.τ Cert.PoolReferenceIdeal.sig) → Buf (Elt Ideal) ℓ) (g' : Dev Cert.PoolReferenceIdeal.nD → PrngReg), Pre_PoolIdeal_finite_rows m →
    (∀ c : Dev Cert.PoolIdeal.nD,
      m' ((c.tc : Thread Cert.PoolReferenceIdeal.nD Cert.PoolReferenceIdeal.τ).loc Cert.PoolReferenceIdeal.main_arg0) = m ((c.tc : Thread Cert.PoolIdeal.nD Cert.PoolIdeal.τ).loc Cert.PoolIdeal.main_arg0)
      ∧ m' ((c.tc : Thread Cert.PoolReferenceIdeal.nD Cert.PoolReferenceIdeal.τ).loc Cert.PoolReferenceIdeal.main_arg1) = m ((c.tc : Thread Cert.PoolIdeal.nD Cert.PoolIdeal.τ).loc Cert.PoolIdeal.main_arg1)
      ∧ m' ((c.tc : Thread Cert.PoolReferenceIdeal.nD Cert.PoolReferenceIdeal.τ).loc Cert.PoolReferenceIdeal.main_arg2) = m ((c.tc : Thread Cert.PoolIdeal.nD Cert.PoolIdeal.τ).loc Cert.PoolIdeal.main_arg2)) →
    ∃ (v0 : (c : Dev Cert.PoolIdeal.nD) → Buf (Elt Ideal) ((c.tc : Thread Cert.PoolIdeal.nD Cert.PoolIdeal.τ).loc Cert.PoolIdeal.main_v2)),
      θ_run (Cert.PoolIdeal.defs (F := Ideal)) (onTc (τ := Cert.PoolIdeal.τ) (Cert.PoolIdeal.main (F := Ideal))) ⟨m, fun _ => 0, g⟩ (fun r => ∀ c : Dev Cert.PoolIdeal.nD,
          r.2.mem ((c.tc : Thread Cert.PoolIdeal.nD Cert.PoolIdeal.τ).loc Cert.PoolIdeal.main_v2) = v0 c
          ∧ r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
          ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
          ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2))
      ∧ θ_run (Cert.PoolReferenceIdeal.defs (F := Ideal)) (onTc (τ := Cert.PoolReferenceIdeal.τ) (Cert.PoolReferenceIdeal.main (F := Ideal))) ⟨m', fun _ => 0, g'⟩ (fun r => ∀ c : Dev Cert.PoolReferenceIdeal.nD,
          r.2.mem ((c.tc : Thread Cert.PoolReferenceIdeal.nD Cert.PoolReferenceIdeal.τ).loc Cert.PoolReferenceIdeal.main_v81) = v0 c
          ∧ r.2.mem ((c.tc : Thread Cert.PoolReferenceIdeal.nD Cert.PoolReferenceIdeal.τ).loc Cert.PoolReferenceIdeal.main_arg0) = m' ((c.tc : Thread Cert.PoolReferenceIdeal.nD Cert.PoolReferenceIdeal.τ).loc Cert.PoolReferenceIdeal.main_arg0)
          ∧ r.2.mem ((c.tc : Thread Cert.PoolReferenceIdeal.nD Cert.PoolReferenceIdeal.τ).loc Cert.PoolReferenceIdeal.main_arg1) = m' ((c.tc : Thread Cert.PoolReferenceIdeal.nD Cert.PoolReferenceIdeal.τ).loc Cert.PoolReferenceIdeal.main_arg1)
          ∧ r.2.mem ((c.tc : Thread Cert.PoolReferenceIdeal.nD Cert.PoolReferenceIdeal.τ).loc Cert.PoolReferenceIdeal.main_arg2) = m' ((c.tc : Thread Cert.PoolReferenceIdeal.nD Cert.PoolReferenceIdeal.τ).loc Cert.PoolReferenceIdeal.main_arg2))

def preserves_Sparse_SparseIdeal : Prop :=
  True

def algebraic_SparseIdeal_SparseReferenceIdeal_pre_picked_keys [hSparseIdeal : Cert.SparseIdeal.Facts] [hSparseReferenceIdeal : Cert.SparseReferenceIdeal.Facts] [hPre_picked_keys : Cert.Pre_picked_keys.Facts] : Prop :=
  ∀ (m : (ℓ : Loc Cert.SparseIdeal.nD Cert.SparseIdeal.τ Cert.SparseIdeal.sig) → Buf (Elt Ideal) ℓ) (g : Dev Cert.SparseIdeal.nD → PrngReg)
    (m' : (ℓ : Loc Cert.SparseReferenceIdeal.nD Cert.SparseReferenceIdeal.τ Cert.SparseReferenceIdeal.sig) → Buf (Elt Ideal) ℓ) (g' : Dev Cert.SparseReferenceIdeal.nD → PrngReg), Pre_SparseIdeal_picked_keys m →
    (∀ c : Dev Cert.SparseIdeal.nD,
      m' ((c.tc : Thread Cert.SparseReferenceIdeal.nD Cert.SparseReferenceIdeal.τ).loc Cert.SparseReferenceIdeal.main_arg0) = m ((c.tc : Thread Cert.SparseIdeal.nD Cert.SparseIdeal.τ).loc Cert.SparseIdeal.main_arg0)
      ∧ m' ((c.tc : Thread Cert.SparseReferenceIdeal.nD Cert.SparseReferenceIdeal.τ).loc Cert.SparseReferenceIdeal.main_arg1) = m ((c.tc : Thread Cert.SparseIdeal.nD Cert.SparseIdeal.τ).loc Cert.SparseIdeal.main_arg1)
      ∧ m' ((c.tc : Thread Cert.SparseReferenceIdeal.nD Cert.SparseReferenceIdeal.τ).loc Cert.SparseReferenceIdeal.main_arg2) = m ((c.tc : Thread Cert.SparseIdeal.nD Cert.SparseIdeal.τ).loc Cert.SparseIdeal.main_arg2)
      ∧ m' ((c.tc : Thread Cert.SparseReferenceIdeal.nD Cert.SparseReferenceIdeal.τ).loc Cert.SparseReferenceIdeal.main_arg3) = m ((c.tc : Thread Cert.SparseIdeal.nD Cert.SparseIdeal.τ).loc Cert.SparseIdeal.main_arg3)) →
    ∃ (v0 : (c : Dev Cert.SparseIdeal.nD) → Buf (Elt Ideal) ((c.tc : Thread Cert.SparseIdeal.nD Cert.SparseIdeal.τ).loc Cert.SparseIdeal.main_v0)),
      θ_run (Cert.SparseIdeal.defs (F := Ideal)) (onTc (τ := Cert.SparseIdeal.τ) (Cert.SparseIdeal.main (F := Ideal))) ⟨m, fun _ => 0, g⟩ (fun r => ∀ c : Dev Cert.SparseIdeal.nD,
          r.2.mem ((c.tc : Thread Cert.SparseIdeal.nD Cert.SparseIdeal.τ).loc Cert.SparseIdeal.main_v0) = v0 c
          ∧ r.2.mem ((c.tc : Thread Cert.SparseIdeal.nD Cert.SparseIdeal.τ).loc Cert.SparseIdeal.main_arg0) = m ((c.tc : Thread Cert.SparseIdeal.nD Cert.SparseIdeal.τ).loc Cert.SparseIdeal.main_arg0)
          ∧ r.2.mem ((c.tc : Thread Cert.SparseIdeal.nD Cert.SparseIdeal.τ).loc Cert.SparseIdeal.main_arg1) = m ((c.tc : Thread Cert.SparseIdeal.nD Cert.SparseIdeal.τ).loc Cert.SparseIdeal.main_arg1)
          ∧ r.2.mem ((c.tc : Thread Cert.SparseIdeal.nD Cert.SparseIdeal.τ).loc Cert.SparseIdeal.main_arg2) = m ((c.tc : Thread Cert.SparseIdeal.nD Cert.SparseIdeal.τ).loc Cert.SparseIdeal.main_arg2)
          ∧ r.2.mem ((c.tc : Thread Cert.SparseIdeal.nD Cert.SparseIdeal.τ).loc Cert.SparseIdeal.main_arg3) = m ((c.tc : Thread Cert.SparseIdeal.nD Cert.SparseIdeal.τ).loc Cert.SparseIdeal.main_arg3))
      ∧ θ_run (Cert.SparseReferenceIdeal.defs (F := Ideal)) (onTc (τ := Cert.SparseReferenceIdeal.τ) (Cert.SparseReferenceIdeal.main (F := Ideal))) ⟨m', fun _ => 0, g'⟩ (fun r => ∀ c : Dev Cert.SparseReferenceIdeal.nD,
          r.2.mem ((c.tc : Thread Cert.SparseReferenceIdeal.nD Cert.SparseReferenceIdeal.τ).loc Cert.SparseReferenceIdeal.main_v35) = v0 c
          ∧ r.2.mem ((c.tc : Thread Cert.SparseReferenceIdeal.nD Cert.SparseReferenceIdeal.τ).loc Cert.SparseReferenceIdeal.main_arg0) = m' ((c.tc : Thread Cert.SparseReferenceIdeal.nD Cert.SparseReferenceIdeal.τ).loc Cert.SparseReferenceIdeal.main_arg0)
          ∧ r.2.mem ((c.tc : Thread Cert.SparseReferenceIdeal.nD Cert.SparseReferenceIdeal.τ).loc Cert.SparseReferenceIdeal.main_arg1) = m' ((c.tc : Thread Cert.SparseReferenceIdeal.nD Cert.SparseReferenceIdeal.τ).loc Cert.SparseReferenceIdeal.main_arg1)
          ∧ r.2.mem ((c.tc : Thread Cert.SparseReferenceIdeal.nD Cert.SparseReferenceIdeal.τ).loc Cert.SparseReferenceIdeal.main_arg2) = m' ((c.tc : Thread Cert.SparseReferenceIdeal.nD Cert.SparseReferenceIdeal.τ).loc Cert.SparseReferenceIdeal.main_arg2)
          ∧ r.2.mem ((c.tc : Thread Cert.SparseReferenceIdeal.nD Cert.SparseReferenceIdeal.τ).loc Cert.SparseReferenceIdeal.main_arg3) = m' ((c.tc : Thread Cert.SparseReferenceIdeal.nD Cert.SparseReferenceIdeal.τ).loc Cert.SparseReferenceIdeal.main_arg3))

def preserves_Sample_SampleIdeal : Prop :=
  True

def algebraic_SampleIdeal_SampleReferenceIdeal [hSampleIdeal : Cert.SampleIdeal.Facts] [hSampleReferenceIdeal : Cert.SampleReferenceIdeal.Facts] : Prop :=
  ∀ (m : (ℓ : Loc Cert.SampleIdeal.nD Cert.SampleIdeal.τ Cert.SampleIdeal.sig) → Buf (Elt Ideal) ℓ) (g : Dev Cert.SampleIdeal.nD → PrngReg)
    (m' : (ℓ : Loc Cert.SampleReferenceIdeal.nD Cert.SampleReferenceIdeal.τ Cert.SampleReferenceIdeal.sig) → Buf (Elt Ideal) ℓ) (g' : Dev Cert.SampleReferenceIdeal.nD → PrngReg), Pre_SampleIdeal m →
    (∀ c : Dev Cert.SampleIdeal.nD,
      m' ((c.tc : Thread Cert.SampleReferenceIdeal.nD Cert.SampleReferenceIdeal.τ).loc Cert.SampleReferenceIdeal.main_arg0) = m ((c.tc : Thread Cert.SampleIdeal.nD Cert.SampleIdeal.τ).loc Cert.SampleIdeal.main_arg0)
      ∧ m' ((c.tc : Thread Cert.SampleReferenceIdeal.nD Cert.SampleReferenceIdeal.τ).loc Cert.SampleReferenceIdeal.main_arg1) = m ((c.tc : Thread Cert.SampleIdeal.nD Cert.SampleIdeal.τ).loc Cert.SampleIdeal.main_arg1)
      ∧ m' ((c.tc : Thread Cert.SampleReferenceIdeal.nD Cert.SampleReferenceIdeal.τ).loc Cert.SampleReferenceIdeal.main_arg2) = m ((c.tc : Thread Cert.SampleIdeal.nD Cert.SampleIdeal.τ).loc Cert.SampleIdeal.main_arg2)
      ∧ m' ((c.tc : Thread Cert.SampleReferenceIdeal.nD Cert.SampleReferenceIdeal.τ).loc Cert.SampleReferenceIdeal.main_arg3) = m ((c.tc : Thread Cert.SampleIdeal.nD Cert.SampleIdeal.τ).loc Cert.SampleIdeal.main_arg3)
      ∧ m' ((c.tc : Thread Cert.SampleReferenceIdeal.nD Cert.SampleReferenceIdeal.τ).loc Cert.SampleReferenceIdeal.main_arg4) = m ((c.tc : Thread Cert.SampleIdeal.nD Cert.SampleIdeal.τ).loc Cert.SampleIdeal.main_arg4)) →
    ∃ (v0 : (c : Dev Cert.SampleIdeal.nD) → Buf (Elt Ideal) ((c.tc : Thread Cert.SampleIdeal.nD Cert.SampleIdeal.τ).loc Cert.SampleIdeal.main_v67)) (v1 : (c : Dev Cert.SampleIdeal.nD) → Buf (Elt Ideal) ((c.tc : Thread Cert.SampleIdeal.nD Cert.SampleIdeal.τ).loc Cert.SampleIdeal.main_v68)) (v2 : (c : Dev Cert.SampleIdeal.nD) → Buf (Elt Ideal) ((c.tc : Thread Cert.SampleIdeal.nD Cert.SampleIdeal.τ).loc Cert.SampleIdeal.main_v71)) (v3 : (c : Dev Cert.SampleIdeal.nD) → Buf (Elt Ideal) ((c.tc : Thread Cert.SampleIdeal.nD Cert.SampleIdeal.τ).loc Cert.SampleIdeal.main_v73)) (v4 : (c : Dev Cert.SampleIdeal.nD) → Buf (Elt Ideal) ((c.tc : Thread Cert.SampleIdeal.nD Cert.SampleIdeal.τ).loc Cert.SampleIdeal.main_v74)),
      θ_run (Cert.SampleIdeal.defs (F := Ideal)) (onTc (τ := Cert.SampleIdeal.τ) (Cert.SampleIdeal.main (F := Ideal))) ⟨m, fun _ => 0, g⟩ (fun r => ∀ c : Dev Cert.SampleIdeal.nD,
          r.2.mem ((c.tc : Thread Cert.SampleIdeal.nD Cert.SampleIdeal.τ).loc Cert.SampleIdeal.main_v67) = v0 c
          ∧ r.2.mem ((c.tc : Thread Cert.SampleIdeal.nD Cert.SampleIdeal.τ).loc Cert.SampleIdeal.main_v68) = v1 c
          ∧ r.2.mem ((c.tc : Thread Cert.SampleIdeal.nD Cert.SampleIdeal.τ).loc Cert.SampleIdeal.main_v71) = v2 c
          ∧ r.2.mem ((c.tc : Thread Cert.SampleIdeal.nD Cert.SampleIdeal.τ).loc Cert.SampleIdeal.main_v73) = v3 c
          ∧ r.2.mem ((c.tc : Thread Cert.SampleIdeal.nD Cert.SampleIdeal.τ).loc Cert.SampleIdeal.main_v74) = v4 c
          ∧ r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
          ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
          ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2)
          ∧ r.2.mem ((c.tc : Thread Cert.SampleIdeal.nD Cert.SampleIdeal.τ).loc Cert.SampleIdeal.main_arg3) = m ((c.tc : Thread Cert.SampleIdeal.nD Cert.SampleIdeal.τ).loc Cert.SampleIdeal.main_arg3)
          ∧ r.2.mem ((c.tc : Thread Cert.SampleIdeal.nD Cert.SampleIdeal.τ).loc Cert.SampleIdeal.main_arg4) = m ((c.tc : Thread Cert.SampleIdeal.nD Cert.SampleIdeal.τ).loc Cert.SampleIdeal.main_arg4))
      ∧ θ_run (Cert.SampleReferenceIdeal.defs (F := Ideal)) (onTc (τ := Cert.SampleReferenceIdeal.τ) (Cert.SampleReferenceIdeal.main (F := Ideal))) ⟨m', fun _ => 0, g'⟩ (fun r => ∀ c : Dev Cert.SampleReferenceIdeal.nD,
          r.2.mem ((c.tc : Thread Cert.SampleReferenceIdeal.nD Cert.SampleReferenceIdeal.τ).loc Cert.SampleReferenceIdeal.main_v39) = v0 c
          ∧ r.2.mem ((c.tc : Thread Cert.SampleReferenceIdeal.nD Cert.SampleReferenceIdeal.τ).loc Cert.SampleReferenceIdeal.main_v34) = v1 c
          ∧ r.2.mem ((c.tc : Thread Cert.SampleReferenceIdeal.nD Cert.SampleReferenceIdeal.τ).loc Cert.SampleReferenceIdeal.main_v76) = v2 c
          ∧ r.2.mem ((c.tc : Thread Cert.SampleReferenceIdeal.nD Cert.SampleReferenceIdeal.τ).loc Cert.SampleReferenceIdeal.main_v110) = v3 c
          ∧ r.2.mem ((c.tc : Thread Cert.SampleReferenceIdeal.nD Cert.SampleReferenceIdeal.τ).loc Cert.SampleReferenceIdeal.main_v112) = v4 c
          ∧ r.2.mem ((c.tc : Thread Cert.SampleReferenceIdeal.nD Cert.SampleReferenceIdeal.τ).loc Cert.SampleReferenceIdeal.main_arg0) = m' ((c.tc : Thread Cert.SampleReferenceIdeal.nD Cert.SampleReferenceIdeal.τ).loc Cert.SampleReferenceIdeal.main_arg0)
          ∧ r.2.mem ((c.tc : Thread Cert.SampleReferenceIdeal.nD Cert.SampleReferenceIdeal.τ).loc Cert.SampleReferenceIdeal.main_arg1) = m' ((c.tc : Thread Cert.SampleReferenceIdeal.nD Cert.SampleReferenceIdeal.τ).loc Cert.SampleReferenceIdeal.main_arg1)
          ∧ r.2.mem ((c.tc : Thread Cert.SampleReferenceIdeal.nD Cert.SampleReferenceIdeal.τ).loc Cert.SampleReferenceIdeal.main_arg2) = m' ((c.tc : Thread Cert.SampleReferenceIdeal.nD Cert.SampleReferenceIdeal.τ).loc Cert.SampleReferenceIdeal.main_arg2)
          ∧ r.2.mem ((c.tc : Thread Cert.SampleReferenceIdeal.nD Cert.SampleReferenceIdeal.τ).loc Cert.SampleReferenceIdeal.main_arg3) = m' ((c.tc : Thread Cert.SampleReferenceIdeal.nD Cert.SampleReferenceIdeal.τ).loc Cert.SampleReferenceIdeal.main_arg3)
          ∧ r.2.mem ((c.tc : Thread Cert.SampleReferenceIdeal.nD Cert.SampleReferenceIdeal.τ).loc Cert.SampleReferenceIdeal.main_arg4) = m' ((c.tc : Thread Cert.SampleReferenceIdeal.nD Cert.SampleReferenceIdeal.τ).loc Cert.SampleReferenceIdeal.main_arg4))

def preserves_Close_CloseIdeal : Prop :=
  True

def algebraic_CloseIdeal_CloseReferenceIdeal [hCloseIdeal : Cert.CloseIdeal.Facts] [hCloseReferenceIdeal : Cert.CloseReferenceIdeal.Facts] : Prop :=
  ∀ (m : (ℓ : Loc Cert.CloseIdeal.nD Cert.CloseIdeal.τ Cert.CloseIdeal.sig) → Buf (Elt Ideal) ℓ) (g : Dev Cert.CloseIdeal.nD → PrngReg)
    (m' : (ℓ : Loc Cert.CloseReferenceIdeal.nD Cert.CloseReferenceIdeal.τ Cert.CloseReferenceIdeal.sig) → Buf (Elt Ideal) ℓ) (g' : Dev Cert.CloseReferenceIdeal.nD → PrngReg), Pre_CloseIdeal m →
    (∀ c : Dev Cert.CloseIdeal.nD,
      m' ((c.tc : Thread Cert.CloseReferenceIdeal.nD Cert.CloseReferenceIdeal.τ).loc Cert.CloseReferenceIdeal.main_arg0) = m ((c.tc : Thread Cert.CloseIdeal.nD Cert.CloseIdeal.τ).loc Cert.CloseIdeal.main_arg0)
      ∧ m' ((c.tc : Thread Cert.CloseReferenceIdeal.nD Cert.CloseReferenceIdeal.τ).loc Cert.CloseReferenceIdeal.main_arg1) = m ((c.tc : Thread Cert.CloseIdeal.nD Cert.CloseIdeal.τ).loc Cert.CloseIdeal.main_arg1)
      ∧ m' ((c.tc : Thread Cert.CloseReferenceIdeal.nD Cert.CloseReferenceIdeal.τ).loc Cert.CloseReferenceIdeal.main_arg2) = m ((c.tc : Thread Cert.CloseIdeal.nD Cert.CloseIdeal.τ).loc Cert.CloseIdeal.main_arg2)
      ∧ m' ((c.tc : Thread Cert.CloseReferenceIdeal.nD Cert.CloseReferenceIdeal.τ).loc Cert.CloseReferenceIdeal.main_arg3) = m ((c.tc : Thread Cert.CloseIdeal.nD Cert.CloseIdeal.τ).loc Cert.CloseIdeal.main_arg3)
      ∧ m' ((c.tc : Thread Cert.CloseReferenceIdeal.nD Cert.CloseReferenceIdeal.τ).loc Cert.CloseReferenceIdeal.main_arg4) = m ((c.tc : Thread Cert.CloseIdeal.nD Cert.CloseIdeal.τ).loc Cert.CloseIdeal.main_arg4)
      ∧ m' ((c.tc : Thread Cert.CloseReferenceIdeal.nD Cert.CloseReferenceIdeal.τ).loc Cert.CloseReferenceIdeal.main_arg5) = m ((c.tc : Thread Cert.CloseIdeal.nD Cert.CloseIdeal.τ).loc Cert.CloseIdeal.main_arg5)) →
    ∃ (v0 : (c : Dev Cert.CloseIdeal.nD) → Buf (Elt Ideal) ((c.tc : Thread Cert.CloseIdeal.nD Cert.CloseIdeal.τ).loc Cert.CloseIdeal.main_v19)),
      θ_run (Cert.CloseIdeal.defs (F := Ideal)) (onTc (τ := Cert.CloseIdeal.τ) (Cert.CloseIdeal.main (F := Ideal))) ⟨m, fun _ => 0, g⟩ (fun r => ∀ c : Dev Cert.CloseIdeal.nD,
          r.2.mem ((c.tc : Thread Cert.CloseIdeal.nD Cert.CloseIdeal.τ).loc Cert.CloseIdeal.main_v19) = v0 c
          ∧ r.2.mem ((c.tc : Thread Cert.CloseIdeal.nD Cert.CloseIdeal.τ).loc Cert.CloseIdeal.main_arg0) = m ((c.tc : Thread Cert.CloseIdeal.nD Cert.CloseIdeal.τ).loc Cert.CloseIdeal.main_arg0)
          ∧ r.2.mem ((c.tc : Thread Cert.CloseIdeal.nD Cert.CloseIdeal.τ).loc Cert.CloseIdeal.main_arg1) = m ((c.tc : Thread Cert.CloseIdeal.nD Cert.CloseIdeal.τ).loc Cert.CloseIdeal.main_arg1)
          ∧ r.2.mem ((c.tc : Thread Cert.CloseIdeal.nD Cert.CloseIdeal.τ).loc Cert.CloseIdeal.main_arg2) = m ((c.tc : Thread Cert.CloseIdeal.nD Cert.CloseIdeal.τ).loc Cert.CloseIdeal.main_arg2)
          ∧ r.2.mem ((c.tc : Thread Cert.CloseIdeal.nD Cert.CloseIdeal.τ).loc Cert.CloseIdeal.main_arg3) = m ((c.tc : Thread Cert.CloseIdeal.nD Cert.CloseIdeal.τ).loc Cert.CloseIdeal.main_arg3)
          ∧ r.2.mem ((c.tc : Thread Cert.CloseIdeal.nD Cert.CloseIdeal.τ).loc Cert.CloseIdeal.main_arg4) = m ((c.tc : Thread Cert.CloseIdeal.nD Cert.CloseIdeal.τ).loc Cert.CloseIdeal.main_arg4)
          ∧ r.2.mem ((c.tc : Thread Cert.CloseIdeal.nD Cert.CloseIdeal.τ).loc Cert.CloseIdeal.main_arg5) = m ((c.tc : Thread Cert.CloseIdeal.nD Cert.CloseIdeal.τ).loc Cert.CloseIdeal.main_arg5))
      ∧ θ_run (Cert.CloseReferenceIdeal.defs (F := Ideal)) (onTc (τ := Cert.CloseReferenceIdeal.τ) (Cert.CloseReferenceIdeal.main (F := Ideal))) ⟨m', fun _ => 0, g'⟩ (fun r => ∀ c : Dev Cert.CloseReferenceIdeal.nD,
          r.2.mem ((c.tc : Thread Cert.CloseReferenceIdeal.nD Cert.CloseReferenceIdeal.τ).loc Cert.CloseReferenceIdeal.main_v17) = v0 c
          ∧ r.2.mem ((c.tc : Thread Cert.CloseReferenceIdeal.nD Cert.CloseReferenceIdeal.τ).loc Cert.CloseReferenceIdeal.main_arg0) = m' ((c.tc : Thread Cert.CloseReferenceIdeal.nD Cert.CloseReferenceIdeal.τ).loc Cert.CloseReferenceIdeal.main_arg0)
          ∧ r.2.mem ((c.tc : Thread Cert.CloseReferenceIdeal.nD Cert.CloseReferenceIdeal.τ).loc Cert.CloseReferenceIdeal.main_arg1) = m' ((c.tc : Thread Cert.CloseReferenceIdeal.nD Cert.CloseReferenceIdeal.τ).loc Cert.CloseReferenceIdeal.main_arg1)
          ∧ r.2.mem ((c.tc : Thread Cert.CloseReferenceIdeal.nD Cert.CloseReferenceIdeal.τ).loc Cert.CloseReferenceIdeal.main_arg2) = m' ((c.tc : Thread Cert.CloseReferenceIdeal.nD Cert.CloseReferenceIdeal.τ).loc Cert.CloseReferenceIdeal.main_arg2)
          ∧ r.2.mem ((c.tc : Thread Cert.CloseReferenceIdeal.nD Cert.CloseReferenceIdeal.τ).loc Cert.CloseReferenceIdeal.main_arg3) = m' ((c.tc : Thread Cert.CloseReferenceIdeal.nD Cert.CloseReferenceIdeal.τ).loc Cert.CloseReferenceIdeal.main_arg3)
          ∧ r.2.mem ((c.tc : Thread Cert.CloseReferenceIdeal.nD Cert.CloseReferenceIdeal.τ).loc Cert.CloseReferenceIdeal.main_arg4) = m' ((c.tc : Thread Cert.CloseReferenceIdeal.nD Cert.CloseReferenceIdeal.τ).loc Cert.CloseReferenceIdeal.main_arg4)
          ∧ r.2.mem ((c.tc : Thread Cert.CloseReferenceIdeal.nD Cert.CloseReferenceIdeal.τ).loc Cert.CloseReferenceIdeal.main_arg5) = m' ((c.tc : Thread Cert.CloseReferenceIdeal.nD Cert.CloseReferenceIdeal.τ).loc Cert.CloseReferenceIdeal.main_arg5))

def Claim : Prop :=
  ∃ (hKernel : Cert.Kernel.Facts) (hKernelIdeal : Cert.KernelIdeal.Facts) (hReferenceIdeal : Cert.ReferenceIdeal.Facts) (hProj : Cert.Proj.Facts) (hProjIdeal : Cert.ProjIdeal.Facts) (hProjReferenceIdeal : Cert.ProjReferenceIdeal.Facts) (hMerge : Cert.Merge.Facts) (hMergeIdeal : Cert.MergeIdeal.Facts) (hMergeReferenceIdeal : Cert.MergeReferenceIdeal.Facts) (hPool : Cert.Pool.Facts) (hPoolIdeal : Cert.PoolIdeal.Facts) (hPoolReferenceIdeal : Cert.PoolReferenceIdeal.Facts) (hSparse : Cert.Sparse.Facts) (hSparseIdeal : Cert.SparseIdeal.Facts) (hSparseReferenceIdeal : Cert.SparseReferenceIdeal.Facts) (hSample : Cert.Sample.Facts) (hSampleIdeal : Cert.SampleIdeal.Facts) (hSampleReferenceIdeal : Cert.SampleReferenceIdeal.Facts) (hClose : Cert.Close.Facts) (hCloseIdeal : Cert.CloseIdeal.Facts) (hCloseReferenceIdeal : Cert.CloseReferenceIdeal.Facts) (hPre_finite_logits : Cert.Pre_finite_logits.Facts) (hPre_finite_rows : Cert.Pre_finite_rows.Facts) (hPre_picked_keys : Cert.Pre_picked_keys.Facts),
    quiescent_Kernel (hKernel := hKernel)
    ∧ quiescent_KernelIdeal (hKernelIdeal := hKernelIdeal)
    ∧ quiescent_KernelIdeal_pre_finite_logits (hKernelIdeal := hKernelIdeal) (hPre_finite_logits := hPre_finite_logits)
    ∧ quiescent_ReferenceIdeal (hReferenceIdeal := hReferenceIdeal)
    ∧ quiescent_ReferenceIdeal_pre_finite_logits (hReferenceIdeal := hReferenceIdeal) (hPre_finite_logits := hPre_finite_logits)
    ∧ quiescent_Proj (hProj := hProj)
    ∧ quiescent_ProjIdeal (hProjIdeal := hProjIdeal)
    ∧ quiescent_ProjReferenceIdeal (hProjReferenceIdeal := hProjReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ quiescent_Pool (hPool := hPool)
    ∧ quiescent_PoolIdeal (hPoolIdeal := hPoolIdeal)
    ∧ quiescent_PoolIdeal_pre_finite_rows (hPoolIdeal := hPoolIdeal) (hPre_finite_rows := hPre_finite_rows)
    ∧ quiescent_PoolReferenceIdeal (hPoolReferenceIdeal := hPoolReferenceIdeal)
    ∧ quiescent_PoolReferenceIdeal_pre_finite_rows (hPoolReferenceIdeal := hPoolReferenceIdeal) (hPre_finite_rows := hPre_finite_rows)
    ∧ quiescent_Sparse (hSparse := hSparse)
    ∧ quiescent_SparseIdeal (hSparseIdeal := hSparseIdeal)
    ∧ quiescent_SparseIdeal_pre_picked_keys (hSparseIdeal := hSparseIdeal) (hPre_picked_keys := hPre_picked_keys)
    ∧ quiescent_SparseReferenceIdeal (hSparseReferenceIdeal := hSparseReferenceIdeal)
    ∧ quiescent_SparseReferenceIdeal_pre_picked_keys (hSparseReferenceIdeal := hSparseReferenceIdeal) (hPre_picked_keys := hPre_picked_keys)
    ∧ quiescent_Sample (hSample := hSample)
    ∧ quiescent_SampleIdeal (hSampleIdeal := hSampleIdeal)
    ∧ quiescent_SampleReferenceIdeal (hSampleReferenceIdeal := hSampleReferenceIdeal)
    ∧ quiescent_Close (hClose := hClose)
    ∧ quiescent_CloseIdeal (hCloseIdeal := hCloseIdeal)
    ∧ quiescent_CloseReferenceIdeal (hCloseReferenceIdeal := hCloseReferenceIdeal)
    ∧ preserves_Kernel_KernelIdeal
    ∧ algebraic_KernelIdeal_ReferenceIdeal_pre_finite_logits (hKernelIdeal := hKernelIdeal) (hReferenceIdeal := hReferenceIdeal) (hPre_finite_logits := hPre_finite_logits)
    ∧ preserves_Proj_ProjIdeal
    ∧ algebraic_ProjIdeal_ProjReferenceIdeal (hProjIdeal := hProjIdeal) (hProjReferenceIdeal := hProjReferenceIdeal)
    ∧ preserves_Merge_MergeIdeal
    ∧ algebraic_MergeIdeal_MergeReferenceIdeal (hMergeIdeal := hMergeIdeal) (hMergeReferenceIdeal := hMergeReferenceIdeal)
    ∧ preserves_Pool_PoolIdeal
    ∧ algebraic_PoolIdeal_PoolReferenceIdeal_pre_finite_rows (hPoolIdeal := hPoolIdeal) (hPoolReferenceIdeal := hPoolReferenceIdeal) (hPre_finite_rows := hPre_finite_rows)
    ∧ preserves_Sparse_SparseIdeal
    ∧ algebraic_SparseIdeal_SparseReferenceIdeal_pre_picked_keys (hSparseIdeal := hSparseIdeal) (hSparseReferenceIdeal := hSparseReferenceIdeal) (hPre_picked_keys := hPre_picked_keys)
    ∧ preserves_Sample_SampleIdeal
    ∧ algebraic_SampleIdeal_SampleReferenceIdeal (hSampleIdeal := hSampleIdeal) (hSampleReferenceIdeal := hSampleReferenceIdeal)
    ∧ preserves_Close_CloseIdeal
    ∧ algebraic_CloseIdeal_CloseReferenceIdeal (hCloseIdeal := hCloseIdeal) (hCloseReferenceIdeal := hCloseReferenceIdeal)
-- ==== Pre_finite_logits.lean ====
abbrev S8192x1536 : Shape := ⟨2, ![8192, 1536]⟩
abbrev S8192x3072 : Shape := ⟨2, ![8192, 3072]⟩
abbrev S8192x128 : Shape := ⟨2, ![8192, 128]⟩
abbrev S_ : Shape := ⟨0, ![]⟩

class Facts : Prop where
  bitsLt_bf16_f32 : FTy.bits .bf16 < FTy.bits .f32
  bcast_S_S8192x1536 : S_.BroadcastsInDim S8192x1536 (![] : Fin 0 → Fin S8192x1536.rank)
  reducesTo_S8192x1536_S_d0_1 : S8192x1536.ReducesTo [0, 1] S_
  h_S_ : 0 < S_.numel
  bcast_S_S8192x3072 : S_.BroadcastsInDim S8192x3072 (![] : Fin 0 → Fin S8192x3072.rank)
  reducesTo_S8192x3072_S_d0_1 : S8192x3072.ReducesTo [0, 1] S_
  bcast_S_S8192x128 : S_.BroadcastsInDim S8192x128 (![] : Fin 0 → Fin S8192x128.rank)
  reducesTo_S8192x128_S_d0_1 : S8192x128.ReducesTo [0, 1] S_

variable [Facts]

def fn {F : FTy → Type} [FloatOps F] (main_arg0 : FVec F S8192x1536 .bf16) (main_arg1 : FVec F S8192x3072 .bf16) (main_arg2 : FVec F S8192x1536 .f32) (main_arg3 : FVec F S8192x128 .f32) : IVec S_ 1 :=
  let main_v0 : FVec F S8192x1536 .f32 := (extf .f32 · bitsLt_bf16_f32) main_arg0
  let main_v1 : FVec F S8192x1536 .f32 := Host.absf main_v0
  let main_cst : FVec F S_ .f32 := constant S_ .f32 0x7F800000#32
  let main_v2 : FVec F S8192x1536 .f32 := broadcastInDim S8192x1536 ![] bcast_S_S8192x1536 main_cst
  let main_v3 : IVec S8192x1536 1 := cmpf .olt main_v1 main_v2
  let main_c : IVec S_ 1 := constantI S_ 1 1#1
  let main_v4 : IVec S_ 1 := (fun x v => Host.reduce IntOp.andi x v reducesTo_S8192x1536_S_d0_1 h_S_) main_v3 main_c
  let main_v5 : FVec F S8192x3072 .f32 := (extf .f32 · bitsLt_bf16_f32) main_arg1
  let main_v6 : FVec F S8192x3072 .f32 := Host.absf main_v5
  let main_cst_0 : FVec F S_ .f32 := constant S_ .f32 0x7F800000#32
  let main_v7 : FVec F S8192x3072 .f32 := broadcastInDim S8192x3072 ![] bcast_S_S8192x3072 main_cst_0
  let main_v8 : IVec S8192x3072 1 := cmpf .olt main_v6 main_v7
  let main_c_1 : IVec S_ 1 := constantI S_ 1 1#1
  let main_v9 : IVec S_ 1 := (fun x v => Host.reduce IntOp.andi x v reducesTo_S8192x3072_S_d0_1 h_S_) main_v8 main_c_1
  let main_v10 : IVec S_ 1 := andi main_v4 main_v9
  let main_v11 : FVec F S8192x128 .f32 := Host.absf main_arg3
  let main_cst_2 : FVec F S_ .f32 := constant S_ .f32 0x7F800000#32
  let main_v12 : FVec F S8192x128 .f32 := broadcastInDim S8192x128 ![] bcast_S_S8192x128 main_cst_2
  let main_v13 : IVec S8192x128 1 := cmpf .olt main_v11 main_v12
  let main_c_3 : IVec S_ 1 := constantI S_ 1 1#1
  let main_v14 : IVec S_ 1 := (fun x v => Host.reduce IntOp.andi x v reducesTo_S8192x128_S_d0_1 h_S_) main_v13 main_c_3
  let main_v15 : IVec S_ 1 := andi main_v10 main_v14
  main_v15
-- ==== Pre_finite_rows.lean ====
abbrev S8192x2048 : Shape := ⟨2, ![8192, 2048]⟩
abbrev S4x256x256 : Shape := ⟨3, ![4, 256, 256]⟩
abbrev S1024 : Shape := ⟨1, ![1024]⟩
abbrev S8192x1024 : Shape := ⟨2, ![8192, 1024]⟩
abbrev S_ : Shape := ⟨0, ![]⟩

class Facts : Prop where
  slices_S8192x2048_S8192x1024_0_0 : S8192x2048.Slices ![0, 0] S8192x1024
  bcast_S_S8192x1024 : S_.BroadcastsInDim S8192x1024 (![] : Fin 0 → Fin S8192x1024.rank)
  reducesTo_S8192x1024_S_d0_1 : S8192x1024.ReducesTo [0, 1] S_
  h_S_ : 0 < S_.numel

variable [Facts]

def fn {F : FTy → Type} [FloatOps F] (main_arg0 : FVec F S8192x2048 .f32) (main_arg1 : FVec F S4x256x256 .f32) (main_arg2 : FVec F S1024 .f32) : IVec S_ 1 :=
  let main_v0 : FVec F S8192x1024 .f32 := (extractStridedSlice S8192x1024 ![0, 0] · slices_S8192x2048_S8192x1024_0_0) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_c : IVec S_ 1 := constantI S_ 1 1#1
  let main_v4 : IVec S_ 1 := (fun x v => Host.reduce IntOp.andi x v reducesTo_S8192x1024_S_d0_1 h_S_) main_v3 main_c
  main_v4
-- ==== Pre_picked_keys.lean ====
abbrev S8192x1536 : Shape := ⟨2, ![8192, 1536]⟩
abbrev S8192x3072 : Shape := ⟨2, ![8192, 3072]⟩
abbrev S8192x2048 : Shape := ⟨2, ![8192, 2048]⟩
abbrev S_ : Shape := ⟨0, ![]⟩
abbrev S8192 : Shape := ⟨1, ![8192]⟩

class Facts : Prop where
  bitsLt_bf16_f32 : FTy.bits .bf16 < FTy.bits .f32
  bcast_S_S8192x1536 : S_.BroadcastsInDim S8192x1536 (![] : Fin 0 → Fin S8192x1536.rank)
  reducesTo_S8192x1536_S_d0_1 : S8192x1536.ReducesTo [0, 1] S_
  h_S_ : 0 < S_.numel
  bcast_S_S8192x3072 : S_.BroadcastsInDim S8192x3072 (![] : Fin 0 → Fin S8192x3072.rank)
  reducesTo_S8192x3072_S_d0_1 : S8192x3072.ReducesTo [0, 1] S_
  bcast_S_S8192x2048 : S_.BroadcastsInDim S8192x2048 (![] : Fin 0 → Fin S8192x2048.rank)
  reducesTo_S8192x2048_S_d0_1 : S8192x2048.ReducesTo [0, 1] S_
  reducesTo_S8192x2048_S8192_d1 : S8192x2048.ReducesTo [1] S8192
  bcast_S_S8192 : S_.BroadcastsInDim S8192 (![] : Fin 0 → Fin S8192.rank)
  reducesTo_S8192_S_d0 : S8192.ReducesTo [0] S_

variable [Facts]

def fn_part1 {F : FTy → Type} [FloatOps F] (main_v0 : FVec F S8192x2048 .f32) (main_v11 : IVec S_ 1) (main_v16 : IVec S8192x2048 1) (main_c_4 : IVec S_ 1) : IVec S_ 1 :=
  let main_v17 : IVec S_ 1 := (fun x v => Host.reduce IntOp.andi x v reducesTo_S8192x2048_S_d0_1 h_S_) main_v16 main_c_4
  let main_v18 : IVec S_ 1 := andi main_v11 main_v17
  let main_cst_5 : FVec F S_ .f32 := constant S_ .f32 0xFF800000#32
  let main_v19 : FVec F S8192 .f32 := (fun x v => Host.reduce FloatOps.maximumf x v reducesTo_S8192x2048_S8192_d1 h_S_) main_v0 main_cst_5
  let main_cst_6 : FVec F S_ .f32 := constant S_ .f32 0x00000000#32
  let main_v20 : FVec F S8192 .f32 := broadcastInDim S8192 ![] bcast_S_S8192 main_cst_6
  let main_v21 : IVec S8192 1 := cmpf .oeq main_v19 main_v20
  let main_c_7 : IVec S_ 1 := constantI S_ 1 1#1
  let main_v22 : IVec S_ 1 := (fun x v => Host.reduce IntOp.andi x v reducesTo_S8192_S_d0 h_S_) main_v21 main_c_7
  let main_v23 : IVec S_ 1 := andi main_v18 main_v22
  main_v23

def fn {F : FTy → Type} [FloatOps F] (main_arg0 : FVec F S8192x1536 .bf16) (main_arg1 : FVec F S8192x3072 .bf16) (main_arg2 : FVec F S8192x1536 .f32) (main_arg3 : FVec F S8192x2048 .bf16) : IVec S_ 1 :=
  let main_v0 : FVec F S8192x2048 .f32 := (extf .f32 · bitsLt_bf16_f32) main_arg3
  let main_v1 : FVec F S8192x1536 .f32 := (extf .f32 · bitsLt_bf16_f32) main_arg0
  let main_v2 : FVec F S8192x1536 .f32 := Host.absf main_v1
  let main_cst : FVec F S_ .f32 := constant S_ .f32 0x7F800000#32
  let main_v3 : FVec F S8192x1536 .f32 := broadcastInDim S8192x1536 ![] bcast_S_S8192x1536 main_cst
  let main_v4 : IVec S8192x1536 1 := cmpf .olt main_v2 main_v3
  let main_c : IVec S_ 1 := constantI S_ 1 1#1
  let main_v5 : IVec S_ 1 := (fun x v => Host.reduce IntOp.andi x v reducesTo_S8192x1536_S_d0_1 h_S_) main_v4 main_c
  let main_v6 : FVec F S8192x3072 .f32 := (extf .f32 · bitsLt_bf16_f32) main_arg1
  let main_v7 : FVec F S8192x3072 .f32 := Host.absf main_v6
  let main_cst_0 : FVec F S_ .f32 := constant S_ .f32 0x7F800000#32
  let main_v8 : FVec F S8192x3072 .f32 := broadcastInDim S8192x3072 ![] bcast_S_S8192x3072 main_cst_0
  let main_v9 : IVec S8192x3072 1 := cmpf .olt main_v7 main_v8
  let main_c_1 : IVec S_ 1 := constantI S_ 1 1#1
  let main_v10 : IVec S_ 1 := (fun x v => Host.reduce IntOp.andi x v reducesTo_S8192x3072_S_d0_1 h_S_) main_v9 main_c_1
  let main_v11 : IVec S_ 1 := andi main_v5 main_v10
  let main_cst_2 : FVec F S_ .f32 := constant S_ .f32 0x00000000#32
  let main_v12 : FVec F S8192x2048 .f32 := broadcastInDim S8192x2048 ![] bcast_S_S8192x2048 main_cst_2
  let main_v13 : IVec S8192x2048 1 := cmpf .oeq main_v0 main_v12
  let main_cst_3 : FVec F S_ .f32 := constant S_ .f32 0xFF800000#32
  let main_v14 : FVec F S8192x2048 .f32 := broadcastInDim S8192x2048 ![] bcast_S_S8192x2048 main_cst_3
  let main_v15 : IVec S8192x2048 1 := cmpf .oeq main_v0 main_v14
  let main_v16 : IVec S8192x2048 1 := ori main_v13 main_v15
  let main_c_4 : IVec S_ 1 := constantI S_ 1 1#1
  fn_part1 (F := F) main_v0 main_v11 main_v16 main_c_4
-- ==== Kernel.lean ====
abbrev S8192x1536 : Shape := ⟨2, ![8192, 1536]⟩
abbrev S8192x3072 : Shape := ⟨2, ![8192, 3072]⟩
abbrev S8192x128 : Shape := ⟨2, ![8192, 128]⟩
abbrev S4x2048x128 : Shape := ⟨3, ![4, 2048, 128]⟩
abbrev S4x2048x12 : Shape := ⟨3, ![4, 2048, 12]⟩
abbrev S4x12x2048 : Shape := ⟨3, ![4, 12, 2048]⟩
abbrev S_ : Shape := ⟨0, ![]⟩
abbrev S4x16x2048 : Shape := ⟨3, ![4, 16, 2048]⟩
abbrev S256x1536 : Shape := ⟨2, ![256, 1536]⟩
abbrev S2048x3072 : Shape := ⟨2, ![2048, 3072]⟩
abbrev S256x128 : Shape := ⟨2, ![256, 128]⟩
abbrev S1x16x2048 : Shape := ⟨3, ![1, 16, 2048]⟩
abbrev S256x2048 : Shape := ⟨2, ![256, 2048]⟩
abbrev S2048x128 : Shape := ⟨2, ![2048, 128]⟩
abbrev S256x1 : Shape := ⟨2, ![256, 1]⟩
abbrev S1x1x2048 : Shape := ⟨3, ![1, 1, 2048]⟩
abbrev S1x2048 : Shape := ⟨2, ![1, 2048]⟩
abbrev S256 : Shape := ⟨1, ![256]⟩

abbrev nBuf : Space → Nat
  | .hbm => 11
  | .vmem => 12
  | .smem => 0
  | _ => 0

abbrev bufTy : (tb : Table) → Fin (tcTables nBuf tb) → BufTy
  | .hbm, ⟨0, _⟩ => ⟨S8192x1536, .bf16⟩
  | .hbm, ⟨1, _⟩ => ⟨S8192x3072, .bf16⟩
  | .hbm, ⟨2, _⟩ => ⟨S8192x1536, .f32⟩
  | .hbm, ⟨3, _⟩ => ⟨S8192x128, .f32⟩
  | .hbm, ⟨4, _⟩ => ⟨S4x2048x128, .f32⟩
  | .hbm, ⟨5, _⟩ => ⟨S4x2048x12, .f32⟩
  | .hbm, ⟨6, _⟩ => ⟨S4x12x2048, .f32⟩
  | .hbm, ⟨7, _⟩ => ⟨S_, .i32⟩
  | .hbm, ⟨8, _⟩ => ⟨S_, .f32⟩
  | .hbm, ⟨9, _⟩ => ⟨S4x16x2048, .f32⟩
  | .hbm, ⟨10, _⟩ => ⟨S8192x1536, .bf16⟩
  | .local _ .vmem, ⟨0, _⟩ => ⟨S256x1536, .bf16⟩
  | .local _ .vmem, ⟨1, _⟩ => ⟨S256x1536, .bf16⟩
  | .local _ .vmem, ⟨2, _⟩ => ⟨S2048x3072, .bf16⟩
  | .local _ .vmem, ⟨3, _⟩ => ⟨S2048x3072, .bf16⟩
  | .local _ .vmem, ⟨4, _⟩ => ⟨S256x1536, .f32⟩
  | .local _ .vmem, ⟨5, _⟩ => ⟨S256x1536, .f32⟩
  | .local _ .vmem, ⟨6, _⟩ => ⟨S256x128, .f32⟩
  | .local _ .vmem, ⟨7, _⟩ => ⟨S256x128, .f32⟩
  | .local _ .vmem, ⟨8, _⟩ => ⟨S1x16x2048, .f32⟩
  | .local _ .vmem, ⟨9, _⟩ => ⟨S1x16x2048, .f32⟩
  | .local _ .vmem, ⟨10, _⟩ => ⟨S256x1536, .bf16⟩
  | .local _ .vmem, ⟨11, _⟩ => ⟨S256x1536, .bf16⟩
  | _, _ => ⟨S8192x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S8192x1536 : Shape := ⟨2, ![8192, 1536]⟩
abbrev S8192x3072 : Shape := ⟨2, ![8192, 3072]⟩
abbrev S8192x128 : Shape := ⟨2, ![8192, 128]⟩
abbrev S4x2048x12x128 : Shape := ⟨4, ![4, 2048, 12, 128]⟩
abbrev S4x2048x12x2x128 : Shape := ⟨5, ![4, 2048, 12, 2, 128]⟩
abbrev S4x2048x12x1x128 : Shape := ⟨5, ![4, 2048, 12, 1, 128]⟩
abbrev S4x2048x128 : Shape := ⟨3, ![4, 2048, 128]⟩
abbrev S4x2048x12 : Shape := ⟨3, ![4, 2048, 12]⟩
abbrev S2048 : Shape := ⟨1, ![2048]⟩
abbrev S4x12x2048x2048 : Shape := ⟨4, ![4, 12, 2048, 2048]⟩
abbrev S_ : Shape := ⟨0, ![]⟩
abbrev S4x12x2048 : Shape := ⟨3, ![4, 12, 2048]⟩
abbrev S4x12x2048x1 : Shape := ⟨4, ![4, 12, 2048, 1]⟩
abbrev S4x12x1x2048 : Shape := ⟨4, ![4, 12, 1, 2048]⟩
abbrev S1x2048 : Shape := ⟨2, ![1, 2048]⟩
abbrev S2048x1 : Shape := ⟨2, ![2048, 1]⟩
abbrev S2048x2048 : Shape := ⟨2, ![2048, 2048]⟩
abbrev S4x12x128x2048 : Shape := ⟨4, ![4, 12, 128, 2048]⟩
abbrev S4x2048x1536 : Shape := ⟨3, ![4, 2048, 1536]⟩

abbrev nBuf : Space → Nat
  | .hbm => 67
  | .vmem => 0
  | .smem => 0
  | _ => 0

abbrev bufTy : (tb : Table) → Fin (tcTables nBuf tb) → BufTy
  | .hbm, ⟨0, _⟩ => ⟨S8192x1536, .bf16⟩
  | .hbm, ⟨1, _⟩ => ⟨S8192x3072, .bf16⟩
  | .hbm, ⟨2, _⟩ => ⟨S8192x1536, .f32⟩
  | .hbm, ⟨3, _⟩ => ⟨S8192x128, .f32⟩
  | .hbm, ⟨4, _⟩ => ⟨S8192x1536, .f32⟩
  | .hbm, ⟨5, _⟩ => ⟨S4x2048x12x128, .f32⟩
  | .hbm, ⟨6, _⟩ => ⟨S8192x3072, .f32⟩
  | .hbm, ⟨7, _⟩ => ⟨S4x2048x12x2x128, .f32⟩
  | .hbm, ⟨8, _⟩ => ⟨S4x2048x12x1x128, .f32⟩
  | .hbm, ⟨9, _⟩ => ⟨S4x2048x12x128, .f32⟩
  | .hbm, ⟨10, _⟩ => ⟨S4x2048x12x1x128, .f32⟩
  | .hbm, ⟨11, _⟩ => ⟨S4x2048x12x128, .f32⟩
  | .hbm, ⟨12, _⟩ => ⟨S4x2048x128, .f32⟩
  | .hbm, ⟨13, _⟩ => ⟨S4x2048x12, .f32⟩
  | .hbm, ⟨14, _⟩ => ⟨S2048, .i32⟩
  | .hbm, ⟨15, _⟩ => ⟨S4x12x2048x2048, .f32⟩
  | .hbm, ⟨16, _⟩ => ⟨S_, .f32⟩
  | .hbm, ⟨17, _⟩ => ⟨S4x12x2048x2048, .f32⟩
  | .hbm, ⟨18, _⟩ => ⟨S4x12x2048x2048, .f32⟩
  | .hbm, ⟨19, _⟩ => ⟨S4x12x2048, .f32⟩
  | .hbm, ⟨20, _⟩ => ⟨S4x12x2048x1, .f32⟩
  | .hbm, ⟨21, _⟩ => ⟨S4x12x2048x2048, .f32⟩
  | .hbm, ⟨22, _⟩ => ⟨S4x12x2048x2048, .f32⟩
  | .hbm, ⟨23, _⟩ => ⟨S4x12x2048, .f32⟩
  | .hbm, ⟨24, _⟩ => ⟨S4x12x1x2048, .f32⟩
  | .hbm, ⟨25, _⟩ => ⟨S4x12x2048x2048, .f32⟩
  | .hbm, ⟨26, _⟩ => ⟨S4x12x2048x2048, .f32⟩
  | .hbm, ⟨27, _⟩ => ⟨S1x2048, .i32⟩
  | .hbm, ⟨28, _⟩ => ⟨S2048x1, .i32⟩
  | .hbm, ⟨29, _⟩ => ⟨S2048x2048, .i32⟩
  | .hbm, ⟨30, _⟩ => ⟨S2048x2048, .i32⟩
  | .hbm, ⟨31, _⟩ => ⟨S2048x2048, .i1⟩
  | .hbm, ⟨32, _⟩ => ⟨S_, .f32⟩
  | .hbm, ⟨33, _⟩ => ⟨S_, .f32⟩
  | .hbm, ⟨34, _⟩ => ⟨S4x12x2048x2048, .i1⟩
  | .hbm, ⟨35, _⟩ => ⟨S4x12x2048x2048, .f32⟩
  | .hbm, ⟨36, _⟩ => ⟨S4x12x2048x2048, .f32⟩
  | .hbm, ⟨37, _⟩ => ⟨S_, .f32⟩
  | .hbm, ⟨38, _⟩ => ⟨S4x12x2048, .f32⟩
  | .hbm, ⟨39, _⟩ => ⟨S_, .f32⟩
  | .hbm, ⟨40, _⟩ => ⟨S4x12x2048, .f32⟩
  | .hbm, ⟨41, _⟩ => ⟨S4x12x2048, .f32⟩
  | .hbm, ⟨42, _⟩ => ⟨S4x12x2048x1, .f32⟩
  | .hbm, ⟨43, _⟩ => ⟨S4x12x2048x2048, .f32⟩
  | .hbm, ⟨44, _⟩ => ⟨S4x12x2048x2048, .f32⟩
  | .hbm, ⟨45, _⟩ => ⟨S4x12x2048x2048, .f32⟩
  | .hbm, ⟨46, _⟩ => ⟨S_, .f32⟩
  | .hbm, ⟨47, _⟩ => ⟨S4x12x2048, .f32⟩
  | .hbm, ⟨48, _⟩ => ⟨S4x12x2048x1, .f32⟩
  | .hbm, ⟨49, _⟩ => ⟨S4x12x2048x2048, .f32⟩
  | .hbm, ⟨50, _⟩ => ⟨S4x12x2048x2048, .f32⟩
  | .hbm, ⟨51, _⟩ => ⟨S4x12x128x2048, .f32⟩
  | .hbm, ⟨52, _⟩ => ⟨S4x2048x12x128, .f32⟩
  | .hbm, ⟨53, _⟩ => ⟨S4x2048x1536, .f32⟩
  | .hbm, ⟨54, _⟩ => ⟨S4x2048x1536, .f32⟩
  | .hbm, ⟨55, _⟩ => ⟨S4x2048x1536, .f32⟩
  | .hbm, ⟨56, _⟩ => ⟨S4x2048x1536, .f32⟩
  | .hbm, ⟨57, _⟩ => ⟨S_, .f32⟩
  | .hbm, ⟨58, _⟩ => ⟨S4x2048x1536, .f32⟩
  | .hbm, ⟨59, _⟩ => ⟨S4x2048x1536, .f32⟩
  | .hbm, ⟨60, _⟩ => ⟨S_, .f32⟩
  | .hbm, ⟨61, _⟩ => ⟨S4x2048x1536, .f32⟩
  | .hbm, ⟨62, _⟩ => ⟨S4x2048x1536, .f32⟩
  | .hbm, ⟨63, _⟩ => ⟨S4x2048x1536, .f32⟩
  | .hbm, ⟨64, _⟩ => ⟨S4x2048x1536, .f32⟩
  | .hbm, ⟨65, _⟩ => ⟨S8192x1536, .f32⟩
  | .hbm, ⟨66, _⟩ => ⟨S8192x1536, .bf16⟩
  | _, _ => ⟨S8192x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_cst_0 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_v27 : Ref sig .tc := ⟨.hbm, 36, rfl⟩
abbrev main_cst_1 : Ref sig .tc := ⟨.hbm, 37, rfl⟩
abbrev main_v28 : Ref sig .tc := ⟨.hbm, 38, rfl⟩
abbrev main_cst_2 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_3 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_call1_v0 : Ref sig .tc := ⟨.hbm, 55, rfl⟩
abbrev main_call1_v1 : Ref sig .tc := ⟨.hbm, 56, rfl⟩
abbrev main_call1_cst : Ref sig .tc := ⟨.hbm, 57, rfl⟩
abbrev main_call1_v2 : Ref sig .tc := ⟨.hbm, 58, rfl⟩
abbrev main_call1_v3 : Ref sig .tc := ⟨.hbm, 59, rfl⟩
abbrev main_call1_cst_0 : Ref sig .tc := ⟨.hbm, 60, rfl⟩
abbrev main_call1_v4 : Ref sig .tc := ⟨.hbm, 61, rfl⟩
abbrev main_call1_v5 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩

abbrev nD : Nat := 1
abbrev τ : Topo := Topo.v7x

variable {F : FTy → Type} [FloatOps F]
-- ==== Proj.lean ====
abbrev S4x2048x4096 : Shape := ⟨3, ![4, 2048, 4096]⟩
abbrev S4096 : Shape := ⟨1, ![4096]⟩
abbrev S4096x18604 : Shape := ⟨2, ![4096, 18604]⟩
abbrev S12 : Shape := ⟨1, ![12]⟩
abbrev S8192x4096 : Shape := ⟨2, ![8192, 4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩
abbrev S4096x12 : Shape := ⟨2, ![4096, 12]⟩
abbrev S_ : Shape := ⟨0, ![]⟩
abbrev S4096x116 : Shape := ⟨2, ![4096, 116]⟩
abbrev S4096x32 : Shape := ⟨2, ![4096, 32]⟩
abbrev S4096x96 : Shape := ⟨2, ![4096, 96]⟩
abbrev S4096x128 : Shape := ⟨2, ![4096, 128]⟩
abbrev S4096x384 : Shape := ⟨2, ![4096, 384]⟩
abbrev S4096x1536 : Shape := ⟨2, ![4096, 1536]⟩
abbrev S4096x12x1x128 : Shape := ⟨4, ![4096, 12, 1, 128]⟩
abbrev S4096x12x2x128 : Shape := ⟨4, ![4096, 12, 2, 128]⟩
abbrev S4096x3072 : Shape := ⟨2, ![4096, 3072]⟩
abbrev S4096x2048 : Shape := ⟨2, ![4096, 2048]⟩
abbrev S4096x4096 : Shape := ⟨2, ![4096, 4096]⟩
abbrev S128 : Shape := ⟨1, ![128]⟩
abbrev S1x128 : Shape := ⟨2, ![1, 128]⟩
abbrev S2048 : Shape := ⟨1, ![2048]⟩
abbrev S64 : Shape := ⟨1, ![64]⟩
abbrev S2048x1 : Shape := ⟨2, ![2048, 1]⟩
abbrev S1x64 : Shape := ⟨2, ![1, 64]⟩
abbrev S2048x64 : Shape := ⟨2, ![2048, 64]⟩
abbrev S2048x128 : Shape := ⟨2, ![2048, 128]⟩
abbrev S8192x1536 : Shape := ⟨2, ![8192, 1536]⟩
abbrev S1024x4096 : Shape := ⟨2, ![1024, 4096]⟩
abbrev S4096x512 : Shape := ⟨2, ![4096, 512]⟩
abbrev S1024x512 : Shape := ⟨2, ![1024, 512]⟩
abbrev S8192x24x128 : Shape := ⟨3, ![8192, 24, 128]⟩
abbrev S8192x3072 : Shape := ⟨2, ![8192, 3072]⟩
abbrev S4096x1024 : Shape := ⟨2, ![4096, 1024]⟩
abbrev S1024x8x128 : Shape := ⟨3, ![1024, 8, 128]⟩
abbrev S1024x1024 : Shape := ⟨2, ![1024, 1024]⟩
abbrev S1024x128 : Shape := ⟨2, ![1024, 128]⟩
abbrev S1024x1x128 : Shape := ⟨3, ![1024, 1, 128]⟩
abbrev S8192x2048 : Shape := ⟨2, ![8192, 2048]⟩
abbrev S8192x384 : Shape := ⟨2, ![8192, 384]⟩
abbrev S1024x384 : Shape := ⟨2, ![1024, 384]⟩
abbrev S4x2048x384 : Shape := ⟨3, ![4, 2048, 384]⟩
abbrev S4x2048x12x2x128 : Shape := ⟨5, ![4, 2048, 12, 2, 128]⟩
abbrev S4x2048x2x12x128 : Shape := ⟨5, ![4, 2048, 2, 12, 128]⟩
abbrev S4x2048x12 : Shape := ⟨3, ![4, 2048, 12]⟩
abbrev S4x2048x32 : Shape := ⟨3, ![4, 2048, 32]⟩
abbrev S4x2048x128 : Shape := ⟨3, ![4, 2048, 128]⟩
abbrev S4x2048x2048 : Shape := ⟨3, ![4, 2048, 2048]⟩
abbrev S4x15x1024 : Shape := ⟨3, ![4, 15, 1024]⟩

abbrev nBuf : Space → Nat
  | .hbm => 87
  | .vmem => 79
  | .smem => 0
  | _ => 0

abbrev bufTy : (tb : Table) → Fin (tcTables nBuf tb) → BufTy
  | .hbm, ⟨0, _⟩ => ⟨S4x2048x4096, .f32⟩
  | .hbm, ⟨1, _⟩ => ⟨S4096, .f32⟩
  | .hbm, ⟨2, _⟩ => ⟨S4096x18604, .f32⟩
  | .hbm, ⟨3, _⟩ => ⟨S12, .f32⟩
  | .hbm, ⟨4, _⟩ => ⟨S8192x4096, .f32⟩
  | .hbm, ⟨5, _⟩ => ⟨S1x4096, .f32⟩
  | .hbm, ⟨6, _⟩ => ⟨S8192x4096, .bf16⟩
  | .hbm, ⟨7, _⟩ => ⟨S4096x12, .f32⟩
  | .hbm, ⟨8, _⟩ => ⟨S_, .f32⟩
  | .hbm, ⟨9, _⟩ => ⟨S4096x116, .f32⟩
  | .hbm, ⟨10, _⟩ => ⟨S4096x32, .f32⟩
  | .hbm, ⟨11, _⟩ => ⟨S_, .f32⟩
  | .hbm, ⟨12, _⟩ => ⟨S4096x96, .f32⟩
  | .hbm, ⟨13, _⟩ => ⟨S4096x128, .f32⟩
  | .hbm, ⟨14, _⟩ => ⟨S4096x384, .f32⟩
  | .hbm, ⟨15, _⟩ => ⟨S4096x384, .bf16⟩
  | .hbm, ⟨16, _⟩ => ⟨S4096x1536, .f32⟩
  | .hbm, ⟨17, _⟩ => ⟨S4096x1536, .bf16⟩
  | .hbm, ⟨18, _⟩ => ⟨S4096x1536, .f32⟩
  | .hbm, ⟨19, _⟩ => ⟨S4096x12x1x128, .f32⟩
  | .hbm, ⟨20, _⟩ => ⟨S4096x1536, .f32⟩
  | .hbm, ⟨21, _⟩ => ⟨S4096x12x1x128, .f32⟩
  | .hbm, ⟨22, _⟩ => ⟨S4096x12x2x128, .f32⟩
  | .hbm, ⟨23, _⟩ => ⟨S4096x3072, .f32⟩
  | .hbm, ⟨24, _⟩ => ⟨S4096x3072, .bf16⟩
  | .hbm, ⟨25, _⟩ => ⟨S4096x1536, .f32⟩
  | .hbm, ⟨26, _⟩ => ⟨S4096x1536, .bf16⟩
  | .hbm, ⟨27, _⟩ => ⟨S4096x2048, .f32⟩
  | .hbm, ⟨28, _⟩ => ⟨S4096x2048, .bf16⟩
  | .hbm, ⟨29, _⟩ => ⟨S4096x1536, .f32⟩
  | .hbm, ⟨30, _⟩ => ⟨S4096x1536, .bf16⟩
  | .hbm, ⟨31, _⟩ => ⟨S4096x1536, .f32⟩
  | .hbm, ⟨32, _⟩ => ⟨S4096x12x1x128, .f32⟩
  | .hbm, ⟨33, _⟩ => ⟨S4096x1536, .f32⟩
  | .hbm, ⟨34, _⟩ => ⟨S4096x12x1x128, .f32⟩
  | .hbm, ⟨35, _⟩ => ⟨S4096x12x2x128, .f32⟩
  | .hbm, ⟨36, _⟩ => ⟨S4096x3072, .f32⟩
  | .hbm, ⟨37, _⟩ => ⟨S4096x3072, .bf16⟩
  | .hbm, ⟨38, _⟩ => ⟨S4096x1536, .f32⟩
  | .hbm, ⟨39, _⟩ => ⟨S4096x1536, .bf16⟩
  | .hbm, ⟨40, _⟩ => ⟨S4096x4096, .f32⟩
  | .hbm, ⟨41, _⟩ => ⟨S4096x4096, .bf16⟩
  | .hbm, ⟨42, _⟩ => ⟨S_, .i32⟩
  | .hbm, ⟨43, _⟩ => ⟨S_, .f32⟩
  | .hbm, ⟨44, _⟩ => ⟨S128, .f32⟩
  | .hbm, ⟨45, _⟩ => ⟨S1x128, .f32⟩
  | .hbm, ⟨46, _⟩ => ⟨S2048, .i32⟩
  | .hbm, ⟨47, _⟩ => ⟨S64, .f32⟩
  | .hbm, ⟨48, _⟩ => ⟨S64, .f32⟩
  | .hbm, ⟨49, _⟩ => ⟨S_, .f32⟩
  | .hbm, ⟨50, _⟩ => ⟨S64, .f32⟩
  | .hbm, ⟨51, _⟩ => ⟨S64, .f32⟩
  | .hbm, ⟨52, _⟩ => ⟨S_, .f32⟩
  | .hbm, ⟨53, _⟩ => ⟨S64, .f32⟩
  | .hbm, ⟨54, _⟩ => ⟨S64, .f32⟩
  | .hbm, ⟨55, _⟩ => ⟨S2048, .f32⟩
  | .hbm, ⟨56, _⟩ => ⟨S2048x1, .f32⟩
  | .hbm, ⟨57, _⟩ => ⟨S1x64, .f32⟩
  | .hbm, ⟨58, _⟩ => ⟨S2048x64, .f32⟩
  | .hbm, ⟨59, _⟩ => ⟨S2048x64, .f32⟩
  | .hbm, ⟨60, _⟩ => ⟨S2048x64, .f32⟩
  | .hbm, ⟨61, _⟩ => ⟨S2048x64, .f32⟩
  | .hbm, ⟨62, _⟩ => ⟨S2048x64, .f32⟩
  | .hbm, ⟨63, _⟩ => ⟨S2048x128, .f32⟩
  | .hbm, ⟨64, _⟩ => ⟨S2048x64, .f32⟩
  | .hbm, ⟨65, _⟩ => ⟨S2048x128, .f32⟩
  | .hbm, ⟨66, _⟩ => ⟨S8192x1536, .bf16⟩
  | .hbm, ⟨67, _⟩ => ⟨S8192x24x128, .f32⟩
  | .hbm, ⟨68, _⟩ => ⟨S8192x3072, .bf16⟩
  | .hbm, ⟨69, _⟩ => ⟨S8192x1536, .f32⟩
  | .hbm, ⟨70, _⟩ => ⟨S8192x2048, .f32⟩
  | .hbm, ⟨71, _⟩ => ⟨S8192x1536, .bf16⟩
  | .hbm, ⟨72, _⟩ => ⟨S8192x24x128, .f32⟩
  | .hbm, ⟨73, _⟩ => ⟨S8192x3072, .bf16⟩
  | .hbm, ⟨74, _⟩ => ⟨S8192x1536, .f32⟩
  | .hbm, ⟨75, _⟩ => ⟨S8192x4096, .bf16⟩
  | .hbm, ⟨76, _⟩ => ⟨S8192x384, .f32⟩
  | .hbm, ⟨77, _⟩ => ⟨S4x2048x384, .f32⟩
  | .hbm, ⟨78, _⟩ => ⟨S4x2048x12x2x128, .f32⟩
  | .hbm, ⟨79, _⟩ => ⟨S4x2048x2x12x128, .f32⟩
  | .hbm, ⟨80, _⟩ => ⟨S4x2048x12x2x128, .f32⟩
  | .hbm, ⟨81, _⟩ => ⟨S4x2048x2x12x128, .f32⟩
  | .hbm, ⟨82, _⟩ => ⟨S4x2048x12, .f32⟩
  | .hbm, ⟨83, _⟩ => ⟨S4x2048x32, .f32⟩
  | .hbm, ⟨84, _⟩ => ⟨S4x2048x128, .f32⟩
  | .hbm, ⟨85, _⟩ => ⟨S4x2048x2048, .f32⟩
  | .hbm, ⟨86, _⟩ => ⟨S4x15x1024, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .bf16⟩
  | .local _ .vmem, ⟨4, _⟩ => ⟨S256x4096, .bf16⟩
  | .local _ .vmem, ⟨5, _⟩ => ⟨S1024x4096, .bf16⟩
  | .local _ .vmem, ⟨6, _⟩ => ⟨S1024x4096, .bf16⟩
  | .local _ .vmem, ⟨7, _⟩ => ⟨S4096x512, .bf16⟩
  | .local _ .vmem, ⟨8, _⟩ => ⟨S4096x512, .bf16⟩
  | .local _ .vmem, ⟨9, _⟩ => ⟨S1024x512, .bf16⟩
  | .local _ .vmem, ⟨10, _⟩ => ⟨S1024x512, .bf16⟩
  | .local _ .vmem, ⟨11, _⟩ => ⟨S1024x4096, .bf16⟩
  | .local _ .vmem, ⟨12, _⟩ => ⟨S1024x4096, .bf16⟩
  | .local _ .vmem, ⟨13, _⟩ => ⟨S4096x1024, .bf16⟩
  | .local _ .vmem, ⟨14, _⟩ => ⟨S4096x1024, .bf16⟩
  | .local _ .vmem, ⟨15, _⟩ => ⟨S1024x8x128, .f32⟩
  | .local _ .vmem, ⟨16, _⟩ => ⟨S1024x8x128, .f32⟩
  | .local _ .vmem, ⟨17, _⟩ => ⟨S1024x1024, .bf16⟩
  | .local _ .vmem, ⟨18, _⟩ => ⟨S1024x1024, .bf16⟩
  | .local _ .vmem, ⟨19, _⟩ => ⟨S1024x4096, .bf16⟩
  | .local _ .vmem, ⟨20, _⟩ => ⟨S1024x4096, .bf16⟩
  | .local _ .vmem, ⟨21, _⟩ => ⟨S4096x512, .bf16⟩
  | .local _ .vmem, ⟨22, _⟩ => ⟨S4096x512, .bf16⟩
  | .local _ .vmem, ⟨23, _⟩ => ⟨S1024x512, .f32⟩
  | .local _ .vmem, ⟨24, _⟩ => ⟨S1024x512, .f32⟩
  | .local _ .vmem, ⟨25, _⟩ => ⟨S1024x4096, .bf16⟩
  | .local _ .vmem, ⟨26, _⟩ => ⟨S1024x4096, .bf16⟩
  | .local _ .vmem, ⟨27, _⟩ => ⟨S4096x512, .bf16⟩
  | .local _ .vmem, ⟨28, _⟩ => ⟨S4096x512, .bf16⟩
  | .local _ .vmem, ⟨29, _⟩ => ⟨S1024x512, .f32⟩
  | .local _ .vmem, ⟨30, _⟩ => ⟨S1024x512, .f32⟩
  | .local _ .vmem, ⟨31, _⟩ => ⟨S1024x4096, .bf16⟩
  | .local _ .vmem, ⟨32, _⟩ => ⟨S1024x4096, .bf16⟩
  | .local _ .vmem, ⟨33, _⟩ => ⟨S4096x512, .bf16⟩
  | .local _ .vmem, ⟨34, _⟩ => ⟨S4096x512, .bf16⟩
  | .local _ .vmem, ⟨35, _⟩ => ⟨S1024x128, .f32⟩
  | .local _ .vmem, ⟨36, _⟩ => ⟨S1024x128, .f32⟩
  | .local _ .vmem, ⟨37, _⟩ => ⟨S1024x128, .f32⟩
  | .local _ .vmem, ⟨38, _⟩ => ⟨S1024x128, .f32⟩
  | .local _ .vmem, ⟨39, _⟩ => ⟨S1024x512, .bf16⟩
  | .local _ .vmem, ⟨40, _⟩ => ⟨S1024x512, .bf16⟩
  | .local _ .vmem, ⟨41, _⟩ => ⟨S1024x4096, .bf16⟩
  | .local _ .vmem, ⟨42, _⟩ => ⟨S1024x4096, .bf16⟩
  | .local _ .vmem, ⟨43, _⟩ => ⟨S4096x1024, .bf16⟩
  | .local _ .vmem, ⟨44, _⟩ => ⟨S4096x1024, .bf16⟩
  | .local _ .vmem, ⟨45, _⟩ => ⟨S1024x128, .f32⟩
  | .local _ .vmem, ⟨46, _⟩ => ⟨S1024x128, .f32⟩
  | .local _ .vmem, ⟨47, _⟩ => ⟨S1024x128, .f32⟩
  | .local _ .vmem, ⟨48, _⟩ => ⟨S1024x128, .f32⟩
  | .local _ .vmem, ⟨49, _⟩ => ⟨S1024x8x128, .f32⟩
  | .local _ .vmem, ⟨50, _⟩ => ⟨S1024x8x128, .f32⟩
  | .local _ .vmem, ⟨51, _⟩ => ⟨S1024x1024, .bf16⟩
  | .local _ .vmem, ⟨52, _⟩ => ⟨S1024x1024, .bf16⟩
  | .local _ .vmem, ⟨53, _⟩ => ⟨S1024x4096, .bf16⟩
  | .local _ .vmem, ⟨54, _⟩ => ⟨S1024x4096, .bf16⟩
  | .local _ .vmem, ⟨55, _⟩ => ⟨S4096x512, .bf16⟩
  | .local _ .vmem, ⟨56, _⟩ => ⟨S4096x512, .bf16⟩
  | .local _ .vmem, ⟨57, _⟩ => ⟨S1024x512, .f32⟩
  | .local _ .vmem, ⟨58, _⟩ => ⟨S1024x512, .f32⟩
  | .local _ .vmem, ⟨59, _⟩ => ⟨S1024x4096, .bf16⟩
  | .local _ .vmem, ⟨60, _⟩ => ⟨S1024x4096, .bf16⟩
  | .local _ .vmem, ⟨61, _⟩ => ⟨S4096x512, .bf16⟩
  | .local _ .vmem, ⟨62, _⟩ => ⟨S4096x512, .bf16⟩
  | .local _ .vmem, ⟨63, _⟩ => ⟨S1024x128, .f32⟩
  | .local _ .vmem, ⟨64, _⟩ => ⟨S1024x128, .f32⟩
  | .local _ .vmem, ⟨65, _⟩ => ⟨S1024x128, .f32⟩
  | .local _ .vmem, ⟨66, _⟩ => ⟨S1024x128, .f32⟩
  | .local _ .vmem, ⟨67, _⟩ => ⟨S1024x512, .bf16⟩
  | .local _ .vmem, ⟨68, _⟩ => ⟨S1024x512, .bf16⟩
  | .local _ .vmem, ⟨69, _⟩ => ⟨S1024x4096, .bf16⟩
  | .local _ .vmem, ⟨70, _⟩ => ⟨S1024x4096, .bf16⟩
  | .local _ .vmem, ⟨71, _⟩ => ⟨S4096x384, .bf16⟩
  | .local _ .vmem, ⟨72, _⟩ => ⟨S1024x128, .f32⟩
  | .local _ .vmem, ⟨73, _⟩ => ⟨S1024x128, .f32⟩
  | .local _ .vmem, ⟨74, _⟩ => ⟨S1024x128, .f32⟩
  | .local _ .vmem, ⟨75, _⟩ => ⟨S1024x128, .f32⟩
  | .local _ .vmem, ⟨76, _⟩ => ⟨S1x128, .f32⟩
  | .local _ .vmem, ⟨77, _⟩ => ⟨S1024x384, .f32⟩
  | .local _ .vmem, ⟨78, _⟩ => ⟨S1024x384, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | _, _ => false

abbrev semScoped : Fin 0 → Bool
  | ⟨_, h⟩ => absurd h (Nat.not_lt_zero _)

abbrev dmaSemScoped : Fin 79 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | _ => false

abbrev sig : RefSig :=
  ofTc nBuf bufTy 0 79 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_c : Ref sig .tc := ⟨.hbm, 42, rfl⟩
abbrev main_call0_v0 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_cst_1 : Ref sig .tc := ⟨.hbm, 49, rfl⟩
abbrev main_v41 : Ref sig .tc := ⟨.hbm, 50, rfl⟩
abbrev main_v42 : Ref sig .tc := ⟨.hbm, 51, rfl⟩
abbrev main_cst_2 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57_0 : Ref sig .tc := ⟨.hbm, 67, rfl⟩
abbrev main_v57_1 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61_0 : Ref sig .tc := ⟨.hbm, 72, rfl⟩
abbrev main_v61_1 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc2_stg3_0 : Ref sig .tc := ⟨.vmem, 17, rfl⟩
abbrev cc2_stg3_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc4_stg0_0 : Ref sig .tc := ⟨.vmem, 25, rfl⟩
abbrev cc4_stg0_1 : Ref sig .tc := ⟨.vmem, 26, rfl⟩
abbrev cc4_stg1_0 : Ref sig .tc := ⟨.vmem, 27, rfl⟩
abbrev cc4_stg1_1 : Ref sig .tc := ⟨.vmem, 28, rfl⟩
abbrev cc4_stg2_0 : Ref sig .tc := ⟨.vmem, 29, rfl⟩
abbrev cc4_stg2_1 : Ref sig .tc := ⟨.vmem, 30, rfl⟩
abbrev cc5_stg0_0 : Ref sig .tc := ⟨.vmem, 31, rfl⟩
abbrev cc5_stg0_1 : Ref sig .tc := ⟨.vmem, 32, rfl⟩
abbrev cc5_stg1_0 : Ref sig .tc := ⟨.vmem, 33, rfl⟩
abbrev cc5_stg1_1 : Ref sig .tc := ⟨.vmem, 34, rfl⟩
abbrev cc5_stg2_0 : Ref sig .tc := ⟨.vmem, 35, rfl⟩
abbrev cc5_stg2_1 : Ref sig .tc := ⟨.vmem, 36, rfl⟩
abbrev cc5_stg3_0 : Ref sig .tc := ⟨.vmem, 37, rfl⟩
abbrev cc5_stg3_1 : Ref sig .tc := ⟨.vmem, 38, rfl⟩
abbrev cc5_stg4_0 : Ref sig .tc := ⟨.vmem, 39, rfl⟩
abbrev cc5_stg4_1 : Ref sig .tc := ⟨.vmem, 40, rfl⟩
abbrev cc6_stg0_0 : Ref sig .tc := ⟨.vmem, 41, rfl⟩
abbrev cc6_stg0_1 : Ref sig .tc := ⟨.vmem, 42, rfl⟩
abbrev cc6_stg1_0 : Ref sig .tc := ⟨.vmem, 43, rfl⟩
abbrev cc6_stg1_1 : Ref sig .tc := ⟨.vmem, 44, rfl⟩
abbrev cc6_stg2_0 : Ref sig .tc := ⟨.vmem, 45, rfl⟩
abbrev cc6_stg2_1 : Ref sig .tc := ⟨.vmem, 46, rfl⟩
abbrev cc6_stg3_0 : Ref sig .tc := ⟨.vmem, 47, rfl⟩
abbrev cc6_stg3_1 : Ref sig .tc := ⟨.vmem, 48, rfl⟩
abbrev cc6_stg4_0 : Ref sig .tc := ⟨.vmem, 49, rfl⟩
abbrev cc6_stg4_1 : Ref sig .tc := ⟨.vmem, 50, rfl⟩
abbrev cc6_stg5_0 : Ref sig .tc := ⟨.vmem, 51, rfl⟩
abbrev cc6_stg5_1 : Ref sig .tc := ⟨.vmem, 52, rfl⟩
abbrev cc7_stg0_0 : Ref sig .tc := ⟨.vmem, 53, rfl⟩
abbrev cc7_stg0_1 : Ref sig .tc := ⟨.vmem, 54, rfl⟩
abbrev cc7_stg1_0 : Ref sig .tc := ⟨.vmem, 55, rfl⟩
abbrev cc7_stg1_1 : Ref sig .tc := ⟨.vmem, 56, rfl⟩
abbrev cc7_stg2_0 : Ref sig .tc := ⟨.vmem, 57, rfl⟩
abbrev cc7_stg2_1 : Ref sig .tc := ⟨.vmem, 58, rfl⟩
abbrev cc8_stg0_0 : Ref sig .tc := ⟨.vmem, 59, rfl⟩
abbrev cc8_stg0_1 : Ref sig .tc := ⟨.vmem, 60, rfl⟩
abbrev cc8_stg1_0 : Ref sig .tc := ⟨.vmem, 61, rfl⟩
abbrev cc8_stg1_1 : Ref sig .tc := ⟨.vmem, 62, rfl⟩
abbrev cc8_stg2_0 : Ref sig .tc := ⟨.vmem, 63, rfl⟩
abbrev cc8_stg2_1 : Ref sig .tc := ⟨.vmem, 64, rfl⟩
abbrev cc8_stg3_0 : Ref sig .tc := ⟨.vmem, 65, rfl⟩
abbrev cc8_stg3_1 : Ref sig .tc := ⟨.vmem, 66, rfl⟩
abbrev cc8_stg4_0 : Ref sig .tc := ⟨.vmem, 67, rfl⟩
abbrev cc8_stg4_1 : Ref sig .tc := ⟨.vmem, 68, rfl⟩
abbrev cc9_stg0_0 : Ref sig .tc := ⟨.vmem, 69, rfl⟩
abbrev cc9_stg0_1 : Ref sig .tc := ⟨.vmem, 70, rfl⟩
abbrev cc9_stg1_0 : Ref sig .tc := ⟨.vmem, 71, rfl⟩
abbrev cc9_stg2_0 : Ref sig .tc := ⟨.vmem, 72, rfl⟩
abbrev cc9_stg2_1 : Ref sig .tc := ⟨.vmem, 73, rfl⟩
abbrev cc9_stg3_0 : Ref sig .tc := ⟨.vmem, 74, rfl⟩
abbrev cc9_stg3_1 : Ref sig .tc := ⟨.vmem, 75, rfl⟩
abbrev cc9_stg4_0 : Ref sig .tc := ⟨.vmem, 76, rfl⟩
abbrev cc9_stg5_0 : Ref sig .tc := ⟨.vmem, 77, rfl⟩
abbrev cc9_stg5_1 : Ref sig .tc := ⟨.vmem, 78, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc2_sem3_0 : DmaSem sig := 17
abbrev cc2_sem3_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc4_sem0_0 : DmaSem sig := 25
abbrev cc4_sem0_1 : DmaSem sig := 26
abbrev cc4_sem1_0 : DmaSem sig := 27
abbrev cc4_sem1_1 : DmaSem sig := 28
abbrev cc4_sem2_0 : DmaSem sig := 29
abbrev cc4_sem2_1 : DmaSem sig := 30
abbrev cc5_sem0_0 : DmaSem sig := 31
abbrev cc5_sem0_1 : DmaSem sig := 32
abbrev cc5_sem1_0 : DmaSem sig := 33
abbrev cc5_sem1_1 : DmaSem sig := 34
abbrev cc5_sem2_0 : DmaSem sig := 35
abbrev cc5_sem2_1 : DmaSem sig := 36
abbrev cc5_sem3_0 : DmaSem sig := 37
abbrev cc5_sem3_1 : DmaSem sig := 38
abbrev cc5_sem4_0 : DmaSem sig := 39
abbrev cc5_sem4_1 : DmaSem sig := 40
abbrev cc6_sem0_0 : DmaSem sig := 41
abbrev cc6_sem0_1 : DmaSem sig := 42
abbrev cc6_sem1_0 : DmaSem sig := 43
abbrev cc6_sem1_1 : DmaSem sig := 44
abbrev cc6_sem2_0 : DmaSem sig := 45
abbrev cc6_sem2_1 : DmaSem sig := 46
abbrev cc6_sem3_0 : DmaSem sig := 47
abbrev cc6_sem3_1 : DmaSem sig := 48
abbrev cc6_sem4_0 : DmaSem sig := 49
abbrev cc6_sem4_1 : DmaSem sig := 50
abbrev cc6_sem5_0 : DmaSem sig := 51
abbrev cc6_sem5_1 : DmaSem sig := 52
abbrev cc7_sem0_0 : DmaSem sig := 53
abbrev cc7_sem0_1 : DmaSem sig := 54
abbrev cc7_sem1_0 : DmaSem sig := 55
abbrev cc7_sem1_1 : DmaSem sig := 56
abbrev cc7_sem2_0 : DmaSem sig := 57
abbrev cc7_sem2_1 : DmaSem sig := 58
abbrev cc8_sem0_0 : DmaSem sig := 59
abbrev cc8_sem0_1 : DmaSem sig := 60
abbrev cc8_sem1_0 : DmaSem sig := 61
abbrev cc8_sem1_1 : DmaSem sig := 62
abbrev cc8_sem2_0 : DmaSem sig := 63
abbrev cc8_sem2_1 : DmaSem sig := 64
abbrev cc8_sem3_0 : DmaSem sig := 65
abbrev cc8_sem3_1 : DmaSem sig := 66
abbrev cc8_sem4_0 : DmaSem sig := 67
abbrev cc8_sem4_1 : DmaSem sig := 68
abbrev cc9_sem0_0 : DmaSem sig := 69
abbrev cc9_sem0_1 : DmaSem sig := 70
abbrev cc9_sem1_0 : DmaSem sig := 71
abbrev cc9_sem2_0 : DmaSem sig := 72
abbrev cc9_sem2_1 : DmaSem sig := 73
abbrev cc9_sem3_0 : DmaSem sig := 74
abbrev cc9_sem3_1 : DmaSem sig := 75
abbrev cc9_sem4_0 : DmaSem sig := 76
abbrev cc9_sem5_0 : DmaSem sig := 77
abbrev cc9_sem5_1 : DmaSem sig := 78

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 3], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S4096x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![8, 3], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S4096x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x8x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1024x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev grid3 : Pipeline.Grid := ⟨2, ![8, 3], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S1024x4096 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S4096x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1024x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨2, ![8, 4], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 2 → Memref sig .tc .vmem S1024x4096 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S4096x512 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S1024x512 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev grid5 : Pipeline.Grid := ⟨2, ![8, 3], ![false, false]⟩

def k5_cond1 (i : grid5.Coords) : BitVec 1 :=
  let arg1 : BitVec 32 := BitVec.ofNat 32 (i 1).val
  let c3_i32 : BitVec 32 := 3#32
  let v5 : BitVec 1 := Scalar.cmpi .slt arg1 c3_i32
  let v6 : BitVec 32 := Scalar.extui v5
  let c0_i32 : BitVec 32 := 0#32
  let v7 : BitVec 1 := Scalar.cmpi .ne v6 c0_i32
  v7

def k5_cond2 (i : grid5.Coords) : BitVec 1 :=
  let arg1 : BitVec 32 := BitVec.ofNat 32 (i 1).val
  let c3_i32_3 : BitVec 32 := 3#32
  let v8 : BitVec 1 := Scalar.cmpi .sge arg1 c3_i32_3
  let v9 : BitVec 32 := Scalar.extui v8
  let c0_i32_4 : BitVec 32 := 0#32
  let v10 : BitVec 1 := Scalar.cmpi .ne v9 c0_i32_4
  v10

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_2 (i : grid5.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc5_transform_3 (i : grid5.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc5_transform_4 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 2 → Memref sig .tc .vmem S1024x4096 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false]

abbrev stage5_1 : Fin 2 → Memref sig .tc .vmem S4096x512 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S1024x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, false]

abbrev stage5_3 : Fin 2 → Memref sig .tc .vmem S1024x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, false]

abbrev stage5_4 : Fin 2 → Memref sig .tc .vmem S1024x512 .bf16 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true, true]

abbrev grid6 : Pipeline.Grid := ⟨2, ![8, 3], ![false, false]⟩

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc6_transform_2 (i : grid6.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc6_transform_3 (i : grid6.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc6_transform_4 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc6_transform_5 (i : grid6.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage6_0 : Fin 2 → Memref sig .tc .vmem S1024x4096 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false]

abbrev stage6_1 : Fin 2 → Memref sig .tc .vmem S4096x1024 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true]

abbrev stage6_2 : Fin 2 → Memref sig .tc .vmem S1024x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, false]

abbrev stage6_3 : Fin 2 → Memref sig .tc .vmem S1024x128 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true, false]

abbrev stage6_4 : Fin 2 → Memref sig .tc .vmem S1024x8x128 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true, true]

abbrev stage6_5 : Fin 2 → Memref sig .tc .vmem S1024x1024 .bf16 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true, true]

abbrev grid7 : Pipeline.Grid := ⟨2, ![8, 3], ![false, false]⟩

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage7_0 : Fin 2 → Memref sig .tc .vmem S1024x4096 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false]

abbrev stage7_1 : Fin 2 → Memref sig .tc .vmem S4096x512 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true]

abbrev stage7_2 : Fin 2 → Memref sig .tc .vmem S1024x512 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true]

abbrev grid8 : Pipeline.Grid := ⟨2, ![8, 8], ![false, false]⟩

def k8_cond1 (i : grid8.Coords) : BitVec 1 :=
  let arg1 : BitVec 32 := BitVec.ofNat 32 (i 1).val
  let c8_i32 : BitVec 32 := 8#32
  let v5 : BitVec 1 := Scalar.cmpi .slt arg1 c8_i32
  let v6 : BitVec 32 := Scalar.extui v5
  let c0_i32 : BitVec 32 := 0#32
  let v7 : BitVec 1 := Scalar.cmpi .ne v6 c0_i32
  v7

def k8_cond2 (i : grid8.Coords) : BitVec 1 :=
  let arg1 : BitVec 32 := BitVec.ofNat 32 (i 1).val
  let c8_i32_3 : BitVec 32 := 8#32
  let v8 : BitVec 1 := Scalar.cmpi .sge arg1 c8_i32_3
  let v9 : BitVec 32 := Scalar.extui v8
  let c0_i32_4 : BitVec 32 := 0#32
  let v10 : BitVec 1 := Scalar.cmpi .ne v9 c0_i32_4
  v10

def cc8_transform_0 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc8_transform_2 (i : grid8.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc8_transform_3 (i : grid8.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc8_transform_4 (i : grid8.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage8_0 : Fin 2 → Memref sig .tc .vmem S1024x4096 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, false]

abbrev stage8_1 : Fin 2 → Memref sig .tc .vmem S4096x512 .bf16 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![false, true]

abbrev stage8_2 : Fin 2 → Memref sig .tc .vmem S1024x128 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, false]

abbrev stage8_3 : Fin 2 → Memref sig .tc .vmem S1024x128 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true, false]

abbrev stage8_4 : Fin 2 → Memref sig .tc .vmem S1024x512 .bf16 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true, true]

abbrev grid9 : Pipeline.Grid := ⟨2, ![8, 1], ![false, false]⟩

def cc9_transform_0 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc9_transform_2 (i : grid9.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc9_transform_3 (i : grid9.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc9_transform_4 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage9_0 : Fin 2 → Memref sig .tc .vmem S1024x4096 .bf16 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true, false]

abbrev stage9_1 : Fin 1 → Memref sig .tc .vmem S4096x384 .bf16 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false, true]

abbrev stage9_2 : Fin 2 → Memref sig .tc .vmem S1024x128 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true, false]

abbrev stage9_3 : Fin 2 → Memref sig .tc .vmem S1024x128 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true, false]

abbrev stage9_4 : Fin 1 → Memref sig .tc .vmem S1x128 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false, false]

abbrev stage9_5 : Fin 2 → Memref sig .tc .vmem S1024x384 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true, true]
-- ==== ProjReferenceIdeal.lean ====
abbrev S4x2048x4096 : Shape := ⟨3, ![4, 2048, 4096]⟩
abbrev S4096 : Shape := ⟨1, ![4096]⟩
abbrev S4096x18604 : Shape := ⟨2, ![4096, 18604]⟩
abbrev S12 : Shape := ⟨1, ![12]⟩
abbrev S_ : Shape := ⟨0, ![]⟩
abbrev S4x2048 : Shape := ⟨2, ![4, 2048]⟩
abbrev S4x2048x1 : Shape := ⟨3, ![4, 2048, 1]⟩
abbrev S1x1x4096 : Shape := ⟨3, ![1, 1, 4096]⟩
abbrev S4x2048x18604 : Shape := ⟨3, ![4, 2048, 18604]⟩
abbrev S4x2048x1536 : Shape := ⟨3, ![4, 2048, 1536]⟩
abbrev S4x2048x12 : Shape := ⟨3, ![4, 2048, 12]⟩
abbrev S4x2048x1024 : Shape := ⟨3, ![4, 2048, 1024]⟩
abbrev S4x2048x128 : Shape := ⟨3, ![4, 2048, 128]⟩
abbrev S4x2048x32 : Shape := ⟨3, ![4, 2048, 32]⟩
abbrev S2048 : Shape := ⟨1, ![2048]⟩
abbrev S1x1x12 : Shape := ⟨3, ![1, 1, 12]⟩
abbrev S4x2048x12x128 : Shape := ⟨4, ![4, 2048, 12, 128]⟩
abbrev S4x2048x1x12x128 : Shape := ⟨5, ![4, 2048, 1, 12, 128]⟩
abbrev S4x2048x2x12x128 : Shape := ⟨5, ![4, 2048, 2, 12, 128]⟩
abbrev S64 : Shape := ⟨1, ![64]⟩
abbrev S2048x1 : Shape := ⟨2, ![2048, 1]⟩
abbrev S1x64 : Shape := ⟨2, ![1, 64]⟩
abbrev S2048x64 : Shape := ⟨2, ![2048, 64]⟩
abbrev S2048x1x64 : Shape := ⟨3, ![2048, 1, 64]⟩
abbrev S4x2048x12x64 : Shape := ⟨4, ![4, 2048, 12, 64]⟩
abbrev S1x2048x1x64 : Shape := ⟨4, ![1, 2048, 1, 64]⟩
abbrev S4x2048x1x128 : Shape := ⟨4, ![4, 2048, 1, 128]⟩
abbrev S4x2048x1x64 : Shape := ⟨4, ![4, 2048, 1, 64]⟩
abbrev S8192x1536 : Shape := ⟨2, ![8192, 1536]⟩
abbrev S4x2048x12x2x128 : Shape := ⟨5, ![4, 2048, 12, 2, 128]⟩
abbrev S8192x3072 : Shape := ⟨2, ![8192, 3072]⟩
abbrev S4x2048x2048 : Shape := ⟨3, ![4, 2048, 2048]⟩
abbrev S8192x2048 : Shape := ⟨2, ![8192, 2048]⟩
abbrev S4x2048x32x128 : Shape := ⟨4, ![4, 2048, 32, 128]⟩
abbrev S4x2048x32x64 : Shape := ⟨4, ![4, 2048, 32, 64]⟩
abbrev S8192x4096 : Shape := ⟨2, ![8192, 4096]⟩
abbrev S4x15x1024 : Shape := ⟨3, ![4, 15, 1024]⟩

abbrev nBuf : Space → Nat
  | .hbm => 226
  | .vmem => 0
  | .smem => 0
  | _ => 0

abbrev hbmTy0_0 (i : Nat) : BufTy := match i % 128 with
  | 0 => ⟨S4x2048x4096, .f32⟩
  | 1 => ⟨S4096, .f32⟩
  | 2 => ⟨S4096x18604, .f32⟩
  | 3 => ⟨S12, .f32⟩
  | 4 => ⟨S4x2048x4096, .f32⟩
  | 5 => ⟨S_, .f32⟩
  | 6 => ⟨S4x2048, .f32⟩
  | 7 => ⟨S4x2048x1, .f32⟩
  | 8 => ⟨S_, .f32⟩
  | 9 => ⟨S4x2048x1, .f32⟩
  | 10 => ⟨S4x2048x1, .f32⟩
  | 11 => ⟨S_, .f32⟩
  | 12 => ⟨S4x2048x1, .f32⟩
  | 13 => ⟨S4x2048x1, .f32⟩
  | 14 => ⟨S4x2048x1, .f32⟩
  | 15 => ⟨S4x2048x4096, .f32⟩
  | 16 => ⟨S4x2048x4096, .f32⟩
  | 17 => ⟨S1x1x4096, .f32⟩
  | 18 => ⟨S4x2048x4096, .f32⟩
  | 19 => ⟨S4x2048x4096, .f32⟩
  | 20 => ⟨S4x2048x18604, .f32⟩
  | 21 => ⟨S4x2048x1536, .f32⟩
  | 22 => ⟨S4x2048x1536, .f32⟩
  | 23 => ⟨S4x2048x1536, .f32⟩
  | 24 => ⟨S4x2048x1536, .f32⟩
  | 25 => ⟨S4x2048x12, .f32⟩
  | 26 => ⟨S4x2048x1024, .f32⟩
  | 27 => ⟨S4x2048x1024, .f32⟩
  | 28 => ⟨S4x2048x1536, .f32⟩
  | 29 => ⟨S4x2048x1536, .f32⟩
  | 30 => ⟨S4x2048x1536, .f32⟩
  | 31 => ⟨S4x2048x1536, .f32⟩
  | 32 => ⟨S4x2048x4096, .f32⟩
  | 33 => ⟨S4x2048x128, .f32⟩
  | 34 => ⟨S4x2048x32, .f32⟩
  | 35 => ⟨S2048, .i32⟩
  | 36 => ⟨S1x1x12, .f32⟩
  | 37 => ⟨S4x2048x12, .f32⟩
  | 38 => ⟨S4x2048x12, .f32⟩
  | 39 => ⟨S4x2048x12, .f32⟩
  | 40 => ⟨S_, .f32⟩
  | 41 => ⟨S4x2048x12, .f32⟩
  | 42 => ⟨S4x2048x12, .f32⟩
  | 43 => ⟨S4x2048x12, .f32⟩
  | 44 => ⟨S4x2048x12, .f32⟩
  | 45 => ⟨S4x2048x12, .i1⟩
  | 46 => ⟨S4x2048x12, .f32⟩
  | 47 => ⟨S4x2048x12, .f32⟩
  | 48 => ⟨S4x2048x12, .f32⟩
  | 49 => ⟨S4x2048x12, .f32⟩
  | 50 => ⟨S4x2048x12, .f32⟩
  | 51 => ⟨S4x2048x12, .f32⟩
  | 52 => ⟨S4x2048x12, .f32⟩
  | 53 => ⟨S4x2048x12, .f32⟩
  | 54 => ⟨S4x2048x12, .f32⟩
  | 55 => ⟨S4x2048x12x128, .f32⟩
  | 56 => ⟨S4x2048x12x128, .f32⟩
  | 57 => ⟨S4x2048x1x12x128, .f32⟩
  | 58 => ⟨S4x2048x1x12x128, .f32⟩
  | 59 => ⟨S4x2048x2x12x128, .f32⟩
  | 60 => ⟨S4x2048x12x128, .f32⟩
  | 61 => ⟨S64, .f32⟩
  | 62 => ⟨S64, .f32⟩
  | 63 => ⟨S_, .f32⟩
  | 64 => ⟨S64, .f32⟩
  | 65 => ⟨S64, .f32⟩
  | 66 => ⟨S_, .f32⟩
  | 67 => ⟨S64, .f32⟩
  | 68 => ⟨S64, .f32⟩
  | 69 => ⟨S2048, .f32⟩
  | 70 => ⟨S2048x1, .f32⟩
  | 71 => ⟨S1x64, .f32⟩
  | 72 => ⟨S2048x64, .f32⟩
  | 73 => ⟨S2048x64, .f32⟩
  | 74 => ⟨S2048x64, .f32⟩
  | 75 => ⟨S2048x64, .f32⟩
  | 76 => ⟨S2048x1x64, .f32⟩
  | 77 => ⟨S2048x64, .f32⟩
  | 78 => ⟨S2048x1x64, .f32⟩
  | 79 => ⟨S4x2048x12x64, .f32⟩
  | 80 => ⟨S4x2048x12x64, .f32⟩
  | 81 => ⟨S1x2048x1x64, .f32⟩
  | 82 => ⟨S4x2048x12x64, .f32⟩
  | 83 => ⟨S4x2048x12x64, .f32⟩
  | 84 => ⟨S1x2048x1x64, .f32⟩
  | 85 => ⟨S4x2048x12x64, .f32⟩
  | 86 => ⟨S4x2048x12x64, .f32⟩
  | 87 => ⟨S4x2048x12x64, .f32⟩
  | 88 => ⟨S1x2048x1x64, .f32⟩
  | 89 => ⟨S4x2048x12x64, .f32⟩
  | 90 => ⟨S4x2048x12x64, .f32⟩
  | 91 => ⟨S1x2048x1x64, .f32⟩
  | 92 => ⟨S4x2048x12x64, .f32⟩
  | 93 => ⟨S4x2048x12x64, .f32⟩
  | 94 => ⟨S4x2048x12x64, .f32⟩
  | 95 => ⟨S4x2048x12x128, .f32⟩
  | 96 => ⟨S4x2048x12x128, .f32⟩
  | 97 => ⟨S4x2048x1x12x128, .f32⟩
  | 98 => ⟨S4x2048x1x12x128, .f32⟩
  | 99 => ⟨S4x2048x2x12x128, .f32⟩
  | 100 => ⟨S4x2048x1x128, .f32⟩
  | 101 => ⟨S64, .f32⟩
  | 102 => ⟨S64, .f32⟩
  | 103 => ⟨S_, .f32⟩
  | 104 => ⟨S64, .f32⟩
  | 105 => ⟨S64, .f32⟩
  | 106 => ⟨S_, .f32⟩
  | 107 => ⟨S64, .f32⟩
  | 108 => ⟨S64, .f32⟩
  | 109 => ⟨S2048, .f32⟩
  | 110 => ⟨S2048x1, .f32⟩
  | 111 => ⟨S1x64, .f32⟩
  | 112 => ⟨S2048x64, .f32⟩
  | 113 => ⟨S2048x64, .f32⟩
  | 114 => ⟨S2048x64, .f32⟩
  | 115 => ⟨S2048x64, .f32⟩
  | 116 => ⟨S2048x1x64, .f32⟩
  | 117 => ⟨S2048x64, .f32⟩
  | 118 => ⟨S2048x1x64, .f32⟩
  | 119 => ⟨S4x2048x1x64, .f32⟩
  | 120 => ⟨S4x2048x1x64, .f32⟩
  | 121 => ⟨S1x2048x1x64, .f32⟩
  | 122 => ⟨S4x2048x1x64, .f32⟩
  | 123 => ⟨S4x2048x1x64, .f32⟩
  | 124 => ⟨S1x2048x1x64, .f32⟩
  | 125 => ⟨S4x2048x1x64, .f32⟩
  | 126 => ⟨S4x2048x1x64, .f32⟩
  | 127 => ⟨S4x2048x1x64, .f32⟩
  | _ => ⟨S4x2048x4096, .f32⟩

abbrev hbmTy0_1 (i : Nat) : BufTy := match i % 128 with
  | 0 => ⟨S1x2048x1x64, .f32⟩
  | 1 => ⟨S4x2048x1x64, .f32⟩
  | 2 => ⟨S4x2048x1x64, .f32⟩
  | 3 => ⟨S1x2048x1x64, .f32⟩
  | 4 => ⟨S4x2048x1x64, .f32⟩
  | 5 => ⟨S4x2048x1x64, .f32⟩
  | 6 => ⟨S4x2048x1x64, .f32⟩
  | 7 => ⟨S4x2048x1x128, .f32⟩
  | 8 => ⟨S4x2048x128, .f32⟩
  | 9 => ⟨S8192x1536, .f32⟩
  | 10 => ⟨S8192x1536, .bf16⟩
  | 11 => ⟨S4x2048x12x2x128, .f32⟩
  | 12 => ⟨S8192x3072, .f32⟩
  | 13 => ⟨S8192x3072, .bf16⟩
  | 14 => ⟨S8192x1536, .f32⟩
  | 15 => ⟨S4x2048x2048, .f32⟩
  | 16 => ⟨S8192x2048, .f32⟩
  | 17 => ⟨S4x2048x12x128, .f32⟩
  | 18 => ⟨S64, .f32⟩
  | 19 => ⟨S64, .f32⟩
  | 20 => ⟨S_, .f32⟩
  | 21 => ⟨S64, .f32⟩
  | 22 => ⟨S64, .f32⟩
  | 23 => ⟨S_, .f32⟩
  | 24 => ⟨S64, .f32⟩
  | 25 => ⟨S64, .f32⟩
  | 26 => ⟨S2048, .f32⟩
  | 27 => ⟨S2048x1, .f32⟩
  | 28 => ⟨S1x64, .f32⟩
  | 29 => ⟨S2048x64, .f32⟩
  | 30 => ⟨S2048x64, .f32⟩
  | 31 => ⟨S2048x64, .f32⟩
  | 32 => ⟨S2048x64, .f32⟩
  | 33 => ⟨S2048x1x64, .f32⟩
  | 34 => ⟨S2048x64, .f32⟩
  | 35 => ⟨S2048x1x64, .f32⟩
  | 36 => ⟨S4x2048x12x64, .f32⟩
  | 37 => ⟨S4x2048x12x64, .f32⟩
  | 38 => ⟨S1x2048x1x64, .f32⟩
  | 39 => ⟨S4x2048x12x64, .f32⟩
  | 40 => ⟨S4x2048x12x64, .f32⟩
  | 41 => ⟨S1x2048x1x64, .f32⟩
  | 42 => ⟨S4x2048x12x64, .f32⟩
  | 43 => ⟨S4x2048x12x64, .f32⟩
  | 44 => ⟨S4x2048x12x64, .f32⟩
  | 45 => ⟨S1x2048x1x64, .f32⟩
  | 46 => ⟨S4x2048x12x64, .f32⟩
  | 47 => ⟨S4x2048x12x64, .f32⟩
  | 48 => ⟨S1x2048x1x64, .f32⟩
  | 49 => ⟨S4x2048x12x64, .f32⟩
  | 50 => ⟨S4x2048x12x64, .f32⟩
  | 51 => ⟨S4x2048x12x64, .f32⟩
  | 52 => ⟨S4x2048x12x128, .f32⟩
  | 53 => ⟨S8192x1536, .f32⟩
  | 54 => ⟨S8192x1536, .bf16⟩
  | 55 => ⟨S4x2048x12x2x128, .f32⟩
  | 56 => ⟨S8192x3072, .f32⟩
  | 57 => ⟨S8192x3072, .bf16⟩
  | 58 => ⟨S8192x1536, .f32⟩
  | 59 => ⟨S4x2048x32x128, .f32⟩
  | 60 => ⟨S64, .f32⟩
  | 61 => ⟨S64, .f32⟩
  | 62 => ⟨S_, .f32⟩
  | 63 => ⟨S64, .f32⟩
  | 64 => ⟨S64, .f32⟩
  | 65 => ⟨S_, .f32⟩
  | 66 => ⟨S64, .f32⟩
  | 67 => ⟨S64, .f32⟩
  | 68 => ⟨S2048, .f32⟩
  | 69 => ⟨S2048x1, .f32⟩
  | 70 => ⟨S1x64, .f32⟩
  | 71 => ⟨S2048x64, .f32⟩
  | 72 => ⟨S2048x64, .f32⟩
  | 73 => ⟨S2048x64, .f32⟩
  | 74 => ⟨S2048x64, .f32⟩
  | 75 => ⟨S2048x1x64, .f32⟩
  | 76 => ⟨S2048x64, .f32⟩
  | 77 => ⟨S2048x1x64, .f32⟩
  | 78 => ⟨S4x2048x32x64, .f32⟩
  | 79 => ⟨S4x2048x32x64, .f32⟩
  | 80 => ⟨S1x2048x1x64, .f32⟩
  | 81 => ⟨S4x2048x32x64, .f32⟩
  | 82 => ⟨S4x2048x32x64, .f32⟩
  | 83 => ⟨S1x2048x1x64, .f32⟩
  | 84 => ⟨S4x2048x32x64, .f32⟩
  | 85 => ⟨S4x2048x32x64, .f32⟩
  | 86 => ⟨S4x2048x32x64, .f32⟩
  | 87 => ⟨S1x2048x1x64, .f32⟩
  | 88 => ⟨S4x2048x32x64, .f32⟩
  | 89 => ⟨S4x2048x32x64, .f32⟩
  | 90 => ⟨S1x2048x1x64, .f32⟩
  | 91 => ⟨S4x2048x32x64, .f32⟩
  | 92 => ⟨S4x2048x32x64, .f32⟩
  | 93 => ⟨S4x2048x32x64, .f32⟩
  | 94 => ⟨S4x2048x32x128, .f32⟩
  | 95 => ⟨S8192x4096, .f32⟩
  | 96 => ⟨S8192x4096, .bf16⟩
  | 97 => ⟨S4x15x1024, .f32⟩
  | _ => ⟨S4x2048x4096, .f32⟩

abbrev hbmTy (i : Nat) : BufTy := match i / 128 with
  | 0 => hbmTy0_0 i
  | 1 => hbmTy0_1 i
  | _ => ⟨S4x2048x4096, .f32⟩

abbrev bufTy : (tb : Table) → Fin (tcTables nBuf tb) → BufTy
  | .hbm, ⟨i, _⟩ => hbmTy i
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_call0_v0 : Ref sig .tc := ⟨.hbm, 39, rfl⟩
abbrev main_call0_call0_cst : Ref sig .tc := ⟨.hbm, 40, rfl⟩
abbrev main_call0_call0_v0 : Ref sig .tc := ⟨.hbm, 41, rfl⟩
abbrev main_call0_call0_v1 : Ref sig .tc := ⟨.hbm, 42, rfl⟩
abbrev main_call0_call0_v2 : Ref sig .tc := ⟨.hbm, 43, rfl⟩
abbrev main_call0_call0_v3 : Ref sig .tc := ⟨.hbm, 44, rfl⟩
abbrev main_call0_call0_v4 : Ref sig .tc := ⟨.hbm, 45, rfl⟩
abbrev main_call0_call0_v5 : Ref sig .tc := ⟨.hbm, 46, rfl⟩
abbrev main_call0_call0_v6 : Ref sig .tc := ⟨.hbm, 47, rfl⟩
abbrev main_call0_call0_v7 : Ref sig .tc := ⟨.hbm, 48, rfl⟩
abbrev main_call0_call0_v8 : Ref sig .tc := ⟨.hbm, 49, rfl⟩
abbrev main_call0_call0_v9 : Ref sig .tc := ⟨.hbm, 50, rfl⟩
abbrev main_call0_call0_v10 : Ref sig .tc := ⟨.hbm, 51, rfl⟩
abbrev main_call0_call0_v11 : Ref sig .tc := ⟨.hbm, 52, rfl⟩
abbrev main_call0_v1 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_2 : Ref sig .tc := ⟨.hbm, 63, rfl⟩
abbrev main_v41 : Ref sig .tc := ⟨.hbm, 64, rfl⟩
abbrev main_v42 : Ref sig .tc := ⟨.hbm, 65, rfl⟩
abbrev main_cst_3 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_cst_4 : Ref sig .tc := ⟨.hbm, 103, rfl⟩
abbrev main_v79 : Ref sig .tc := ⟨.hbm, 104, rfl⟩
abbrev main_v80 : Ref sig .tc := ⟨.hbm, 105, rfl⟩
abbrev main_cst_5 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_cst_6 : Ref sig .tc := ⟨.hbm, 148, rfl⟩
abbrev main_v122 : Ref sig .tc := ⟨.hbm, 149, rfl⟩
abbrev main_v123 : Ref sig .tc := ⟨.hbm, 150, rfl⟩
abbrev main_cst_7 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_v133 : Ref sig .tc := ⟨.hbm, 161, rfl⟩
abbrev main_v134 : Ref sig .tc := ⟨.hbm, 162, rfl⟩
abbrev main_v135 : Ref sig .tc := ⟨.hbm, 163, rfl⟩
abbrev main_v136 : Ref sig .tc := ⟨.hbm, 164, rfl⟩
abbrev main_v137 : Ref sig .tc := ⟨.hbm, 165, rfl⟩
abbrev main_v138 : Ref sig .tc := ⟨.hbm, 166, rfl⟩
abbrev main_v139 : Ref sig .tc := ⟨.hbm, 167, rfl⟩
abbrev main_v140 : Ref sig .tc := ⟨.hbm, 168, rfl⟩
abbrev main_v141 : Ref sig .tc := ⟨.hbm, 169, rfl⟩
abbrev main_v142 : Ref sig .tc := ⟨.hbm, 170, rfl⟩
abbrev main_v143 : Ref sig .tc := ⟨.hbm, 171, rfl⟩
abbrev main_v144 : Ref sig .tc := ⟨.hbm, 172, rfl⟩
abbrev main_v145 : Ref sig .tc := ⟨.hbm, 173, rfl⟩
abbrev main_v146 : Ref sig .tc := ⟨.hbm, 174, rfl⟩
abbrev main_v147 : Ref sig .tc := ⟨.hbm, 175, rfl⟩
abbrev main_v148 : Ref sig .tc := ⟨.hbm, 176, rfl⟩
abbrev main_v149 : Ref sig .tc := ⟨.hbm, 177, rfl⟩
abbrev main_v150 : Ref sig .tc := ⟨.hbm, 178, rfl⟩
abbrev main_v151 : Ref sig .tc := ⟨.hbm, 179, rfl⟩
abbrev main_v152 : Ref sig .tc := ⟨.hbm, 180, rfl⟩
abbrev main_v153 : Ref sig .tc := ⟨.hbm, 181, rfl⟩
abbrev main_v154 : Ref sig .tc := ⟨.hbm, 182, rfl⟩
abbrev main_v155 : Ref sig .tc := ⟨.hbm, 183, rfl⟩
abbrev main_v156 : Ref sig .tc := ⟨.hbm, 184, rfl⟩
abbrev main_v157 : Ref sig .tc := ⟨.hbm, 185, rfl⟩
abbrev main_v158 : Ref sig .tc := ⟨.hbm, 186, rfl⟩
abbrev main_v159 : Ref sig .tc := ⟨.hbm, 187, rfl⟩
abbrev main_v160 : Ref sig .tc := ⟨.hbm, 188, rfl⟩
abbrev main_v161 : Ref sig .tc := ⟨.hbm, 189, rfl⟩
abbrev main_cst_8 : Ref sig .tc := ⟨.hbm, 190, rfl⟩
abbrev main_v162 : Ref sig .tc := ⟨.hbm, 191, rfl⟩
abbrev main_v163 : Ref sig .tc := ⟨.hbm, 192, rfl⟩
abbrev main_cst_9 : Ref sig .tc := ⟨.hbm, 193, rfl⟩
abbrev main_v164 : Ref sig .tc := ⟨.hbm, 194, rfl⟩
abbrev main_v165 : Ref sig .tc := ⟨.hbm, 195, rfl⟩
abbrev main_v166 : Ref sig .tc := ⟨.hbm, 196, rfl⟩
abbrev main_v167 : Ref sig .tc := ⟨.hbm, 197, rfl⟩
abbrev main_v168 : Ref sig .tc := ⟨.hbm, 198, rfl⟩
abbrev main_v169 : Ref sig .tc := ⟨.hbm, 199, rfl⟩
abbrev main_v170 : Ref sig .tc := ⟨.hbm, 200, rfl⟩
abbrev main_v171 : Ref sig .tc := ⟨.hbm, 201, rfl⟩
abbrev main_v172 : Ref sig .tc := ⟨.hbm, 202, rfl⟩
abbrev main_v173 : Ref sig .tc := ⟨.hbm, 203, rfl⟩
abbrev main_v174 : Ref sig .tc := ⟨.hbm, 204, rfl⟩
abbrev main_v175 : Ref sig .tc := ⟨.hbm, 205, rfl⟩
abbrev main_v176 : Ref sig .tc := ⟨.hbm, 206, rfl⟩
abbrev main_v177 : Ref sig .tc := ⟨.hbm, 207, rfl⟩
abbrev main_v178 : Ref sig .tc := ⟨.hbm, 208, rfl⟩
abbrev main_v179 : Ref sig .tc := ⟨.hbm, 209, rfl⟩
abbrev main_v180 : Ref sig .tc := ⟨.hbm, 210, rfl⟩
abbrev main_v181 : Ref sig .tc := ⟨.hbm, 211, rfl⟩
abbrev main_v182 : Ref sig .tc := ⟨.hbm, 212, rfl⟩
abbrev main_v183 : Ref sig .tc := ⟨.hbm, 213, rfl⟩
abbrev main_v184 : Ref sig .tc := ⟨.hbm, 214, rfl⟩
abbrev main_v185 : Ref sig .tc := ⟨.hbm, 215, rfl⟩
abbrev main_v186 : Ref sig .tc := ⟨.hbm, 216, rfl⟩
abbrev main_v187 : Ref sig .tc := ⟨.hbm, 217, rfl⟩
abbrev main_v188 : Ref sig .tc := ⟨.hbm, 218, rfl⟩
abbrev main_v189 : Ref sig .tc := ⟨.hbm, 219, rfl⟩
abbrev main_v190 : Ref sig .tc := ⟨.hbm, 220, rfl⟩
abbrev main_v191 : Ref sig .tc := ⟨.hbm, 221, rfl⟩
abbrev main_v192 : Ref sig .tc := ⟨.hbm, 222, rfl⟩
abbrev main_v193 : Ref sig .tc := ⟨.hbm, 223, rfl⟩
abbrev main_v194 : Ref sig .tc := ⟨.hbm, 224, rfl⟩
abbrev main_v195 : Ref sig .tc := ⟨.hbm, 225, rfl⟩

abbrev nD : Nat := 1
abbrev τ : Topo := Topo.v7x

variable {F : FTy → Type} [FloatOps F]
-- ==== Merge.lean ====
abbrev S4x2048x4096 : Shape := ⟨3, ![4, 2048, 4096]⟩
abbrev S8192x1536 : Shape := ⟨2, ![8192, 1536]⟩
abbrev S8192x1024 : Shape := ⟨2, ![8192, 1024]⟩
abbrev S4096x4096 : Shape := ⟨2, ![4096, 4096]⟩
abbrev S4096 : Shape := ⟨1, ![4096]⟩
abbrev S1536x4096 : Shape := ⟨2, ![1536, 4096]⟩
abbrev S1024x4096 : Shape := ⟨2, ![1024, 4096]⟩
abbrev S8192x4096 : Shape := ⟨2, ![8192, 4096]⟩
abbrev S1024x1536 : Shape := ⟨2, ![1024, 1536]⟩
abbrev S1024x1024 : Shape := ⟨2, ![1024, 1024]⟩
abbrev S1536x512 : Shape := ⟨2, ![1536, 512]⟩
abbrev S1024x512 : Shape := ⟨2, ![1024, 512]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 17
  | .vmem => 21
  | .smem => 0
  | _ => 0

abbrev bufTy : (tb : Table) → Fin (tcTables nBuf tb) → BufTy
  | .hbm, ⟨0, _⟩ => ⟨S4x2048x4096, .f32⟩
  | .hbm, ⟨1, _⟩ => ⟨S8192x1536, .bf16⟩
  | .hbm, ⟨2, _⟩ => ⟨S8192x1024, .bf16⟩
  | .hbm, ⟨3, _⟩ => ⟨S8192x1536, .bf16⟩
  | .hbm, ⟨4, _⟩ => ⟨S4096x4096, .f32⟩
  | .hbm, ⟨5, _⟩ => ⟨S4096, .f32⟩
  | .hbm, ⟨6, _⟩ => ⟨S1536x4096, .f32⟩
  | .hbm, ⟨7, _⟩ => ⟨S1536x4096, .bf16⟩
  | .hbm, ⟨8, _⟩ => ⟨S1024x4096, .f32⟩
  | .hbm, ⟨9, _⟩ => ⟨S1024x4096, .bf16⟩
  | .hbm, ⟨10, _⟩ => ⟨S1536x4096, .f32⟩
  | .hbm, ⟨11, _⟩ => ⟨S1536x4096, .bf16⟩
  | .hbm, ⟨12, _⟩ => ⟨S8192x4096, .f32⟩
  | .hbm, ⟨13, _⟩ => ⟨S8192x4096, .f32⟩
  | .hbm, ⟨14, _⟩ => ⟨S1x4096, .f32⟩
  | .hbm, ⟨15, _⟩ => ⟨S8192x4096, .f32⟩
  | .hbm, ⟨16, _⟩ => ⟨S4x2048x4096, .f32⟩
  | .local _ .vmem, ⟨0, _⟩ => ⟨S1024x1536, .bf16⟩
  | .local _ .vmem, ⟨1, _⟩ => ⟨S1024x1536, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1536, .bf16⟩
  | .local _ .vmem, ⟨5, _⟩ => ⟨S1024x1536, .bf16⟩
  | .local _ .vmem, ⟨6, _⟩ => ⟨S1536x512, .bf16⟩
  | .local _ .vmem, ⟨7, _⟩ => ⟨S1536x512, .bf16⟩
  | .local _ .vmem, ⟨8, _⟩ => ⟨S1024x512, .bf16⟩
  | .local _ .vmem, ⟨9, _⟩ => ⟨S1024x512, .bf16⟩
  | .local _ .vmem, ⟨10, _⟩ => ⟨S1536x512, .bf16⟩
  | .local _ .vmem, ⟨11, _⟩ => ⟨S1536x512, .bf16⟩
  | .local _ .vmem, ⟨12, _⟩ => ⟨S1024x512, .f32⟩
  | .local _ .vmem, ⟨13, _⟩ => ⟨S1024x512, .f32⟩
  | .local _ .vmem, ⟨14, _⟩ => ⟨S256x4096, .f32⟩
  | .local _ .vmem, ⟨15, _⟩ => ⟨S256x4096, .f32⟩
  | .local _ .vmem, ⟨16, _⟩ => ⟨S256x4096, .f32⟩
  | .local _ .vmem, ⟨17, _⟩ => ⟨S256x4096, .f32⟩
  | .local _ .vmem, ⟨18, _⟩ => ⟨S1x4096, .f32⟩
  | .local _ .vmem, ⟨19, _⟩ => ⟨S256x4096, .f32⟩
  | .local _ .vmem, ⟨20, _⟩ => ⟨S256x4096, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg3_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem3_1 : DmaSem sig := 20

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1536x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1536x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x4096 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x4096 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]
-- ==== MergeReferenceIdeal.lean ====
abbrev S4x2048x4096 : Shape := ⟨3, ![4, 2048, 4096]⟩
abbrev S8192x1536 : Shape := ⟨2, ![8192, 1536]⟩
abbrev S8192x1024 : Shape := ⟨2, ![8192, 1024]⟩
abbrev S4096x4096 : Shape := ⟨2, ![4096, 4096]⟩
abbrev S4096 : Shape := ⟨1, ![4096]⟩
abbrev S4x2048x1536 : Shape := ⟨3, ![4, 2048, 1536]⟩
abbrev S4x2048x1024 : Shape := ⟨3, ![4, 2048, 1024]⟩
abbrev S_ : Shape := ⟨0, ![]⟩
abbrev S4x2048 : Shape := ⟨2, ![4, 2048]⟩
abbrev S4x2048x1 : Shape := ⟨3, ![4, 2048, 1]⟩
abbrev S1x1x4096 : Shape := ⟨3, ![1, 1, 4096]⟩

abbrev nBuf : Space → Nat
  | .hbm => 31
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S8192x1536, .bf16⟩
  | .hbm, ⟨2, _⟩ => ⟨S8192x1024, .bf16⟩
  | .hbm, ⟨3, _⟩ => ⟨S8192x1536, .bf16⟩
  | .hbm, ⟨4, _⟩ => ⟨S4096x4096, .f32⟩
  | .hbm, ⟨5, _⟩ => ⟨S4096, .f32⟩
  | .hbm, ⟨6, _⟩ => ⟨S8192x1536, .f32⟩
  | .hbm, ⟨7, _⟩ => ⟨S4x2048x1536, .f32⟩
  | .hbm, ⟨8, _⟩ => ⟨S8192x1024, .f32⟩
  | .hbm, ⟨9, _⟩ => ⟨S4x2048x1024, .f32⟩
  | .hbm, ⟨10, _⟩ => ⟨S8192x1536, .f32⟩
  | .hbm, ⟨11, _⟩ => ⟨S4x2048x1536, .f32⟩
  | .hbm, ⟨12, _⟩ => ⟨S4x2048x4096, .f32⟩
  | .hbm, ⟨13, _⟩ => ⟨S4x2048x4096, .f32⟩
  | .hbm, ⟨14, _⟩ => ⟨S4x2048x4096, .f32⟩
  | .hbm, ⟨15, _⟩ => ⟨S_, .f32⟩
  | .hbm, ⟨16, _⟩ => ⟨S4x2048, .f32⟩
  | .hbm, ⟨17, _⟩ => ⟨S4x2048x1, .f32⟩
  | .hbm, ⟨18, _⟩ => ⟨S_, .f32⟩
  | .hbm, ⟨19, _⟩ => ⟨S4x2048x1, .f32⟩
  | .hbm, ⟨20, _⟩ => ⟨S4x2048x1, .f32⟩
  | .hbm, ⟨21, _⟩ => ⟨S_, .f32⟩
  | .hbm, ⟨22, _⟩ => ⟨S4x2048x1, .f32⟩
  | .hbm, ⟨23, _⟩ => ⟨S4x2048x1, .f32⟩
  | .hbm, ⟨24, _⟩ => ⟨S4x2048x1, .f32⟩
  | .hbm, ⟨25, _⟩ => ⟨S4x2048x4096, .f32⟩
  | .hbm, ⟨26, _⟩ => ⟨S4x2048x4096, .f32⟩
  | .hbm, ⟨27, _⟩ => ⟨S1x1x4096, .f32⟩
  | .hbm, ⟨28, _⟩ => ⟨S4x2048x4096, .f32⟩
  | .hbm, ⟨29, _⟩ => ⟨S4x2048x4096, .f32⟩
  | .hbm, ⟨30, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== Pool.lean ====
abbrev S8192x2048 : Shape := ⟨2, ![8192, 2048]⟩
abbrev S4x256x256 : Shape := ⟨3, ![4, 256, 256]⟩
abbrev S1024 : Shape := ⟨1, ![1024]⟩
abbrev S1x1024 : Shape := ⟨2, ![1, 1024]⟩
abbrev S8192x1024 : Shape := ⟨2, ![8192, 1024]⟩
abbrev S2048x256 : Shape := ⟨2, ![2048, 256]⟩
abbrev S1x256x256 : Shape := ⟨3, ![1, 256, 256]⟩
abbrev S1x256 : Shape := ⟨2, ![1, 256]⟩
abbrev S256x256 : Shape := ⟨2, ![256, 256]⟩

abbrev nBuf : Space → Nat
  | .hbm => 6
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S4x256x256, .f32⟩
  | .hbm, ⟨2, _⟩ => ⟨S1024, .f32⟩
  | .hbm, ⟨3, _⟩ => ⟨S1x1024, .f32⟩
  | .hbm, ⟨4, _⟩ => ⟨S4x256x256, .bf16⟩
  | .hbm, ⟨5, _⟩ => ⟨S8192x1024, .bf16⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S1x256x256, .bf16⟩
  | .local _ .vmem, ⟨5, _⟩ => ⟨S1x256x256, .bf16⟩
  | .local _ .vmem, ⟨6, _⟩ => ⟨S1x256, .f32⟩
  | .local _ .vmem, ⟨7, _⟩ => ⟨S1x256, .f32⟩
  | .local _ .vmem, ⟨8, _⟩ => ⟨S2048x256, .bf16⟩
  | .local _ .vmem, ⟨9, _⟩ => ⟨S2048x256, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== PoolReferenceIdeal.lean ====
abbrev S8192x2048 : Shape := ⟨2, ![8192, 2048]⟩
abbrev S4x256x256 : Shape := ⟨3, ![4, 256, 256]⟩
abbrev S1024 : Shape := ⟨1, ![1024]⟩
abbrev S4x2048x2048 : Shape := ⟨3, ![4, 2048, 2048]⟩
abbrev S4x2048x1024 : Shape := ⟨3, ![4, 2048, 1024]⟩
abbrev S_ : Shape := ⟨0, ![]⟩
abbrev S4x15x1024 : Shape := ⟨3, ![4, 15, 1024]⟩
abbrev S4x2063x1024 : Shape := ⟨3, ![4, 2063, 1024]⟩
abbrev S4x1x1024 : Shape := ⟨3, ![4, 1, 1024]⟩
abbrev S4x2064x1024 : Shape := ⟨3, ![4, 2064, 1024]⟩
abbrev S2048 : Shape := ⟨1, ![2048]⟩
abbrev S4x2048x256 : Shape := ⟨3, ![4, 2048, 256]⟩
abbrev S1x2048x1 : Shape := ⟨3, ![1, 2048, 1]⟩
abbrev S1x256x256 : Shape := ⟨3, ![1, 256, 256]⟩
abbrev S256x256 : Shape := ⟨2, ![256, 256]⟩
abbrev S1x1x1024 : Shape := ⟨3, ![1, 1, 1024]⟩
abbrev S8192x1024 : Shape := ⟨2, ![8192, 1024]⟩

abbrev nBuf : Space → Nat
  | .hbm => 105
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S4x256x256, .f32⟩
  | .hbm, ⟨2, _⟩ => ⟨S1024, .f32⟩
  | .hbm, ⟨3, _⟩ => ⟨S4x2048x2048, .f32⟩
  | .hbm, ⟨4, _⟩ => ⟨S4x2048x1024, .f32⟩
  | .hbm, ⟨5, _⟩ => ⟨S4x2048x1024, .f32⟩
  | .hbm, ⟨6, _⟩ => ⟨S_, .f32⟩
  | .hbm, ⟨7, _⟩ => ⟨S4x15x1024, .f32⟩
  | .hbm, ⟨8, _⟩ => ⟨S4x2063x1024, .f32⟩
  | .hbm, ⟨9, _⟩ => ⟨S_, .f32⟩
  | .hbm, ⟨10, _⟩ => ⟨S_, .f32⟩
  | .hbm, ⟨11, _⟩ => ⟨S4x2063x1024, .f32⟩
  | .hbm, ⟨12, _⟩ => ⟨S_, .f32⟩
  | .hbm, ⟨13, _⟩ => ⟨S4x1x1024, .f32⟩
  | .hbm, ⟨14, _⟩ => ⟨S4x2064x1024, .f32⟩
  | .hbm, ⟨15, _⟩ => ⟨S4x2048x1024, .f32⟩
  | .hbm, ⟨16, _⟩ => ⟨S2048, .i32⟩
  | .hbm, ⟨17, _⟩ => ⟨S4x2048x256, .f32⟩
  | .hbm, ⟨18, _⟩ => ⟨S_, .i32⟩
  | .hbm, ⟨19, _⟩ => ⟨S2048, .i32⟩
  | .hbm, ⟨20, _⟩ => ⟨S2048, .i32⟩
  | .hbm, ⟨21, _⟩ => ⟨S_, .i32⟩
  | .hbm, ⟨22, _⟩ => ⟨S2048, .i32⟩
  | .hbm, ⟨23, _⟩ => ⟨S2048, .i32⟩
  | .hbm, ⟨24, _⟩ => ⟨S2048, .f32⟩
  | .hbm, ⟨25, _⟩ => ⟨S1x2048x1, .f32⟩
  | .hbm, ⟨26, _⟩ => ⟨S4x2048x256, .f32⟩
  | .hbm, ⟨27, _⟩ => ⟨S4x2048x256, .f32⟩
  | .hbm, ⟨28, _⟩ => ⟨S4x2048x256, .f32⟩
  | .hbm, ⟨29, _⟩ => ⟨S4x2048x256, .f32⟩
  | .hbm, ⟨30, _⟩ => ⟨S4x2048x256, .f32⟩
  | .hbm, ⟨31, _⟩ => ⟨S4x2048x256, .f32⟩
  | .hbm, ⟨32, _⟩ => ⟨S1x256x256, .f32⟩
  | .hbm, ⟨33, _⟩ => ⟨S256x256, .f32⟩
  | .hbm, ⟨34, _⟩ => ⟨S4x2048x256, .f32⟩
  | .hbm, ⟨35, _⟩ => ⟨S4x2048x256, .f32⟩
  | .hbm, ⟨36, _⟩ => ⟨S_, .i32⟩
  | .hbm, ⟨37, _⟩ => ⟨S2048, .i32⟩
  | .hbm, ⟨38, _⟩ => ⟨S2048, .i32⟩
  | .hbm, ⟨39, _⟩ => ⟨S_, .i32⟩
  | .hbm, ⟨40, _⟩ => ⟨S2048, .i32⟩
  | .hbm, ⟨41, _⟩ => ⟨S2048, .i32⟩
  | .hbm, ⟨42, _⟩ => ⟨S2048, .f32⟩
  | .hbm, ⟨43, _⟩ => ⟨S1x2048x1, .f32⟩
  | .hbm, ⟨44, _⟩ => ⟨S4x2048x256, .f32⟩
  | .hbm, ⟨45, _⟩ => ⟨S4x2048x256, .f32⟩
  | .hbm, ⟨46, _⟩ => ⟨S4x2048x256, .f32⟩
  | .hbm, ⟨47, _⟩ => ⟨S4x2048x256, .f32⟩
  | .hbm, ⟨48, _⟩ => ⟨S4x2048x256, .f32⟩
  | .hbm, ⟨49, _⟩ => ⟨S4x2048x256, .f32⟩
  | .hbm, ⟨50, _⟩ => ⟨S1x256x256, .f32⟩
  | .hbm, ⟨51, _⟩ => ⟨S256x256, .f32⟩
  | .hbm, ⟨52, _⟩ => ⟨S4x2048x256, .f32⟩
  | .hbm, ⟨53, _⟩ => ⟨S4x2048x256, .f32⟩
  | .hbm, ⟨54, _⟩ => ⟨S_, .i32⟩
  | .hbm, ⟨55, _⟩ => ⟨S2048, .i32⟩
  | .hbm, ⟨56, _⟩ => ⟨S2048, .i32⟩
  | .hbm, ⟨57, _⟩ => ⟨S_, .i32⟩
  | .hbm, ⟨58, _⟩ => ⟨S2048, .i32⟩
  | .hbm, ⟨59, _⟩ => ⟨S2048, .i32⟩
  | .hbm, ⟨60, _⟩ => ⟨S2048, .f32⟩
  | .hbm, ⟨61, _⟩ => ⟨S1x2048x1, .f32⟩
  | .hbm, ⟨62, _⟩ => ⟨S4x2048x256, .f32⟩
  | .hbm, ⟨63, _⟩ => ⟨S4x2048x256, .f32⟩
  | .hbm, ⟨64, _⟩ => ⟨S4x2048x256, .f32⟩
  | .hbm, ⟨65, _⟩ => ⟨S4x2048x256, .f32⟩
  | .hbm, ⟨66, _⟩ => ⟨S4x2048x256, .f32⟩
  | .hbm, ⟨67, _⟩ => ⟨S4x2048x256, .f32⟩
  | .hbm, ⟨68, _⟩ => ⟨S1x256x256, .f32⟩
  | .hbm, ⟨69, _⟩ => ⟨S256x256, .f32⟩
  | .hbm, ⟨70, _⟩ => ⟨S4x2048x256, .f32⟩
  | .hbm, ⟨71, _⟩ => ⟨S4x2048x256, .f32⟩
  | .hbm, ⟨72, _⟩ => ⟨S_, .i32⟩
  | .hbm, ⟨73, _⟩ => ⟨S2048, .i32⟩
  | .hbm, ⟨74, _⟩ => ⟨S2048, .i32⟩
  | .hbm, ⟨75, _⟩ => ⟨S_, .i32⟩
  | .hbm, ⟨76, _⟩ => ⟨S2048, .i32⟩
  | .hbm, ⟨77, _⟩ => ⟨S2048, .i32⟩
  | .hbm, ⟨78, _⟩ => ⟨S2048, .f32⟩
  | .hbm, ⟨79, _⟩ => ⟨S1x2048x1, .f32⟩
  | .hbm, ⟨80, _⟩ => ⟨S4x2048x256, .f32⟩
  | .hbm, ⟨81, _⟩ => ⟨S4x2048x256, .f32⟩
  | .hbm, ⟨82, _⟩ => ⟨S4x2048x256, .f32⟩
  | .hbm, ⟨83, _⟩ => ⟨S4x2048x256, .f32⟩
  | .hbm, ⟨84, _⟩ => ⟨S4x2048x256, .f32⟩
  | .hbm, ⟨85, _⟩ => ⟨S4x2048x256, .f32⟩
  | .hbm, ⟨86, _⟩ => ⟨S1x256x256, .f32⟩
  | .hbm, ⟨87, _⟩ => ⟨S256x256, .f32⟩
  | .hbm, ⟨88, _⟩ => ⟨S4x2048x256, .f32⟩
  | .hbm, ⟨89, _⟩ => ⟨S4x2048x1024, .f32⟩
  | .hbm, ⟨90, _⟩ => ⟨S1x1x1024, .f32⟩
  | .hbm, ⟨91, _⟩ => ⟨S4x2048x1024, .f32⟩
  | .hbm, ⟨92, _⟩ => ⟨S4x2048x1024, .f32⟩
  | .hbm, ⟨93, _⟩ => ⟨S4x2048x1024, .f32⟩
  | .hbm, ⟨94, _⟩ => ⟨S4x2048x1024, .f32⟩
  | .hbm, ⟨95, _⟩ => ⟨S_, .f32⟩
  | .hbm, ⟨96, _⟩ => ⟨S4x2048x1024, .f32⟩
  | .hbm, ⟨97, _⟩ => ⟨S4x2048x1024, .f32⟩
  | .hbm, ⟨98, _⟩ => ⟨S_, .f32⟩
  | .hbm, ⟨99, _⟩ => ⟨S4x2048x1024, .f32⟩
  | .hbm, ⟨100, _⟩ => ⟨S4x2048x1024, .f32⟩
  | .hbm, ⟨101, _⟩ => ⟨S4x2048x1024, .f32⟩
  | .hbm, ⟨102, _⟩ => ⟨S4x2048x1024, .f32⟩
  | .hbm, ⟨103, _⟩ => ⟨S8192x1024, .f32⟩
  | .hbm, ⟨104, _⟩ => ⟨S8192x1024, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_call0_call0_cst : Ref sig .tc := ⟨.hbm, 9, rfl⟩
abbrev main_call0_call0_v0 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c : Ref sig .tc := ⟨.hbm, 18, rfl⟩
abbrev main_v11 : Ref sig .tc := ⟨.hbm, 19, rfl⟩
abbrev main_v12 : Ref sig .tc := ⟨.hbm, 20, rfl⟩
abbrev main_c_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_c_2 : Ref sig .tc := ⟨.hbm, 36, rfl⟩
abbrev main_v27 : Ref sig .tc := ⟨.hbm, 37, rfl⟩
abbrev main_v28 : Ref sig .tc := ⟨.hbm, 38, rfl⟩
abbrev main_c_3 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_c_4 : Ref sig .tc := ⟨.hbm, 54, rfl⟩
abbrev main_v43 : Ref sig .tc := ⟨.hbm, 55, rfl⟩
abbrev main_v44 : Ref sig .tc := ⟨.hbm, 56, rfl⟩
abbrev main_c_5 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_c_6 : Ref sig .tc := ⟨.hbm, 72, rfl⟩
abbrev main_v59 : Ref sig .tc := ⟨.hbm, 73, rfl⟩
abbrev main_v60 : Ref sig .tc := ⟨.hbm, 74, rfl⟩
abbrev main_c_7 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_call1_v0 : Ref sig .tc := ⟨.hbm, 93, rfl⟩
abbrev main_call1_v1 : Ref sig .tc := ⟨.hbm, 94, rfl⟩
abbrev main_call1_cst : Ref sig .tc := ⟨.hbm, 95, rfl⟩
abbrev main_call1_v2 : Ref sig .tc := ⟨.hbm, 96, rfl⟩
abbrev main_call1_v3 : Ref sig .tc := ⟨.hbm, 97, rfl⟩
abbrev main_call1_cst_0 : Ref sig .tc := ⟨.hbm, 98, rfl⟩
abbrev main_call1_v4 : Ref sig .tc := ⟨.hbm, 99, rfl⟩
abbrev main_call1_v5 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩

abbrev nD : Nat := 1
abbrev τ : Topo := Topo.v7x

variable {F : FTy → Type} [FloatOps F]
-- ==== Sparse.lean ====
abbrev S8192x1536 : Shape := ⟨2, ![8192, 1536]⟩
abbrev S8192x3072 : Shape := ⟨2, ![8192, 3072]⟩
abbrev S8192x2048 : Shape := ⟨2, ![8192, 2048]⟩
abbrev S256x1536 : Shape := ⟨2, ![256, 1536]⟩
abbrev S2048x3072 : Shape := ⟨2, ![2048, 3072]⟩
abbrev S256x2048 : Shape := ⟨2, ![256, 2048]⟩
abbrev S256x128 : Shape := ⟨2, ![256, 128]⟩
abbrev S2048x128 : Shape := ⟨2, ![2048, 128]⟩
abbrev S256 : Shape := ⟨1, ![256]⟩
abbrev S256x1 : Shape := ⟨2, ![256, 1]⟩

abbrev nBuf : Space → Nat
  | .hbm => 5
  | .vmem => 10
  | .smem => 0
  | _ => 0

abbrev bufTy : (tb : Table) → Fin (tcTables nBuf tb) → BufTy
  | .hbm, ⟨0, _⟩ => ⟨S8192x1536, .bf16⟩
  | .hbm, ⟨1, _⟩ => ⟨S8192x3072, .bf16⟩
  | .hbm, ⟨2, _⟩ => ⟨S8192x1536, .f32⟩
  | .hbm, ⟨3, _⟩ => ⟨S8192x2048, .bf16⟩
  | .hbm, ⟨4, _⟩ => ⟨S8192x1536, .bf16⟩
  | .local _ .vmem, ⟨0, _⟩ => ⟨S256x1536, .bf16⟩
  | .local _ .vmem, ⟨1, _⟩ => ⟨S256x1536, .bf16⟩
  | .local _ .vmem, ⟨2, _⟩ => ⟨S2048x3072, .bf16⟩
  | .local _ .vmem, ⟨3, _⟩ => ⟨S2048x3072, .bf16⟩
  | .local _ .vmem, ⟨4, _⟩ => ⟨S256x1536, .f32⟩
  | .local _ .vmem, ⟨5, _⟩ => ⟨S256x1536, .f32⟩
  | .local _ .vmem, ⟨6, _⟩ => ⟨S256x2048, .bf16⟩
  | .local _ .vmem, ⟨7, _⟩ => ⟨S256x2048, .bf16⟩
  | .local _ .vmem, ⟨8, _⟩ => ⟨S256x1536, .bf16⟩
  | .local _ .vmem, ⟨9, _⟩ => ⟨S256x1536, .bf16⟩
  | _, _ => ⟨S8192x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== SparseReferenceIdeal.lean ====
abbrev S8192x1536 : Shape := ⟨2, ![8192, 1536]⟩
abbrev S8192x3072 : Shape := ⟨2, ![8192, 3072]⟩
abbrev S8192x2048 : Shape := ⟨2, ![8192, 2048]⟩
abbrev S4x2048x12x128 : Shape := ⟨4, ![4, 2048, 12, 128]⟩
abbrev S4x2048x12x2x128 : Shape := ⟨5, ![4, 2048, 12, 2, 128]⟩
abbrev S4x2048x12x1x128 : Shape := ⟨5, ![4, 2048, 12, 1, 128]⟩
abbrev S4x2048x2048 : Shape := ⟨3, ![4, 2048, 2048]⟩
abbrev S_ : Shape := ⟨0, ![]⟩
abbrev S4x12x2048x2048 : Shape := ⟨4, ![4, 12, 2048, 2048]⟩
abbrev S4x1x2048x2048 : Shape := ⟨4, ![4, 1, 2048, 2048]⟩
abbrev S4x12x2048 : Shape := ⟨3, ![4, 12, 2048]⟩
abbrev S4x12x2048x1 : Shape := ⟨4, ![4, 12, 2048, 1]⟩
abbrev S4x12x128x2048 : Shape := ⟨4, ![4, 12, 128, 2048]⟩
abbrev S4x2048x1536 : Shape := ⟨3, ![4, 2048, 1536]⟩

abbrev nBuf : Space → Nat
  | .hbm => 57
  | .vmem => 0
  | .smem => 0
  | _ => 0

abbrev bufTy : (tb : Table) → Fin (tcTables nBuf tb) → BufTy
  | .hbm, ⟨0, _⟩ => ⟨S8192x1536, .bf16⟩
  | .hbm, ⟨1, _⟩ => ⟨S8192x3072, .bf16⟩
  | .hbm, ⟨2, _⟩ => ⟨S8192x1536, .f32⟩
  | .hbm, ⟨3, _⟩ => ⟨S8192x2048, .bf16⟩
  | .hbm, ⟨4, _⟩ => ⟨S8192x1536, .f32⟩
  | .hbm, ⟨5, _⟩ => ⟨S4x2048x12x128, .f32⟩
  | .hbm, ⟨6, _⟩ => ⟨S8192x3072, .f32⟩
  | .hbm, ⟨7, _⟩ => ⟨S4x2048x12x2x128, .f32⟩
  | .hbm, ⟨8, _⟩ => ⟨S4x2048x12x1x128, .f32⟩
  | .hbm, ⟨9, _⟩ => ⟨S4x2048x12x128, .f32⟩
  | .hbm, ⟨10, _⟩ => ⟨S4x2048x12x1x128, .f32⟩
  | .hbm, ⟨11, _⟩ => ⟨S4x2048x12x128, .f32⟩
  | .hbm, ⟨12, _⟩ => ⟨S8192x2048, .f32⟩
  | .hbm, ⟨13, _⟩ => ⟨S4x2048x2048, .f32⟩
  | .hbm, ⟨14, _⟩ => ⟨S_, .f32⟩
  | .hbm, ⟨15, _⟩ => ⟨S4x2048x2048, .f32⟩
  | .hbm, ⟨16, _⟩ => ⟨S4x2048x2048, .i1⟩
  | .hbm, ⟨17, _⟩ => ⟨S4x12x2048x2048, .f32⟩
  | .hbm, ⟨18, _⟩ => ⟨S_, .f32⟩
  | .hbm, ⟨19, _⟩ => ⟨S4x12x2048x2048, .f32⟩
  | .hbm, ⟨20, _⟩ => ⟨S4x12x2048x2048, .f32⟩
  | .hbm, ⟨21, _⟩ => ⟨S4x1x2048x2048, .i1⟩
  | .hbm, ⟨22, _⟩ => ⟨S_, .f32⟩
  | .hbm, ⟨23, _⟩ => ⟨S_, .f32⟩
  | .hbm, ⟨24, _⟩ => ⟨S4x12x2048x2048, .i1⟩
  | .hbm, ⟨25, _⟩ => ⟨S4x12x2048x2048, .f32⟩
  | .hbm, ⟨26, _⟩ => ⟨S4x12x2048x2048, .f32⟩
  | .hbm, ⟨27, _⟩ => ⟨S_, .f32⟩
  | .hbm, ⟨28, _⟩ => ⟨S4x12x2048, .f32⟩
  | .hbm, ⟨29, _⟩ => ⟨S_, .f32⟩
  | .hbm, ⟨30, _⟩ => ⟨S4x12x2048, .f32⟩
  | .hbm, ⟨31, _⟩ => ⟨S4x12x2048, .f32⟩
  | .hbm, ⟨32, _⟩ => ⟨S4x12x2048x1, .f32⟩
  | .hbm, ⟨33, _⟩ => ⟨S4x12x2048x2048, .f32⟩
  | .hbm, ⟨34, _⟩ => ⟨S4x12x2048x2048, .f32⟩
  | .hbm, ⟨35, _⟩ => ⟨S4x12x2048x2048, .f32⟩
  | .hbm, ⟨36, _⟩ => ⟨S_, .f32⟩
  | .hbm, ⟨37, _⟩ => ⟨S4x12x2048, .f32⟩
  | .hbm, ⟨38, _⟩ => ⟨S4x12x2048x1, .f32⟩
  | .hbm, ⟨39, _⟩ => ⟨S4x12x2048x2048, .f32⟩
  | .hbm, ⟨40, _⟩ => ⟨S4x12x2048x2048, .f32⟩
  | .hbm, ⟨41, _⟩ => ⟨S4x12x128x2048, .f32⟩
  | .hbm, ⟨42, _⟩ => ⟨S4x2048x12x128, .f32⟩
  | .hbm, ⟨43, _⟩ => ⟨S4x2048x1536, .f32⟩
  | .hbm, ⟨44, _⟩ => ⟨S4x2048x1536, .f32⟩
  | .hbm, ⟨45, _⟩ => ⟨S4x2048x1536, .f32⟩
  | .hbm, ⟨46, _⟩ => ⟨S4x2048x1536, .f32⟩
  | .hbm, ⟨47, _⟩ => ⟨S_, .f32⟩
  | .hbm, ⟨48, _⟩ => ⟨S4x2048x1536, .f32⟩
  | .hbm, ⟨49, _⟩ => ⟨S4x2048x1536, .f32⟩
  | .hbm, ⟨50, _⟩ => ⟨S_, .f32⟩
  | .hbm, ⟨51, _⟩ => ⟨S4x2048x1536, .f32⟩
  | .hbm, ⟨52, _⟩ => ⟨S4x2048x1536, .f32⟩
  | .hbm, ⟨53, _⟩ => ⟨S4x2048x1536, .f32⟩
  | .hbm, ⟨54, _⟩ => ⟨S4x2048x1536, .f32⟩
  | .hbm, ⟨55, _⟩ => ⟨S8192x1536, .f32⟩
  | .hbm, ⟨56, _⟩ => ⟨S8192x1536, .bf16⟩
  | _, _ => ⟨S8192x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_call1_v0 : Ref sig .tc := ⟨.hbm, 45, rfl⟩
abbrev main_call1_v1 : Ref sig .tc := ⟨.hbm, 46, rfl⟩
abbrev main_call1_cst : Ref sig .tc := ⟨.hbm, 47, rfl⟩
abbrev main_call1_v2 : Ref sig .tc := ⟨.hbm, 48, rfl⟩
abbrev main_call1_v3 : Ref sig .tc := ⟨.hbm, 49, rfl⟩
abbrev main_call1_cst_0 : Ref sig .tc := ⟨.hbm, 50, rfl⟩
abbrev main_call1_v4 : Ref sig .tc := ⟨.hbm, 51, rfl⟩
abbrev main_call1_v5 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩

abbrev nD : Nat := 1
abbrev τ : Topo := Topo.v7x

variable {F : FTy → Type} [FloatOps F]
-- ==== Sample.lean ====
abbrev S8x1x4096 : Shape := ⟨3, ![8, 1, 4096]⟩
abbrev S8x15x1024 : Shape := ⟨3, ![8, 15, 1024]⟩
abbrev S4096 : Shape := ⟨1, ![4096]⟩
abbrev S4096x18604 : Shape := ⟨2, ![4096, 18604]⟩
abbrev S12 : Shape := ⟨1, ![12]⟩
abbrev S8x4096 : Shape := ⟨2, ![8, 4096]⟩
abbrev S_ : Shape := ⟨0, ![]⟩
abbrev S16x4096 : Shape := ⟨2, ![16, 4096]⟩
abbrev S4096x12 : Shape := ⟨2, ![4096, 12]⟩
abbrev S4096x116 : Shape := ⟨2, ![4096, 116]⟩
abbrev S4096x32 : Shape := ⟨2, ![4096, 32]⟩
abbrev S4096x96 : Shape := ⟨2, ![4096, 96]⟩
abbrev S4096x128 : Shape := ⟨2, ![4096, 128]⟩
abbrev S4096x384 : Shape := ⟨2, ![4096, 384]⟩
abbrev S4096x1536 : Shape := ⟨2, ![4096, 1536]⟩
abbrev S4096x12x1x128 : Shape := ⟨4, ![4096, 12, 1, 128]⟩
abbrev S4096x12x2x128 : Shape := ⟨4, ![4096, 12, 2, 128]⟩
abbrev S4096x3072 : Shape := ⟨2, ![4096, 3072]⟩
abbrev S4096x2048 : Shape := ⟨2, ![4096, 2048]⟩
abbrev S4096x4096 : Shape := ⟨2, ![4096, 4096]⟩
abbrev S128 : Shape := ⟨1, ![128]⟩
abbrev S1x128 : Shape := ⟨2, ![1, 128]⟩
abbrev S16 : Shape := ⟨1, ![16]⟩
abbrev S64 : Shape := ⟨1, ![64]⟩
abbrev S16x1 : Shape := ⟨2, ![16, 1]⟩
abbrev S1x64 : Shape := ⟨2, ![1, 64]⟩
abbrev S16x64 : Shape := ⟨2, ![16, 64]⟩
abbrev S16x128 : Shape := ⟨2, ![16, 128]⟩
abbrev S1x4096 : Shape := ⟨2, ![1, 4096]⟩
abbrev S16x24x128 : Shape := ⟨3, ![16, 24, 128]⟩
abbrev S16x3072 : Shape := ⟨2, ![16, 3072]⟩
abbrev S4096x1024 : Shape := ⟨2, ![4096, 1024]⟩
abbrev S16x8x128 : Shape := ⟨3, ![16, 8, 128]⟩
abbrev S16x1024 : Shape := ⟨2, ![16, 1024]⟩
abbrev S16x1x128 : Shape := ⟨3, ![16, 1, 128]⟩
abbrev S16x2048 : Shape := ⟨2, ![16, 2048]⟩
abbrev S4096x512 : Shape := ⟨2, ![4096, 512]⟩
abbrev S16x512 : Shape := ⟨2, ![16, 512]⟩
abbrev S16x384 : Shape := ⟨2, ![16, 384]⟩
abbrev S8x12 : Shape := ⟨2, ![8, 12]⟩
abbrev S8x1024 : Shape := ⟨2, ![8, 1024]⟩
abbrev S8x1x1024 : Shape := ⟨3, ![8, 1, 1024]⟩
abbrev S8x16x1024 : Shape := ⟨3, ![8, 16, 1024]⟩
abbrev S8x24x128 : Shape := ⟨3, ![8, 24, 128]⟩
abbrev S8x1x12x2x128 : Shape := ⟨5, ![8, 1, 12, 2, 128]⟩
abbrev S8x1x2x12x128 : Shape := ⟨5, ![8, 1, 2, 12, 128]⟩
abbrev S8x1x12 : Shape := ⟨3, ![8, 1, 12]⟩
abbrev S8x128 : Shape := ⟨2, ![8, 128]⟩
abbrev S8x1x128 : Shape := ⟨3, ![8, 1, 128]⟩

abbrev nBuf : Space → Nat
  | .hbm => 91
  | .vmem => 30
  | .smem => 0
  | _ => 0

abbrev bufTy : (tb : Table) → Fin (tcTables nBuf tb) → BufTy
  | .hbm, ⟨0, _⟩ => ⟨S8x1x4096, .f32⟩
  | .hbm, ⟨1, _⟩ => ⟨S8x15x1024, .f32⟩
  | .hbm, ⟨2, _⟩ => ⟨S4096, .f32⟩
  | .hbm, ⟨3, _⟩ => ⟨S4096x18604, .f32⟩
  | .hbm, ⟨4, _⟩ => ⟨S12, .f32⟩
  | .hbm, ⟨5, _⟩ => ⟨S8x4096, .f32⟩
  | .hbm, ⟨6, _⟩ => ⟨S_, .i32⟩
  | .hbm, ⟨7, _⟩ => ⟨S_, .f32⟩
  | .hbm, ⟨8, _⟩ => ⟨S16x4096, .f32⟩
  | .hbm, ⟨9, _⟩ => ⟨S4096x12, .f32⟩
  | .hbm, ⟨10, _⟩ => ⟨S_, .f32⟩
  | .hbm, ⟨11, _⟩ => ⟨S4096x116, .f32⟩
  | .hbm, ⟨12, _⟩ => ⟨S4096x32, .f32⟩
  | .hbm, ⟨13, _⟩ => ⟨S_, .f32⟩
  | .hbm, ⟨14, _⟩ => ⟨S4096x96, .f32⟩
  | .hbm, ⟨15, _⟩ => ⟨S4096x128, .f32⟩
  | .hbm, ⟨16, _⟩ => ⟨S4096x384, .f32⟩
  | .hbm, ⟨17, _⟩ => ⟨S4096x384, .bf16⟩
  | .hbm, ⟨18, _⟩ => ⟨S4096x1536, .f32⟩
  | .hbm, ⟨19, _⟩ => ⟨S4096x1536, .bf16⟩
  | .hbm, ⟨20, _⟩ => ⟨S4096x1536, .f32⟩
  | .hbm, ⟨21, _⟩ => ⟨S4096x12x1x128, .f32⟩
  | .hbm, ⟨22, _⟩ => ⟨S4096x1536, .f32⟩
  | .hbm, ⟨23, _⟩ => ⟨S4096x12x1x128, .f32⟩
  | .hbm, ⟨24, _⟩ => ⟨S4096x12x2x128, .f32⟩
  | .hbm, ⟨25, _⟩ => ⟨S4096x3072, .f32⟩
  | .hbm, ⟨26, _⟩ => ⟨S4096x3072, .bf16⟩
  | .hbm, ⟨27, _⟩ => ⟨S4096x1536, .f32⟩
  | .hbm, ⟨28, _⟩ => ⟨S4096x1536, .bf16⟩
  | .hbm, ⟨29, _⟩ => ⟨S4096x2048, .f32⟩
  | .hbm, ⟨30, _⟩ => ⟨S4096x2048, .bf16⟩
  | .hbm, ⟨31, _⟩ => ⟨S4096x1536, .f32⟩
  | .hbm, ⟨32, _⟩ => ⟨S4096x1536, .bf16⟩
  | .hbm, ⟨33, _⟩ => ⟨S4096x1536, .f32⟩
  | .hbm, ⟨34, _⟩ => ⟨S4096x12x1x128, .f32⟩
  | .hbm, ⟨35, _⟩ => ⟨S4096x1536, .f32⟩
  | .hbm, ⟨36, _⟩ => ⟨S4096x12x1x128, .f32⟩
  | .hbm, ⟨37, _⟩ => ⟨S4096x12x2x128, .f32⟩
  | .hbm, ⟨38, _⟩ => ⟨S4096x3072, .f32⟩
  | .hbm, ⟨39, _⟩ => ⟨S4096x3072, .bf16⟩
  | .hbm, ⟨40, _⟩ => ⟨S4096x1536, .f32⟩
  | .hbm, ⟨41, _⟩ => ⟨S4096x1536, .bf16⟩
  | .hbm, ⟨42, _⟩ => ⟨S4096x4096, .f32⟩
  | .hbm, ⟨43, _⟩ => ⟨S4096x4096, .bf16⟩
  | .hbm, ⟨44, _⟩ => ⟨S_, .i32⟩
  | .hbm, ⟨45, _⟩ => ⟨S_, .f32⟩
  | .hbm, ⟨46, _⟩ => ⟨S128, .f32⟩
  | .hbm, ⟨47, _⟩ => ⟨S1x128, .f32⟩
  | .hbm, ⟨48, _⟩ => ⟨S_, .i32⟩
  | .hbm, ⟨49, _⟩ => ⟨S16, .i32⟩
  | .hbm, ⟨50, _⟩ => ⟨S64, .f32⟩
  | .hbm, ⟨51, _⟩ => ⟨S64, .f32⟩
  | .hbm, ⟨52, _⟩ => ⟨S_, .f32⟩
  | .hbm, ⟨53, _⟩ => ⟨S64, .f32⟩
  | .hbm, ⟨54, _⟩ => ⟨S64, .f32⟩
  | .hbm, ⟨55, _⟩ => ⟨S_, .f32⟩
  | .hbm, ⟨56, _⟩ => ⟨S64, .f32⟩
  | .hbm, ⟨57, _⟩ => ⟨S64, .f32⟩
  | .hbm, ⟨58, _⟩ => ⟨S16, .f32⟩
  | .hbm, ⟨59, _⟩ => ⟨S16x1, .f32⟩
  | .hbm, ⟨60, _⟩ => ⟨S1x64, .f32⟩
  | .hbm, ⟨61, _⟩ => ⟨S16x64, .f32⟩
  | .hbm, ⟨62, _⟩ => ⟨S16x64, .f32⟩
  | .hbm, ⟨63, _⟩ => ⟨S16x64, .f32⟩
  | .hbm, ⟨64, _⟩ => ⟨S16x64, .f32⟩
  | .hbm, ⟨65, _⟩ => ⟨S16x64, .f32⟩
  | .hbm, ⟨66, _⟩ => ⟨S16x128, .f32⟩
  | .hbm, ⟨67, _⟩ => ⟨S16x64, .f32⟩
  | .hbm, ⟨68, _⟩ => ⟨S16x128, .f32⟩
  | .hbm, ⟨69, _⟩ => ⟨S1x4096, .f32⟩
  | .hbm, ⟨70, _⟩ => ⟨S16x4096, .bf16⟩
  | .hbm, ⟨71, _⟩ => ⟨S16x24x128, .f32⟩
  | .hbm, ⟨72, _⟩ => ⟨S16x3072, .bf16⟩
  | .hbm, ⟨73, _⟩ => ⟨S16x2048, .f32⟩
  | .hbm, ⟨74, _⟩ => ⟨S16x24x128, .f32⟩
  | .hbm, ⟨75, _⟩ => ⟨S16x3072, .bf16⟩
  | .hbm, ⟨76, _⟩ => ⟨S16x384, .f32⟩
  | .hbm, ⟨77, _⟩ => ⟨S8x12, .f32⟩
  | .hbm, ⟨78, _⟩ => ⟨S8x1024, .f32⟩
  | .hbm, ⟨79, _⟩ => ⟨S8x1x1024, .f32⟩
  | .hbm, ⟨80, _⟩ => ⟨S8x16x1024, .f32⟩
  | .hbm, ⟨81, _⟩ => ⟨S8x24x128, .f32⟩
  | .hbm, ⟨82, _⟩ => ⟨S8x1x12x2x128, .f32⟩
  | .hbm, ⟨83, _⟩ => ⟨S8x1x2x12x128, .f32⟩
  | .hbm, ⟨84, _⟩ => ⟨S8x1x12, .f32⟩
  | .hbm, ⟨85, _⟩ => ⟨S8x24x128, .f32⟩
  | .hbm, ⟨86, _⟩ => ⟨S8x1x12x2x128, .f32⟩
  | .hbm, ⟨87, _⟩ => ⟨S8x1x2x12x128, .f32⟩
  | .hbm, ⟨88, _⟩ => ⟨S8x128, .f32⟩
  | .hbm, ⟨89, _⟩ => ⟨S8x1x128, .f32⟩
  | .hbm, ⟨90, _⟩ => ⟨S8x15x1024, .f32⟩
  | .local _ .vmem, ⟨0, _⟩ => ⟨S16x4096, .f32⟩
  | .local _ .vmem, ⟨1, _⟩ => ⟨S1x4096, .f32⟩
  | .local _ .vmem, ⟨2, _⟩ => ⟨S16x4096, .bf16⟩
  | .local _ .vmem, ⟨3, _⟩ => ⟨S16x4096, .bf16⟩
  | .local _ .vmem, ⟨4, _⟩ => ⟨S4096x1024, .bf16⟩
  | .local _ .vmem, ⟨5, _⟩ => ⟨S4096x1024, .bf16⟩
  | .local _ .vmem, ⟨6, _⟩ => ⟨S16x8x128, .f32⟩
  | .local _ .vmem, ⟨7, _⟩ => ⟨S16x8x128, .f32⟩
  | .local _ .vmem, ⟨8, _⟩ => ⟨S16x1024, .bf16⟩
  | .local _ .vmem, ⟨9, _⟩ => ⟨S16x1024, .bf16⟩
  | .local _ .vmem, ⟨10, _⟩ => ⟨S16x4096, .bf16⟩
  | .local _ .vmem, ⟨11, _⟩ => ⟨S4096x512, .bf16⟩
  | .local _ .vmem, ⟨12, _⟩ => ⟨S4096x512, .bf16⟩
  | .local _ .vmem, ⟨13, _⟩ => ⟨S16x512, .f32⟩
  | .local _ .vmem, ⟨14, _⟩ => ⟨S16x512, .f32⟩
  | .local _ .vmem, ⟨15, _⟩ => ⟨S16x4096, .bf16⟩
  | .local _ .vmem, ⟨16, _⟩ => ⟨S4096x1024, .bf16⟩
  | .local _ .vmem, ⟨17, _⟩ => ⟨S4096x1024, .bf16⟩
  | .local _ .vmem, ⟨18, _⟩ => ⟨S16x128, .f32⟩
  | .local _ .vmem, ⟨19, _⟩ => ⟨S16x128, .f32⟩
  | .local _ .vmem, ⟨20, _⟩ => ⟨S16x8x128, .f32⟩
  | .local _ .vmem, ⟨21, _⟩ => ⟨S16x8x128, .f32⟩
  | .local _ .vmem, ⟨22, _⟩ => ⟨S16x1024, .bf16⟩
  | .local _ .vmem, ⟨23, _⟩ => ⟨S16x1024, .bf16⟩
  | .local _ .vmem, ⟨24, _⟩ => ⟨S16x4096, .bf16⟩
  | .local _ .vmem, ⟨25, _⟩ => ⟨S4096x384, .bf16⟩
  | .local _ .vmem, ⟨26, _⟩ => ⟨S16x128, .f32⟩
  | .local _ .vmem, ⟨27, _⟩ => ⟨S16x128, .f32⟩
  | .local _ .vmem, ⟨28, _⟩ => ⟨S1x128, .f32⟩
  | .local _ .vmem, ⟨29, _⟩ => ⟨S16x384, .f32⟩
  | _, _ => ⟨S8x1x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_c_1 : Ref sig .tc := ⟨.hbm, 44, rfl⟩
abbrev main_call1_v0 : Ref sig .tc := ⟨.hbm, 45, rfl⟩
abbrev main_v35 : Ref sig .tc := ⟨.hbm, 46, rfl⟩
abbrev main_v36 : Ref sig .tc := ⟨.hbm, 47, rfl⟩
abbrev main_c_2 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_3 : Ref sig .tc := ⟨.hbm, 52, rfl⟩
abbrev main_v40 : Ref sig .tc := ⟨.hbm, 53, rfl⟩
abbrev main_v41 : Ref sig .tc := ⟨.hbm, 54, rfl⟩
abbrev main_cst_4 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57_0 : Ref sig .tc := ⟨.hbm, 71, rfl⟩
abbrev main_v57_1 : Ref sig .tc := ⟨.hbm, 72, rfl⟩
abbrev main_v58 : Ref sig .tc := ⟨.hbm, 73, rfl⟩
abbrev main_v59_0 : Ref sig .tc := ⟨.hbm, 74, rfl⟩
abbrev main_v59_1 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg1_0 : Ref sig .tc := ⟨.vmem, 4, rfl⟩
abbrev cc1_stg1_1 : Ref sig .tc := ⟨.vmem, 5, rfl⟩
abbrev cc1_stg2_0 : Ref sig .tc := ⟨.vmem, 6, rfl⟩
abbrev cc1_stg2_1 : Ref sig .tc := ⟨.vmem, 7, rfl⟩
abbrev cc1_stg3_0 : Ref sig .tc := ⟨.vmem, 8, rfl⟩
abbrev cc1_stg3_1 : Ref sig .tc := ⟨.vmem, 9, rfl⟩
abbrev cc2_stg0_0 : Ref sig .tc := ⟨.vmem, 10, rfl⟩
abbrev cc2_stg1_0 : Ref sig .tc := ⟨.vmem, 11, rfl⟩
abbrev cc2_stg1_1 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg1_0 : Ref sig .tc := ⟨.vmem, 16, rfl⟩
abbrev cc3_stg1_1 : Ref sig .tc := ⟨.vmem, 17, rfl⟩
abbrev cc3_stg2_0 : Ref sig .tc := ⟨.vmem, 18, rfl⟩
abbrev cc3_stg3_0 : Ref sig .tc := ⟨.vmem, 19, rfl⟩
abbrev cc3_stg4_0 : Ref sig .tc := ⟨.vmem, 20, rfl⟩
abbrev cc3_stg4_1 : Ref sig .tc := ⟨.vmem, 21, rfl⟩
abbrev cc3_stg5_0 : Ref sig .tc := ⟨.vmem, 22, rfl⟩
abbrev cc3_stg5_1 : Ref sig .tc := ⟨.vmem, 23, rfl⟩
abbrev cc4_stg0_0 : Ref sig .tc := ⟨.vmem, 24, rfl⟩
abbrev cc4_stg1_0 : Ref sig .tc := ⟨.vmem, 25, rfl⟩
abbrev cc4_stg2_0 : Ref sig .tc := ⟨.vmem, 26, rfl⟩
abbrev cc4_stg3_0 : Ref sig .tc := ⟨.vmem, 27, rfl⟩
abbrev cc4_stg4_0 : Ref sig .tc := ⟨.vmem, 28, rfl⟩
abbrev cc4_stg5_0 : Ref sig .tc := ⟨.vmem, 29, rfl⟩
abbrev cc0_sem0_0 : DmaSem sig := 0
abbrev cc0_sem1_0 : DmaSem sig := 1
abbrev cc0_sem2_0 : DmaSem sig := 2
abbrev cc1_sem0_0 : DmaSem sig := 3
abbrev cc1_sem1_0 : DmaSem sig := 4
abbrev cc1_sem1_1 : DmaSem sig := 5
abbrev cc1_sem2_0 : DmaSem sig := 6
abbrev cc1_sem2_1 : DmaSem sig := 7
abbrev cc1_sem3_0 : DmaSem sig := 8
abbrev cc1_sem3_1 : DmaSem sig := 9
abbrev cc2_sem0_0 : DmaSem sig := 10
abbrev cc2_sem1_0 : DmaSem sig := 11
abbrev cc2_sem1_1 : DmaSem sig := 12
abbrev cc2_sem2_0 : DmaSem sig := 13
abbrev cc2_sem2_1 : DmaSem sig := 14
abbrev cc3_sem0_0 : DmaSem sig := 15
abbrev cc3_sem1_0 : DmaSem sig := 16
abbrev cc3_sem1_1 : DmaSem sig := 17
abbrev cc3_sem2_0 : DmaSem sig := 18
abbrev cc3_sem3_0 : DmaSem sig := 19
abbrev cc3_sem4_0 : DmaSem sig := 20
abbrev cc3_sem4_1 : DmaSem sig := 21
abbrev cc3_sem5_0 : DmaSem sig := 22
abbrev cc3_sem5_1 : DmaSem sig := 23
abbrev cc4_sem0_0 : DmaSem sig := 24
abbrev cc4_sem1_0 : DmaSem sig := 25
abbrev cc4_sem2_0 : DmaSem sig := 26
abbrev cc4_sem3_0 : DmaSem sig := 27
abbrev cc4_sem4_0 : DmaSem sig := 28
abbrev cc4_sem5_0 : DmaSem sig := 29

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev grid1 : Pipeline.Grid := ⟨2, ![1, 3], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 1 → Memref sig .tc .vmem S16x4096 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false]

abbrev stage1_1 : Fin 2 → Memref sig .tc .vmem S4096x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S16x8x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S16x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨2, ![1, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 1 → Memref sig .tc .vmem S16x4096 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, false]

abbrev stage2_1 : Fin 2 → Memref sig .tc .vmem S4096x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S16x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![1, 3], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 1 → Memref sig .tc .vmem S16x4096 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true, false]

abbrev stage3_1 : Fin 2 → Memref sig .tc .vmem S4096x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 1 → Memref sig .tc .vmem S16x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 1 → Memref sig .tc .vmem S16x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false]

abbrev stage3_4 : Fin 2 → Memref sig .tc .vmem S16x8x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]

abbrev stage3_5 : Fin 2 → Memref sig .tc .vmem S16x1024 .bf16 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true]

abbrev grid4 : Pipeline.Grid := ⟨2, ![1, 1], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 1 → Memref sig .tc .vmem S16x4096 .bf16 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true, false]

abbrev stage4_1 : Fin 1 → Memref sig .tc .vmem S4096x384 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true]

abbrev stage4_2 : Fin 1 → Memref sig .tc .vmem S16x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false, false]

abbrev stage4_3 : Fin 1 → Memref sig .tc .vmem S16x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false, false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false, false]

abbrev stage4_5 : Fin 1 → Memref sig .tc .vmem S16x384 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![true, true]
-- ==== SampleReferenceIdeal.lean ====
abbrev S8x1x4096 : Shape := ⟨3, ![8, 1, 4096]⟩
abbrev S8x15x1024 : Shape := ⟨3, ![8, 15, 1024]⟩
abbrev S4096 : Shape := ⟨1, ![4096]⟩
abbrev S4096x18604 : Shape := ⟨2, ![4096, 18604]⟩
abbrev S12 : Shape := ⟨1, ![12]⟩
abbrev S_ : Shape := ⟨0, ![]⟩
abbrev S8x1 : Shape := ⟨2, ![8, 1]⟩
abbrev S8x1x1 : Shape := ⟨3, ![8, 1, 1]⟩
abbrev S1x1x4096 : Shape := ⟨3, ![1, 1, 4096]⟩
abbrev S8x1x18604 : Shape := ⟨3, ![8, 1, 18604]⟩
abbrev S8x1x1536 : Shape := ⟨3, ![8, 1, 1536]⟩
abbrev S8x1x12 : Shape := ⟨3, ![8, 1, 12]⟩
abbrev S8x1x1024 : Shape := ⟨3, ![8, 1, 1024]⟩
abbrev S8x1x128 : Shape := ⟨3, ![8, 1, 128]⟩
abbrev S8x1x32 : Shape := ⟨3, ![8, 1, 32]⟩
abbrev S1 : Shape := ⟨1, ![1]⟩
abbrev S1x1x12 : Shape := ⟨3, ![1, 1, 12]⟩
abbrev S8x1x12x128 : Shape := ⟨4, ![8, 1, 12, 128]⟩
abbrev S8x1x1x12x128 : Shape := ⟨5, ![8, 1, 1, 12, 128]⟩
abbrev S8x1x2x12x128 : Shape := ⟨5, ![8, 1, 2, 12, 128]⟩
abbrev S64 : Shape := ⟨1, ![64]⟩
abbrev S1x1 : Shape := ⟨2, ![1, 1]⟩
abbrev S1x64 : Shape := ⟨2, ![1, 64]⟩
abbrev S1x1x64 : Shape := ⟨3, ![1, 1, 64]⟩
abbrev S8x1x12x64 : Shape := ⟨4, ![8, 1, 12, 64]⟩
abbrev S1x1x1x64 : Shape := ⟨4, ![1, 1, 1, 64]⟩
abbrev S8x1x1x128 : Shape := ⟨4, ![8, 1, 1, 128]⟩
abbrev S8x1x1x64 : Shape := ⟨4, ![8, 1, 1, 64]⟩
abbrev S8x16x1024 : Shape := ⟨3, ![8, 16, 1024]⟩

abbrev nBuf : Space → Nat
  | .hbm => 141
  | .vmem => 0
  | .smem => 0
  | _ => 0

abbrev hbmTy0_0 (i : Nat) : BufTy := match i % 128 with
  | 0 => ⟨S8x1x4096, .f32⟩
  | 1 => ⟨S8x15x1024, .f32⟩
  | 2 => ⟨S4096, .f32⟩
  | 3 => ⟨S4096x18604, .f32⟩
  | 4 => ⟨S12, .f32⟩
  | 5 => ⟨S8x1x4096, .f32⟩
  | 6 => ⟨S_, .f32⟩
  | 7 => ⟨S8x1, .f32⟩
  | 8 => ⟨S8x1x1, .f32⟩
  | 9 => ⟨S_, .f32⟩
  | 10 => ⟨S8x1x1, .f32⟩
  | 11 => ⟨S8x1x1, .f32⟩
  | 12 => ⟨S_, .f32⟩
  | 13 => ⟨S8x1x1, .f32⟩
  | 14 => ⟨S8x1x1, .f32⟩
  | 15 => ⟨S8x1x1, .f32⟩
  | 16 => ⟨S8x1x4096, .f32⟩
  | 17 => ⟨S8x1x4096, .f32⟩
  | 18 => ⟨S1x1x4096, .f32⟩
  | 19 => ⟨S8x1x4096, .f32⟩
  | 20 => ⟨S8x1x4096, .f32⟩
  | 21 => ⟨S8x1x18604, .f32⟩
  | 22 => ⟨S8x1x1536, .f32⟩
  | 23 => ⟨S8x1x1536, .f32⟩
  | 24 => ⟨S8x1x1536, .f32⟩
  | 25 => ⟨S8x1x1536, .f32⟩
  | 26 => ⟨S8x1x12, .f32⟩
  | 27 => ⟨S8x1x1024, .f32⟩
  | 28 => ⟨S8x1x1024, .f32⟩
  | 29 => ⟨S8x1x1536, .f32⟩
  | 30 => ⟨S8x1x1536, .f32⟩
  | 31 => ⟨S8x1x1536, .f32⟩
  | 32 => ⟨S8x1x1536, .f32⟩
  | 33 => ⟨S8x1x4096, .f32⟩
  | 34 => ⟨S8x1x128, .f32⟩
  | 35 => ⟨S8x1x32, .f32⟩
  | 36 => ⟨S1, .i32⟩
  | 37 => ⟨S_, .i32⟩
  | 38 => ⟨S1, .i32⟩
  | 39 => ⟨S1, .i32⟩
  | 40 => ⟨S1x1x12, .f32⟩
  | 41 => ⟨S8x1x12, .f32⟩
  | 42 => ⟨S8x1x12, .f32⟩
  | 43 => ⟨S8x1x12, .f32⟩
  | 44 => ⟨S_, .f32⟩
  | 45 => ⟨S8x1x12, .f32⟩
  | 46 => ⟨S8x1x12, .f32⟩
  | 47 => ⟨S8x1x12, .f32⟩
  | 48 => ⟨S8x1x12, .f32⟩
  | 49 => ⟨S8x1x12, .i1⟩
  | 50 => ⟨S8x1x12, .f32⟩
  | 51 => ⟨S8x1x12, .f32⟩
  | 52 => ⟨S8x1x12, .f32⟩
  | 53 => ⟨S8x1x12, .f32⟩
  | 54 => ⟨S8x1x12, .f32⟩
  | 55 => ⟨S8x1x12, .f32⟩
  | 56 => ⟨S8x1x12, .f32⟩
  | 57 => ⟨S8x1x12, .f32⟩
  | 58 => ⟨S8x1x12, .f32⟩
  | 59 => ⟨S8x1x12x128, .f32⟩
  | 60 => ⟨S8x1x12x128, .f32⟩
  | 61 => ⟨S8x1x1x12x128, .f32⟩
  | 62 => ⟨S8x1x1x12x128, .f32⟩
  | 63 => ⟨S8x1x2x12x128, .f32⟩
  | 64 => ⟨S8x1x12x128, .f32⟩
  | 65 => ⟨S64, .f32⟩
  | 66 => ⟨S64, .f32⟩
  | 67 => ⟨S_, .f32⟩
  | 68 => ⟨S64, .f32⟩
  | 69 => ⟨S64, .f32⟩
  | 70 => ⟨S_, .f32⟩
  | 71 => ⟨S64, .f32⟩
  | 72 => ⟨S64, .f32⟩
  | 73 => ⟨S1, .f32⟩
  | 74 => ⟨S1x1, .f32⟩
  | 75 => ⟨S1x64, .f32⟩
  | 76 => ⟨S1x64, .f32⟩
  | 77 => ⟨S1x64, .f32⟩
  | 78 => ⟨S1x64, .f32⟩
  | 79 => ⟨S1x1x64, .f32⟩
  | 80 => ⟨S1x64, .f32⟩
  | 81 => ⟨S1x1x64, .f32⟩
  | 82 => ⟨S8x1x12x64, .f32⟩
  | 83 => ⟨S8x1x12x64, .f32⟩
  | 84 => ⟨S1x1x1x64, .f32⟩
  | 85 => ⟨S8x1x12x64, .f32⟩
  | 86 => ⟨S8x1x12x64, .f32⟩
  | 87 => ⟨S1x1x1x64, .f32⟩
  | 88 => ⟨S8x1x12x64, .f32⟩
  | 89 => ⟨S8x1x12x64, .f32⟩
  | 90 => ⟨S8x1x12x64, .f32⟩
  | 91 => ⟨S1x1x1x64, .f32⟩
  | 92 => ⟨S8x1x12x64, .f32⟩
  | 93 => ⟨S8x1x12x64, .f32⟩
  | 94 => ⟨S1x1x1x64, .f32⟩
  | 95 => ⟨S8x1x12x64, .f32⟩
  | 96 => ⟨S8x1x12x64, .f32⟩
  | 97 => ⟨S8x1x12x64, .f32⟩
  | 98 => ⟨S8x1x12x128, .f32⟩
  | 99 => ⟨S8x1x12x128, .f32⟩
  | 100 => ⟨S8x1x1x12x128, .f32⟩
  | 101 => ⟨S8x1x1x12x128, .f32⟩
  | 102 => ⟨S8x1x2x12x128, .f32⟩
  | 103 => ⟨S8x1x1x128, .f32⟩
  | 104 => ⟨S64, .f32⟩
  | 105 => ⟨S64, .f32⟩
  | 106 => ⟨S_, .f32⟩
  | 107 => ⟨S64, .f32⟩
  | 108 => ⟨S64, .f32⟩
  | 109 => ⟨S_, .f32⟩
  | 110 => ⟨S64, .f32⟩
  | 111 => ⟨S64, .f32⟩
  | 112 => ⟨S1, .f32⟩
  | 113 => ⟨S1x1, .f32⟩
  | 114 => ⟨S1x64, .f32⟩
  | 115 => ⟨S1x64, .f32⟩
  | 116 => ⟨S1x64, .f32⟩
  | 117 => ⟨S1x64, .f32⟩
  | 118 => ⟨S1x1x64, .f32⟩
  | 119 => ⟨S1x64, .f32⟩
  | 120 => ⟨S1x1x64, .f32⟩
  | 121 => ⟨S8x1x1x64, .f32⟩
  | 122 => ⟨S8x1x1x64, .f32⟩
  | 123 => ⟨S1x1x1x64, .f32⟩
  | 124 => ⟨S8x1x1x64, .f32⟩
  | 125 => ⟨S8x1x1x64, .f32⟩
  | 126 => ⟨S1x1x1x64, .f32⟩
  | 127 => ⟨S8x1x1x64, .f32⟩
  | _ => ⟨S8x1x4096, .f32⟩

abbrev hbmTy0_1 (i : Nat) : BufTy := match i % 128 with
  | 0 => ⟨S8x1x1x64, .f32⟩
  | 1 => ⟨S8x1x1x64, .f32⟩
  | 2 => ⟨S1x1x1x64, .f32⟩
  | 3 => ⟨S8x1x1x64, .f32⟩
  | 4 => ⟨S8x1x1x64, .f32⟩
  | 5 => ⟨S1x1x1x64, .f32⟩
  | 6 => ⟨S8x1x1x64, .f32⟩
  | 7 => ⟨S8x1x1x64, .f32⟩
  | 8 => ⟨S8x1x1x64, .f32⟩
  | 9 => ⟨S8x1x1x128, .f32⟩
  | 10 => ⟨S8x1x128, .f32⟩
  | 11 => ⟨S8x16x1024, .f32⟩
  | 12 => ⟨S8x15x1024, .f32⟩
  | _ => ⟨S8x1x4096, .f32⟩

abbrev hbmTy (i : Nat) : BufTy := match i / 128 with
  | 0 => hbmTy0_0 i
  | 1 => hbmTy0_1 i
  | _ => ⟨S8x1x4096, .f32⟩

abbrev bufTy : (tb : Table) → Fin (tcTables nBuf tb) → BufTy
  | .hbm, ⟨i, _⟩ => hbmTy i
  | _, _ => ⟨S8x1x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_c : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_call0_v0 : Ref sig .tc := ⟨.hbm, 43, rfl⟩
abbrev main_call0_call0_cst : Ref sig .tc := ⟨.hbm, 44, rfl⟩
abbrev main_call0_call0_v0 : Ref sig .tc := ⟨.hbm, 45, rfl⟩
abbrev main_call0_call0_v1 : Ref sig .tc := ⟨.hbm, 46, rfl⟩
abbrev main_call0_call0_v2 : Ref sig .tc := ⟨.hbm, 47, rfl⟩
abbrev main_call0_call0_v3 : Ref sig .tc := ⟨.hbm, 48, rfl⟩
abbrev main_call0_call0_v4 : Ref sig .tc := ⟨.hbm, 49, rfl⟩
abbrev main_call0_call0_v5 : Ref sig .tc := ⟨.hbm, 50, rfl⟩
abbrev main_call0_call0_v6 : Ref sig .tc := ⟨.hbm, 51, rfl⟩
abbrev main_call0_call0_v7 : Ref sig .tc := ⟨.hbm, 52, rfl⟩
abbrev main_call0_call0_v8 : Ref sig .tc := ⟨.hbm, 53, rfl⟩
abbrev main_call0_call0_v9 : Ref sig .tc := ⟨.hbm, 54, rfl⟩
abbrev main_call0_call0_v10 : Ref sig .tc := ⟨.hbm, 55, rfl⟩
abbrev main_call0_call0_v11 : Ref sig .tc := ⟨.hbm, 56, rfl⟩
abbrev main_call0_v1 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_2 : Ref sig .tc := ⟨.hbm, 67, rfl⟩
abbrev main_v43 : Ref sig .tc := ⟨.hbm, 68, rfl⟩
abbrev main_v44 : Ref sig .tc := ⟨.hbm, 69, rfl⟩
abbrev main_cst_3 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_cst_4 : Ref sig .tc := ⟨.hbm, 106, rfl⟩
abbrev main_v80 : Ref sig .tc := ⟨.hbm, 107, rfl⟩
abbrev main_v81 : Ref sig .tc := ⟨.hbm, 108, rfl⟩
abbrev main_cst_5 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩

abbrev nD : Nat := 1
abbrev τ : Topo := Topo.v7x

variable {F : FTy → Type} [FloatOps F]
-- ==== Close.lean ====
abbrev S8x1x4096 : Shape := ⟨3, ![8, 1, 4096]⟩
abbrev S8x1x1536 : Shape := ⟨3, ![8, 1, 1536]⟩
abbrev S16x1024 : Shape := ⟨2, ![16, 1024]⟩
abbrev S4096x4096 : Shape := ⟨2, ![4096, 4096]⟩
abbrev S4096 : Shape := ⟨1, ![4096]⟩
abbrev S8x4096 : Shape := ⟨2, ![8, 4096]⟩
abbrev S_ : Shape := ⟨0, ![]⟩
abbrev S16x4096 : Shape := ⟨2, ![16, 4096]⟩
abbrev S1536x4096 : Shape := ⟨2, ![1536, 4096]⟩
abbrev S1024x4096 : Shape := ⟨2, ![1024, 4096]⟩
abbrev S8x1536 : Shape := ⟨2, ![8, 1536]⟩
abbrev S16x1536 : Shape := ⟨2, ![16, 1536]⟩
abbrev S1536x512 : Shape := ⟨2, ![1536, 512]⟩
abbrev S1024x512 : Shape := ⟨2, ![1024, 512]⟩
abbrev S16x512 : Shape := ⟨2, ![16, 512]⟩
abbrev S1x4096 : Shape := ⟨2, ![1, 4096]⟩
abbrev S16 : Shape := ⟨1, ![16]⟩
abbrev S16x1 : Shape := ⟨2, ![16, 1]⟩

abbrev nBuf : Space → Nat
  | .hbm => 32
  | .vmem => 15
  | .smem => 0
  | _ => 0

abbrev bufTy : (tb : Table) → Fin (tcTables nBuf tb) → BufTy
  | .hbm, ⟨0, _⟩ => ⟨S8x1x4096, .f32⟩
  | .hbm, ⟨1, _⟩ => ⟨S8x1x1536, .f32⟩
  | .hbm, ⟨2, _⟩ => ⟨S16x1024, .f32⟩
  | .hbm, ⟨3, _⟩ => ⟨S8x1x1536, .f32⟩
  | .hbm, ⟨4, _⟩ => ⟨S4096x4096, .f32⟩
  | .hbm, ⟨5, _⟩ => ⟨S4096, .f32⟩
  | .hbm, ⟨6, _⟩ => ⟨S8x4096, .f32⟩
  | .hbm, ⟨7, _⟩ => ⟨S_, .i32⟩
  | .hbm, ⟨8, _⟩ => ⟨S_, .f32⟩
  | .hbm, ⟨9, _⟩ => ⟨S16x4096, .f32⟩
  | .hbm, ⟨10, _⟩ => ⟨S1536x4096, .f32⟩
  | .hbm, ⟨11, _⟩ => ⟨S1536x4096, .bf16⟩
  | .hbm, ⟨12, _⟩ => ⟨S1024x4096, .f32⟩
  | .hbm, ⟨13, _⟩ => ⟨S1024x4096, .bf16⟩
  | .hbm, ⟨14, _⟩ => ⟨S1536x4096, .f32⟩
  | .hbm, ⟨15, _⟩ => ⟨S1536x4096, .bf16⟩
  | .hbm, ⟨16, _⟩ => ⟨S8x1536, .f32⟩
  | .hbm, ⟨17, _⟩ => ⟨S_, .i32⟩
  | .hbm, ⟨18, _⟩ => ⟨S_, .f32⟩
  | .hbm, ⟨19, _⟩ => ⟨S16x1536, .f32⟩
  | .hbm, ⟨20, _⟩ => ⟨S16x1536, .bf16⟩
  | .hbm, ⟨21, _⟩ => ⟨S16x1024, .bf16⟩
  | .hbm, ⟨22, _⟩ => ⟨S8x1536, .f32⟩
  | .hbm, ⟨23, _⟩ => ⟨S_, .i32⟩
  | .hbm, ⟨24, _⟩ => ⟨S_, .f32⟩
  | .hbm, ⟨25, _⟩ => ⟨S16x1536, .f32⟩
  | .hbm, ⟨26, _⟩ => ⟨S16x1536, .bf16⟩
  | .hbm, ⟨27, _⟩ => ⟨S16x4096, .f32⟩
  | .hbm, ⟨28, _⟩ => ⟨S1x4096, .f32⟩
  | .hbm, ⟨29, _⟩ => ⟨S16x4096, .f32⟩
  | .hbm, ⟨30, _⟩ => ⟨S8x4096, .f32⟩
  | .hbm, ⟨31, _⟩ => ⟨S8x1x4096, .f32⟩
  | .local _ .vmem, ⟨0, _⟩ => ⟨S16x1536, .bf16⟩
  | .local _ .vmem, ⟨1, _⟩ => ⟨S16x1024, .bf16⟩
  | .local _ .vmem, ⟨2, _⟩ => ⟨S16x1536, .bf16⟩
  | .local _ .vmem, ⟨3, _⟩ => ⟨S1536x512, .bf16⟩
  | .local _ .vmem, ⟨4, _⟩ => ⟨S1536x512, .bf16⟩
  | .local _ .vmem, ⟨5, _⟩ => ⟨S1024x512, .bf16⟩
  | .local _ .vmem, ⟨6, _⟩ => ⟨S1024x512, .bf16⟩
  | .local _ .vmem, ⟨7, _⟩ => ⟨S1536x512, .bf16⟩
  | .local _ .vmem, ⟨8, _⟩ => ⟨S1536x512, .bf16⟩
  | .local _ .vmem, ⟨9, _⟩ => ⟨S16x512, .f32⟩
  | .local _ .vmem, ⟨10, _⟩ => ⟨S16x512, .f32⟩
  | .local _ .vmem, ⟨11, _⟩ => ⟨S16x4096, .f32⟩
  | .local _ .vmem, ⟨12, _⟩ => ⟨S16x4096, .f32⟩
  | .local _ .vmem, ⟨13, _⟩ => ⟨S1x4096, .f32⟩
  | .local _ .vmem, ⟨14, _⟩ => ⟨S16x4096, .f32⟩
  | _, _ => ⟨S8x1x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_0 : Ref sig .tc := ⟨.hbm, 17, rfl⟩
abbrev main_call1_v0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_1 : Ref sig .tc := ⟨.hbm, 23, rfl⟩
abbrev main_call2_v0 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem1_0 : DmaSem sig := 12
abbrev cc1_sem2_0 : DmaSem sig := 13
abbrev cc1_sem3_0 : DmaSem sig := 14

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S16x1536 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S16x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S16x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1536x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1536x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S16x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S16x4096 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S16x4096 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true]

abbrev stage1_2 : Fin 1 → Memref sig .tc .vmem S1x4096 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S16x4096 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true]
-- ==== CloseReferenceIdeal.lean ====
abbrev S8x1x4096 : Shape := ⟨3, ![8, 1, 4096]⟩
abbrev S8x1x1536 : Shape := ⟨3, ![8, 1, 1536]⟩
abbrev S16x1024 : Shape := ⟨2, ![16, 1024]⟩
abbrev S4096x4096 : Shape := ⟨2, ![4096, 4096]⟩
abbrev S4096 : Shape := ⟨1, ![4096]⟩
abbrev S8x1024 : Shape := ⟨2, ![8, 1024]⟩
abbrev S8x1x1024 : Shape := ⟨3, ![8, 1, 1024]⟩
abbrev S_ : Shape := ⟨0, ![]⟩
abbrev S8x1 : Shape := ⟨2, ![8, 1]⟩
abbrev S8x1x1 : Shape := ⟨3, ![8, 1, 1]⟩
abbrev S1x1x4096 : Shape := ⟨3, ![1, 1, 4096]⟩

abbrev nBuf : Space → Nat
  | .hbm => 27
  | .vmem => 0
  | .smem => 0
  | _ => 0

abbrev bufTy : (tb : Table) → Fin (tcTables nBuf tb) → BufTy
  | .hbm, ⟨0, _⟩ => ⟨S8x1x4096, .f32⟩
  | .hbm, ⟨1, _⟩ => ⟨S8x1x1536, .f32⟩
  | .hbm, ⟨2, _⟩ => ⟨S16x1024, .f32⟩
  | .hbm, ⟨3, _⟩ => ⟨S8x1x1536, .f32⟩
  | .hbm, ⟨4, _⟩ => ⟨S4096x4096, .f32⟩
  | .hbm, ⟨5, _⟩ => ⟨S4096, .f32⟩
  | .hbm, ⟨6, _⟩ => ⟨S8x1024, .f32⟩
  | .hbm, ⟨7, _⟩ => ⟨S8x1x1024, .f32⟩
  | .hbm, ⟨8, _⟩ => ⟨S8x1x4096, .f32⟩
  | .hbm, ⟨9, _⟩ => ⟨S8x1x4096, .f32⟩
  | .hbm, ⟨10, _⟩ => ⟨S8x1x4096, .f32⟩
  | .hbm, ⟨11, _⟩ => ⟨S_, .f32⟩
  | .hbm, ⟨12, _⟩ => ⟨S8x1, .f32⟩
  | .hbm, ⟨13, _⟩ => ⟨S8x1x1, .f32⟩
  | .hbm, ⟨14, _⟩ => ⟨S_, .f32⟩
  | .hbm, ⟨15, _⟩ => ⟨S8x1x1, .f32⟩
  | .hbm, ⟨16, _⟩ => ⟨S8x1x1, .f32⟩
  | .hbm, ⟨17, _⟩ => ⟨S_, .f32⟩
  | .hbm, ⟨18, _⟩ => ⟨S8x1x1, .f32⟩
  | .hbm, ⟨19, _⟩ => ⟨S8x1x1, .f32⟩
  | .hbm, ⟨20, _⟩ => ⟨S8x1x1, .f32⟩
  | .hbm, ⟨21, _⟩ => ⟨S8x1x4096, .f32⟩
  | .hbm, ⟨22, _⟩ => ⟨S8x1x4096, .f32⟩
  | .hbm, ⟨23, _⟩ => ⟨S1x1x4096, .f32⟩
  | .hbm, ⟨24, _⟩ => ⟨S8x1x4096, .f32⟩
  | .hbm, ⟨25, _⟩ => ⟨S8x1x4096, .f32⟩
  | .hbm, ⟨26, _⟩ => ⟨S8x1x4096, .f32⟩
  | _, _ => ⟨S8x1x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]
-- ==== Proof.Math.Softmax.lean ====
/- Softmax over the extended reals: a row whose entries are below `⊤` and not all `⊥` has a normaliser that is a
   positive real, so the weighted sum may be divided before or after it is taken. -/
module

public import Idealize.ShloMosaic.PureOps.Ideal
public import Idealize.ShloMosaic.Lib.IdealHost

@[expose] public section

noncomputable section

namespace Cert.Math

open Idealize.ShloMosaic

/-- Multiplication by a nonnegative real distributes over a finite sum of extended reals. -/
theorem sum_mul_real {ι : Type*} (s : Finset ι) (f : ι → EReal) {r : EReal} (h0 : 0 ≤ r) (ht : r ≠ ⊤) :
    (∑ k ∈ s, f k) * r = ∑ k ∈ s, f k * r := by
  classical
  induction s using Finset.induction_on with
  | empty => simp
  | insert a s ha ih =>
    rw [Finset.sum_insert ha, Finset.sum_insert ha, EReal.right_distrib_of_nonneg_of_ne_top h0 ht, ih]

/-- A finite sum of reals, taken in the extended reals. -/
theorem coe_sum {ι : Type*} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- The maximum of a nonempty finite row is one of its entries. -/
theorem fold_max_mem {n : ℕ} (s : Fin n → EReal) (h : ∃ k, s k ≠ ⊥) :
    ∃ k, s k = Finset.univ.fold max ⊥ s ∧ s k ≠ ⊥ := by
  have hs : Finset.univ.fold max ⊥ s = Finset.univ.sup s := rfl
  obtain ⟨k0, hk0⟩ := h
  obtain ⟨k, -, hk⟩ := Finset.exists_mem_eq_sup Finset.univ ⟨k0, Finset.mem_univ _⟩ s
  refine ⟨k, by rw [hs, hk], ?_⟩
  have := Finset.le_sup (f := s) (Finset.mem_univ k0)
  rw [hk] at this
  intro hb
  rw [hb] at this
  exact hk0 (le_bot_iff.mp this)

/-- Each entry is at most the row's maximum. -/
theorem le_fold_max {n : ℕ} (s : Fin n → EReal) (k : Fin n) : s k ≤ Finset.univ.fold max ⊥ s := by
  have hs : Finset.univ.fold max ⊥ s = Finset.univ.sup s := rfl
  rw [hs]; exact Finset.le_sup (f := s) (Finset.mem_univ k)

/-- An exponential is nonnegative. -/
theorem exp_nonneg (x : EReal) : 0 ≤ Ideal.exp x := by
  induction x with
  | bot => simp
  | top => simp
  | coe r => simp only [Ideal.exp_coe]; exact_mod_cast (Real.exp_pos r).le

/-- An entry's distance below a real maximum has an exponential below `⊤`. -/
theorem exp_sub_ne_top {x : EReal} (hx : x ≠ ⊤) (M : ℝ) : Ideal.exp (x - M) ≠ ⊤ := by
  induction x with
  | bot => simp [EReal.bot_sub]
  | top => exact absurd rfl hx
  | coe r => rw [← EReal.coe_sub, Ideal.exp_coe]; exact EReal.coe_ne_top _

/-- The softmax normaliser of a row whose entries are below `⊤` and not all `⊥`: a positive real. -/
theorem normaliser {n : ℕ} (s : Fin n → EReal) (htop : ∀ k, s k ≠ ⊤) (hbot : ∃ k, s k ≠ ⊥) :
    ∃ L : ℝ, 0 < L ∧ ∑ k, Ideal.exp (s k - Finset.univ.fold max ⊥ s) = (L : EReal) := by
  obtain ⟨k0, hk0, hb⟩ := fold_max_mem s hbot
  rw [← hk0]
  obtain ⟨M, hM⟩ : ∃ M : ℝ, s k0 = (M : EReal) := ⟨(s k0).toReal, (EReal.coe_toReal (htop k0) hb).symm⟩
  rw [hM]
  have hnt : ∀ k, Ideal.exp (s k - (M : EReal)) ≠ ⊤ := fun k => exp_sub_ne_top (htop k) M
  have hnb : ∀ k, Ideal.exp (s k - (M : EReal)) ≠ ⊥ := fun k h => by
    have := exp_nonneg (s k - (M : EReal)); rw [h] at this; simp at this
  have hreal : ∑ k, Ideal.exp (s k - (M : EReal)) = ((∑ k, (Ideal.exp (s k - (M : EReal))).toReal : ℝ) : EReal) := by
    rw [coe_sum]
    exact Finset.sum_congr rfl fun k _ => (EReal.coe_toReal (hnt k) (hnb k)).symm
  refine ⟨_, ?_, hreal⟩
  have h1 : (Ideal.exp (s k0 - (M : EReal))).toReal = 1 := by
    rw [hM, ← EReal.coe_sub, Ideal.exp_coe]; simp
  have := Finset.single_le_sum (f := fun k => (Ideal.exp (s k - (M : EReal))).toReal) (s := Finset.univ)
    (fun k _ => EReal.toReal_nonneg (exp_nonneg _)) (Finset.mem_univ k0)
  simp only [h1] at this
  linarith

/-- SOFTMAX, NORMALISED BEFORE OR AFTER the weighted sum: the same extended real. -/
theorem softmax_mul {n : ℕ} (s v : Fin n → EReal) (htop : ∀ k, s k ≠ ⊤) (hbot : ∃ k, s k ≠ ⊥) :
    (∑ k, Ideal.exp (s k - Finset.univ.fold max ⊥ s) * v k)
        * Ideal.div 1 (∑ k, Ideal.exp (s k - Finset.univ.fold max ⊥ s))
      = ∑ k, v k * Ideal.div (Ideal.exp (s k - Finset.univ.fold max ⊥ s))
          (∑ k, Ideal.exp (s k - Finset.univ.fold max ⊥ s)) := by
  obtain ⟨L, hL, hs⟩ := normaliser s htop hbot
  rw [hs]
  have hr : (0 : ℝ) ≤ 1 / L := by positivity
  rw [Ideal.div_coe hL.ne', one_mul, sum_mul_real _ _ (by exact_mod_cast hr) (EReal.coe_ne_top _)]
  refine Finset.sum_congr rfl fun k _ => ?_
  rw [Ideal.div_coe hL.ne', mul_assoc, mul_left_comm]

/-- A finite sum of products of reals is a real. -/
theorem sum_mul_coe {n : ℕ} (f g : Fin n → EReal) (hf : ∀ k, f k ≠ ⊤ ∧ f k ≠ ⊥) (hg : ∀ k, g k ≠ ⊤ ∧ g k ≠ ⊥) :
    ∃ r : ℝ, ∑ k, f k * g k = (r : EReal) := by
  refine ⟨∑ k, (f k).toReal * (g k).toReal, ?_⟩
  rw [coe_sum]
  refine Finset.sum_congr rfl fun k _ => ?_
  rw [EReal.coe_mul, EReal.coe_toReal (hf k).1 (hf k).2, EReal.coe_toReal (hg k).1 (hg k).2]

end Cert.Math

end
-- ==== Proof.Math.Head.lean ====
/- One head of one query row: its masked scores, and the attention's result with softmax's normaliser applied after
   or before the weighted sum of the values. -/
module

public import proofs.«01_k».proof.Proof.Math.Softmax

@[expose] public section

noncomputable section

namespace Cert.Math

open Idealize.ShloMosaic

/-- The scores of one row: the scaled query-key products with the gates' difference added, `⊥` where masked. -/
def scores (mask : Fin 2048 → BitVec 1) (q : Fin 128 → EReal) (k : Fin 2048 → Fin 128 → EReal) (c : EReal)
    (ct : Fin 2048 → EReal) (j : Fin 2048) : EReal :=
  Scalar.select (mask j) ((∑ e, q e * k j e) * Ideal.ofBits .f32 0x3DB504F3#32 + c - ct j) (Ideal.ofBits .f32 0xFF800000#32)

/-- One head of one row, from its scores, its values and its gate: the exponentials' weighted sum, normalised AFTER. -/
def headOut (s v : Fin 2048 → EReal) (g : EReal) : EReal :=
  (∑ k, Ideal.exp (s k - Finset.univ.fold max (Ideal.ofBits .f32 0xFF800000#32) s) * v k)
    * Ideal.div 1 (∑ k, Ideal.exp (s k - Finset.univ.fold max (Ideal.ofBits .f32 0xFF800000#32) s)) * (g * Ideal.logistic g)

/-- The same with the weights normalised BEFORE the sum is taken. -/
def headRef (s v : Fin 2048 → EReal) (g : EReal) : EReal :=
  (∑ k, v k * Ideal.div (Ideal.exp (s k - Finset.univ.fold max (Ideal.ofBits .f32 0xFF800000#32) s))
      (∑ k, Ideal.exp (s k - Finset.univ.fold max (Ideal.ofBits .f32 0xFF800000#32) s))) * (g * Ideal.logistic g)

/-- The word `0xFF800000` is `-∞`. -/
theorem neg_inf : Ideal.ofBits .f32 0xFF800000#32 = ⊥ := by simp [Ideal.ofBits, Ideal.ieee]

/-- The word of `+∞`. -/
theorem pos_inf : Ideal.ofBits .f32 0x7F800000#32 = ⊤ := by simp [Ideal.ofBits, Ideal.ieee]

/-- The attention's scale is a real. -/
theorem scale_real : ∃ r : ℝ, Ideal.ofBits .f32 0x3DB504F3#32 = (r : EReal) :=
  ⟨_, by simp only [Ideal.ofBits, Ideal.ieee]; norm_num; rfl⟩

/-- The two orders of normalising agree where the scores are below `⊤` and not all `⊥`. -/
theorem headOut_eq (s v : Fin 2048 → EReal) (g : EReal) (htop : ∀ k, s k ≠ ⊤) (hbot : ∃ k, s k ≠ ⊥) :
    headOut s v g = headRef s v g := by
  unfold headOut headRef
  rw [neg_inf, softmax_mul s v htop hbot]

/-- A masked score is `⊥` or a real when the queries, keys and gates are reals. -/
theorem scores_real (mask : Fin 2048 → BitVec 1) {q : Fin 128 → EReal} {k : Fin 2048 → Fin 128 → EReal} {c : EReal}
    {ct : Fin 2048 → EReal} (hq : ∀ e, q e ≠ ⊤ ∧ q e ≠ ⊥) (hk : ∀ j e, k j e ≠ ⊤ ∧ k j e ≠ ⊥) (hc : c ≠ ⊤ ∧ c ≠ ⊥)
    (hct : ∀ j, ct j ≠ ⊤ ∧ ct j ≠ ⊥) (j : Fin 2048) :
    ∃ r : ℝ, scores mask q k c ct j = if mask j = 1#1 then (r : EReal) else ⊥ := by
  obtain ⟨a, ha⟩ := sum_mul_coe q (k j) hq (hk j)
  obtain ⟨b, hb⟩ := scale_real
  refine ⟨a * b + c.toReal - (ct j).toReal, ?_⟩
  unfold scores
  rw [ha, hb, neg_inf]
  rw [EReal.coe_sub, EReal.coe_add, EReal.coe_mul, EReal.coe_toReal hc.1 hc.2, EReal.coe_toReal (hct j).1 (hct j).2]
  rfl

/-- HEAD BY HEAD the two orders agree: reals throughout, and at least one key unmasked. -/
theorem head_eq_ref (mask : Fin 2048 → BitVec 1) {q : Fin 128 → EReal} {k : Fin 2048 → Fin 128 → EReal} {c : EReal}
    {ct : Fin 2048 → EReal} (hq : ∀ e, q e ≠ ⊤ ∧ q e ≠ ⊥) (hk : ∀ j e, k j e ≠ ⊤ ∧ k j e ≠ ⊥) (hc : c ≠ ⊤ ∧ c ≠ ⊥)
    (hct : ∀ j, ct j ≠ ⊤ ∧ ct j ≠ ⊥) (hm : ∃ j, mask j = 1#1) (v : Fin 2048 → EReal) (g : EReal) :
    headOut (scores mask q k c ct) v g = headRef (scores mask q k c ct) v g := by
  refine headOut_eq _ v g (fun j => ?_) ?_
  · obtain ⟨r, h⟩ := scores_real mask hq hk hc hct j
    rw [h]; split_ifs
    · exact EReal.coe_ne_top r
    · exact bot_ne_top
  · obtain ⟨j, hj⟩ := hm
    obtain ⟨r, h⟩ := scores_real mask hq hk hc hct j
    exact ⟨j, by rw [h, if_pos hj]; exact EReal.coe_ne_bot r⟩

end Cert.Math

end
-- ==== Proof.Fox.Spec.lean ====
/- Which scores and which values one element of the forgetting attention's result is made of. -/
module

public import Idealize.ShloMosaic.Lib.Pipeline.ValueKit
public import Idealize.ShloMosaic.Lib.Pointwise
public import proofs.«01_k».proof.Proof.Math.Head

@[expose] public section

noncomputable section

namespace Cert.Fox

open Idealize.ShloMosaic Cert.Math

/-- The row of scores that element `(r, l)` of the result belongs to: query `r mod 2048` of batch `r / 2048`, in head
    `l / 128`; the batch's key `j` is seen when `j` is not after the query. -/
def row (q : Vec Ideal ⟨2, ![8192, 1536]⟩ .bf16) (kv : Vec Ideal ⟨2, ![8192, 3072]⟩ .bf16) (c : Vec Ideal ⟨2, ![8192, 128]⟩ .f32)
    (r : Fin 8192) (l : Fin 1536) : Fin 2048 → EReal :=
  scores (fun j => if (j : ℕ) ≤ (r : ℕ) % 2048 then 1#1 else 0#1)
    (fun e => q (ix2 r ⟨l / 128 * 128 + e, by omega⟩))
    (fun j e => kv (ix2 ⟨r / 2048 * 2048 + j, by omega⟩ ⟨l / 128 * 256 + e, by omega⟩))
    (c (ix2 r ⟨l / 128, by omega⟩)) (fun j => c (ix2 ⟨r / 2048 * 2048 + j, by omega⟩ ⟨l / 128, by omega⟩))

/-- The values that element's weights are applied to. -/
def vals (kv : Vec Ideal ⟨2, ![8192, 3072]⟩ .bf16) (r : Fin 8192) (l : Fin 1536) (j : Fin 2048) : EReal :=
  kv (ix2 ⟨r / 2048 * 2048 + j, by omega⟩ ⟨l / 128 * 256 + 128 + l % 128, by omega⟩)

/-- An array of extended reals without an infinity. -/
def Finite {s : Shape} {φ : FTy} (x : FVec Ideal s φ) : Prop := ∀ i, (x i : EReal) ≠ ⊤ ∧ (x i : EReal) ≠ ⊥

/-- NORMALISING AFTER OR BEFORE: the same element, when queries, keys, values and gates are finite. The query's own
    key is never masked, so the normaliser is a positive real. -/
theorem head_agree (q : Vec Ideal ⟨2, ![8192, 1536]⟩ .bf16) (kv : Vec Ideal ⟨2, ![8192, 3072]⟩ .bf16)
    (c : Vec Ideal ⟨2, ![8192, 128]⟩ .f32) (hq : Finite (φ := .bf16) q) (hkv : Finite (φ := .bf16) kv) (hc : Finite (φ := .f32) c) (r : Fin 8192) (l : Fin 1536) (g : EReal) :
    headOut (row q kv c r l) (vals kv r l) g = headRef (row q kv c r l) (vals kv r l) g :=
  head_eq_ref _ (fun e => hq _) (fun j e => hkv _) (hc _) (fun j => hc _)
    ⟨⟨r % 2048, Nat.mod_lt _ (by omega)⟩, if_pos (le_refl _)⟩ _ g

end Cert.Fox

end
-- ==== Proof.Fox.Pre.lean ====
/- The precondition of the forgetting attention, read: no infinity in the queries, the keys and values, or the gates. -/
module

public import Idealize.ShloMosaic.Lib.Pipeline.ValueKit
public import Idealize.ShloMosaic.Lib.Pointwise
public import Idealize.ShloMosaic.Lib.ReduceAll
public import proofs.«01_k».proof.Pre_finite_logits
public import proofs.«01_k».proof.Proof.Fox.Spec

@[expose] public section

set_option maxRecDepth 16384

noncomputable section

namespace Cert.Pre_finite_logits

open Idealize.ShloMosaic Cert.Fox

/-- The predicate's side conditions, all of literal shapes. -/
theorem facts : Facts where
  bitsLt_bf16_f32 := by decide
  bcast_S_S8192x1536 := by decide
  reducesTo_S8192x1536_S_d0_1 := by decide
  h_S_ := by decide
  bcast_S_S8192x3072 := by decide
  reducesTo_S8192x3072_S_d0_1 := by decide
  bcast_S_S8192x128 := by decide
  reducesTo_S8192x128_S_d0_1 := by decide

/-- A magnitude below `⊤` is a real's. -/
theorem finite_of_abs (x : EReal) (h : Ideal.cmp .olt (max x (-x)) ⊤ = 1#1) : x ≠ ⊤ ∧ x ≠ ⊥ := by
  have h' : max x (-x) < ⊤ := by
    by_contra hc
    simp [Ideal.cmp, hc] at h
  rw [max_lt_iff] at h'
  refine ⟨ne_of_lt h'.1, fun hb => ?_⟩
  rw [hb] at h'
  simp at h'

/-- A conjunction of two bits that is one has both of them one. -/
theorem and_one (a b : BitVec 1) (h : IntOp.andi a b = 1#1) : a = 1#1 ∧ b = 1#1 := by
  revert a b; decide

/-- WHAT THE PRECONDITION SAYS. -/
theorem finite_of_pre [Facts] (q : FVec Ideal S8192x1536 .bf16) (kv : FVec Ideal S8192x3072 .bf16) (g : FVec Ideal S8192x1536 .f32)
    (c : FVec Ideal S8192x128 .f32) (h : fn (F := Ideal) q kv g c = fun _ => 1#1) : Finite q ∧ Finite kv ∧ Finite c := by
  have h0 := congrFun h ix0
  unfold fn at h0
  obtain ⟨h1, hc⟩ := and_one _ _ h0
  obtain ⟨hq, hkv⟩ := and_one _ _ h1
  have : Subsingleton S_.Idx := ⟨fun a b => by ext x; exact x.elim0⟩
  refine ⟨fun i => ?_, fun i => ?_, fun i => ?_⟩
  · have e := Host.reduce_andi_all _ _ _ _ ix0 hq i
    refine finite_of_abs _ ?_
    rw [← Cert.Math.pos_inf]; exact e
  · have e := Host.reduce_andi_all _ _ _ _ ix0 hkv i
    refine finite_of_abs _ ?_
    rw [← Cert.Math.pos_inf]; exact e
  · have e := Host.reduce_andi_all _ _ _ _ ix0 hc i
    refine finite_of_abs _ ?_
    rw [← Cert.Math.pos_inf]; exact e

end Cert.Pre_finite_logits

end
-- ==== Proof.Fox.Block.lean ====
/- The forgetting attention's block: what one grid point stores, at one element of its block. -/
module

public import Idealize.ShloMosaic.Lib.Pipeline.ValueKit
public import Idealize.ShloMosaic.Lib.Pointwise
public import Idealize.ShloMosaic.Lib.WordCmp
public import proofs.«01_k».proof.Proof.Gen.KernelIdeal.Value
public import proofs.«01_k».proof.Proof.Math.Head

@[expose] public section

set_option maxRecDepth 16384

noncomputable section

namespace Cert.KernelIdeal.Gen

open Idealize.ShloMosaic Idealize.ShloMosaic.TcCoe Idealize.SL.Sem
open Cert.KernelIdeal Cert.Math

/-- The mask of a block: key `k` is seen by row `r` of query tile `i 1` iff `k ≤ 256 · i 1 + r`. -/
theorem mask_at (i : grid0.Coords) (r : Fin 256) (k : Fin 2048) :
    k0_pay2 i (ix2 r k) = if (k : ℕ) ≤ 256 * (i 1 : ℕ) + (r : ℕ) then 1#1 else 0#1 := by
  have h1 : (i 1 : ℕ) < 8 := (i 1).isLt
  pointwise [k0_pay2]
  rw [Scalar.muli, WordCmp.muli_ofNat (w := 32) (i 1 : ℕ) 256, WordCmp.addi_ofNat, WordCmp.cmpi_sle_ofNat (by omega) (by omega),
    WordCmp.ofBool_decide_eq_ite, mul_comm]

/-- The payload of one head, at one of its elements. -/
theorem head_at (mask : IVec S256x2048 1) (q : Vec Ideal S256x128 .bf16) (k : Vec Ideal S2048x128 .bf16)
    (c : Vec Ideal S256x1 .f32) (ct : Vec Ideal S1x1x2048 .f32) (v : Vec Ideal S2048x128 .bf16)
    (g : Vec Ideal S256x128 .f32) (r : Fin 256) (l : Fin 128) :
    k0_pay6 mask q k c ct v g (ix2 r l)
      = headOut (scores (fun j => mask (ix2 r j)) (fun e => q (ix2 r e)) (fun j e => k (ix2 j e)) (c (ix2 r 0))
          (fun j => ct (ix3 0 0 j))) (fun j => v (ix2 j l)) (g (ix2 r l)) := by
  pointwise [k0_pay6, headOut, scores]

/-- The same, from the scalars its operands are read as. -/
theorem head_eq (mask : IVec S256x2048 1) (q : Vec Ideal S256x128 .bf16) (k : Vec Ideal S2048x128 .bf16)
    (c : Vec Ideal S256x1 .f32) (ct : Vec Ideal S1x1x2048 .f32) (v : Vec Ideal S2048x128 .bf16)
    (g : Vec Ideal S256x128 .f32) (x : S256x128.Idx)
    {M : Fin 2048 → BitVec 1} {Q : Fin 128 → EReal} {K : Fin 2048 → Fin 128 → EReal} {C : EReal}
    {T V : Fin 2048 → EReal} {G : EReal}
    (hM : ∀ j, mask (ix2 (x 0) j) = M j) (hQ : ∀ e, q (ix2 (x 0) e) = Q e) (hK : ∀ j e, k (ix2 j e) = K j e)
    (hC : c (ix2 (x 0) 0) = C) (hT : ∀ j, ct (ix3 0 0 j) = T j) (hV : ∀ j, v (ix2 j (x 1)) = V j) (hG : g x = G) :
    k0_pay6 mask q k c ct v g x = headOut (scores M Q K C T) V G := by
  idx_vars x
  have hM' : ∀ j, mask (ix2 x0 j) = M j := hM
  have hQ' : ∀ e, q (ix2 x0 e) = Q e := hQ
  have hC' : c (ix2 x0 0) = C := hC
  have hV' : ∀ j, v (ix2 j x1) = V j := hV
  rw [head_at]
  simp only [hM', hQ', hK, hC', hT, hV', hG]

/-- WHAT ONE GRID POINT STORES: element `y` of its block, in head `h` at feature `d`, is the head formula of row `y 0`
    of the query block, the batch's keys and values of that head, the gates and the output gate. Each of the twelve
    stores is the payload of one head. -/
theorem block_at (i : grid0.Coords) (x0 : Vec Ideal S256x1536 .bf16) (x1 : Vec Ideal S2048x3072 .bf16)
    (x2 : Vec Ideal S256x1536 .f32) (x3 : Vec Ideal S256x128 .f32) (x4 : Vec Ideal S1x16x2048 .f32) (y : S256x1536.Idx)
    (h : Fin 12) (d : Fin 128) (hy : (y 1 : ℕ) = h * 128 + d) :
    out0_5 i x0 x1 x2 x3 x4 y
      = headOut (scores (fun j => if (j : ℕ) ≤ 256 * (i 1 : ℕ) + (y 0 : ℕ) then 1#1 else 0#1)
          (fun e => x0 (ix2 (y 0) ⟨h * 128 + e, by omega⟩)) (fun j e => x1 (ix2 j ⟨h * 256 + e, by omega⟩))
          (x3 (ix2 (y 0) ⟨h, by omega⟩)) (fun j => x4 (ix3 0 ⟨h, by omega⟩ j)))
        (fun j => x1 (ix2 j ⟨h * 256 + 128 + d, by omega⟩)) (x2 y) := by
  canon_tiles x hx
  all_goals refine head_eq _ _ _ _ _ _ _ x (fun j => ?_) (fun e => ?_) (fun j e => ?_) ?_ (fun j => ?_) (fun j => ?_) ?_
  all_goals first
    | (refine (mask_at i _ j).trans ?_; rw [hx0]; done)
    | (pointwise; blk_ext)

end Cert.KernelIdeal.Gen

end
-- ==== Proof.Fox.Value.lean ====
/- The array the forgetting attention's call leaves, element by element. -/
module

public import Idealize.ShloMosaic.Lib.Pipeline.ValueKit
public import Idealize.ShloMosaic.Lib.Pointwise
public import Idealize.ShloMosaic.Lib.Claim
public import proofs.«01_k».proof.Proof.Fox.Block
public import proofs.«01_k».proof.Proof.Fox.Spec

@[expose] public section

set_option maxRecDepth 16384

noncomputable section

namespace Cert.KernelIdeal.Gen

open Idealize.ShloMosaic Idealize.ShloMosaic.TcCoe Idealize.SL.Sem
open Idealize.ShloMosaic.Pipeline (Dat)
open Cert.KernelIdeal Cert.Math Cert.Fox

variable (m : (ℓ : Loc nD τ sig) → Buf (Elt Ideal) ℓ)

/-- The index maps: grid point `t` is query tile `t mod 8` of batch `t / 8`. -/
theorem idx : ∀ t : Fin cfg0.N, win0_0.index t = ![t.val, 0] ∧ win0_1.index t = ![t.val / 8, 0] ∧ win0_2.index t = ![t.val, 0]
    ∧ win0_3.index t = ![t.val, 0] ∧ win0_4.index t = ![t.val / 8, 0, 0] ∧ win0_5.index t = ![t.val, 0]
    ∧ (grid0.coords t 1).val = t.val % 8 ∧ t.val < 32 :=
  (by decide +kernel : ∀ t : Fin grid0.N, _)

/-- The call's result, from its four arguments. -/
def mix (q : Vec Ideal S8192x1536 .bf16) (kv : Vec Ideal S8192x3072 .bf16) (g : Vec Ideal S8192x1536 .f32)
    (c : Vec Ideal S8192x128 .f32) : Vec Ideal S8192x1536 .bf16 := fun j =>
  headOut (row q kv c (j 0) (j 1)) (vals kv (j 0) (j 1)) (g j)

/-- The transposed gates the host lays out, at a head below twelve: the gates themselves. -/
theorem gates_at (c : Dev nD) (b : Fin 4) (h : Fin 16) (j : Fin 2048) (hh : (h : ℕ) < 12) :
    (V m c main_v3 : Vec Ideal S4x16x2048 .f32) (ix3 b h j)
      = (V m c main_arg3 : Vec Ideal S8192x128 .f32) (ix2 ⟨b * 2048 + j, by omega⟩ ⟨h, by omega⟩) := by
  rw [V_main_arg3]
  simp only [V, hostOps0, hostOps0_1, List.flatten_cons, List.flatten_nil, List.append_nil, List.cons_append, List.nil_append,
    StableHlo.TRef.binary, StableHlo.TRef.unary, StableHlo.TRef.toBuf, StableHlo.TRef.ofBuf, cast_eq]
  entry_read
  pointwise
  rw [dif_pos hh]

/-- One element of one block, as that element of the array. -/
theorem point (c : Dev nD) (t : Fin cfg0.N) (y : S256x1536.Idx) :
    out0_5 (grid0.coords t) (iblk m c 0 t) (iblk m c 1 t) (iblk m c 2 t) (iblk m c 3 t) (iblk m c 4 t) y
      = mix (V m c main_arg0) (V m c main_arg1) (V m c main_arg2) (V m c main_arg3) (((cfg0.win 5).blk t).view.emb y) := by
  obtain ⟨i0, i1, i2, i3, i4, i5, it, hN⟩ := idx t
  have h0 : (y 0 : ℕ) < 256 := (y 0).isLt
  have h1 : (y 1 : ℕ) < 1536 := (y 1).isLt
  refine (block_at (grid0.coords t) _ _ _ _ _ y ⟨y 1 / 128, by omega⟩ ⟨y 1 % 128, Nat.mod_lt _ (by omega)⟩ (by simp only; omega)).trans ?_
  unfold mix row vals
  congr 1
  · congr 1
    · funext j; blk_simp [idx t]; exact if_congr (by omega) rfl rfl
    · funext e; blk_ext [iblk, V, idx t]
    · funext j e; blk_ext [iblk, V, idx t]
    · blk_ext [iblk, V, idx t]
    · funext j; blk_simp [iblk, idx t]
      have hg := gates_at m c
      generalize (V m c main_v3 : Vec Ideal S4x16x2048 .f32) = X at hg ⊢
      generalize (V m c main_arg3 : Vec Ideal S8192x128 .f32) = C at hg ⊢
      refine Eq.trans (b := X (ix3 ⟨t / 8, by omega⟩ ⟨y 1 / 128, by omega⟩ j)) ?_ ((hg _ _ _ (by simp only; omega)).trans ?_)
      · blk_ext [idx t]
      · blk_ext
  · funext j; blk_ext [iblk, V, idx t]

/-- THE ARRAY the call leaves. -/
theorem final (c : Dev nD) :
    (dats m 0 c).arrAt 5 (cfgs 0).N = mix (V m c main_arg0) (V m c main_arg1) (V m c main_arg2) (V m c main_arg3) := by
  refine (dats m 0 c).arrAt_eq_of_covers 5 _ (by decide +kernel) fun t _ y => ?_
  blk_simp
  rw [after0_5]
  exact point m c t y

end Cert.KernelIdeal.Gen

end
-- ==== Proof.Math.RowMax.lean ====
/- The row maximum of a rank-4 array over its last axis, and the sum of softmax's exponentials, at an index. -/
module

public import Idealize.ShloMosaic.Lib.Pipeline.ValueKit
public import Idealize.ShloMosaic.Lib.Pointwise

@[expose] public section

noncomputable section

namespace Cert.Math

open Idealize.ShloMosaic

/-- A `reduce` by `max` over the last of four axes is, at an index, the fold of that row's entries. -/
theorem reduceMax_last {A B C N : ℕ} {u : Shape} (s : FVec Ideal ⟨4, ![A, B, C, N]⟩ .f32) (init : u.Idx → EReal)
    (h' : (⟨4, ![A, B, C, N]⟩ : Shape).ReducesTo [3] ⟨3, ![A, B, C]⟩)
    (h : (⟨4, ![A, B, C, N]⟩ : Shape).Reduces [3] ⟨3, ![A, B, C]⟩)
    (hu : 0 < u.numel) (a : Fin A) (b : Fin B) (c : Fin C) :
    Host.reduce (FloatOps.maximumf (F := Ideal) (φ := .f32)) s init h' hu (ix3 a b c)
      = Finset.univ.fold max (init (Shape.Idx.first hu)) (fun k => s (ix4 a b c k)) := by
  rw [Host.reduce_eq_fold_single FloatOps.maximumf s _ h' h hu]
  show Finset.univ.fold max _ _ = _
  congr 1
  funext k
  refine congrArg s (funext fun x => Fin.ext ?_)
  rw [h.lift_val]
  fin_cases x <;> rfl

end Cert.Math

end
-- ==== Proof.Fox.Reference.lean ====
/- The reference of the forgetting attention, read at one element of its result. -/
module

public import Idealize.ShloMosaic.Lib.Pipeline.ValueKit
public import Idealize.ShloMosaic.Lib.Pointwise
public import Idealize.ShloMosaic.Lib.WordCmp
public import proofs.«01_k».proof.Proof.Gen.ReferenceIdeal.Run
public import proofs.«01_k».proof.Proof.Math.RowMax
public import proofs.«01_k».proof.Proof.Fox.Spec

@[expose] public section

set_option maxRecDepth 16384

noncomputable section

namespace Cert.ReferenceIdeal.Value

open Idealize.ShloMosaic Idealize.ShloMosaic.TcCoe Idealize.SL.Sem
open Cert.ReferenceIdeal Cert.ReferenceIdeal.Gen

/-- The reference's masked scores, of every batch, head, query and key, from the queries, the interleaved keys and
    values, and the cumulated log-forget gates. -/
def foxScores (q : FVec Ideal S8192x1536 .bf16) (kv : FVec Ideal S8192x3072 .bf16) (c : FVec Ideal S8192x128 .f32) :
    FVec Ideal S4x12x2048x2048 .f32 :=
  select (broadcastInDim S4x12x2048x2048 ![2, 3] bcast_S2048x2048_S4x12x2048x2048_2_3
      (cmpi .sle (broadcastInDim S2048x2048 ![0, 1] bcast_S1x2048_S2048x2048_0_1 (broadcastInDim S1x2048 ![1] bcast_S2048_S1x2048_1 (iotaInDim S2048 32 0)))
        (broadcastInDim S2048x2048 ![0, 1] bcast_S2048x1_S2048x2048_0_1 (broadcastInDim S2048x1 ![0] bcast_S2048_S2048x1_0 (iotaInDim S2048 32 0)))))
    (subf (addf (mulf (Host.dotGeneral dot_S4x2048x12x128_S4x2048x12x128_S4x12x2048x2048_3_3_1_1_02_02 none
            (shapeCast S4x2048x12x128 (extf .f32 q bitsLt_bf16_f32) shapeCasts_S8192x1536_S4x2048x12x128)
            (shapeCast S4x2048x12x128 (extractStridedSlice S4x2048x12x1x128 ![0, 0, 0, 0, 0] (shapeCast S4x2048x12x2x128 (extf .f32 kv bitsLt_bf16_f32) shapeCasts_S8192x3072_S4x2048x12x2x128) slices_S4x2048x12x2x128_S4x2048x12x1x128_0_0_0_0_0) shapeCasts_S4x2048x12x1x128_S4x2048x12x128))
          (broadcastInDim S4x12x2048x2048 ![] bcast_S_S4x12x2048x2048 (constant S_ .f32 0x3DB504F3#32)))
        (broadcastInDim S4x12x2048x2048 ![0, 1, 2, 3] bcast_S4x12x2048x1_S4x12x2048x2048_0_1_2_3 (broadcastInDim S4x12x2048x1 ![0, 1, 2] bcast_S4x12x2048_S4x12x2048x1_0_1_2
          (transpose S4x12x2048 [0, 2, 1] (extractStridedSlice S4x2048x12 ![0, 0, 0] (shapeCast S4x2048x128 c shapeCasts_S8192x128_S4x2048x128) slices_S4x2048x128_S4x2048x12_0_0_0) transposes_S4x2048x12_S4x12x2048_0_2_1))))
      (broadcastInDim S4x12x2048x2048 ![0, 1, 2, 3] bcast_S4x12x1x2048_S4x12x2048x2048_0_1_2_3 (broadcastInDim S4x12x1x2048 ![0, 1, 3] bcast_S4x12x2048_S4x12x1x2048_0_1_3
        (transpose S4x12x2048 [0, 2, 1] (extractStridedSlice S4x2048x12 ![0, 0, 0] (shapeCast S4x2048x128 c shapeCasts_S8192x128_S4x2048x128) slices_S4x2048x128_S4x2048x12_0_0_0) transposes_S4x2048x12_S4x12x2048_0_2_1))))
    (broadcastInDim S4x12x2048x2048 ![] bcast_S_S4x12x2048x2048 (constant S_ .f32 0xFF800000#32))

/-- Every row's largest score. -/
def foxMax (s : FVec Ideal S4x12x2048x2048 .f32) : FVec Ideal S4x12x2048 .f32 :=
  Host.reduce FloatOps.maximumf s (constant S_ .f32 0xFF800000#32) reducesTo_S4x12x2048x2048_S4x12x2048_d3 h_S_

/-- The exponentials of the scores less their row's largest. -/
def foxExp (s : FVec Ideal S4x12x2048x2048 .f32) (mx : FVec Ideal S4x12x2048 .f32) : FVec Ideal S4x12x2048x2048 .f32 :=
  Host.exp (subf s (broadcastInDim S4x12x2048x2048 ![0, 1, 2, 3] bcast_S4x12x2048x1_S4x12x2048x2048_0_1_2_3 (broadcastInDim S4x12x2048x1 ![0, 1, 2] bcast_S4x12x2048_S4x12x2048x1_0_1_2
    (maximumf (broadcastInDim S4x12x2048 ![] bcast_S_S4x12x2048 (constant S_ .f32 0xFF800000#32)) mx))))

/-- The softmax's probabilities: the exponentials over their row's sum. -/
def foxProb (p : FVec Ideal S4x12x2048x2048 .f32) : FVec Ideal S4x12x2048x2048 .f32 :=
  Host.divf p (broadcastInDim S4x12x2048x2048 ![0, 1, 2, 3] bcast_S4x12x2048x1_S4x12x2048x2048_0_1_2_3 (broadcastInDim S4x12x2048x1 ![0, 1, 2] bcast_S4x12x2048_S4x12x2048x1_0_1_2
    (Host.reduceAdd p (constant S_ .f32 0x00000000#32) reducesTo_S4x12x2048x2048_S4x12x2048_d3 h_S_)))

/-- The values weighted by the probabilities, gated by the SiLU of the output gate. -/
def foxMix (kv : FVec Ideal S8192x3072 .bf16) (p : FVec Ideal S4x12x2048x2048 .f32) (g : FVec Ideal S8192x1536 .f32) :
    FVec Ideal S8192x1536 .bf16 :=
  truncf .bf16 (shapeCast S8192x1536 (mulf (shapeCast S4x2048x1536 (transpose S4x2048x12x128 [0, 3, 1, 2] (Host.dotGeneral dot_S4x2048x12x128_S4x12x2048x2048_S4x12x128x2048_1_3_3_2_02_01 none
        (shapeCast S4x2048x12x128 (extractStridedSlice S4x2048x12x1x128 ![0, 0, 0, 1, 0] (shapeCast S4x2048x12x2x128 (extf .f32 kv bitsLt_bf16_f32) shapeCasts_S8192x3072_S4x2048x12x2x128) slices_S4x2048x12x2x128_S4x2048x12x1x128_0_0_0_1_0) shapeCasts_S4x2048x12x1x128_S4x2048x12x128)
        p) transposes_S4x12x128x2048_S4x2048x12x128_0_3_1_2) shapeCasts_S4x2048x12x128_S4x2048x1536)
      (mulf (shapeCast S4x2048x1536 g shapeCasts_S8192x1536_S4x2048x1536)
        (Host.divf (broadcastInDim S4x2048x1536 ![] bcast_S_S4x2048x1536 (constant S_ .f32 0x3F800000#32))
          (addf (broadcastInDim S4x2048x1536 ![] bcast_S_S4x2048x1536 (constant S_ .f32 0x3F800000#32))
            (Host.exp (Host.negf (shapeCast S4x2048x1536 g shapeCasts_S8192x1536_S4x2048x1536))))))) shapeCasts_S4x2048x1536_S8192x1536) bitsLt_bf16_f32

/-- The probabilities from the scores. -/
def foxSoftmax (s : FVec Ideal S4x12x2048x2048 .f32) : FVec Ideal S4x12x2048x2048 .f32 := foxProb (foxExp s (foxMax s))

/-- The reference's result is the gated mix of the softmax of the scores. -/
theorem res_eq (m : (ℓ : Loc nD τ sig) → Buf (Elt Ideal) ℓ) (c : Dev nD) :
    res_out0 m c = foxMix (m ((c.tc : Thread nD τ).loc main_arg1))
      (foxSoftmax (foxScores (m ((c.tc : Thread nD τ).loc main_arg0)) (m ((c.tc : Thread nD τ).loc main_arg1)) (m ((c.tc : Thread nD τ).loc main_arg3))))
      (m ((c.tc : Thread nD τ).loc main_arg2)) := rfl

/-- A score is the row formula `scores` of the query's row, the batch's keys and its gates. -/
theorem foxScores_at (q : FVec Ideal S8192x1536 .bf16) (kv : FVec Ideal S8192x3072 .bf16) (c : FVec Ideal S8192x128 .f32)
    (b : Fin 4) (h : Fin 12) (i j : Fin 2048) :
    foxScores q kv c (ix4 b h i j)
      = Cert.Math.scores (fun j => if (j : ℕ) ≤ (i : ℕ) then 1#1 else 0#1)
          (fun e => q (ix2 ⟨b * 2048 + i, by omega⟩ ⟨h * 128 + e, by omega⟩))
          (fun j e => kv (ix2 ⟨b * 2048 + j, by omega⟩ ⟨h * 256 + e, by omega⟩))
          (c (ix2 ⟨b * 2048 + i, by omega⟩ ⟨h, by omega⟩)) (fun j => c (ix2 ⟨b * 2048 + j, by omega⟩ ⟨h, by omega⟩)) j := by
  pointwise [foxScores]
  rw [WordCmp.cmpi_sle_ofNat (by omega) (by omega), WordCmp.ofBool_decide_eq_ite]
  rfl

/-- The row maximum, at a row. -/
theorem foxMax_at (s : FVec Ideal S4x12x2048x2048 .f32) (b : Fin 4) (h : Fin 12) (i : Fin 2048) :
    foxMax s (ix3 b h i) = Finset.univ.fold max (Ideal.ofBits .f32 0xFF800000#32) (fun k => s (ix4 b h i k)) :=
  Cert.Math.reduceMax_last s _ reducesTo_S4x12x2048x2048_S4x12x2048_d3 (by decide) h_S_ b h i

theorem foxExp_at (s : FVec Ideal S4x12x2048x2048 .f32) (mx : FVec Ideal S4x12x2048 .f32) (b : Fin 4) (h : Fin 12) (i j : Fin 2048) :
    foxExp s mx (ix4 b h i j) = Ideal.exp (s (ix4 b h i j) - mx (ix3 b h i)) := by
  pointwise [foxExp]
  rw [Cert.Math.neg_inf, bot_sup_eq]

theorem foxProb_at (p : FVec Ideal S4x12x2048x2048 .f32) (b : Fin 4) (h : Fin 12) (i j : Fin 2048) :
    foxProb p (ix4 b h i j) = Ideal.div (p (ix4 b h i j)) (∑ x, p (ix4 b h i x)) := by
  pointwise [foxProb]

/-- A probability: the exponential of the score less its row's largest, over the row's sum. -/
theorem foxSoftmax_at (s : FVec Ideal S4x12x2048x2048 .f32) (b : Fin 4) (h : Fin 12) (i j : Fin 2048) :
    foxSoftmax s (ix4 b h i j)
      = Ideal.div (Ideal.exp (s (ix4 b h i j) - Finset.univ.fold max (Ideal.ofBits .f32 0xFF800000#32) (fun k => s (ix4 b h i k))))
          (∑ x, Ideal.exp (s (ix4 b h i x) - Finset.univ.fold max (Ideal.ofBits .f32 0xFF800000#32) (fun k => s (ix4 b h i k)))) := by
  unfold foxSoftmax
  rw [foxProb_at]
  simp only [foxExp_at, foxMax_at]

theorem foxMix_at (kv : FVec Ideal S8192x3072 .bf16) (p : FVec Ideal S4x12x2048x2048 .f32) (g : FVec Ideal S8192x1536 .f32)
    (r : Fin 8192) (l : Fin 1536) :
    foxMix kv p g (ix2 r l)
      = (∑ x : Fin 2048, kv (ix2 ⟨r / 2048 * 2048 + x, by omega⟩ ⟨l / 128 * 256 + 128 + l % 128, by omega⟩)
            * p (ix4 ⟨r / 2048, by omega⟩ ⟨l / 128, by omega⟩ ⟨r % 2048, by omega⟩ x))
          * (g (ix2 r l) * Ideal.logistic (g (ix2 r l))) := by
  pointwise [foxMix]
  rfl

/-- THE REFERENCE at an element: the head formula `headRef` of that element's scores, values and gate. -/
theorem res_at (m : (ℓ : Loc nD τ sig) → Buf (Elt Ideal) ℓ) (c : Dev nD) (r : Fin 8192) (l : Fin 1536) :
    (res_out0 m c : FVec Ideal S8192x1536 .bf16) (ix2 r l)
      = Cert.Math.headRef (Cert.Fox.row (m ((c.tc : Thread nD τ).loc main_arg0)) (m ((c.tc : Thread nD τ).loc main_arg1)) (m ((c.tc : Thread nD τ).loc main_arg3)) r l)
          (Cert.Fox.vals (m ((c.tc : Thread nD τ).loc main_arg1)) r l)
          ((m ((c.tc : Thread nD τ).loc main_arg2) : FVec Ideal S8192x1536 .f32) (ix2 r l)) := by
  rw [res_eq, foxMix_at]
  simp only [foxSoftmax_at, foxScores_at]
  have hr : (⟨(r : ℕ) / 2048 * 2048 + (r : ℕ) % 2048, by omega⟩ : Fin 8192) = r := Fin.ext (by simp only; omega)
  simp only [hr]
  rfl

end Cert.ReferenceIdeal.Value

end
-- ==== Proof.Proj.Spec.lean ====
/- The projections of a layer in scalars: the normalised row, one column of a product, and the rotary embedding of one
head's product. -/
module

public import Idealize.ShloMosaic.Lib.Pipeline.ValueKit
public import Idealize.ShloMosaic.Lib.Pointwise
public import Idealize.ShloMosaic.Lib.WordCmp
public import Idealize.ShloMosaic.Lib.Claim

@[expose] public section

set_option maxRecDepth 16384

noncomputable section

namespace Cert.Projections

open Idealize.ShloMosaic Idealize.ShloMosaic.TcCoe Idealize.SL.Sem

/-- One feature of a row divided by its root mean square and multiplied by the gain. -/
def rms (x g : Fin 4096 → EReal) (k : Fin 4096) : EReal :=
  x k * Ideal.rsqrt (Ideal.div (∑ i, x i * x i) (Ideal.ofBits .f32 0x45800000#32) + Ideal.ofBits .f32 0x358637BD#32) * g k

/-- One element of a product: a row against a column. -/
def dot (h w : Fin 4096 → EReal) : EReal := ∑ k, h k * w k

/-- The feature half a head away. -/
def half (d : Fin 128) : Fin 128 := ⟨(d + 128 - 64) % 128, Nat.mod_lt _ (by omega)⟩

/-- One element of a product after the rotary embedding, from the head's 128 columns and the position's cosines and
    signed sines. -/
def rot (h : Fin 4096 → EReal) (w : Fin 4096 → Fin 128 → EReal) (c s : Fin 128 → EReal) (d : Fin 128) : EReal :=
  dot h (fun k => w k d) * c d + dot h (fun k => w k (half d)) * s d

/-- Equal operands, equal values. -/
theorem rot_congr {h h' : Fin 4096 → EReal} {w w' : Fin 4096 → Fin 128 → EReal} {c c' s s' : Fin 128 → EReal} {d d' : Fin 128}
    (hh : ∀ k, h k = h' k) (hw : ∀ k e, w k e = w' k e) (hc : ∀ e, c e = c' e) (hs : ∀ e, s e = s' e) (hd : (d : ℕ) = d') :
    rot h w c s d = rot h' w' c' s' d' := by
  obtain rfl := funext hh; obtain rfl := funext fun k => funext (hw k); obtain rfl := funext hc; obtain rfl := funext hs
  obtain rfl := Fin.ext hd
  rfl

/-- The forget gate's logarithm as the kernel spells it: `log (sigmoid z)`. -/
def logSig (z : EReal) : EReal := min z 0 - Ideal.log1p (Ideal.exp (0 - FloatOps.absf (F := Ideal) (φ := .f32) z))

/-! ## The layer's projections -/

/-- The rotary angle of position `s` at frequency `k` of 64: `s · 10000^(-k/64)`. -/
def ang (s : Fin 2048) (k : ℕ) : EReal :=
  FloatOps.sitofp (F := Ideal) .f32 (BitVec.ofNat 32 s) * Ideal.pow (Ideal.ofBits .f32 0x461C4000#32)
    (Ideal.div (-FloatOps.sitofp (F := Ideal) .f32 (BitVec.ofNat 32 k)) (Ideal.ofBits .f32 0x42800000#32))

/-- The table of cosines: each half of a head's 128 features has the 64 frequencies. -/
def cosT (s : Fin 2048) (d : Fin 128) : EReal := if (d : ℕ) < 64 then Ideal.cos (ang s d) else Ideal.cos (ang s (d - 64))

/-- The table of sines, negated in the first half. -/
def sinT (s : Fin 2048) (d : Fin 128) : EReal := if (d : ℕ) < 64 then -Ideal.sin (ang s d) else Ideal.sin (ang s (d - 64))

section Layer

variable (x : Fin 4 → Fin 2048 → Fin 4096 → EReal) (g : Fin 4096 → EReal) (w : Fin 4096 → Fin 18604 → EReal) (bf : Fin 12 → EReal)

/-- Column `n` of the layer's product at position `s` of sequence `b`: the normalised row against the column. -/
def P (b : Fin 4) (s : Fin 2048) (n : Fin 18604) : EReal := dot (rms (x b s) g) (fun k => w k n)

/-- Feature `d` of the 128 columns from `n`, after the rotary embedding. -/
def R (b : Fin 4) (s : Fin 2048) (n : Fin 18477) (d : Fin 128) : EReal :=
  if h : (d : ℕ) < 64 then
    P x g w b s ⟨n + d, by omega⟩ * Ideal.cos (ang s d) - P x g w b s ⟨n + (d + 64), by omega⟩ * Ideal.sin (ang s d)
  else
    P x g w b s ⟨n + d, by omega⟩ * Ideal.cos (ang s (d - 64)) + P x g w b s ⟨n + (d - 64), by omega⟩ * Ideal.sin (ang s (d - 64))

/-- The product with its half-turned neighbour, from the two tables, is the rotary embedding. -/
theorem rot_eq (b : Fin 4) (s : Fin 2048) (n : Fin 18477) (d : Fin 128) :
    rot (rms (x b s) g) (fun k e => w k ⟨n + e, by omega⟩) (cosT s) (sinT s) d = R x g w b s n d := by
  unfold rot cosT sinT R P
  by_cases h : (d : ℕ) < 64
  · have hd : half d = ⟨d + 64, by omega⟩ := Fin.ext (by unfold half; simp only; omega)
    rw [if_pos h, if_pos h, dif_pos h, hd, mul_neg, ← sub_eq_add_neg]
  · have hd : half d = ⟨d - 64, by omega⟩ := Fin.ext (by unfold half; simp only; omega)
    rw [if_neg h, if_neg h, dif_neg h, hd]

/-- The logarithm of forget gate `h`. -/
def gate (b : Fin 4) (s : Fin 2048) (h : Fin 12) : EReal := logSig (P x g w b s ⟨6144 + h, by omega⟩ + bf h)

/-- The sequence of a row of the flat arrays, and its position there. -/
def seqOf (r : Fin 8192) : Fin 4 := ⟨r / 2048, by omega⟩
def posOf (r : Fin 8192) : Fin 2048 := ⟨r % 2048, Nat.mod_lt _ (by omega)⟩

/-! ### The fourteen results -/

def aq (r : Fin 8192) (l : Fin 1536) : EReal := P x g w (seqOf r) (posOf r) ⟨l, by omega⟩
def akv (b : Fin 4) (s : Fin 2048) (t : Fin 2) (h : Fin 12) (d : Fin 128) : EReal :=
  P x g w b s ⟨1536 + t * 1536 + h * 128 + d, by omega⟩
def ag (r : Fin 8192) (l : Fin 1536) : EReal := P x g w (seqOf r) (posOf r) ⟨4608 + l, by omega⟩
def pb (r : Fin 8192) (l : Fin 2048) : EReal := P x g w (seqOf r) (posOf r) ⟨6156 + l, by omega⟩
def cq (r : Fin 8192) (l : Fin 1536) : EReal :=
  R x g w (seqOf r) (posOf r) ⟨8204 + l / 128 * 128, by omega⟩ ⟨l % 128, Nat.mod_lt _ (by omega)⟩
def ckv (b : Fin 4) (s : Fin 2048) (t : Fin 2) (h : Fin 12) (d : Fin 128) : EReal :=
  if (t : ℕ) = 0 then R x g w b s ⟨9740 + h * 128, by omega⟩ d else P x g w b s ⟨11276 + h * 128 + d, by omega⟩
def cg (r : Fin 8192) (l : Fin 1536) : EReal := P x g w (seqOf r) (posOf r) ⟨12812 + l, by omega⟩
def iq (r : Fin 8192) (l : Fin 4096) : EReal :=
  R x g w (seqOf r) (posOf r) ⟨14348 + l / 128 * 128, by omega⟩ ⟨l % 128, Nat.mod_lt _ (by omega)⟩
def iw (b : Fin 4) (s : Fin 2048) (h : Fin 32) : EReal := P x g w b s ⟨18572 + h, by omega⟩
def ik (b : Fin 4) (s : Fin 2048) (d : Fin 128) : EReal := R x g w b s ⟨18444, by omega⟩ d
def pool (b : Fin 4) (s : Fin 15) (l : Fin 1024) : EReal := P x g w b ⟨2033 + s, by omega⟩ ⟨6156 + l, by omega⟩

/-- The flat array of keys and values has a head's 128 keys and then its 128 values. -/
def flat (f : Fin 4 → Fin 2048 → Fin 2 → Fin 12 → Fin 128 → EReal) (r : Fin 8192) (l : Fin 3072) : EReal :=
  f (seqOf r) (posOf r) ⟨l / 128 % 2, Nat.mod_lt _ (by omega)⟩ ⟨l / 256, by omega⟩ ⟨l % 128, Nat.mod_lt _ (by omega)⟩

end Layer

end Cert.Projections

end
-- ==== Proof.Proj.Norm.lean ====
/- The normalisation call: the array it leaves. -/
module

public import Idealize.ShloMosaic.Lib.Pipeline.ValueKit
public import Idealize.ShloMosaic.Lib.Pointwise
public import Idealize.ShloMosaic.Lib.WordCmp
public import Idealize.ShloMosaic.Lib.Claim
public import proofs.«01_k».proof.Proof.Gen.ProjIdeal.Frame.Region0
public import proofs.«01_k».proof.Proof.Proj.Spec

@[expose] public section

set_option maxRecDepth 16384

noncomputable section

namespace Cert.ProjIdeal.Gen

open Idealize.ShloMosaic Idealize.ShloMosaic.TcCoe Idealize.SL.Sem
open Cert.ProjIdeal Cert.Projections

variable (V : (c : Dev nD) → (b : Ref sig .tc) → Buf (Elt Ideal) ((c : Thread nD τ).loc b))

/-- One element of one block. -/
theorem norm_at (x : Vec Ideal S256x4096 .f32) (g : Vec Ideal S1x4096 .f32) (y : S256x4096.Idx) :
    out0_2 x g y = rms (fun k => x (ix2 (y 0) k)) (fun k => g (ix2 0 k)) (y 1) := by
  canon_tiles z hz
  idx_vars z
  have e0 : y 0 = z0 := Fin.ext hz0
  have e1 : y 1 = z1 := Fin.ext hz1
  rw [e0, e1]
  unfold rms
  pointwise [k0_pay1]

/-- The index maps. -/
theorem idx0 : ∀ t : Fin cfg0.N, win0_0.index t = ![t.val, 0] ∧ win0_1.index t = ![0, 0] ∧ win0_2.index t = ![t.val, 0] :=
  (by decide +kernel : ∀ t : Fin grid0.N, _)

/-- The normalised rows. -/
def normed (X : Vec Ideal S8192x4096 .f32) (G : Vec Ideal S1x4096 .f32) : Vec Ideal S8192x4096 .bf16 := fun j =>
  rms (fun k => X (ix2 (j 0) k)) (fun k => G (ix2 0 k)) (j 1)

/-- THE ARRAY the normalisation leaves. -/
theorem final0 (c : Dev nD) : (dat0 V c).arrAt 2 cfg0.N = normed (V c main_v0) (V c main_v1) := by
  refine (dat0 V c).arrAt_eq_of_covers 2 _ (by decide +kernel) fun t _ y => ?_
  blk_simp
  rw [after0_2]
  refine (norm_at _ _ _).trans ?_
  unfold normed
  congr 1
  · funext k; blk_ext [iblk0, idx0 t]
  · funext k; blk_ext [iblk0, idx0 t]
  · exact Fin.ext (by blk_simp [idx0 t])

end Cert.ProjIdeal.Gen

end
-- ==== Proof.Proj.Plain.lean ====
/- The four plain projections: the arrays they leave. -/
module

public import Idealize.ShloMosaic.Lib.Pipeline.ValueKit
public import Idealize.ShloMosaic.Lib.Pointwise
public import Idealize.ShloMosaic.Lib.WordCmp
public import Idealize.ShloMosaic.Lib.Claim
public import proofs.«01_k».proof.Proof.Gen.ProjIdeal.Frame.Region1
public import proofs.«01_k».proof.Proof.Gen.ProjIdeal.Frame.Region3
public import proofs.«01_k».proof.Proof.Gen.ProjIdeal.Frame.Region4
public import proofs.«01_k».proof.Proof.Gen.ProjIdeal.Frame.Region7
public import proofs.«01_k».proof.Proof.Proj.Spec

@[expose] public section

set_option maxRecDepth 16384

noncomputable section

namespace Cert.ProjIdeal.Gen

open Idealize.ShloMosaic Idealize.ShloMosaic.TcCoe Idealize.SL.Sem
open Cert.ProjIdeal Cert.Projections

variable (V : (c : Dev nD) → (b : Ref sig .tc) → Buf (Elt Ideal) ((c : Thread nD τ).loc b))

/-- One element of a block of the queries' product. -/
theorem plain1_at (x : Vec Ideal S1024x4096 .bf16) (w : Vec Ideal S4096x512 .bf16) (y : S1024x512.Idx) :
    out1_2 x w y = dot (fun k => x (ix2 (y 0) k)) (fun k => w (ix2 k (y 1))) := by
  canon_tiles z hz
  idx_vars z
  have e0 : y 0 = z0 := Fin.ext hz0
  have e1 : y 1 = z1 := Fin.ext hz1
  rw [e0, e1]
  unfold dot
  pointwise [k1_pay1]

/-- One element of a block of a product kept in full precision. -/
theorem plain3_at (x : Vec Ideal S1024x4096 .bf16) (w : Vec Ideal S4096x512 .bf16) (y : S1024x512.Idx) :
    out3_2 x w y = dot (fun k => x (ix2 (y 0) k)) (fun k => w (ix2 k (y 1))) := by
  canon_tiles z hz
  idx_vars z
  have e0 : y 0 = z0 := Fin.ext hz0
  have e1 : y 1 = z1 := Fin.ext hz1
  rw [e0, e1]
  unfold dot
  pointwise [k3_pay1]

/-- The other two full-precision products store the same block. -/
theorem plain4_eq : out4_2 (F := Ideal) = out3_2 := rfl
theorem plain7_eq : out7_2 (F := Ideal) = out3_2 := rfl

/-- The index maps: the column blocks run fastest. -/
theorem idx1 : ∀ t : Fin cfg1.N, win1_0.index t = ![t.val / 3, 0] ∧ win1_1.index t = ![0, t.val % 3]
    ∧ win1_2.index t = ![t.val / 3, t.val % 3] := (by decide +kernel : ∀ t : Fin grid1.N, _)
theorem idx3 : ∀ t : Fin cfg3.N, win3_0.index t = ![t.val / 3, 0] ∧ win3_1.index t = ![0, t.val % 3]
    ∧ win3_2.index t = ![t.val / 3, t.val % 3] := (by decide +kernel : ∀ t : Fin grid3.N, _)
theorem idx4 : ∀ t : Fin cfg4.N, win4_0.index t = ![t.val / 4, 0] ∧ win4_1.index t = ![0, t.val % 4]
    ∧ win4_2.index t = ![t.val / 4, t.val % 4] := (by decide +kernel : ∀ t : Fin grid4.N, _)
theorem idx7 : ∀ t : Fin cfg7.N, win7_0.index t = ![t.val / 3, 0] ∧ win7_1.index t = ![0, t.val % 3]
    ∧ win7_2.index t = ![t.val / 3, t.val % 3] := (by decide +kernel : ∀ t : Fin grid7.N, _)

/-- The product of the rows with a matrix of `n` columns. -/
def prod {n : ℕ} (X : Vec Ideal S8192x4096 .bf16) (W : Fin 4096 → Fin n → EReal) (r : Fin 8192) (l : Fin n) : EReal :=
  dot (fun k => X (ix2 r k)) (fun k => W k l)

/-- THE ARRAY of the forgetting heads' queries. -/
theorem final1 (c : Dev nD) : (dat1 V c).arrAt 2 cfg1.N = (fun j : S8192x1536.Idx =>
    prod (V c main_v2) (fun k l => (V c main_v11 : Vec Ideal S4096x1536 .bf16) (ix2 k l)) (j 0) (j 1) : Vec Ideal S8192x1536 .bf16) := by
  refine (dat1 V c).arrAt_eq_of_covers 2 _ (by decide +kernel) fun t _ y => ?_
  blk_simp
  rw [after1_2]
  refine (plain1_at _ _ _).trans (congrArg₂ dot (funext fun k => ?_) (funext fun k => ?_))
  all_goals blk_ext [iblk1, idx1 t]

/-- THE ARRAY of the forgetting heads' output gates. -/
theorem final3 (c : Dev nD) : (dat3 V c).arrAt 2 cfg3.N = (fun j : S8192x1536.Idx =>
    prod (V c main_v2) (fun k l => (V c main_v20 : Vec Ideal S4096x1536 .bf16) (ix2 k l)) (j 0) (j 1) : Vec Ideal S8192x1536 .f32) := by
  refine (dat3 V c).arrAt_eq_of_covers 2 _ (by decide +kernel) fun t _ y => ?_
  blk_simp
  rw [after3_2]
  refine (plain3_at _ _ _).trans (congrArg₂ dot (funext fun k => ?_) (funext fun k => ?_))
  all_goals blk_ext [iblk3, idx3 t]

/-- THE ARRAY of the pooling heads' inputs. -/
theorem final4 (c : Dev nD) : (dat4 V c).arrAt 2 cfg4.N = (fun j : S8192x2048.Idx =>
    prod (V c main_v2) (fun k l => (V c main_v22 : Vec Ideal S4096x2048 .bf16) (ix2 k l)) (j 0) (j 1) : Vec Ideal S8192x2048 .f32) := by
  refine (dat4 V c).arrAt_eq_of_covers 2 _ (by decide +kernel) fun t _ y => ?_
  blk_simp
  rw [after4_2, plain4_eq]
  refine (plain3_at _ _ _).trans (congrArg₂ dot (funext fun k => ?_) (funext fun k => ?_))
  all_goals blk_ext [iblk4, idx4 t]

/-- THE ARRAY of the sparse heads' output gates. -/
theorem final7 (c : Dev nD) : (dat7 V c).arrAt 2 cfg7.N = (fun j : S8192x1536.Idx =>
    prod (V c main_v2) (fun k l => (V c main_v33 : Vec Ideal S4096x1536 .bf16) (ix2 k l)) (j 0) (j 1) : Vec Ideal S8192x1536 .f32) := by
  refine (dat7 V c).arrAt_eq_of_covers 2 _ (by decide +kernel) fun t _ y => ?_
  blk_simp
  rw [after7_2, plain7_eq]
  refine (plain3_at _ _ _).trans (congrArg₂ dot (funext fun k => ?_) (funext fun k => ?_))
  all_goals blk_ext [iblk7, idx7 t]

end Cert.ProjIdeal.Gen

end
-- ==== Proof.Proj.Kv.lean ====
/- The forgetting heads' keys and values: the two arrays their projection leaves. -/
module

public import Idealize.ShloMosaic.Lib.Pipeline.ValueKit
public import Idealize.ShloMosaic.Lib.Pointwise
public import Idealize.ShloMosaic.Lib.WordCmp
public import Idealize.ShloMosaic.Lib.Claim
public import proofs.«01_k».proof.Proof.Gen.ProjIdeal.Frame.Region2
public import proofs.«01_k».proof.Proof.Proj.Spec

@[expose] public section

set_option maxRecDepth 16384

noncomputable section

namespace Cert.ProjIdeal.Gen

open Idealize.ShloMosaic Idealize.ShloMosaic.TcCoe Idealize.SL.Sem
open Cert.ProjIdeal Cert.Projections

variable (V : (c : Dev nD) → (b : Ref sig .tc) → Buf (Elt Ideal) ((c : Thread nD τ).loc b))

/-- One element of a block of the array by heads. -/
theorem kv_at (x : Vec Ideal S1024x4096 .bf16) (w : Vec Ideal S4096x1024 .bf16) (y : S1024x8x128.Idx) (l : Fin 1024)
    (hl : (l : ℕ) = y 1 * 128 + y 2) :
    out2_2 x w y = dot (fun k => x (ix2 (y 0) k)) (fun k => w (ix2 k l)) := by
  unfold dot
  canon_tiles z hz
  all_goals (open_payloads; pointwise; blk_point)

/-- One element of a block of the flat array. -/
theorem kvb_at (x : Vec Ideal S1024x4096 .bf16) (w : Vec Ideal S4096x1024 .bf16) (y : S1024x1024.Idx) :
    out2_3 x w y = dot (fun k => x (ix2 (y 0) k)) (fun k => w (ix2 k (y 1))) := by
  unfold dot
  canon_tiles z hz
  all_goals (open_payloads; pointwise; blk_point)

/-- The index maps. -/
theorem idx2 : ∀ t : Fin cfg2.N, win2_0.index t = ![t.val / 3, 0] ∧ win2_1.index t = ![0, t.val % 3]
    ∧ win2_2.index t = ![t.val / 3, t.val % 3, 0] ∧ win2_3.index t = ![t.val / 3, t.val % 3] :=
  (by decide +kernel : ∀ t : Fin grid2.N, _)

/-- Feature `d` of head `h` among the flat array's columns. -/
def kvCol (h : Fin 24) (d : Fin 128) : Fin 3072 := ⟨h * 128 + d, by omega⟩

/-- THE ARRAY by heads. -/
theorem final2 (c : Dev nD) : (dat2 V c).arrAt 2 cfg2.N = (fun j : S8192x24x128.Idx =>
    dot (fun k => (V c main_v2 : Vec Ideal S8192x4096 .bf16) (ix2 (j 0) k))
      (fun k => (V c main_v18 : Vec Ideal S4096x3072 .bf16) (ix2 k (kvCol (j 1) (j 2)))) : Vec Ideal S8192x24x128 .f32) := by
  refine (dat2 V c).arrAt_eq_of_covers 2 _ (by decide +kernel) fun t _ y => ?_
  have h1 : (y 1 : ℕ) < 8 := (y 1).isLt
  have h2 : (y 2 : ℕ) < 128 := (y 2).isLt
  blk_simp
  rw [after2_2]
  refine (kv_at _ _ _ ⟨y 1 * 128 + y 2, by omega⟩ rfl).trans (congrArg₂ dot (funext fun k => ?_) (funext fun k => ?_))
  all_goals blk_ext [iblk2, idx2 t, kvCol]

/-- THE FLAT ARRAY. -/
theorem final2b (c : Dev nD) : (dat2 V c).arrAt 3 cfg2.N = (fun j : S8192x3072.Idx =>
    dot (fun k => (V c main_v2 : Vec Ideal S8192x4096 .bf16) (ix2 (j 0) k))
      (fun k => (V c main_v18 : Vec Ideal S4096x3072 .bf16) (ix2 k (j 1))) : Vec Ideal S8192x3072 .bf16) := by
  refine (dat2 V c).arrAt_eq_of_covers 3 _ (by decide +kernel) fun t _ y => ?_
  blk_simp
  rw [after2_3]
  refine (kvb_at _ _ _).trans (congrArg₂ dot (funext fun k => ?_) (funext fun k => ?_))
  all_goals blk_ext [iblk2, idx2 t]

end Cert.ProjIdeal.Gen

end
-- ==== Proof.Proj.KvRope.lean ====
/- The sparse heads' keys and values: the two arrays their projection leaves. -/
module

public import Idealize.ShloMosaic.Lib.Pipeline.ValueKit
public import Idealize.ShloMosaic.Lib.Pointwise
public import Idealize.ShloMosaic.Lib.WordCmp
public import Idealize.ShloMosaic.Lib.Claim
public import proofs.«01_k».proof.Proof.Gen.ProjIdeal.Frame.Region6
public import proofs.«01_k».proof.Proof.Proj.Kv
public import proofs.«01_k».proof.Proof.Proj.Spec

@[expose] public section

set_option maxRecDepth 16384

noncomputable section

namespace Cert.ProjIdeal.Gen

open Idealize.ShloMosaic Idealize.ShloMosaic.TcCoe Idealize.SL.Sem
open Cert.ProjIdeal Cert.Projections

variable (V : (c : Dev nD) → (b : Ref sig .tc) → Buf (Elt Ideal) ((c : Thread nD τ).loc b))

/-- A key, rotated, or a value, as it is: every other chunk of 128 columns is a head's keys. -/
def rotEven (p : ℕ) (h : Fin 4096 → EReal) (w : Fin 4096 → Fin 128 → EReal) (c s : Fin 128 → EReal) (d : Fin 128) : EReal :=
  if p % 2 = 0 then rot h w c s d else dot h (fun k => w k d)

theorem rotEven_congr {p p' : ℕ} {h h' : Fin 4096 → EReal} {w w' : Fin 4096 → Fin 128 → EReal} {c c' s s' : Fin 128 → EReal}
    {d d' : Fin 128} (hp : p % 2 = p' % 2) (hh : ∀ k, h k = h' k) (hw : ∀ k e, w k e = w' k e) (hc : ∀ e, c e = c' e)
    (hs : ∀ e, s e = s' e) (hd : (d : ℕ) = d') : rotEven p h w c s d = rotEven p' h' w' c' s' d' := by
  obtain rfl := funext hh; obtain rfl := funext fun k => funext (hw k); obtain rfl := funext hc; obtain rfl := funext hs
  obtain rfl := Fin.ext hd
  unfold rotEven; rw [hp]

/-- One element of a block of the array by heads. -/
theorem kvr_at (x : Vec Ideal S1024x4096 .bf16) (w : Vec Ideal S4096x1024 .bf16) (c s : Vec Ideal S1024x128 .f32)
    (y : S1024x8x128.Idx) (j : Fin 8) (d : Fin 128) (hj : (y 1 : ℕ) = j) (hd : (y 2 : ℕ) = d) :
    out6_4 x w c s y = rotEven j (fun k => x (ix2 (y 0) k)) (fun k e => w (ix2 k ⟨j * 128 + e, by omega⟩))
      (fun e => c (ix2 (y 0) e)) (fun e => s (ix2 (y 0) e)) d := by
  unfold rotEven rot dot half
  canon_tiles z hz
  all_goals first
    | (rw [if_pos (by omega)]; open_payloads; pointwise; blk_point; done)
    | (rw [if_neg (by omega)]; open_payloads; pointwise; blk_point; done)

/-- One element of a block of the flat array. -/
theorem kvrb_at (x : Vec Ideal S1024x4096 .bf16) (w : Vec Ideal S4096x1024 .bf16) (c s : Vec Ideal S1024x128 .f32)
    (y : S1024x1024.Idx) (j : Fin 8) (d : Fin 128) (hy : (y 1 : ℕ) = j * 128 + d) :
    out6_5 x w c s y = rotEven j (fun k => x (ix2 (y 0) k)) (fun k e => w (ix2 k ⟨j * 128 + e, by omega⟩))
      (fun e => c (ix2 (y 0) e)) (fun e => s (ix2 (y 0) e)) d := by
  unfold rotEven rot dot half
  canon_tiles z hz
  all_goals first
    | (rw [if_pos (by omega)]; open_payloads; pointwise; blk_point; done)
    | (rw [if_neg (by omega)]; open_payloads; pointwise; blk_point; done)

/-- The index maps. -/
theorem idx6 : ∀ t : Fin cfg6.N, win6_0.index t = ![t.val / 3, 0] ∧ win6_1.index t = ![0, t.val % 3]
    ∧ win6_2.index t = ![t.val / 3 % 2, 0] ∧ win6_3.index t = ![t.val / 3 % 2, 0]
    ∧ win6_4.index t = ![t.val / 3, t.val % 3, 0] ∧ win6_5.index t = ![t.val / 3, t.val % 3] :=
  (by decide +kernel : ∀ t : Fin grid6.N, _)

/-- Feature `d` of chunk `h` of one row: row `r` is at position `r % 2048` of its sequence. -/
def kvrArr (X : Vec Ideal S8192x4096 .bf16) (W : Vec Ideal S4096x3072 .bf16) (C S : Vec Ideal S2048x128 .f32)
    (r : Fin 8192) (h : Fin 24) (d : Fin 128) : EReal :=
  rotEven h (fun k => X (ix2 r k)) (fun k e => W (ix2 k (kvCol h e)))
    (fun e => C (ix2 ⟨r % 2048, Nat.mod_lt _ (by omega)⟩ e)) (fun e => S (ix2 ⟨r % 2048, Nat.mod_lt _ (by omega)⟩ e)) d

/-- The operands of a block's element, as the arrays' elements. -/
theorem kvr_pt (c : Dev nD) (t : Fin cfg6.N) (r : Fin 1024) (j : Fin 8) (d : Fin 128) (R : Fin 8192) (H : Fin 24) (D : Fin 128)
    (hR : (R : ℕ) = t / 3 * 1024 + r) (hH : (H : ℕ) = t % 3 * 8 + j) (hD : (d : ℕ) = D) :
    rotEven j (fun k => (iblk6 V c 0 t : Vec Ideal S1024x4096 .bf16) (ix2 r k))
      (fun k e => (iblk6 V c 1 t : Vec Ideal S4096x1024 .bf16) (ix2 k ⟨j * 128 + e, by omega⟩))
      (fun e => (iblk6 V c 2 t : Vec Ideal S1024x128 .f32) (ix2 r e))
      (fun e => (iblk6 V c 3 t : Vec Ideal S1024x128 .f32) (ix2 r e)) d
      = kvrArr (V c main_v2) (V c main_v31) (V c main_v53) (V c main_v55) R H D := by
  unfold kvrArr
  refine rotEven_congr (by omega) (fun k => ?_) (fun k e => ?_) (fun e => ?_) (fun e => ?_) hD
  all_goals blk_ext [iblk6, idx6 t, kvCol]

/-- THE ARRAY by heads. -/
theorem final6 (c : Dev nD) : (dat6 V c).arrAt 4 cfg6.N = (fun j : S8192x24x128.Idx =>
    kvrArr (V c main_v2) (V c main_v31) (V c main_v53) (V c main_v55) (j 0) (j 1) (j 2) : Vec Ideal S8192x24x128 .f32) := by
  refine (dat6 V c).arrAt_eq_of_covers 4 _ (by decide +kernel) fun t _ y => ?_
  blk_simp
  rw [after6_4]
  refine (kvr_at _ _ _ _ y (y 1) (y 2) rfl rfl).trans (kvr_pt V c t _ _ _ _ _ _ ?_ ?_ ?_)
  all_goals (blk_simp [idx6 t] <;> try omega)

/-- THE FLAT ARRAY. -/
theorem final6b (c : Dev nD) : (dat6 V c).arrAt 5 cfg6.N = (fun j : S8192x3072.Idx =>
    kvrArr (V c main_v2) (V c main_v31) (V c main_v53) (V c main_v55) (j 0) ⟨j 1 / 128, by have : (j 1 : ℕ) < 3072 := (j 1).isLt; omega⟩
      ⟨j 1 % 128, Nat.mod_lt _ (by omega)⟩ : Vec Ideal S8192x3072 .bf16) := by
  refine (dat6 V c).arrAt_eq_of_covers 5 _ (by decide +kernel) fun t _ y => ?_
  have h1 : (y 1 : ℕ) < 1024 := (y 1).isLt
  blk_simp
  rw [after6_5]
  have e0 : (((cfg6.win 5).blk t).view.emb y 0 : ℕ) = t / 3 * 1024 + y 0 := by blk_simp [idx6 t] <;> try omega
  have e1 : win6_5.index t 1 = t % 3 := by rw [(idx6 t).2.2.2.2.2]; rfl
  refine (kvrb_at _ _ _ _ y ⟨y 1 / 128, by omega⟩ ⟨y 1 % 128, Nat.mod_lt _ (by omega)⟩ (by simp only; omega)).trans
    (kvr_pt V c t _ _ _ _ _ _ e0 ?_ ?_)
  all_goals (simp only [e1]; omega)

end Cert.ProjIdeal.Gen

end
-- ==== Proof.Proj.Rope.lean ====
/- The sparse heads' queries and the indexer's queries: the arrays their projections leave. -/
module

public import Idealize.ShloMosaic.Lib.Pipeline.ValueKit
public import Idealize.ShloMosaic.Lib.Pointwise
public import Idealize.ShloMosaic.Lib.WordCmp
public import Idealize.ShloMosaic.Lib.Claim
public import proofs.«01_k».proof.Proof.Gen.ProjIdeal.Frame.Region5
public import proofs.«01_k».proof.Proof.Gen.ProjIdeal.Frame.Region8
public import proofs.«01_k».proof.Proof.Proj.Spec

@[expose] public section

set_option maxRecDepth 16384

noncomputable section

namespace Cert.ProjIdeal.Gen

open Idealize.ShloMosaic Idealize.ShloMosaic.TcCoe Idealize.SL.Sem
open Cert.ProjIdeal Cert.Projections

variable (V : (c : Dev nD) → (b : Ref sig .tc) → Buf (Elt Ideal) ((c : Thread nD τ).loc b))

/-- The index maps: the column blocks run fastest, and the position tables repeat every other row block. -/
theorem idx5 : ∀ t : Fin cfg5.N, win5_0.index t = ![t.val / 3, 0] ∧ win5_1.index t = ![0, t.val % 3]
    ∧ win5_2.index t = ![t.val / 3 % 2, 0] ∧ win5_3.index t = ![t.val / 3 % 2, 0] ∧ win5_4.index t = ![t.val / 3, t.val % 3] :=
  (by decide +kernel : ∀ t : Fin grid5.N, _)
theorem idx8 : ∀ t : Fin cfg8.N, win8_0.index t = ![t.val / 8, 0] ∧ win8_1.index t = ![0, t.val % 8]
    ∧ win8_2.index t = ![t.val / 8 % 2, 0] ∧ win8_3.index t = ![t.val / 8 % 2, 0] ∧ win8_4.index t = ![t.val / 8, t.val % 8] :=
  (by decide +kernel : ∀ t : Fin grid8.N, _)

/-- One element of the rotated product of the rows with a matrix of `J` heads of 128 columns; row `r` is at position
    `r % 2048` of its sequence. -/
def rotArr {n J : ℕ} (X : Vec Ideal S8192x4096 .bf16) (W : Fin 4096 → Fin n → EReal) (C S : Vec Ideal S2048x128 .f32)
    (hn : n = J * 128) (r : Fin 8192) (l : Fin n) : EReal :=
  rot (fun k => X (ix2 r k)) (fun k e => W k ⟨l / 128 * 128 + e, by omega⟩)
    (fun e => C (ix2 ⟨r % 2048, Nat.mod_lt _ (by omega)⟩ e)) (fun e => S (ix2 ⟨r % 2048, Nat.mod_lt _ (by omega)⟩ e))
    ⟨l % 128, Nat.mod_lt _ (by omega)⟩

/-- One element of a block of the sparse heads' queries. -/
theorem rope5_at (c : Dev nD) (t : Fin cfg5.N) (y : S1024x512.Idx) (j : Fin 4) (d : Fin 128) (hy : (y 1 : ℕ) = j * 128 + d) :
    outsAt5 V c t y = rot (fun k => (iblk5 V c 0 t : Vec Ideal S1024x4096 .bf16) (ix2 (y 0) k))
      (fun k e => (iblk5 V c 1 t : Vec Ideal S4096x512 .bf16) (ix2 k ⟨j * 128 + e, by omega⟩))
      (fun e => (iblk5 V c 2 t : Vec Ideal S1024x128 .f32) (ix2 (y 0) e))
      (fun e => (iblk5 V c 3 t : Vec Ideal S1024x128 .f32) (ix2 (y 0) e)) d := by
  unfold outsAt5
  frame_out
  generalize (iblk5 V c 0 t : Vec Ideal S1024x4096 .bf16) = X
  generalize (iblk5 V c 1 t : Vec Ideal S4096x512 .bf16) = W
  generalize (iblk5 V c 2 t : Vec Ideal S1024x128 .f32) = C
  generalize (iblk5 V c 3 t : Vec Ideal S1024x128 .f32) = S
  unfold rot dot half
  canon_tiles z hz
  all_goals (open_payloads; pointwise; blk_point)

/-- The operands of a block's element, as the arrays' elements. -/
theorem rope5_pt (c : Dev nD) (t : Fin cfg5.N) (r : Fin 1024) (j : Fin 4) (d : Fin 128) (R : Fin 8192) (L : Fin 1536)
    (hR : (R : ℕ) = t / 3 * 1024 + r) (hj : (L : ℕ) / 128 = t % 3 * 4 + j) (hd : (L : ℕ) % 128 = d) :
    rot (fun k => (iblk5 V c 0 t : Vec Ideal S1024x4096 .bf16) (ix2 r k))
      (fun k e => (iblk5 V c 1 t : Vec Ideal S4096x512 .bf16) (ix2 k ⟨j * 128 + e, by omega⟩))
      (fun e => (iblk5 V c 2 t : Vec Ideal S1024x128 .f32) (ix2 r e))
      (fun e => (iblk5 V c 3 t : Vec Ideal S1024x128 .f32) (ix2 r e)) d
      = rotArr (V c main_v2) (fun k l => (V c main_v24 : Vec Ideal S4096x1536 .bf16) (ix2 k l)) (V c main_v53) (V c main_v55)
          (by omega : 1536 = 12 * 128) R L := by
  unfold rotArr
  refine rot_congr (fun k => ?_) (fun k e => ?_) (fun e => ?_) (fun e => ?_) hd.symm
  all_goals blk_ext [iblk5, idx5 t]

/-- THE ARRAY of the sparse heads' queries. -/
theorem final5 (c : Dev nD) : (dat5 V c).arrAt 4 cfg5.N = (fun j : S8192x1536.Idx =>
    rotArr (V c main_v2) (fun k l => (V c main_v24 : Vec Ideal S4096x1536 .bf16) (ix2 k l)) (V c main_v53) (V c main_v55) (by omega : 1536 = 12 * 128) (j 0) (j 1)
      : Vec Ideal S8192x1536 .bf16) := by
  refine (dat5 V c).arrAt_eq_of_covers 4 _ (by decide +kernel) fun t _ y => ?_
  have h0 : (y 0 : ℕ) < 1024 := (y 0).isLt
  have h1 : (y 1 : ℕ) < 512 := (y 1).isLt
  blk_simp
  rw [after5_4]
  have e0 : (((cfg5.win 4).blk t).view.emb y 0 : ℕ) = t / 3 * 1024 + y 0 := by blk_simp [idx5 t] <;> try omega
  have e1 : (((cfg5.win 4).blk t).view.emb y 1 : ℕ) = t % 3 * 512 + y 1 := by blk_simp [idx5 t] <;> try omega
  refine (rope5_at V c t y ⟨y 1 / 128, by omega⟩ ⟨y 1 % 128, Nat.mod_lt _ (by omega)⟩ (by simp only; omega)).trans
    (rope5_pt V c t _ _ _ _ _ e0 ?_ ?_)
  · rw [e1]; simp only; omega
  · rw [e1]; simp only; omega

/-- One element of a block of the indexer's queries. -/
theorem rope8_at (c : Dev nD) (t : Fin cfg8.N) (y : S1024x512.Idx) (j : Fin 4) (d : Fin 128) (hy : (y 1 : ℕ) = j * 128 + d) :
    outsAt8 V c t y = rot (fun k => (iblk8 V c 0 t : Vec Ideal S1024x4096 .bf16) (ix2 (y 0) k))
      (fun k e => (iblk8 V c 1 t : Vec Ideal S4096x512 .bf16) (ix2 k ⟨j * 128 + e, by omega⟩))
      (fun e => (iblk8 V c 2 t : Vec Ideal S1024x128 .f32) (ix2 (y 0) e))
      (fun e => (iblk8 V c 3 t : Vec Ideal S1024x128 .f32) (ix2 (y 0) e)) d := by
  unfold outsAt8
  frame_out
  generalize (iblk8 V c 0 t : Vec Ideal S1024x4096 .bf16) = X
  generalize (iblk8 V c 1 t : Vec Ideal S4096x512 .bf16) = W
  generalize (iblk8 V c 2 t : Vec Ideal S1024x128 .f32) = C
  generalize (iblk8 V c 3 t : Vec Ideal S1024x128 .f32) = S
  unfold rot dot half
  canon_tiles z hz
  all_goals (open_payloads; pointwise; blk_point)

/-- The operands of a block's element, as the arrays' elements. -/
theorem rope8_pt (c : Dev nD) (t : Fin cfg8.N) (r : Fin 1024) (j : Fin 4) (d : Fin 128) (R : Fin 8192) (L : Fin 4096)
    (hR : (R : ℕ) = t / 8 * 1024 + r) (hj : (L : ℕ) / 128 = t % 8 * 4 + j) (hd : (L : ℕ) % 128 = d) :
    rot (fun k => (iblk8 V c 0 t : Vec Ideal S1024x4096 .bf16) (ix2 r k))
      (fun k e => (iblk8 V c 1 t : Vec Ideal S4096x512 .bf16) (ix2 k ⟨j * 128 + e, by omega⟩))
      (fun e => (iblk8 V c 2 t : Vec Ideal S1024x128 .f32) (ix2 r e))
      (fun e => (iblk8 V c 3 t : Vec Ideal S1024x128 .f32) (ix2 r e)) d
      = rotArr (V c main_v2) (fun k l => (V c main_v35 : Vec Ideal S4096x4096 .bf16) (ix2 k l)) (V c main_v53) (V c main_v55)
          (by omega : 4096 = 32 * 128) R L := by
  unfold rotArr
  refine rot_congr (fun k => ?_) (fun k e => ?_) (fun e => ?_) (fun e => ?_) hd.symm
  all_goals blk_ext [iblk8, idx8 t]

/-- THE ARRAY of the indexer's queries. -/
theorem final8 (c : Dev nD) : (dat8 V c).arrAt 4 cfg8.N = (fun j : S8192x4096.Idx =>
    rotArr (V c main_v2) (fun k l => (V c main_v35 : Vec Ideal S4096x4096 .bf16) (ix2 k l)) (V c main_v53) (V c main_v55) (by omega : 4096 = 32 * 128) (j 0) (j 1)
      : Vec Ideal S8192x4096 .bf16) := by
  refine (dat8 V c).arrAt_eq_of_covers 4 _ (by decide +kernel) fun t _ y => ?_
  have h0 : (y 0 : ℕ) < 1024 := (y 0).isLt
  have h1 : (y 1 : ℕ) < 512 := (y 1).isLt
  blk_simp
  rw [after8_4]
  have e0 : (((cfg8.win 4).blk t).view.emb y 0 : ℕ) = t / 8 * 1024 + y 0 := by blk_simp [idx8 t] <;> try omega
  have e1 : (((cfg8.win 4).blk t).view.emb y 1 : ℕ) = t % 8 * 512 + y 1 := by blk_simp [idx8 t] <;> try omega
  refine (rope8_at V c t y ⟨y 1 / 128, by omega⟩ ⟨y 1 % 128, Nat.mod_lt _ (by omega)⟩ (by simp only; omega)).trans
    (rope8_pt V c t _ _ _ _ _ e0 ?_ ?_)
  · rw [e1]; simp only; omega
  · rw [e1]; simp only; omega

end Cert.ProjIdeal.Gen

end
-- ==== Proof.Proj.Small.lean ====
/- The forget gates, the indexer's weights and its key: the array their projection leaves. -/
module

public import Idealize.ShloMosaic.Lib.Pipeline.ValueKit
public import Idealize.ShloMosaic.Lib.Pointwise
public import Idealize.ShloMosaic.Lib.WordCmp
public import Idealize.ShloMosaic.Lib.Claim
public import proofs.«01_k».proof.Proof.Gen.ProjIdeal.Frame.Region9
public import proofs.«01_k».proof.Proof.Proj.Spec

@[expose] public section

set_option maxRecDepth 16384

noncomputable section

namespace Cert.ProjIdeal.Gen

open Idealize.ShloMosaic Idealize.ShloMosaic.TcCoe Idealize.SL.Sem
open Cert.ProjIdeal Cert.Projections

variable (V : (c : Dev nD) → (b : Ref sig .tc) → Buf (Elt Ideal) ((c : Thread nD τ).loc b))

/-- Column `l` of the 384: a gate's logarithm, a weight as it is, or a feature of the rotated key. -/
def small (h : Fin 4096 → EReal) (w : Fin 4096 → Fin 384 → EReal) (c s b : Fin 128 → EReal) (l : Fin 384) : EReal :=
  if h0 : (l : ℕ) < 128 then logSig (dot h (fun k => w k l) + b ⟨l, h0⟩)
  else if h1 : (l : ℕ) < 256 then dot h (fun k => w k l)
  else rot h (fun k e => w k ⟨256 + e, by omega⟩) c s ⟨l - 256, by omega⟩

/-- One element of a block. -/
theorem small_at (x : Vec Ideal S1024x4096 .bf16) (w : Vec Ideal S4096x384 .bf16) (c s : Vec Ideal S1024x128 .f32)
    (b : Vec Ideal S1x128 .f32) (y : S1024x384.Idx) :
    out9_5 x w c s b y = small (fun k => x (ix2 (y 0) k)) (fun k l => w (ix2 k l)) (fun e => c (ix2 (y 0) e))
      (fun e => s (ix2 (y 0) e)) (fun e => b (ix2 0 e)) (y 1) := by
  unfold small logSig rot dot half
  canon_tiles z hz
  · rw [dif_neg (by omega), dif_neg (by omega)]
    open_payloads; pointwise; blk_point
  · rw [dif_neg (by omega), dif_pos (by omega)]
    open_payloads; pointwise; blk_point
  · rw [dif_pos (by omega)]
    open_payloads; pointwise; blk_point

/-- The index maps. -/
theorem idx9 : ∀ t : Fin cfg9.N, win9_0.index t = ![t.val, 0] ∧ win9_1.index t = ![0, 0]
    ∧ win9_2.index t = ![t.val % 2, 0] ∧ win9_3.index t = ![t.val % 2, 0] ∧ win9_4.index t = ![0, 0] ∧ win9_5.index t = ![t.val, 0] :=
  (by decide +kernel : ∀ t : Fin grid9.N, _)

/-- THE ARRAY the call leaves. -/
def smallArr (X : Vec Ideal S8192x4096 .bf16) (W : Vec Ideal S4096x384 .bf16) (C S : Vec Ideal S2048x128 .f32)
    (B : Vec Ideal S1x128 .f32) : Vec Ideal S8192x384 .f32 := fun j =>
  small (fun k => X (ix2 (j 0) k)) (fun k l => W (ix2 k l)) (fun e => C (ix2 ⟨(j 0 : Fin 8192) % 2048, Nat.mod_lt _ (by omega)⟩ e))
    (fun e => S (ix2 ⟨(j 0 : Fin 8192) % 2048, Nat.mod_lt _ (by omega)⟩ e)) (fun e => B (ix2 0 e)) (j 1)

theorem small_congr {h h' : Fin 4096 → EReal} {w w' : Fin 4096 → Fin 384 → EReal} {c c' s s' b b' : Fin 128 → EReal}
    {l l' : Fin 384} (hh : ∀ k, h k = h' k) (hw : ∀ k e, w k e = w' k e) (hc : ∀ e, c e = c' e) (hs : ∀ e, s e = s' e)
    (hb : ∀ e, b e = b' e) (hl : l = l') : small h w c s b l = small h' w' c' s' b' l' := by
  obtain rfl := funext hh; obtain rfl := funext fun k => funext (hw k); obtain rfl := funext hc; obtain rfl := funext hs
  obtain rfl := funext hb; obtain rfl := hl
  rfl

/-- The operands of a block's element, as the array's element. -/
theorem small_pt (c : Dev nD) (t : Fin cfg9.N) (r : Fin 1024) (R : Fin 8192) (l : Fin 384) (hR : (R : ℕ) = t * 1024 + r) :
    small (fun k => (iblk9 V c 0 t : Vec Ideal S1024x4096 .bf16) (ix2 r k))
      (fun k e => (iblk9 V c 1 t : Vec Ideal S4096x384 .bf16) (ix2 k e))
      (fun e => (iblk9 V c 2 t : Vec Ideal S1024x128 .f32) (ix2 r e))
      (fun e => (iblk9 V c 3 t : Vec Ideal S1024x128 .f32) (ix2 r e))
      (fun e => (iblk9 V c 4 t : Vec Ideal S1x128 .f32) (ix2 0 e)) l
      = smallArr (V c main_v2) (V c main_v9) (V c main_v53) (V c main_v55) (V c main_v37) (ix2 R l) := by
  unfold smallArr
  refine small_congr (fun k => ?_) (fun k e => ?_) (fun e => ?_) (fun e => ?_) (fun e => ?_) rfl
  all_goals blk_ext [iblk9, idx9 t]

theorem final9 (c : Dev nD) : (dat9 V c).arrAt 5 cfg9.N
    = smallArr (V c main_v2) (V c main_v9) (V c main_v53) (V c main_v55) (V c main_v37) := by
  refine (dat9 V c).arrAt_eq_of_covers 5 _ (by decide +kernel) fun t _ y => ?_
  blk_simp
  rw [after9_5]
  have e0 : (((cfg9.win 5).blk t).view.emb y 0 : ℕ) = t * 1024 + y 0 := by blk_simp [idx9 t] <;> try omega
  refine (small_at _ _ _ _ _ _).trans ((small_pt V c t _ _ _ e0).trans (congrArg _ ?_))
  blk_ext [idx9 t]

end Cert.ProjIdeal.Gen

end
-- ==== Proof.Proj.Host.lean ====
/- What the host operations around the calls lay out: the weights, the position tables, the results' final shapes. -/
module

public import Idealize.ShloMosaic.Lib.Pipeline.ValueKit
public import Idealize.ShloMosaic.Lib.Pointwise
public import Idealize.ShloMosaic.Lib.WordCmp
public import Idealize.ShloMosaic.Lib.Claim
public import proofs.«01_k».proof.Proof.Gen.ProjIdeal.Frame.Hosts0
public import proofs.«01_k».proof.Proof.Proj.Spec

@[expose] public section

set_option maxRecDepth 16384

noncomputable section

namespace Cert.ProjIdeal.Gen

open Idealize.ShloMosaic Idealize.ShloMosaic.TcCoe Idealize.SL.Sem
open Cert.ProjIdeal Cert.Projections

open StableHlo (after)

variable (V0 : Valuation τ sig (Elt Ideal))

/-- The layer's input, its gain, its weights and its gate offsets, by coordinates. -/
def argX (b : Fin 4) (s : Fin 2048) (k : Fin 4096) : EReal := (V0 (Proc.devRef .tc main_arg0) : Vec Ideal S4x2048x4096 .f32) (ix3 b s k)
def argG (k : Fin 4096) : EReal := (V0 (Proc.devRef .tc main_arg1) : Vec Ideal S4096 .f32) (ix1 k)
def argW (k : Fin 4096) (n : Fin 18604) : EReal := (V0 (Proc.devRef .tc main_arg2) : Vec Ideal S4096x18604 .f32) (ix2 k n)
def argB (h : Fin 12) : EReal := (V0 (Proc.devRef .tc main_arg3) : Vec Ideal S12 .f32) (ix1 h)

/-! ## Before the normalisation -/

theorem x_at (r : Fin 8192) (k : Fin 4096) :
    (after hostOps0 V0 (Proc.devRef .tc main_v0) : Vec Ideal S8192x4096 .f32) (ix2 r k) = argX V0 (seqOf r) (posOf r) k := by
  unfold argX seqOf posOf
  simp only [hostOps0]
  entry_read
  pointwise

theorem g_at (k : Fin 4096) : (after hostOps0 V0 (Proc.devRef .tc main_v1) : Vec Ideal S1x4096 .f32) (ix2 0 k) = argG V0 k := by
  unfold argG
  simp only [hostOps0]
  entry_read
  pointwise

/-! ## The weights of each call -/

theorem w_aq (k : Fin 4096) (l : Fin 1536) : (after hostOps1 V0 (Proc.devRef .tc main_v11) : Vec Ideal S4096x1536 .bf16) (ix2 k l)
    = argW V0 k ⟨l, by omega⟩ := by
  unfold argW
  simp only [hostOps1]
  entry_read
  pointwise

theorem w_ag (k : Fin 4096) (l : Fin 1536) : (after hostOps1 V0 (Proc.devRef .tc main_v20) : Vec Ideal S4096x1536 .bf16) (ix2 k l)
    = argW V0 k ⟨4608 + l, by omega⟩ := by
  unfold argW
  simp only [hostOps1]
  entry_read
  pointwise

theorem w_b (k : Fin 4096) (l : Fin 2048) : (after hostOps1 V0 (Proc.devRef .tc main_v22) : Vec Ideal S4096x2048 .bf16) (ix2 k l)
    = argW V0 k ⟨6156 + l, by omega⟩ := by
  unfold argW
  simp only [hostOps1]
  entry_read
  pointwise

theorem w_cq (k : Fin 4096) (l : Fin 1536) : (after hostOps1 V0 (Proc.devRef .tc main_v24) : Vec Ideal S4096x1536 .bf16) (ix2 k l)
    = argW V0 k ⟨8204 + l, by omega⟩ := by
  unfold argW
  simp only [hostOps1]
  entry_read
  pointwise

theorem w_cg (k : Fin 4096) (l : Fin 1536) : (after hostOps1 V0 (Proc.devRef .tc main_v33) : Vec Ideal S4096x1536 .bf16) (ix2 k l)
    = argW V0 k ⟨12812 + l, by omega⟩ := by
  unfold argW
  simp only [hostOps1]
  entry_read
  pointwise

theorem w_iq (k : Fin 4096) (l : Fin 4096) : (after hostOps1 V0 (Proc.devRef .tc main_v35) : Vec Ideal S4096x4096 .bf16) (ix2 k l)
    = argW V0 k ⟨14348 + l, by omega⟩ := by
  unfold argW
  simp only [hostOps1]
  entry_read
  pointwise

/-- A head's 128 columns of keys, then its 128 columns of values. -/
theorem w_akv (k : Fin 4096) (l : Fin 3072) : (after hostOps1 V0 (Proc.devRef .tc main_v18) : Vec Ideal S4096x3072 .bf16) (ix2 k l)
    = argW V0 k ⟨1536 + l / 128 % 2 * 1536 + l / 256 * 128 + l % 128, by omega⟩ := by
  unfold argW
  simp only [hostOps1]
  entry_read
  pointwise
  split <;> blk_ext

/-- A head's 128 columns of keys, then its 128 columns of values. -/
theorem w_ckv (k : Fin 4096) (l : Fin 3072) : (after hostOps1 V0 (Proc.devRef .tc main_v31) : Vec Ideal S4096x3072 .bf16) (ix2 k l)
    = argW V0 k ⟨9740 + l / 128 % 2 * 1536 + l / 256 * 128 + l % 128, by omega⟩ := by
  unfold argW
  simp only [hostOps1]
  entry_read
  pointwise
  split <;> blk_ext

/-- A run of host operations in two parts. -/
theorem after_split (n : ℕ) : ∀ (ops : List (HloOp τ sig (Elt Ideal))) (V : Valuation τ sig (Elt Ideal)),
    after ops V = after (ops.drop n) (after (ops.take n) V) := by
  induction n with
  | zero => intro ops V; rfl
  | succ n ih =>
    intro ops V
    cases ops with
    | nil => rfl
    | cons op ops => exact ih ops _

/-- The five pieces of the small call's weights, side by side. -/
theorem cat_at (U : Valuation τ sig (Elt Ideal)) (k : Fin 4096) (l : Fin 384) :
    (after ((hostOps1.take 8).drop 7) U (Proc.devRef .tc main_v8) : Vec Ideal S4096x384 .f32) (ix2 k l)
      = if h0 : (l : ℕ) < 12 then (U (Proc.devRef .tc main_v3) : Vec Ideal S4096x12 .f32) (ix2 k ⟨l, h0⟩)
        else if h1 : (l : ℕ) < 128 then (U (Proc.devRef .tc main_v4) : Vec Ideal S4096x116 .f32) (ix2 k ⟨l - 12, by omega⟩)
        else if h2 : (l : ℕ) < 160 then (U (Proc.devRef .tc main_v5) : Vec Ideal S4096x32 .f32) (ix2 k ⟨l - 128, by omega⟩)
        else if h3 : (l : ℕ) < 256 then (U (Proc.devRef .tc main_v6) : Vec Ideal S4096x96 .f32) (ix2 k ⟨l - 160, by omega⟩)
        else (U (Proc.devRef .tc main_v7) : Vec Ideal S4096x128 .f32) (ix2 k ⟨l - 256, by omega⟩) := by
  simp only [hostOps1, List.take, List.drop, StableHlo.after_cons, StableHlo.after_nil]
  rw [StableHlo.nary_result]
  show concatenate S4096x384 1 [⟨S4096x12, (U (Proc.devRef .tc main_v3) : Vec Ideal S4096x12 .f32)⟩, ⟨S4096x116, (U (Proc.devRef .tc main_v4) : Vec Ideal S4096x116 .f32)⟩,
    ⟨S4096x32, (U (Proc.devRef .tc main_v5) : Vec Ideal S4096x32 .f32)⟩, ⟨S4096x96, (U (Proc.devRef .tc main_v6) : Vec Ideal S4096x96 .f32)⟩,
    ⟨S4096x128, (U (Proc.devRef .tc main_v7) : Vec Ideal S4096x128 .f32)⟩] _ (ix2 k l) = _
  pointwise
  refine dite_congr (propext (by omega)) (fun _ => by blk_ext) fun h0 => ?_
  refine dite_congr (propext (by omega)) (fun _ => by blk_ext) fun h1 => ?_
  refine dite_congr (propext (by omega)) (fun _ => by blk_ext) fun h2 => ?_
  exact dite_congr (propext (by omega)) (fun _ => by blk_ext) fun h3 => by blk_ext

/-- The 384 columns of the small call: the gates, the indexer's weights and its key, padded with zeros between. -/
theorem w_small (k : Fin 4096) (l : Fin 384) : (after hostOps1 V0 (Proc.devRef .tc main_v9) : Vec Ideal S4096x384 .bf16) (ix2 k l)
    = if h0 : (l : ℕ) < 12 then argW V0 k ⟨6144 + l, by omega⟩
      else if h1 : (l : ℕ) < 128 then (0 : EReal)
      else if h2 : (l : ℕ) < 160 then argW V0 k ⟨18572 + (l - 128), by omega⟩
      else if h3 : (l : ℕ) < 256 then (0 : EReal)
      else argW V0 k ⟨18444 + (l - 256), by omega⟩ := by
  unfold argW
  rw [after_split 8]
  refine Eq.trans (b := (after (hostOps1.take 8) V0 (Proc.devRef .tc main_v8) : Vec Ideal S4096x384 .f32) (ix2 k l)) ?_ ?_
  · generalize after (hostOps1.take 8) V0 = U
    simp only [hostOps1, List.drop]
    entry_read
    pointwise
  · rw [after_split 7]
    refine (cat_at _ k l).trans ?_
    simp only [hostOps1, List.take]
    entry_read
    pointwise

/-! ## The gates' offsets and the position tables -/

theorem b_at (h : Fin 12) : (after hostOps1_1 V0 (Proc.devRef .tc main_v36) : Vec Ideal S128 .f32) (ix1 ⟨h, by omega⟩) = argB V0 h := by
  unfold argB
  simp only [hostOps1_1, StableHlo.TRef.binary, StableHlo.TRef.unary, StableHlo.TRef.toBuf, StableHlo.TRef.ofBuf, cast_eq]
  entry_read
  pointwise

theorem b2_at (d : Fin 128) : (after hostOps1_2 V0 (Proc.devRef .tc main_v37) : Vec Ideal S1x128 .f32) (ix2 0 d)
    = (V0 (Proc.devRef .tc main_v36) : Vec Ideal S128 .f32) (ix1 d) := by
  simp only [hostOps1_2]
  entry_read
  pointwise

theorem cos_at (s : Fin 2048) (d : Fin 128) :
    (after hostOps1_2 V0 (Proc.devRef .tc main_v53) : Vec Ideal S2048x128 .f32) (ix2 s d) = cosT s d := by
  unfold cosT ang
  simp only [hostOps1_2]
  entry_read
  pointwise
  rfl

theorem sin_at (s : Fin 2048) (d : Fin 128) :
    (after hostOps1_2 V0 (Proc.devRef .tc main_v55) : Vec Ideal S2048x128 .f32) (ix2 s d) = sinT s d := by
  unfold sinT ang
  simp only [hostOps1_2]
  entry_read
  pointwise
  rfl

/-! ## After the last call -/

theorem akv_out (b : Fin 4) (s : Fin 2048) (t : Fin 2) (h : Fin 12) (d : Fin 128) :
    (after hostOps10 V0 (Proc.devRef .tc main_v67) : Vec Ideal S4x2048x2x12x128 .f32) (ix5 b s t h d)
      = (V0 (Proc.devRef .tc main_v57_0) : Vec Ideal S8192x24x128 .f32) (ix3 ⟨b * 2048 + s, by omega⟩ ⟨h * 2 + t, by omega⟩ d) := by
  simp only [hostOps10]
  entry_read
  pointwise
  blk_ext

theorem ckv_out (b : Fin 4) (s : Fin 2048) (t : Fin 2) (h : Fin 12) (d : Fin 128) :
    (after hostOps10 V0 (Proc.devRef .tc main_v69) : Vec Ideal S4x2048x2x12x128 .f32) (ix5 b s t h d)
      = (V0 (Proc.devRef .tc main_v61_0) : Vec Ideal S8192x24x128 .f32) (ix3 ⟨b * 2048 + s, by omega⟩ ⟨h * 2 + t, by omega⟩ d) := by
  simp only [hostOps10]
  entry_read
  pointwise
  blk_ext

theorem logf_out (b : Fin 4) (s : Fin 2048) (h : Fin 12) :
    (after hostOps10 V0 (Proc.devRef .tc main_v70) : Vec Ideal S4x2048x12 .f32) (ix3 b s h)
      = (V0 (Proc.devRef .tc main_v64) : Vec Ideal S8192x384 .f32) (ix2 ⟨b * 2048 + s, by omega⟩ ⟨h, by omega⟩) := by
  simp only [hostOps10]
  entry_read
  pointwise
  blk_ext

theorem iw_out (b : Fin 4) (s : Fin 2048) (h : Fin 32) :
    (after hostOps10 V0 (Proc.devRef .tc main_v71) : Vec Ideal S4x2048x32 .f32) (ix3 b s h)
      = (V0 (Proc.devRef .tc main_v64) : Vec Ideal S8192x384 .f32) (ix2 ⟨b * 2048 + s, by omega⟩ ⟨128 + h, by omega⟩) := by
  simp only [hostOps10]
  entry_read
  pointwise
  blk_ext

theorem ik_out (b : Fin 4) (s : Fin 2048) (d : Fin 128) :
    (after hostOps10 V0 (Proc.devRef .tc main_v72) : Vec Ideal S4x2048x128 .f32) (ix3 b s d)
      = (V0 (Proc.devRef .tc main_v64) : Vec Ideal S8192x384 .f32) (ix2 ⟨b * 2048 + s, by omega⟩ ⟨256 + d, by omega⟩) := by
  simp only [hostOps10]
  entry_read
  pointwise
  blk_ext

theorem pool_out (b : Fin 4) (s : Fin 15) (l : Fin 1024) :
    (after hostOps10 V0 (Proc.devRef .tc main_v74) : Vec Ideal S4x15x1024 .f32) (ix3 b s l)
      = (V0 (Proc.devRef .tc main_v59) : Vec Ideal S8192x2048 .f32) (ix2 ⟨b * 2048 + (2033 + s), by omega⟩ ⟨l, by omega⟩) := by
  simp only [hostOps10]
  entry_read
  pointwise
  blk_ext

end Cert.ProjIdeal.Gen

end
-- ==== Proof.Proj.Entry.lean ====
/- The arrays between the calls: what each call reads, and what it leaves, in terms of the layer's arguments. -/
module

public import Idealize.ShloMosaic.Lib.Pipeline.ValueKit
public import Idealize.ShloMosaic.Lib.Pointwise
public import Idealize.ShloMosaic.Lib.WordCmp
public import Idealize.ShloMosaic.Lib.Claim
public import proofs.«01_k».proof.Proof.Gen.ProjIdeal.Frame.Fold0
public import proofs.«01_k».proof.Proof.Proj.Norm
public import proofs.«01_k».proof.Proof.Proj.Plain
public import proofs.«01_k».proof.Proof.Proj.Kv
public import proofs.«01_k».proof.Proof.Proj.KvRope
public import proofs.«01_k».proof.Proof.Proj.Rope
public import proofs.«01_k».proof.Proof.Proj.Small
public import proofs.«01_k».proof.Proof.Proj.Host

@[expose] public section

set_option maxRecDepth 16384

noncomputable section

namespace Cert.ProjIdeal.Gen

open Idealize.ShloMosaic Idealize.ShloMosaic.TcCoe Idealize.SL.Sem
open Cert.ProjIdeal Cert.Projections

variable (m : (ℓ : Loc nD τ sig) → Buf (Elt Ideal) ℓ) (ρ : Dev nD → PrngReg) (c : Dev nD)

/-! ## What a call leaves alone -/

/-- The arrays the calls read and, in order, those they leave. -/
def ins : List (Ref sig .tc) := [main_v2, main_v9, main_v11, main_v18, main_v20, main_v22, main_v24, main_v31, main_v33, main_v35, main_v37, main_v53, main_v55]
theorem keep6 (r : Ref sig .tc) (h : r ∈ ins) : W6 m ρ c (Proc.devRef .tc r) = W5 m ρ c (Proc.devRef .tc r) :=
  W6_of m ρ c r ((by decide +kernel : ∀ r ∈ ins, ∀ w : Fin cfg1.W,
    Pipeline.arrRef spec1 w = r → (cfg1.win w).isOut = false) r h)
theorem keep7 (r : Ref sig .tc) (h : r ∈ ins ++ [main_v56]) : W7 m ρ c (Proc.devRef .tc r) = W6 m ρ c (Proc.devRef .tc r) :=
  W7_of m ρ c r ((by decide +kernel : ∀ r ∈ ins ++ [main_v56], ∀ w : Fin cfg2.W,
    Pipeline.arrRef spec2 w = r → (cfg2.win w).isOut = false) r h)
theorem keep8 (r : Ref sig .tc) (h : r ∈ ins ++ [main_v56, main_v57_0, main_v57_1]) : W8 m ρ c (Proc.devRef .tc r) = W7 m ρ c (Proc.devRef .tc r) :=
  W8_of m ρ c r ((by decide +kernel : ∀ r ∈ ins ++ [main_v56, main_v57_0, main_v57_1], ∀ w : Fin cfg3.W,
    Pipeline.arrRef spec3 w = r → (cfg3.win w).isOut = false) r h)
theorem keep9 (r : Ref sig .tc) (h : r ∈ ins ++ [main_v56, main_v57_0, main_v57_1, main_v58]) : W9 m ρ c (Proc.devRef .tc r) = W8 m ρ c (Proc.devRef .tc r) :=
  W9_of m ρ c r ((by decide +kernel : ∀ r ∈ ins ++ [main_v56, main_v57_0, main_v57_1, main_v58], ∀ w : Fin cfg4.W,
    Pipeline.arrRef spec4 w = r → (cfg4.win w).isOut = false) r h)
theorem keep10 (r : Ref sig .tc) (h : r ∈ ins ++ [main_v56, main_v57_0, main_v57_1, main_v58, main_v59]) : W10 m ρ c (Proc.devRef .tc r) = W9 m ρ c (Proc.devRef .tc r) :=
  W10_of m ρ c r ((by decide +kernel : ∀ r ∈ ins ++ [main_v56, main_v57_0, main_v57_1, main_v58, main_v59], ∀ w : Fin cfg5.W,
    Pipeline.arrRef spec5 w = r → (cfg5.win w).isOut = false) r h)
theorem keep11 (r : Ref sig .tc) (h : r ∈ ins ++ [main_v56, main_v57_0, main_v57_1, main_v58, main_v59, main_v60]) : W11 m ρ c (Proc.devRef .tc r) = W10 m ρ c (Proc.devRef .tc r) :=
  W11_of m ρ c r ((by decide +kernel : ∀ r ∈ ins ++ [main_v56, main_v57_0, main_v57_1, main_v58, main_v59, main_v60], ∀ w : Fin cfg6.W,
    Pipeline.arrRef spec6 w = r → (cfg6.win w).isOut = false) r h)
theorem keep12 (r : Ref sig .tc) (h : r ∈ ins ++ [main_v56, main_v57_0, main_v57_1, main_v58, main_v59, main_v60, main_v61_0, main_v61_1]) : W12 m ρ c (Proc.devRef .tc r) = W11 m ρ c (Proc.devRef .tc r) :=
  W12_of m ρ c r ((by decide +kernel : ∀ r ∈ ins ++ [main_v56, main_v57_0, main_v57_1, main_v58, main_v59, main_v60, main_v61_0, main_v61_1], ∀ w : Fin cfg7.W,
    Pipeline.arrRef spec7 w = r → (cfg7.win w).isOut = false) r h)
theorem keep13 (r : Ref sig .tc) (h : r ∈ ins ++ [main_v56, main_v57_0, main_v57_1, main_v58, main_v59, main_v60, main_v61_0, main_v61_1, main_v62]) : W13 m ρ c (Proc.devRef .tc r) = W12 m ρ c (Proc.devRef .tc r) :=
  W13_of m ρ c r ((by decide +kernel : ∀ r ∈ ins ++ [main_v56, main_v57_0, main_v57_1, main_v58, main_v59, main_v60, main_v61_0, main_v61_1, main_v62], ∀ w : Fin cfg8.W,
    Pipeline.arrRef spec8 w = r → (cfg8.win w).isOut = false) r h)
theorem keep14 (r : Ref sig .tc) (h : r ∈ ins ++ [main_v56, main_v57_0, main_v57_1, main_v58, main_v59, main_v60, main_v61_0, main_v61_1, main_v62, main_v63]) : W14 m ρ c (Proc.devRef .tc r) = W13 m ρ c (Proc.devRef .tc r) :=
  W14_of m ρ c r ((by decide +kernel : ∀ r ∈ ins ++ [main_v56, main_v57_0, main_v57_1, main_v58, main_v59, main_v60, main_v61_0, main_v61_1, main_v62, main_v63], ∀ w : Fin cfg9.W,
    Pipeline.arrRef spec9 w = r → (cfg9.win w).isOut = false) r h)

/-! ## The calls' operands -/

local notation "X" => argX (W0 m ρ c)
local notation "G" => argG (W0 m ρ c)
local notation "Wt" => argW (W0 m ρ c)
local notation "Bf" => argB (W0 m ρ c)

theorem argW2 : argW (W2 m ρ c) = Wt := by
  funext k n
  exact congrFun (((W2_of m ρ c main_arg2 (by decide +kernel)).trans (W1_of m ρ c main_arg2 (by decide))) :
    (W2 m ρ c (Proc.devRef .tc main_arg2) : Vec Ideal S4096x18604 .f32) = _) (ix2 k n)

theorem argB3 : argB (W3 m ρ c) = Bf := by
  funext n
  exact congrFun (((W3_of m ρ c main_arg3 (by decide)).trans ((W2_of m ρ c main_arg3 (by decide +kernel)).trans (W1_of m ρ c main_arg3 (by decide)))) :
    (W3 m ρ c (Proc.devRef .tc main_arg3) : Vec Ideal S12 .f32) = _) (ix1 n)

/-- The normalised rows, at the first projection's entry. -/
theorem h_at (r : Fin 8192) (k : Fin 4096) :
    (W5 m ρ c (Proc.devRef .tc main_v2) : Vec Ideal S8192x4096 .bf16) (ix2 r k) = rms (X (seqOf r) (posOf r)) G k := by
  have e : (W5 m ρ c (Proc.devRef .tc main_v2) : Vec Ideal S8192x4096 .bf16) = normed (V1 m ρ c main_v0) (V1 m ρ c main_v1) :=
    (W5_of m ρ c main_v2 (by decide)).trans ((W4_of m ρ c main_v2 (by decide)).trans ((W3_of m ρ c main_v2 (by decide)).trans
      ((W2_arr m ρ c 2).trans (final0 (V1 m ρ) c))))
  refine (congrFun e (ix2 r k)).trans ?_
  exact congrArg₂ (fun a b => rms a b k) (funext fun i => x_at (W0 m ρ c) r i) (funext fun i => g_at (W0 m ρ c) i)

/-- A host-prepared matrix at the first projection's entry holds what the host laid out. -/
theorem lay (r : Ref sig .tc) (h4 : r ∉ hostOps1_1_W) (h5 : r ∉ hostOps1_2_W) :
    W5 m ρ c (Proc.devRef .tc r) = StableHlo.after hostOps1 (W2 m ρ c) (Proc.devRef .tc r) :=
  (W5_of m ρ c r h5).trans (W4_of m ρ c r h4)

theorem aq_at (k : Fin 4096) (l : Fin 1536) : (W5 m ρ c (Proc.devRef .tc main_v11) : Vec Ideal S4096x1536 .bf16) (ix2 k l) = Wt k ⟨l, by omega⟩ :=
  (congrFun (lay m ρ c main_v11 (by decide) (by decide)) (ix2 k l)).trans
    ((w_aq (W2 m ρ c) k l).trans (congrFun (congrFun (argW2 m ρ c) k) _))

theorem ag_at (k : Fin 4096) (l : Fin 1536) : (W5 m ρ c (Proc.devRef .tc main_v20) : Vec Ideal S4096x1536 .bf16) (ix2 k l) = Wt k ⟨4608 + l, by omega⟩ :=
  (congrFun (lay m ρ c main_v20 (by decide) (by decide)) (ix2 k l)).trans
    ((w_ag (W2 m ρ c) k l).trans (congrFun (congrFun (argW2 m ρ c) k) _))

theorem pb_at (k : Fin 4096) (l : Fin 2048) : (W5 m ρ c (Proc.devRef .tc main_v22) : Vec Ideal S4096x2048 .bf16) (ix2 k l) = Wt k ⟨6156 + l, by omega⟩ :=
  (congrFun (lay m ρ c main_v22 (by decide) (by decide)) (ix2 k l)).trans
    ((w_b (W2 m ρ c) k l).trans (congrFun (congrFun (argW2 m ρ c) k) _))

theorem cq_at (k : Fin 4096) (l : Fin 1536) : (W5 m ρ c (Proc.devRef .tc main_v24) : Vec Ideal S4096x1536 .bf16) (ix2 k l) = Wt k ⟨8204 + l, by omega⟩ :=
  (congrFun (lay m ρ c main_v24 (by decide) (by decide)) (ix2 k l)).trans
    ((w_cq (W2 m ρ c) k l).trans (congrFun (congrFun (argW2 m ρ c) k) _))

theorem cg_at (k : Fin 4096) (l : Fin 1536) : (W5 m ρ c (Proc.devRef .tc main_v33) : Vec Ideal S4096x1536 .bf16) (ix2 k l) = Wt k ⟨12812 + l, by omega⟩ :=
  (congrFun (lay m ρ c main_v33 (by decide) (by decide)) (ix2 k l)).trans
    ((w_cg (W2 m ρ c) k l).trans (congrFun (congrFun (argW2 m ρ c) k) _))

theorem iq_at (k : Fin 4096) (l : Fin 4096) : (W5 m ρ c (Proc.devRef .tc main_v35) : Vec Ideal S4096x4096 .bf16) (ix2 k l) = Wt k ⟨14348 + l, by omega⟩ :=
  (congrFun (lay m ρ c main_v35 (by decide) (by decide)) (ix2 k l)).trans
    ((w_iq (W2 m ρ c) k l).trans (congrFun (congrFun (argW2 m ρ c) k) _))

theorem akv_at (k : Fin 4096) (l : Fin 3072) : (W5 m ρ c (Proc.devRef .tc main_v18) : Vec Ideal S4096x3072 .bf16) (ix2 k l) = Wt k ⟨1536 + l / 128 % 2 * 1536 + l / 256 * 128 + l % 128, by omega⟩ :=
  (congrFun (lay m ρ c main_v18 (by decide) (by decide)) (ix2 k l)).trans
    ((w_akv (W2 m ρ c) k l).trans (congrFun (congrFun (argW2 m ρ c) k) _))

theorem ckv_at (k : Fin 4096) (l : Fin 3072) : (W5 m ρ c (Proc.devRef .tc main_v31) : Vec Ideal S4096x3072 .bf16) (ix2 k l) = Wt k ⟨9740 + l / 128 % 2 * 1536 + l / 256 * 128 + l % 128, by omega⟩ :=
  (congrFun (lay m ρ c main_v31 (by decide) (by decide)) (ix2 k l)).trans
    ((w_ckv (W2 m ρ c) k l).trans (congrFun (congrFun (argW2 m ρ c) k) _))

theorem small_w (k : Fin 4096) (l : Fin 384) : (W5 m ρ c (Proc.devRef .tc main_v9) : Vec Ideal S4096x384 .bf16) (ix2 k l)
    = if h0 : (l : ℕ) < 12 then Wt k ⟨6144 + l, by omega⟩
      else if h1 : (l : ℕ) < 128 then (0 : EReal)
      else if h2 : (l : ℕ) < 160 then Wt k ⟨18572 + (l - 128), by omega⟩
      else if h3 : (l : ℕ) < 256 then (0 : EReal)
      else Wt k ⟨18444 + (l - 256), by omega⟩ := by
  rw [← argW2 m ρ c]
  exact (congrFun (lay m ρ c main_v9 (by decide) (by decide)) (ix2 k l)).trans (w_small (W2 m ρ c) k l)

/-- The gates' offsets. -/
theorem bias_at (h : Fin 12) : (W5 m ρ c (Proc.devRef .tc main_v37) : Vec Ideal S1x128 .f32) (ix2 0 ⟨h, by omega⟩) = Bf h :=
  (b2_at (W4 m ρ c) ⟨h, by omega⟩).trans ((b_at (W3 m ρ c) h).trans (congrFun (argB3 m ρ c) h))

/-! ## From a call's rows and columns to the layer's -/

theorem toP {h u : Fin 4096 → EReal} {b : Fin 4} {s : Fin 2048} {n : Fin 18604} (hh : ∀ k, h k = rms (X b s) G k)
    (hu : ∀ k, u k = Wt k n) : dot h u = P X G Wt b s n := congrArg₂ dot (funext hh) (funext hu)

theorem toR {h : Fin 4096 → EReal} {u : Fin 4096 → Fin 128 → EReal} {t t' : Fin 128 → EReal} {b : Fin 4} {s : Fin 2048}
    {n : Fin 18477} (hh : ∀ k, h k = rms (X b s) G k) (hu : ∀ k e, u k e = Wt k ⟨n + e, by omega⟩)
    (hc : ∀ e, t e = cosT s e) (hs : ∀ e, t' e = sinT s e) (d : Fin 128) : rot h u t t' d = R X G Wt b s n d :=
  (rot_congr hh hu hc hs rfl).trans (rot_eq X G Wt b s n d)

theorem seqOf_row (b : Fin 4) (s : Fin 2048) : seqOf ⟨b * 2048 + s, by omega⟩ = b := Fin.ext (by unfold seqOf; simp only; omega)
theorem posOf_row (b : Fin 4) (s : Fin 2048) : posOf ⟨b * 2048 + s, by omega⟩ = s := Fin.ext (by unfold posOf; simp only; omega)

/-- A row of the normalised array at any later call's entry. -/
theorem hrow {H : Vec Ideal S8192x4096 .bf16} (e : H = W5 m ρ c (Proc.devRef .tc main_v2)) {r : Fin 8192} {b : Fin 4} {s : Fin 2048}
    (hb : seqOf r = b) (hs : posOf r = s) (k : Fin 4096) : H (ix2 r k) = rms (X b s) G k := by
  rw [e, ← hb, ← hs]; exact h_at m ρ c r k

/-! ## The arrays at the end of the calls -/

/-- The forgetting heads' queries. -/
theorem aq_arr : (W14 m ρ c (Proc.devRef .tc main_v56) : Vec Ideal S8192x1536 .bf16) = fun j => aq X G Wt (j 0) (j 1) := by
  refine ((keep14 m ρ c main_v56 (by decide)).trans ((keep13 m ρ c main_v56 (by decide)).trans ((keep12 m ρ c main_v56 (by decide)).trans ((keep11 m ρ c main_v56 (by decide)).trans ((keep10 m ρ c main_v56 (by decide)).trans ((keep9 m ρ c main_v56 (by decide)).trans ((keep8 m ρ c main_v56 (by decide)).trans (keep7 m ρ c main_v56 (by decide))))))))).trans ((W6_arr m ρ c 2).trans ((final1 (V5 m ρ) c).trans ?_))
  funext j
  refine toP m ρ c (hrow m ρ c (rfl) rfl rfl) fun k => ?_
  exact (congrFun (rfl) (ix2 k (j 1))).trans (aq_at m ρ c k (j 1))

/-- The forgetting heads' output gates. -/
theorem ag_arr : (W14 m ρ c (Proc.devRef .tc main_v58) : Vec Ideal S8192x1536 .f32) = fun j => ag X G Wt (j 0) (j 1) := by
  refine ((keep14 m ρ c main_v58 (by decide)).trans ((keep13 m ρ c main_v58 (by decide)).trans ((keep12 m ρ c main_v58 (by decide)).trans ((keep11 m ρ c main_v58 (by decide)).trans ((keep10 m ρ c main_v58 (by decide)).trans (keep9 m ρ c main_v58 (by decide))))))).trans ((W8_arr m ρ c 2).trans ((final3 (V7 m ρ) c).trans ?_))
  funext j
  refine toP m ρ c (hrow m ρ c ((keep7 m ρ c main_v2 (by decide)).trans (keep6 m ρ c main_v2 (by decide))) rfl rfl) fun k => ?_
  exact (congrFun ((keep7 m ρ c main_v20 (by decide)).trans (keep6 m ρ c main_v20 (by decide))) (ix2 k (j 1))).trans (ag_at m ρ c k (j 1))

/-- The pooling heads' inputs. -/
theorem pb_arr : (W14 m ρ c (Proc.devRef .tc main_v59) : Vec Ideal S8192x2048 .f32) = fun j => pb X G Wt (j 0) (j 1) := by
  refine ((keep14 m ρ c main_v59 (by decide)).trans ((keep13 m ρ c main_v59 (by decide)).trans ((keep12 m ρ c main_v59 (by decide)).trans ((keep11 m ρ c main_v59 (by decide)).trans (keep10 m ρ c main_v59 (by decide)))))).trans ((W9_arr m ρ c 2).trans ((final4 (V8 m ρ) c).trans ?_))
  funext j
  refine toP m ρ c (hrow m ρ c ((keep8 m ρ c main_v2 (by decide)).trans ((keep7 m ρ c main_v2 (by decide)).trans (keep6 m ρ c main_v2 (by decide)))) rfl rfl) fun k => ?_
  exact (congrFun ((keep8 m ρ c main_v22 (by decide)).trans ((keep7 m ρ c main_v22 (by decide)).trans (keep6 m ρ c main_v22 (by decide)))) (ix2 k (j 1))).trans (pb_at m ρ c k (j 1))

/-- The sparse heads' output gates. -/
theorem cg_arr : (W14 m ρ c (Proc.devRef .tc main_v62) : Vec Ideal S8192x1536 .f32) = fun j => cg X G Wt (j 0) (j 1) := by
  refine ((keep14 m ρ c main_v62 (by decide)).trans (keep13 m ρ c main_v62 (by decide))).trans ((W12_arr m ρ c 2).trans ((final7 (V11 m ρ) c).trans ?_))
  funext j
  refine toP m ρ c (hrow m ρ c ((keep11 m ρ c main_v2 (by decide)).trans ((keep10 m ρ c main_v2 (by decide)).trans ((keep9 m ρ c main_v2 (by decide)).trans ((keep8 m ρ c main_v2 (by decide)).trans ((keep7 m ρ c main_v2 (by decide)).trans (keep6 m ρ c main_v2 (by decide))))))) rfl rfl) fun k => ?_
  exact (congrFun ((keep11 m ρ c main_v33 (by decide)).trans ((keep10 m ρ c main_v33 (by decide)).trans ((keep9 m ρ c main_v33 (by decide)).trans ((keep8 m ρ c main_v33 (by decide)).trans ((keep7 m ρ c main_v33 (by decide)).trans (keep6 m ρ c main_v33 (by decide))))))) (ix2 k (j 1))).trans (cg_at m ρ c k (j 1))

/-- The sparse heads' queries. -/
theorem cq_arr : (W14 m ρ c (Proc.devRef .tc main_v60) : Vec Ideal S8192x1536 .bf16) = fun j => cq X G Wt (j 0) (j 1) := by
  refine ((keep14 m ρ c main_v60 (by decide)).trans ((keep13 m ρ c main_v60 (by decide)).trans ((keep12 m ρ c main_v60 (by decide)).trans (keep11 m ρ c main_v60 (by decide))))).trans ((W10_arr m ρ c 4).trans ((final5 (V9 m ρ) c).trans ?_))
  funext j
  refine toR m ρ c (hrow m ρ c ((keep9 m ρ c main_v2 (by decide)).trans ((keep8 m ρ c main_v2 (by decide)).trans ((keep7 m ρ c main_v2 (by decide)).trans (keep6 m ρ c main_v2 (by decide))))) rfl rfl) (fun k e => ?_) (fun e => ?_) (fun e => ?_) _
  · refine (congrFun ((keep9 m ρ c main_v24 (by decide)).trans ((keep8 m ρ c main_v24 (by decide)).trans ((keep7 m ρ c main_v24 (by decide)).trans (keep6 m ρ c main_v24 (by decide))))) (ix2 k _)).trans ((cq_at m ρ c k _).trans (congrArg _ (Fin.ext ?_)))
    simp only; omega
  · exact (congrFun ((keep9 m ρ c main_v53 (by decide)).trans ((keep8 m ρ c main_v53 (by decide)).trans ((keep7 m ρ c main_v53 (by decide)).trans (keep6 m ρ c main_v53 (by decide))))) (ix2 (posOf (j 0)) e)).trans (cos_at (W4 m ρ c) (posOf (j 0)) e)
  · exact (congrFun ((keep9 m ρ c main_v55 (by decide)).trans ((keep8 m ρ c main_v55 (by decide)).trans ((keep7 m ρ c main_v55 (by decide)).trans (keep6 m ρ c main_v55 (by decide))))) (ix2 (posOf (j 0)) e)).trans (sin_at (W4 m ρ c) (posOf (j 0)) e)

/-- The indexer's queries. -/
theorem iq_arr : (W14 m ρ c (Proc.devRef .tc main_v63) : Vec Ideal S8192x4096 .bf16) = fun j => iq X G Wt (j 0) (j 1) := by
  refine ((keep14 m ρ c main_v63 (by decide))).trans ((W13_arr m ρ c 4).trans ((final8 (V12 m ρ) c).trans ?_))
  funext j
  refine toR m ρ c (hrow m ρ c ((keep12 m ρ c main_v2 (by decide)).trans ((keep11 m ρ c main_v2 (by decide)).trans ((keep10 m ρ c main_v2 (by decide)).trans ((keep9 m ρ c main_v2 (by decide)).trans ((keep8 m ρ c main_v2 (by decide)).trans ((keep7 m ρ c main_v2 (by decide)).trans (keep6 m ρ c main_v2 (by decide)))))))) rfl rfl) (fun k e => ?_) (fun e => ?_) (fun e => ?_) _
  · refine (congrFun ((keep12 m ρ c main_v35 (by decide)).trans ((keep11 m ρ c main_v35 (by decide)).trans ((keep10 m ρ c main_v35 (by decide)).trans ((keep9 m ρ c main_v35 (by decide)).trans ((keep8 m ρ c main_v35 (by decide)).trans ((keep7 m ρ c main_v35 (by decide)).trans (keep6 m ρ c main_v35 (by decide)))))))) (ix2 k _)).trans ((iq_at m ρ c k _).trans (congrArg _ (Fin.ext ?_)))
    simp only; omega
  · exact (congrFun ((keep12 m ρ c main_v53 (by decide)).trans ((keep11 m ρ c main_v53 (by decide)).trans ((keep10 m ρ c main_v53 (by decide)).trans ((keep9 m ρ c main_v53 (by decide)).trans ((keep8 m ρ c main_v53 (by decide)).trans ((keep7 m ρ c main_v53 (by decide)).trans (keep6 m ρ c main_v53 (by decide)))))))) (ix2 (posOf (j 0)) e)).trans (cos_at (W4 m ρ c) (posOf (j 0)) e)
  · exact (congrFun ((keep12 m ρ c main_v55 (by decide)).trans ((keep11 m ρ c main_v55 (by decide)).trans ((keep10 m ρ c main_v55 (by decide)).trans ((keep9 m ρ c main_v55 (by decide)).trans ((keep8 m ρ c main_v55 (by decide)).trans ((keep7 m ρ c main_v55 (by decide)).trans (keep6 m ρ c main_v55 (by decide)))))))) (ix2 (posOf (j 0)) e)).trans (sin_at (W4 m ρ c) (posOf (j 0)) e)

end Cert.ProjIdeal.Gen

end
-- ==== Proof.Proj.Tail.lean ====
/- The kernel's fourteen results, in terms of the layer's arguments. -/
module

public import Idealize.ShloMosaic.Lib.Pipeline.ValueKit
public import Idealize.ShloMosaic.Lib.Pointwise
public import Idealize.ShloMosaic.Lib.WordCmp
public import Idealize.ShloMosaic.Lib.Claim
public import proofs.«01_k».proof.Proof.Proj.Entry

@[expose] public section

set_option maxRecDepth 16384

noncomputable section

namespace Cert.ProjIdeal.Gen

open Idealize.ShloMosaic Idealize.ShloMosaic.TcCoe Idealize.SL.Sem
open Cert.ProjIdeal Cert.Projections

variable (m : (ℓ : Loc nD τ sig) → Buf (Elt Ideal) ℓ) (ρ : Dev nD → PrngReg) (c : Dev nD)

local notation "X" => argX (W0 m ρ c)
local notation "G" => argG (W0 m ρ c)
local notation "Wt" => argW (W0 m ρ c)
local notation "Bf" => argB (W0 m ρ c)

/-! ## The keys and values -/

/-- The forgetting heads' keys and values, head by head. -/
theorem akv_heads (r : Fin 8192) (p : Fin 24) (d : Fin 128) (b : Fin 4) (s : Fin 2048) (t : Fin 2) (h : Fin 12)
    (hb : seqOf r = b) (hs : posOf r = s) (hp : (p : ℕ) = h * 2 + t) :
    (W14 m ρ c (Proc.devRef .tc main_v57_0) : Vec Ideal S8192x24x128 .f32) (ix3 r p d) = akv X G Wt b s t h d := by
  refine (congrFun (((keep14 m ρ c main_v57_0 (by decide)).trans ((keep13 m ρ c main_v57_0 (by decide)).trans ((keep12 m ρ c main_v57_0 (by decide)).trans ((keep11 m ρ c main_v57_0 (by decide)).trans ((keep10 m ρ c main_v57_0 (by decide)).trans ((keep9 m ρ c main_v57_0 (by decide)).trans (keep8 m ρ c main_v57_0 (by decide)))))))).trans ((W7_arr m ρ c 2).trans (final2 (V6 m ρ) c))) (ix3 r p d)).trans ?_
  refine toP m ρ c (hrow m ρ c ((keep6 m ρ c main_v2 (by decide))) hb hs) fun k => ?_
  refine (congrFun ((keep6 m ρ c main_v18 (by decide))) (ix2 k _)).trans ((akv_at m ρ c k _).trans (congrArg _ (Fin.ext ?_)))
  show 1536 + ((p : ℕ) * 128 + d) / 128 % 2 * 1536 + ((p : ℕ) * 128 + d) / 256 * 128 + ((p : ℕ) * 128 + d) % 128 = 1536 + t * 1536 + h * 128 + d
  omega

/-- The same, flat. -/
theorem akv_flat : (W14 m ρ c (Proc.devRef .tc main_v57_1) : Vec Ideal S8192x3072 .bf16) = fun j => flat (akv X G Wt) (j 0) (j 1) := by
  refine ((keep14 m ρ c main_v57_1 (by decide)).trans ((keep13 m ρ c main_v57_1 (by decide)).trans ((keep12 m ρ c main_v57_1 (by decide)).trans ((keep11 m ρ c main_v57_1 (by decide)).trans ((keep10 m ρ c main_v57_1 (by decide)).trans ((keep9 m ρ c main_v57_1 (by decide)).trans (keep8 m ρ c main_v57_1 (by decide)))))))).trans ((W7_arr m ρ c 3).trans ((final2b (V6 m ρ) c).trans ?_))
  funext j
  refine toP m ρ c (hrow m ρ c ((keep6 m ρ c main_v2 (by decide))) rfl rfl) fun k => ?_
  exact (congrFun ((keep6 m ρ c main_v18 (by decide))) (ix2 k (j 1))).trans (akv_at m ρ c k (j 1))

/-- One element of the sparse heads' keys and values. -/
theorem ckv_elem (r : Fin 8192) (p : Fin 24) (d : Fin 128) (b : Fin 4) (s : Fin 2048) (t : Fin 2) (h : Fin 12)
    (hb : seqOf r = b) (hs : posOf r = s) (hp : (p : ℕ) = h * 2 + t) :
    kvrArr (V10 m ρ c main_v2) (V10 m ρ c main_v31) (V10 m ρ c main_v53) (V10 m ρ c main_v55) r p d = ckv X G Wt b s t h d := by
  unfold kvrArr rotEven ckv
  by_cases h0 : (t : ℕ) = 0
  · rw [if_pos (by omega), if_pos h0]
    refine toR m ρ c (hrow m ρ c ((keep10 m ρ c main_v2 (by decide)).trans ((keep9 m ρ c main_v2 (by decide)).trans ((keep8 m ρ c main_v2 (by decide)).trans ((keep7 m ρ c main_v2 (by decide)).trans (keep6 m ρ c main_v2 (by decide)))))) hb hs) (fun k e => ?_) (fun e => ?_) (fun e => ?_) _
    · refine (congrFun ((keep10 m ρ c main_v31 (by decide)).trans ((keep9 m ρ c main_v31 (by decide)).trans ((keep8 m ρ c main_v31 (by decide)).trans ((keep7 m ρ c main_v31 (by decide)).trans (keep6 m ρ c main_v31 (by decide)))))) (ix2 k _)).trans ((ckv_at m ρ c k _).trans (congrArg _ (Fin.ext ?_)))
      unfold kvCol
      simp only [hp]
      omega
    · subst hs
      exact (congrFun ((keep10 m ρ c main_v53 (by decide)).trans ((keep9 m ρ c main_v53 (by decide)).trans ((keep8 m ρ c main_v53 (by decide)).trans ((keep7 m ρ c main_v53 (by decide)).trans (keep6 m ρ c main_v53 (by decide)))))) (ix2 (posOf r) e)).trans (cos_at (W4 m ρ c) (posOf r) e)
    · subst hs
      exact (congrFun ((keep10 m ρ c main_v55 (by decide)).trans ((keep9 m ρ c main_v55 (by decide)).trans ((keep8 m ρ c main_v55 (by decide)).trans ((keep7 m ρ c main_v55 (by decide)).trans (keep6 m ρ c main_v55 (by decide)))))) (ix2 (posOf r) e)).trans (sin_at (W4 m ρ c) (posOf r) e)
  · rw [if_neg (by omega), if_neg h0]
    refine toP m ρ c (hrow m ρ c ((keep10 m ρ c main_v2 (by decide)).trans ((keep9 m ρ c main_v2 (by decide)).trans ((keep8 m ρ c main_v2 (by decide)).trans ((keep7 m ρ c main_v2 (by decide)).trans (keep6 m ρ c main_v2 (by decide)))))) hb hs) fun k => ?_
    refine (congrFun ((keep10 m ρ c main_v31 (by decide)).trans ((keep9 m ρ c main_v31 (by decide)).trans ((keep8 m ρ c main_v31 (by decide)).trans ((keep7 m ρ c main_v31 (by decide)).trans (keep6 m ρ c main_v31 (by decide)))))) (ix2 k _)).trans ((ckv_at m ρ c k _).trans (congrArg _ (Fin.ext ?_)))
    unfold kvCol
    simp only [hp]
    omega

/-- The sparse heads' keys and values, head by head. -/
theorem ckv_heads (r : Fin 8192) (p : Fin 24) (d : Fin 128) (b : Fin 4) (s : Fin 2048) (t : Fin 2) (h : Fin 12)
    (hb : seqOf r = b) (hs : posOf r = s) (hp : (p : ℕ) = h * 2 + t) :
    (W14 m ρ c (Proc.devRef .tc main_v61_0) : Vec Ideal S8192x24x128 .f32) (ix3 r p d) = ckv X G Wt b s t h d :=
  (congrFun (((keep14 m ρ c main_v61_0 (by decide)).trans ((keep13 m ρ c main_v61_0 (by decide)).trans (keep12 m ρ c main_v61_0 (by decide)))).trans ((W11_arr m ρ c 4).trans (final6 (V10 m ρ) c))) (ix3 r p d)).trans (ckv_elem m ρ c r p d b s t h hb hs hp)

/-- The same, flat. -/
theorem ckv_flat : (W14 m ρ c (Proc.devRef .tc main_v61_1) : Vec Ideal S8192x3072 .bf16) = fun j => flat (ckv X G Wt) (j 0) (j 1) := by
  refine ((keep14 m ρ c main_v61_1 (by decide)).trans ((keep13 m ρ c main_v61_1 (by decide)).trans (keep12 m ρ c main_v61_1 (by decide)))).trans ((W11_arr m ρ c 5).trans ((final6b (V10 m ρ) c).trans ?_))
  funext j
  exact ckv_elem m ρ c (j 0) _ _ _ _ _ _ rfl rfl (by simp only; omega)

/-! ## The small projections -/

/-- Their array, at any column. -/
theorem small_arr (r : Fin 8192) (l : Fin 384) :
    (W14 m ρ c (Proc.devRef .tc main_v64) : Vec Ideal S8192x384 .f32) (ix2 r l)
      = smallArr (V13 m ρ c main_v2) (V13 m ρ c main_v9) (V13 m ρ c main_v53) (V13 m ρ c main_v55) (V13 m ρ c main_v37) (ix2 r l) :=
  congrFun ((W14_arr m ρ c 5).trans (final9 (V13 m ρ) c)) (ix2 r l)

/-- The logarithm of a forget gate. -/
theorem gate_at (r : Fin 8192) (b : Fin 4) (s : Fin 2048) (h : Fin 12) (hb : seqOf r = b) (hs : posOf r = s) :
    (W14 m ρ c (Proc.devRef .tc main_v64) : Vec Ideal S8192x384 .f32) (ix2 r ⟨h, by omega⟩) = gate X G Wt Bf b s h := by
  refine (small_arr m ρ c r _).trans ?_
  unfold smallArr small gate
  rw [dif_pos (show ((ix2 r (⟨h, by omega⟩ : Fin 384) : S8192x384.Idx) 1 : ℕ) < 128 by show (h : ℕ) < 128; omega)]
  refine congrArg logSig (congrArg₂ (· + ·) (toP m ρ c (hrow m ρ c ((keep13 m ρ c main_v2 (by decide)).trans ((keep12 m ρ c main_v2 (by decide)).trans ((keep11 m ρ c main_v2 (by decide)).trans ((keep10 m ρ c main_v2 (by decide)).trans ((keep9 m ρ c main_v2 (by decide)).trans ((keep8 m ρ c main_v2 (by decide)).trans ((keep7 m ρ c main_v2 (by decide)).trans (keep6 m ρ c main_v2 (by decide))))))))) hb hs) fun k => ?_) ?_)
  · refine (congrFun ((keep13 m ρ c main_v9 (by decide)).trans ((keep12 m ρ c main_v9 (by decide)).trans ((keep11 m ρ c main_v9 (by decide)).trans ((keep10 m ρ c main_v9 (by decide)).trans ((keep9 m ρ c main_v9 (by decide)).trans ((keep8 m ρ c main_v9 (by decide)).trans ((keep7 m ρ c main_v9 (by decide)).trans (keep6 m ρ c main_v9 (by decide))))))))) (ix2 k _)).trans ((small_w m ρ c k _).trans ?_)
    exact dif_pos (show (h : ℕ) < 12 by omega)
  · exact (congrFun ((keep13 m ρ c main_v37 (by decide)).trans ((keep12 m ρ c main_v37 (by decide)).trans ((keep11 m ρ c main_v37 (by decide)).trans ((keep10 m ρ c main_v37 (by decide)).trans ((keep9 m ρ c main_v37 (by decide)).trans ((keep8 m ρ c main_v37 (by decide)).trans ((keep7 m ρ c main_v37 (by decide)).trans (keep6 m ρ c main_v37 (by decide))))))))) (ix2 0 _)).trans (bias_at m ρ c h)

/-- The indexer's head weights. -/
theorem iw_elem (r : Fin 8192) (b : Fin 4) (s : Fin 2048) (h : Fin 32) (hb : seqOf r = b) (hs : posOf r = s) :
    (W14 m ρ c (Proc.devRef .tc main_v64) : Vec Ideal S8192x384 .f32) (ix2 r ⟨128 + h, by omega⟩) = iw X G Wt b s h := by
  refine (small_arr m ρ c r _).trans ?_
  unfold smallArr small
  rw [dif_neg (show ¬ ((ix2 r (⟨128 + h, by omega⟩ : Fin 384) : S8192x384.Idx) 1 : ℕ) < 128 by show ¬ 128 + (h : ℕ) < 128; omega),
    dif_pos (show ((ix2 r (⟨128 + h, by omega⟩ : Fin 384) : S8192x384.Idx) 1 : ℕ) < 256 by show 128 + (h : ℕ) < 256; omega)]
  refine toP m ρ c (hrow m ρ c ((keep13 m ρ c main_v2 (by decide)).trans ((keep12 m ρ c main_v2 (by decide)).trans ((keep11 m ρ c main_v2 (by decide)).trans ((keep10 m ρ c main_v2 (by decide)).trans ((keep9 m ρ c main_v2 (by decide)).trans ((keep8 m ρ c main_v2 (by decide)).trans ((keep7 m ρ c main_v2 (by decide)).trans (keep6 m ρ c main_v2 (by decide))))))))) hb hs) fun k => ?_
  refine (congrFun ((keep13 m ρ c main_v9 (by decide)).trans ((keep12 m ρ c main_v9 (by decide)).trans ((keep11 m ρ c main_v9 (by decide)).trans ((keep10 m ρ c main_v9 (by decide)).trans ((keep9 m ρ c main_v9 (by decide)).trans ((keep8 m ρ c main_v9 (by decide)).trans ((keep7 m ρ c main_v9 (by decide)).trans (keep6 m ρ c main_v9 (by decide))))))))) (ix2 k _)).trans ((small_w m ρ c k _).trans ?_)
  refine (dif_neg (show ¬ 128 + (h : ℕ) < 12 by omega)).trans ((dif_neg (show ¬ 128 + (h : ℕ) < 128 by omega)).trans
    ((dif_pos (show 128 + (h : ℕ) < 160 by omega)).trans (congrArg _ (Fin.ext ?_))))
  show 18572 + (128 + (h : ℕ) - 128) = 18572 + h
  omega

/-- The indexer's key. -/
theorem ik_elem (r : Fin 8192) (b : Fin 4) (s : Fin 2048) (d : Fin 128) (hb : seqOf r = b) (hs : posOf r = s) :
    (W14 m ρ c (Proc.devRef .tc main_v64) : Vec Ideal S8192x384 .f32) (ix2 r ⟨256 + d, by omega⟩) = ik X G Wt b s d := by
  refine (small_arr m ρ c r _).trans ?_
  unfold smallArr small
  rw [dif_neg (show ¬ ((ix2 r (⟨256 + d, by omega⟩ : Fin 384) : S8192x384.Idx) 1 : ℕ) < 128 by show ¬ 256 + (d : ℕ) < 128; omega),
    dif_neg (show ¬ ((ix2 r (⟨256 + d, by omega⟩ : Fin 384) : S8192x384.Idx) 1 : ℕ) < 256 by show ¬ 256 + (d : ℕ) < 256; omega)]
  refine (toR m ρ c (n := ⟨18444, by omega⟩) (hrow m ρ c ((keep13 m ρ c main_v2 (by decide)).trans ((keep12 m ρ c main_v2 (by decide)).trans ((keep11 m ρ c main_v2 (by decide)).trans ((keep10 m ρ c main_v2 (by decide)).trans ((keep9 m ρ c main_v2 (by decide)).trans ((keep8 m ρ c main_v2 (by decide)).trans ((keep7 m ρ c main_v2 (by decide)).trans (keep6 m ρ c main_v2 (by decide))))))))) hb hs) (fun k e => ?_) (fun e => ?_) (fun e => ?_) _).trans
    (congrArg _ (Fin.ext (show 256 + (d : ℕ) - 256 = d by omega)))
  · refine (congrFun ((keep13 m ρ c main_v9 (by decide)).trans ((keep12 m ρ c main_v9 (by decide)).trans ((keep11 m ρ c main_v9 (by decide)).trans ((keep10 m ρ c main_v9 (by decide)).trans ((keep9 m ρ c main_v9 (by decide)).trans ((keep8 m ρ c main_v9 (by decide)).trans ((keep7 m ρ c main_v9 (by decide)).trans (keep6 m ρ c main_v9 (by decide))))))))) (ix2 k _)).trans ((small_w m ρ c k _).trans ?_)
    refine (dif_neg (show ¬ 256 + (e : ℕ) < 12 by omega)).trans ((dif_neg (show ¬ 256 + (e : ℕ) < 128 by omega)).trans
      ((dif_neg (show ¬ 256 + (e : ℕ) < 160 by omega)).trans ((dif_neg (show ¬ 256 + (e : ℕ) < 256 by omega)).trans (congrArg _ (Fin.ext ?_)))))
    show 18444 + (256 + (e : ℕ) - 256) = 18444 + e
    omega
  · subst hs
    exact (congrFun ((keep13 m ρ c main_v53 (by decide)).trans ((keep12 m ρ c main_v53 (by decide)).trans ((keep11 m ρ c main_v53 (by decide)).trans ((keep10 m ρ c main_v53 (by decide)).trans ((keep9 m ρ c main_v53 (by decide)).trans ((keep8 m ρ c main_v53 (by decide)).trans ((keep7 m ρ c main_v53 (by decide)).trans (keep6 m ρ c main_v53 (by decide))))))))) (ix2 (posOf r) e)).trans (cos_at (W4 m ρ c) (posOf r) e)
  · subst hs
    exact (congrFun ((keep13 m ρ c main_v55 (by decide)).trans ((keep12 m ρ c main_v55 (by decide)).trans ((keep11 m ρ c main_v55 (by decide)).trans ((keep10 m ρ c main_v55 (by decide)).trans ((keep9 m ρ c main_v55 (by decide)).trans ((keep8 m ρ c main_v55 (by decide)).trans ((keep7 m ρ c main_v55 (by decide)).trans (keep6 m ρ c main_v55 (by decide))))))))) (ix2 (posOf r) e)).trans (sin_at (W4 m ρ c) (posOf r) e)

/-! ## The results -/
theorem out_q : (W15 m ρ c (Proc.devRef .tc main_v56) : Vec Ideal S8192x1536 .bf16) = fun j => aq X G Wt (j 0) (j 1) :=
  (W15_of m ρ c main_v56 (by decide)).trans (aq_arr m ρ c)
theorem out_kvb : (W15 m ρ c (Proc.devRef .tc main_v57_1) : Vec Ideal S8192x3072 .bf16) = fun j => flat (akv X G Wt) (j 0) (j 1) :=
  (W15_of m ρ c main_v57_1 (by decide)).trans (akv_flat m ρ c)
theorem out_ag : (W15 m ρ c (Proc.devRef .tc main_v58) : Vec Ideal S8192x1536 .f32) = fun j => ag X G Wt (j 0) (j 1) :=
  (W15_of m ρ c main_v58 (by decide)).trans (ag_arr m ρ c)
theorem out_b : (W15 m ρ c (Proc.devRef .tc main_v59) : Vec Ideal S8192x2048 .f32) = fun j => pb X G Wt (j 0) (j 1) :=
  (W15_of m ρ c main_v59 (by decide)).trans (pb_arr m ρ c)
theorem out_cq : (W15 m ρ c (Proc.devRef .tc main_v60) : Vec Ideal S8192x1536 .bf16) = fun j => cq X G Wt (j 0) (j 1) :=
  (W15_of m ρ c main_v60 (by decide)).trans (cq_arr m ρ c)
theorem out_ckvb : (W15 m ρ c (Proc.devRef .tc main_v61_1) : Vec Ideal S8192x3072 .bf16) = fun j => flat (ckv X G Wt) (j 0) (j 1) :=
  (W15_of m ρ c main_v61_1 (by decide)).trans (ckv_flat m ρ c)
theorem out_cg : (W15 m ρ c (Proc.devRef .tc main_v62) : Vec Ideal S8192x1536 .f32) = fun j => cg X G Wt (j 0) (j 1) :=
  (W15_of m ρ c main_v62 (by decide)).trans (cg_arr m ρ c)
theorem out_iq : (W15 m ρ c (Proc.devRef .tc main_v63) : Vec Ideal S8192x4096 .bf16) = fun j => iq X G Wt (j 0) (j 1) :=
  (W15_of m ρ c main_v63 (by decide)).trans (iq_arr m ρ c)
theorem out_akv : (W15 m ρ c (Proc.devRef .tc main_v67) : Vec Ideal S4x2048x2x12x128 .f32)
    = fun j => akv X G Wt (j 0) (j 1) (j 2) (j 3) (j 4) := by
  funext j
  idx_vars j
  exact (akv_out (W14 m ρ c) _ _ _ _ _).trans (akv_heads m ρ c _ _ _ _ _ _ _ (seqOf_row _ _) (posOf_row _ _) rfl)
theorem out_ckv : (W15 m ρ c (Proc.devRef .tc main_v69) : Vec Ideal S4x2048x2x12x128 .f32)
    = fun j => ckv X G Wt (j 0) (j 1) (j 2) (j 3) (j 4) := by
  funext j
  idx_vars j
  exact (ckv_out (W14 m ρ c) _ _ _ _ _).trans (ckv_heads m ρ c _ _ _ _ _ _ _ (seqOf_row _ _) (posOf_row _ _) rfl)
theorem out_logf : (W15 m ρ c (Proc.devRef .tc main_v70) : Vec Ideal S4x2048x12 .f32) = fun j => gate X G Wt Bf (j 0) (j 1) (j 2) := by
  funext j
  idx_vars j
  exact (logf_out (W14 m ρ c) _ _ _).trans (gate_at m ρ c _ _ _ _ (seqOf_row _ _) (posOf_row _ _))
theorem out_iw : (W15 m ρ c (Proc.devRef .tc main_v71) : Vec Ideal S4x2048x32 .f32) = fun j => iw X G Wt (j 0) (j 1) (j 2) := by
  funext j
  idx_vars j
  exact (iw_out (W14 m ρ c) _ _ _).trans (iw_elem m ρ c _ _ _ _ (seqOf_row _ _) (posOf_row _ _))
theorem out_ik : (W15 m ρ c (Proc.devRef .tc main_v72) : Vec Ideal S4x2048x128 .f32) = fun j => ik X G Wt (j 0) (j 1) (j 2) := by
  funext j
  idx_vars j
  exact (ik_out (W14 m ρ c) _ _ _).trans (ik_elem m ρ c _ _ _ _ (seqOf_row _ _) (posOf_row _ _))
theorem pool_elem (b : Fin 4) (s : Fin 15) (l : Fin 1024) :
    (W15 m ρ c (Proc.devRef .tc main_v74) : Vec Ideal S4x15x1024 .f32) (ix3 b s l) = Cert.Projections.pool X G Wt b s l := by
  refine (pool_out (W14 m ρ c) b s l).trans ((congrFun (pb_arr m ρ c) (ix2 _ _)).trans ?_)
  show P X G Wt (seqOf ⟨b * 2048 + ((⟨2033 + s, by omega⟩ : Fin 2048) : ℕ), by omega⟩) (posOf ⟨b * 2048 + ((⟨2033 + s, by omega⟩ : Fin 2048) : ℕ), by omega⟩) _ = _
  rw [seqOf_row, posOf_row]
  rfl
theorem out_pool : (W15 m ρ c (Proc.devRef .tc main_v74) : Vec Ideal S4x15x1024 .f32) = fun j => Cert.Projections.pool X G Wt (j 0) (j 1) (j 2) := by
  funext j
  idx_vars j
  exact pool_elem m ρ c _ _ _

end Cert.ProjIdeal.Gen

end
-- ==== Proof.Proj.Run.lean ====
/- The projections' run: its fourteen results, in terms of the layer's arguments. -/
module

public import Idealize.ShloMosaic.Lib.Pipeline.ValueKit
public import Idealize.ShloMosaic.Lib.Pointwise
public import Idealize.ShloMosaic.Lib.WordCmp
public import Idealize.ShloMosaic.Lib.Claim
public import proofs.«01_k».proof.Proof.Gen.ProjIdeal.Frame
public import proofs.«01_k».proof.Proof.Proj.Tail

@[expose] public section

set_option maxRecDepth 16384

noncomputable section

namespace Cert.ProjIdeal.Gen

open Idealize.ShloMosaic Idealize.ShloMosaic.TcCoe Idealize.SL.Sem
open Idealize.ShloMosaic.Tactic
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat Cfg Window BodyObligation cellOf)
open Cert.ProjIdeal Cert.Projections

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every buffer that outlives the calls ends with the last boundary's contents. -/
theorem run_all : θ_run defs (onTc (τ := τ) (main (F := Ideal))) ⟨m, fun _ => 0, ρ⟩ (fun r => ∀ c : Dev nD,
      ∀ b ∈ Pipeline.ucRefs τ sig, r.2.mem (((c : Thread nD τ)).1, b) = W15 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h hz => h)

/-- The fourteen results, and the arguments as they were. -/
theorem run_values : θ_run defs (onTc (τ := τ) (main (F := Ideal))) ⟨m, fun _ => 0, ρ⟩ (fun r => ∀ c : Dev nD,
      r.2.mem ((c.tc : Thread nD τ).loc main_v56) = (fun j => aq (argX (W0 m ρ c)) (argG (W0 m ρ c)) (argW (W0 m ρ c)) (j 0) (j 1) : FVec Ideal S8192x1536 .bf16)
      ∧ r.2.mem ((c.tc : Thread nD τ).loc main_v67) = (fun j => akv (argX (W0 m ρ c)) (argG (W0 m ρ c)) (argW (W0 m ρ c)) (j 0) (j 1) (j 2) (j 3) (j 4) : FVec Ideal S4x2048x2x12x128 .f32)
      ∧ r.2.mem ((c.tc : Thread nD τ).loc main_v57_1) = (fun j => flat (akv (argX (W0 m ρ c)) (argG (W0 m ρ c)) (argW (W0 m ρ c))) (j 0) (j 1) : FVec Ideal S8192x3072 .bf16)
      ∧ r.2.mem ((c.tc : Thread nD τ).loc main_v58) = (fun j => ag (argX (W0 m ρ c)) (argG (W0 m ρ c)) (argW (W0 m ρ c)) (j 0) (j 1) : FVec Ideal S8192x1536 .f32)
      ∧ r.2.mem ((c.tc : Thread nD τ).loc main_v59) = (fun j => pb (argX (W0 m ρ c)) (argG (W0 m ρ c)) (argW (W0 m ρ c)) (j 0) (j 1) : FVec Ideal S8192x2048 .f32)
      ∧ r.2.mem ((c.tc : Thread nD τ).loc main_v60) = (fun j => cq (argX (W0 m ρ c)) (argG (W0 m ρ c)) (argW (W0 m ρ c)) (j 0) (j 1) : FVec Ideal S8192x1536 .bf16)
      ∧ r.2.mem ((c.tc : Thread nD τ).loc main_v69) = (fun j => ckv (argX (W0 m ρ c)) (argG (W0 m ρ c)) (argW (W0 m ρ c)) (j 0) (j 1) (j 2) (j 3) (j 4) : FVec Ideal S4x2048x2x12x128 .f32)
      ∧ r.2.mem ((c.tc : Thread nD τ).loc main_v61_1) = (fun j => flat (ckv (argX (W0 m ρ c)) (argG (W0 m ρ c)) (argW (W0 m ρ c))) (j 0) (j 1) : FVec Ideal S8192x3072 .bf16)
      ∧ r.2.mem ((c.tc : Thread nD τ).loc main_v62) = (fun j => cg (argX (W0 m ρ c)) (argG (W0 m ρ c)) (argW (W0 m ρ c)) (j 0) (j 1) : FVec Ideal S8192x1536 .f32)
      ∧ r.2.mem ((c.tc : Thread nD τ).loc main_v63) = (fun j => iq (argX (W0 m ρ c)) (argG (W0 m ρ c)) (argW (W0 m ρ c)) (j 0) (j 1) : FVec Ideal S8192x4096 .bf16)
      ∧ r.2.mem ((c.tc : Thread nD τ).loc main_v70) = (fun j => gate (argX (W0 m ρ c)) (argG (W0 m ρ c)) (argW (W0 m ρ c)) (argB (W0 m ρ c)) (j 0) (j 1) (j 2) : FVec Ideal S4x2048x12 .f32)
      ∧ r.2.mem ((c.tc : Thread nD τ).loc main_v71) = (fun j => iw (argX (W0 m ρ c)) (argG (W0 m ρ c)) (argW (W0 m ρ c)) (j 0) (j 1) (j 2) : FVec Ideal S4x2048x32 .f32)
      ∧ r.2.mem ((c.tc : Thread nD τ).loc main_v72) = (fun j => ik (argX (W0 m ρ c)) (argG (W0 m ρ c)) (argW (W0 m ρ c)) (j 0) (j 1) (j 2) : FVec Ideal S4x2048x128 .f32)
      ∧ r.2.mem ((c.tc : Thread nD τ).loc main_v74) = (fun j => Cert.Projections.pool (argX (W0 m ρ c)) (argG (W0 m ρ c)) (argW (W0 m ρ c)) (j 0) (j 1) (j 2) : FVec Ideal S4x15x1024 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
  := (θ_run defs _ _).mono (fun r h c =>
    ⟨(h c _ (mem_uc main_v56 (by decide))).trans (out_q m ρ c),
      (h c _ (mem_uc main_v67 (by decide))).trans (out_akv m ρ c),
      (h c _ (mem_uc main_v57_1 (by decide))).trans (out_kvb m ρ c),
      (h c _ (mem_uc main_v58 (by decide))).trans (out_ag m ρ c),
      (h c _ (mem_uc main_v59 (by decide))).trans (out_b m ρ c),
      (h c _ (mem_uc main_v60 (by decide))).trans (out_cq m ρ c),
      (h c _ (mem_uc main_v69 (by decide))).trans (out_ckv m ρ c),
      (h c _ (mem_uc main_v61_1 (by decide))).trans (out_ckvb m ρ c),
      (h c _ (mem_uc main_v62 (by decide))).trans (out_cg m ρ c),
      (h c _ (mem_uc main_v63 (by decide))).trans (out_iq m ρ c),
      (h c _ (mem_uc main_v70 (by decide))).trans (out_logf m ρ c),
      (h c _ (mem_uc main_v71 (by decide))).trans (out_iw m ρ c),
      (h c _ (mem_uc main_v72 (by decide))).trans (out_ik m ρ c),
      (h c _ (mem_uc main_v74 (by decide))).trans (out_pool m ρ c),
      (h c _ (mem_uc main_arg0 (by decide))).trans (W15_main_arg0 m ρ c),
      (h c _ (mem_uc main_arg1 (by decide))).trans (W15_main_arg1 m ρ c),
      (h c _ (mem_uc main_arg2 (by decide))).trans (W15_main_arg2 m ρ c),
      (h c _ (mem_uc main_arg3 (by decide))).trans (W15_main_arg3 m ρ c)⟩) (run_all m ρ)

end Cert.ProjIdeal.Gen

end
-- ==== Proof.Proj.RefPieces.lean ====
/- The pieces of the projections' reference, read at one element. -/
module

public import Idealize.ShloMosaic.Lib.Pipeline.ValueKit
public import Idealize.ShloMosaic.Lib.Pointwise
public import Idealize.ShloMosaic.Lib.WordCmp
public import Idealize.ShloMosaic.Lib.Claim
public import proofs.«01_k».proof.Proof.Gen.ProjReferenceIdeal.Run
public import proofs.«01_k».proof.Proof.Proj.Spec

@[expose] public section

set_option maxRecDepth 16384

noncomputable section

namespace Cert.ProjReferenceIdeal.Value

open Idealize.ShloMosaic Idealize.ShloMosaic.TcCoe Idealize.SL.Sem
open Cert.ProjReferenceIdeal Cert.ProjReferenceIdeal.Gen Cert.Projections

variable (V0 : Valuation τ sig (Elt Ideal))

/-! ## The arguments -/

def argX (b : Fin 4) (s : Fin 2048) (k : Fin 4096) : EReal := (V0 (Proc.devRef .tc main_arg0) : FVec Ideal S4x2048x4096 .f32) (ix3 b s k)
def argG (k : Fin 4096) : EReal := (V0 (Proc.devRef .tc main_arg1) : FVec Ideal S4096 .f32) (ix1 k)
def argW (k : Fin 4096) (n : Fin 18604) : EReal := (V0 (Proc.devRef .tc main_arg2) : FVec Ideal S4096x18604 .f32) (ix2 k n)
def argB (h : Fin 12) : EReal := (V0 (Proc.devRef .tc main_arg3) : FVec Ideal S12 .f32) (ix1 h)

local notation "X" => argX V0
local notation "G" => argG V0
local notation "Wt" => argW V0
local notation "Bf" => argB V0

/-! ## The pieces -/

/-- The layer's product. -/
theorem v13_at (b : Fin 4) (s : Fin 2048) (n : Fin 18604) :
    (res_main_v13 V0 : FVec Ideal S4x2048x18604 .f32) (ix3 b s n) = P X G Wt b s n := by
  unfold P dot rms argX argG argW
  pointwise [res_main_v13]

/-- The cosine of a position's angle. -/
theorem cos_at (s : Fin 2048) (u : Fin 1) (k : Fin 64) :
    (res_main_v52 V0 : FVec Ideal S2048x1x64 .f32) (ix3 s u k) = Ideal.cos (ang s k) := by
  unfold ang
  pointwise [res_main_v52, res_main_v50, res_main_v28]

/-- The sine of a position's angle. -/
theorem sin_at (s : Fin 2048) (u : Fin 1) (k : Fin 64) :
    (res_main_v54 V0 : FVec Ideal S2048x1x64 .f32) (ix3 s u k) = Ideal.sin (ang s k) := by
  unfold ang
  pointwise [res_main_v54, res_main_v50, res_main_v28]

/-- A head's columns of the product. -/
theorem v38_at (b : Fin 4) (s : Fin 2048) (h : Fin 12) (d : Fin 128) :
    (res_main_v38 V0 : FVec Ideal S4x2048x12x128 .f32) (ix4 b s h d) = P X G Wt b s ⟨9740 + h * 128 + d, by omega⟩ := by
  pointwise [res_main_v38]
  refine (v13_at V0 _ _ _).trans (congrArg _ (Fin.ext ?_)); simp only <;> omega
theorem v119_at (b : Fin 4) (s : Fin 2048) (h : Fin 12) (d : Fin 128) :
    (res_main_v119 V0 : FVec Ideal S4x2048x12x128 .f32) (ix4 b s h d) = P X G Wt b s ⟨8204 + h * 128 + d, by omega⟩ := by
  pointwise [res_main_v119]
  refine (v13_at V0 _ _ _).trans (congrArg _ (Fin.ext ?_)); simp only <;> omega
theorem v159_at (b : Fin 4) (s : Fin 2048) (h : Fin 32) (d : Fin 128) :
    (res_main_v159 V0 : FVec Ideal S4x2048x32x128 .f32) (ix4 b s h d) = P X G Wt b s ⟨14348 + h * 128 + d, by omega⟩ := by
  pointwise [res_main_v159]
  refine (v13_at V0 _ _ _).trans (congrArg _ (Fin.ext ?_)); simp only <;> omega
theorem v76_at (b : Fin 4) (s : Fin 2048) (h : Fin 1) (d : Fin 128) :
    (res_main_v76 V0 : FVec Ideal S4x2048x1x128 .f32) (ix4 b s h d) = P X G Wt b s ⟨18444 + h * 128 + d, by omega⟩ := by
  pointwise [res_main_v76]
  refine (v13_at V0 _ _ _).trans (congrArg _ (Fin.ext ?_)); simp only <;> omega

/-! ## The rotary embedding -/

/-- The rotary embedding of 12 heads' features, from the tables. -/
def rope12 (x : FVec Ideal S4x2048x12x128 .f32) (c s : FVec Ideal S2048x1x64 .f32) : FVec Ideal S4x2048x12x128 .f32 :=
  concatenate S4x2048x12x128 3
    [⟨S4x2048x12x64, subf (mulf (extractStridedSlice S4x2048x12x64 ![0, 0, 0, 0] x slices_S4x2048x12x128_S4x2048x12x64_0_0_0_0) (broadcastInDim S4x2048x12x64 ![0, 1, 2, 3] bcast_S1x2048x1x64_S4x2048x12x64_0_1_2_3 (broadcastInDim S1x2048x1x64 ![1, 2, 3] bcast_S2048x1x64_S1x2048x1x64_1_2_3 c))) (mulf (extractStridedSlice S4x2048x12x64 ![0, 0, 0, 64] x slices_S4x2048x12x128_S4x2048x12x64_0_0_0_64) (broadcastInDim S4x2048x12x64 ![0, 1, 2, 3] bcast_S1x2048x1x64_S4x2048x12x64_0_1_2_3 (broadcastInDim S1x2048x1x64 ![1, 2, 3] bcast_S2048x1x64_S1x2048x1x64_1_2_3 s)))⟩,
     ⟨S4x2048x12x64, addf (mulf (extractStridedSlice S4x2048x12x64 ![0, 0, 0, 64] x slices_S4x2048x12x128_S4x2048x12x64_0_0_0_64) (broadcastInDim S4x2048x12x64 ![0, 1, 2, 3] bcast_S1x2048x1x64_S4x2048x12x64_0_1_2_3 (broadcastInDim S1x2048x1x64 ![1, 2, 3] bcast_S2048x1x64_S1x2048x1x64_1_2_3 c))) (mulf (extractStridedSlice S4x2048x12x64 ![0, 0, 0, 0] x slices_S4x2048x12x128_S4x2048x12x64_0_0_0_0) (broadcastInDim S4x2048x12x64 ![0, 1, 2, 3] bcast_S1x2048x1x64_S4x2048x12x64_0_1_2_3 (broadcastInDim S1x2048x1x64 ![1, 2, 3] bcast_S2048x1x64_S1x2048x1x64_1_2_3 s)))⟩]
    concatenates_S4x2048x12x64_S4x2048x12x64_S4x2048x12x128_d3

/-- One element of it, in terms of the layer's product. -/
theorem rope12_at (x : FVec Ideal S4x2048x12x128 .f32) (n : ℕ) (hn : n + 12 * 128 ≤ 18604)
    (hx : ∀ b s h d, x (ix4 b s h d) = P (argX V0) (argG V0) (argW V0) b s ⟨n + h * 128 + d, by omega⟩)
    (b : Fin 4) (s : Fin 2048) (h : Fin 12) (d : Fin 128) :
    rope12 x (res_main_v52 V0) (res_main_v54 V0) (ix4 b s h d)
      = R (argX V0) (argG V0) (argW V0) b s ⟨n + h * 128, by omega⟩ d := by
  unfold R
  by_cases h0 : (d : ℕ) < 64
  · rw [dif_pos h0]
    pointwise [rope12]
    rw [dif_pos h0, hx, hx, cos_at, sin_at]
    refine congrArg₂ (· - ·) (congrArg₂ (· * ·) (congrArg _ (Fin.ext ?_)) rfl) (congrArg₂ (· * ·) (congrArg _ (Fin.ext ?_)) rfl)
    all_goals (simp only <;> omega)
  · rw [dif_neg h0]
    pointwise [rope12]
    rw [dif_neg h0, hx, hx, cos_at, sin_at]
    refine congrArg₂ (· + ·) (congrArg₂ (· * ·) (congrArg _ (Fin.ext ?_)) rfl) (congrArg₂ (· * ·) (congrArg _ (Fin.ext ?_)) rfl)
    all_goals (simp only <;> omega)

/-- The rotary embedding of 32 heads' features, from the tables. -/
def rope32 (x : FVec Ideal S4x2048x32x128 .f32) (c s : FVec Ideal S2048x1x64 .f32) : FVec Ideal S4x2048x32x128 .f32 :=
  concatenate S4x2048x32x128 3
    [⟨S4x2048x32x64, subf (mulf (extractStridedSlice S4x2048x32x64 ![0, 0, 0, 0] x slices_S4x2048x32x128_S4x2048x32x64_0_0_0_0) (broadcastInDim S4x2048x32x64 ![0, 1, 2, 3] bcast_S1x2048x1x64_S4x2048x32x64_0_1_2_3 (broadcastInDim S1x2048x1x64 ![1, 2, 3] bcast_S2048x1x64_S1x2048x1x64_1_2_3 c))) (mulf (extractStridedSlice S4x2048x32x64 ![0, 0, 0, 64] x slices_S4x2048x32x128_S4x2048x32x64_0_0_0_64) (broadcastInDim S4x2048x32x64 ![0, 1, 2, 3] bcast_S1x2048x1x64_S4x2048x32x64_0_1_2_3 (broadcastInDim S1x2048x1x64 ![1, 2, 3] bcast_S2048x1x64_S1x2048x1x64_1_2_3 s)))⟩,
     ⟨S4x2048x32x64, addf (mulf (extractStridedSlice S4x2048x32x64 ![0, 0, 0, 64] x slices_S4x2048x32x128_S4x2048x32x64_0_0_0_64) (broadcastInDim S4x2048x32x64 ![0, 1, 2, 3] bcast_S1x2048x1x64_S4x2048x32x64_0_1_2_3 (broadcastInDim S1x2048x1x64 ![1, 2, 3] bcast_S2048x1x64_S1x2048x1x64_1_2_3 c))) (mulf (extractStridedSlice S4x2048x32x64 ![0, 0, 0, 0] x slices_S4x2048x32x128_S4x2048x32x64_0_0_0_0) (broadcastInDim S4x2048x32x64 ![0, 1, 2, 3] bcast_S1x2048x1x64_S4x2048x32x64_0_1_2_3 (broadcastInDim S1x2048x1x64 ![1, 2, 3] bcast_S2048x1x64_S1x2048x1x64_1_2_3 s)))⟩]
    concatenates_S4x2048x32x64_S4x2048x32x64_S4x2048x32x128_d3

/-- One element of it, in terms of the layer's product. -/
theorem rope32_at (x : FVec Ideal S4x2048x32x128 .f32) (n : ℕ) (hn : n + 32 * 128 ≤ 18604)
    (hx : ∀ b s h d, x (ix4 b s h d) = P (argX V0) (argG V0) (argW V0) b s ⟨n + h * 128 + d, by omega⟩)
    (b : Fin 4) (s : Fin 2048) (h : Fin 32) (d : Fin 128) :
    rope32 x (res_main_v52 V0) (res_main_v54 V0) (ix4 b s h d)
      = R (argX V0) (argG V0) (argW V0) b s ⟨n + h * 128, by omega⟩ d := by
  unfold R
  by_cases h0 : (d : ℕ) < 64
  · rw [dif_pos h0]
    pointwise [rope32]
    rw [dif_pos h0, hx, hx, cos_at, sin_at]
    refine congrArg₂ (· - ·) (congrArg₂ (· * ·) (congrArg _ (Fin.ext ?_)) rfl) (congrArg₂ (· * ·) (congrArg _ (Fin.ext ?_)) rfl)
    all_goals (simp only <;> omega)
  · rw [dif_neg h0]
    pointwise [rope32]
    rw [dif_neg h0, hx, hx, cos_at, sin_at]
    refine congrArg₂ (· + ·) (congrArg₂ (· * ·) (congrArg _ (Fin.ext ?_)) rfl) (congrArg₂ (· * ·) (congrArg _ (Fin.ext ?_)) rfl)
    all_goals (simp only <;> omega)

/-- The rotary embedding of 1 heads' features, from the tables. -/
def rope1 (x : FVec Ideal S4x2048x1x128 .f32) (c s : FVec Ideal S2048x1x64 .f32) : FVec Ideal S4x2048x1x128 .f32 :=
  concatenate S4x2048x1x128 3
    [⟨S4x2048x1x64, subf (mulf (extractStridedSlice S4x2048x1x64 ![0, 0, 0, 0] x slices_S4x2048x1x128_S4x2048x1x64_0_0_0_0) (broadcastInDim S4x2048x1x64 ![0, 1, 2, 3] bcast_S1x2048x1x64_S4x2048x1x64_0_1_2_3 (broadcastInDim S1x2048x1x64 ![1, 2, 3] bcast_S2048x1x64_S1x2048x1x64_1_2_3 c))) (mulf (extractStridedSlice S4x2048x1x64 ![0, 0, 0, 64] x slices_S4x2048x1x128_S4x2048x1x64_0_0_0_64) (broadcastInDim S4x2048x1x64 ![0, 1, 2, 3] bcast_S1x2048x1x64_S4x2048x1x64_0_1_2_3 (broadcastInDim S1x2048x1x64 ![1, 2, 3] bcast_S2048x1x64_S1x2048x1x64_1_2_3 s)))⟩,
     ⟨S4x2048x1x64, addf (mulf (extractStridedSlice S4x2048x1x64 ![0, 0, 0, 64] x slices_S4x2048x1x128_S4x2048x1x64_0_0_0_64) (broadcastInDim S4x2048x1x64 ![0, 1, 2, 3] bcast_S1x2048x1x64_S4x2048x1x64_0_1_2_3 (broadcastInDim S1x2048x1x64 ![1, 2, 3] bcast_S2048x1x64_S1x2048x1x64_1_2_3 c))) (mulf (extractStridedSlice S4x2048x1x64 ![0, 0, 0, 0] x slices_S4x2048x1x128_S4x2048x1x64_0_0_0_0) (broadcastInDim S4x2048x1x64 ![0, 1, 2, 3] bcast_S1x2048x1x64_S4x2048x1x64_0_1_2_3 (broadcastInDim S1x2048x1x64 ![1, 2, 3] bcast_S2048x1x64_S1x2048x1x64_1_2_3 s)))⟩]
    concatenates_S4x2048x1x64_S4x2048x1x64_S4x2048x1x128_d3

/-- One element of it, in terms of the layer's product. -/
theorem rope1_at (x : FVec Ideal S4x2048x1x128 .f32) (n : ℕ) (hn : n + 1 * 128 ≤ 18604)
    (hx : ∀ b s h d, x (ix4 b s h d) = P (argX V0) (argG V0) (argW V0) b s ⟨n + h * 128 + d, by omega⟩)
    (b : Fin 4) (s : Fin 2048) (h : Fin 1) (d : Fin 128) :
    rope1 x (res_main_v52 V0) (res_main_v54 V0) (ix4 b s h d)
      = R (argX V0) (argG V0) (argW V0) b s ⟨n + h * 128, by omega⟩ d := by
  unfold R
  by_cases h0 : (d : ℕ) < 64
  · rw [dif_pos h0]
    pointwise [rope1]
    rw [dif_pos h0, hx, hx, cos_at, sin_at]
    refine congrArg₂ (· - ·) (congrArg₂ (· * ·) (congrArg _ (Fin.ext ?_)) rfl) (congrArg₂ (· * ·) (congrArg _ (Fin.ext ?_)) rfl)
    all_goals (simp only <;> omega)
  · rw [dif_neg h0]
    pointwise [rope1]
    rw [dif_neg h0, hx, hx, cos_at, sin_at]
    refine congrArg₂ (· + ·) (congrArg₂ (· * ·) (congrArg _ (Fin.ext ?_)) rfl) (congrArg₂ (· * ·) (congrArg _ (Fin.ext ?_)) rfl)
    all_goals (simp only <;> omega)

end Cert.ProjReferenceIdeal.Value

end
-- ==== Proof.Proj.LogSig.lean ====
/- The two spellings of the logarithm of a sigmoid. -/
module

public import Idealize.ShloMosaic.Lib.Pipeline.ValueKit
public import Idealize.ShloMosaic.Lib.Pointwise
public import Idealize.ShloMosaic.Lib.WordCmp
public import Idealize.ShloMosaic.Lib.Claim
public import proofs.«01_k».proof.Proof.Proj.Spec

@[expose] public section

set_option maxRecDepth 16384

noncomputable section

namespace Cert.Projections

open Idealize.ShloMosaic Idealize.ShloMosaic.TcCoe Idealize.SL.Sem

/-- The logarithm of one plus the exponential of no positive number is not the least extended real. -/
theorem log1p_exp_ne_bot (a : EReal) (ha : a ≤ 0) : Ideal.log1p (Ideal.exp a) ≠ ⊥ := by
  have h1 : Ideal.exp a ≠ ⊤ := by
    induction a using EReal.rec with
    | bot => exact EReal.zero_ne_top
    | top => simp at ha
    | coe r => exact EReal.coe_ne_top (Real.exp r)
  have h0 : 0 ≤ Ideal.exp a := by
    induction a using EReal.rec with
    | bot => exact le_refl (0 : EReal)
    | top => simp at ha
    | coe r => exact EReal.coe_nonneg.mpr (Real.exp_pos r).le
  generalize Ideal.exp a = e at h0 h1
  induction e using EReal.rec with
  | bot => simp at h0
  | top => exact absurd rfl h1
  | coe r =>
    have hr : (0 : ℝ) ≤ r := EReal.coe_nonneg.mp h0
    have e1 : (1 : EReal) + (r : EReal) = ((1 + r : ℝ) : EReal) := by norm_cast
    unfold Ideal.log1p
    rw [e1]
    show (if 1 + r ≤ 0 then (⊥ : EReal) else ((Real.log (1 + r) : ℝ) : EReal)) ≠ ⊥
    rw [if_neg (by linarith)]
    exact EReal.coe_ne_bot _

/-- The absolute value of an extended real is not negative. -/
theorem abs_nonneg (z : EReal) : (0 : EReal) ≤ max z (-z) := by
  rcases le_total 0 z with h | h
  · exact le_max_of_le_left h
  · exact le_max_of_le_right (by simpa using EReal.neg_le_neg_iff.mpr h)

/-- `-softplus (-z)`, as the reference spells it, is `log (sigmoid z)` as the kernel spells it. -/
theorem logSig_eq (z : EReal) :
    -(max (-z) 0 + Ideal.log1p (Ideal.exp (-(max (-z - 0) (-(-z - 0)))))) = logSig z := by
  have e : max (-z) (- -z) = max z (-z) := by rw [neg_neg, max_comm]
  unfold logSig
  simp only [sub_zero, Ideal.absf_def, zero_sub]
  rw [e]
  have hb := log1p_exp_ne_bot (-(max z (-z))) (by simpa using EReal.neg_le_neg_iff.mpr (abs_nonneg z))
  have hm : max (-z) 0 ≠ ⊥ := ne_of_gt (lt_of_lt_of_le (EReal.bot_lt_coe 0) (le_max_right _ _))
  rw [EReal.neg_add (.inl hm) (.inr hb)]
  congr 1
  rcases le_total z 0 with h | h
  · rw [min_eq_left h, max_eq_left (by simpa using EReal.neg_le_neg_iff.mpr h), neg_neg]
  · rw [min_eq_right h, max_eq_right (by simpa using EReal.neg_le_neg_iff.mpr h), neg_zero]

end Cert.Projections

end
-- ==== Proof.Proj.Reference.lean ====
/- The projections' reference: its fourteen results, in terms of the layer's arguments. -/
module

public import Idealize.ShloMosaic.Lib.Pipeline.ValueKit
public import Idealize.ShloMosaic.Lib.Pointwise
public import Idealize.ShloMosaic.Lib.WordCmp
public import Idealize.ShloMosaic.Lib.Claim
public import proofs.«01_k».proof.Proof.Proj.RefPieces
public import proofs.«01_k».proof.Proof.Proj.LogSig

@[expose] public section

set_option maxRecDepth 16384

noncomputable section

namespace Cert.ProjReferenceIdeal.Value

open Idealize.ShloMosaic Idealize.ShloMosaic.TcCoe Idealize.SL.Sem
open Cert.ProjReferenceIdeal Cert.ProjReferenceIdeal.Gen Cert.Projections

variable (V0 : Valuation τ sig (Elt Ideal))

local notation "X" => argX V0
local notation "G" => argG V0
local notation "Wt" => argW V0
local notation "Bf" => argB V0

/-- The layer's product, at equal coordinates. -/
theorem v13_eq {b b' : Fin 4} {s s' : Fin 2048} {n n' : Fin 18604} (hb : (b : ℕ) = b') (hs : (s : ℕ) = s') (hn : (n : ℕ) = n') :
    (res_main_v13 V0 : FVec Ideal S4x2048x18604 .f32) (ix3 b s n) = P X G Wt b' s' n' := by
  obtain rfl := Fin.ext hb; obtain rfl := Fin.ext hs; obtain rfl := Fin.ext hn
  exact v13_at V0 b s n

/-- The rotary embedding, at equal coordinates. -/
theorem R_eq {b b' : Fin 4} {s s' : Fin 2048} {n n' : Fin 18477} {d d' : Fin 128} (hb : (b : ℕ) = b') (hs : (s : ℕ) = s')
    (hn : (n : ℕ) = n') (hd : (d : ℕ) = d') : R X G Wt b s n d = R X G Wt b' s' n' d' := by
  obtain rfl := Fin.ext hb; obtain rfl := Fin.ext hs; obtain rfl := Fin.ext hn; obtain rfl := Fin.ext hd
  rfl

/-! ## The plain projections -/

/-- The forgetting heads' queries. -/
theorem ref_aq : (truncf .bf16 (shapeCast S8192x1536 (extractStridedSlice S4x2048x1536 ![0, 0, 0] (res_main_v13 V0) slices_S4x2048x18604_S4x2048x1536_0_0_0) shapeCasts_S4x2048x1536_S8192x1536) bitsLt_bf16_f32 : FVec Ideal S8192x1536 .bf16)
    = fun j => aq X G Wt (j 0) (j 1) := by
  funext j
  idx_vars j
  pointwise
  refine v13_eq V0 ?_ ?_ ?_
  all_goals (simp only [seqOf, posOf] <;> omega)

/-- The forgetting heads' output gates. -/
theorem ref_ag : (shapeCast S8192x1536 (extractStridedSlice S4x2048x1536 ![0, 0, 4608] (res_main_v13 V0) slices_S4x2048x18604_S4x2048x1536_0_0_4608) shapeCasts_S4x2048x1536_S8192x1536 : FVec Ideal S8192x1536 .f32)
    = fun j => ag X G Wt (j 0) (j 1) := by
  funext j
  idx_vars j
  pointwise
  refine v13_eq V0 ?_ ?_ ?_
  all_goals (simp only [seqOf, posOf] <;> omega)

/-- The sparse heads' output gates. -/
theorem ref_cg : (shapeCast S8192x1536 (extractStridedSlice S4x2048x1536 ![0, 0, 12812] (res_main_v13 V0) slices_S4x2048x18604_S4x2048x1536_0_0_12812) shapeCasts_S4x2048x1536_S8192x1536 : FVec Ideal S8192x1536 .f32)
    = fun j => cg X G Wt (j 0) (j 1) := by
  funext j
  idx_vars j
  pointwise
  refine v13_eq V0 ?_ ?_ ?_
  all_goals (simp only [seqOf, posOf] <;> omega)

/-- The pooling heads' inputs. -/
theorem ref_pb : (shapeCast S8192x2048 (concatenate S4x2048x2048 2 [⟨S4x2048x1024, (res_main_v19 V0)⟩, ⟨S4x2048x1024, (extractStridedSlice S4x2048x1024 ![0, 0, 7180] (res_main_v13 V0) slices_S4x2048x18604_S4x2048x1024_0_0_7180)⟩] concatenates_S4x2048x1024_S4x2048x1024_S4x2048x2048_d2) shapeCasts_S4x2048x2048_S8192x2048 : FVec Ideal S8192x2048 .f32)
    = fun j => pb X G Wt (j 0) (j 1) := by
  funext j
  idx_vars j
  pointwise [res_main_v19]
  split
  all_goals
    refine v13_eq V0 ?_ ?_ ?_
    all_goals (simp only [seqOf, posOf] <;> omega)

/-- The pooling heads' last inputs. -/
theorem ref_pool : (extractStridedSlice S4x15x1024 ![0, 2033, 0] (res_main_v19 V0) slices_S4x2048x1024_S4x15x1024_0_2033_0 : FVec Ideal S4x15x1024 .f32)
    = fun j => Cert.Projections.pool X G Wt (j 0) (j 1) (j 2) := by
  funext j
  idx_vars j
  pointwise [res_main_v19]
  refine v13_eq V0 ?_ ?_ ?_
  all_goals (simp only <;> omega)

/-- The indexer's head weights. -/
theorem ref_iw : (extractStridedSlice S4x2048x32 ![0, 0, 18572] (res_main_v13 V0) slices_S4x2048x18604_S4x2048x32_0_0_18572 : FVec Ideal S4x2048x32 .f32)
    = fun j => iw X G Wt (j 0) (j 1) (j 2) := by
  funext j
  idx_vars j
  pointwise
  refine v13_eq V0 ?_ ?_ ?_
  all_goals (simp only <;> omega)

/-! ## The rotated projections -/

/-- The sparse heads' queries. -/
theorem ref_cq : (truncf .bf16 (shapeCast S8192x1536 (rope12 (res_main_v119 V0) (res_main_v52 V0) (res_main_v54 V0)) shapeCasts_S4x2048x12x128_S8192x1536) bitsLt_bf16_f32 : FVec Ideal S8192x1536 .bf16)
    = fun j => cq X G Wt (j 0) (j 1) := by
  funext j
  idx_vars j
  pointwise
  refine (rope12_at V0 _ 8204 (by omega) (v119_at V0) _ _ _ _).trans (R_eq V0 ?_ ?_ ?_ ?_)
  all_goals (simp only [seqOf, posOf] <;> omega)

/-- The indexer's queries. -/
theorem ref_iq : (truncf .bf16 (shapeCast S8192x4096 (rope32 (res_main_v159 V0) (res_main_v52 V0) (res_main_v54 V0)) shapeCasts_S4x2048x32x128_S8192x4096) bitsLt_bf16_f32 : FVec Ideal S8192x4096 .bf16)
    = fun j => iq X G Wt (j 0) (j 1) := by
  funext j
  idx_vars j
  pointwise
  refine (rope32_at V0 _ 14348 (by omega) (v159_at V0) _ _ _ _).trans (R_eq V0 ?_ ?_ ?_ ?_)
  all_goals (simp only [seqOf, posOf] <;> omega)

/-- The indexer's key. -/
theorem ref_ik : (shapeCast S4x2048x128 (rope1 (res_main_v76 V0) (res_main_v52 V0) (res_main_v54 V0)) shapeCasts_S4x2048x1x128_S4x2048x128 : FVec Ideal S4x2048x128 .f32)
    = fun j => ik X G Wt (j 0) (j 1) (j 2) := by
  funext j
  idx_vars j
  pointwise
  refine (rope1_at V0 _ 18444 (by omega) (v76_at V0) _ _ _ _).trans (R_eq V0 ?_ ?_ ?_ ?_)
  all_goals (simp only <;> omega)

/-! ## The keys and values -/

/-- Keys and values side by side. -/
def pairKV (k v : FVec Ideal S4x2048x12x128 .f32) : FVec Ideal S4x2048x2x12x128 .f32 :=
  concatenate S4x2048x2x12x128 2 [⟨S4x2048x1x12x128, (broadcastInDim S4x2048x1x12x128 ![0, 1, 3, 4] bcast_S4x2048x12x128_S4x2048x1x12x128_0_1_3_4 k)⟩, ⟨S4x2048x1x12x128, (broadcastInDim S4x2048x1x12x128 ![0, 1, 3, 4] bcast_S4x2048x12x128_S4x2048x1x12x128_0_1_3_4 v)⟩] concatenates_S4x2048x1x12x128_S4x2048x1x12x128_S4x2048x2x12x128_d2

theorem pairKV_at (k v : FVec Ideal S4x2048x12x128 .f32) (b : Fin 4) (s : Fin 2048) (t : Fin 2) (h : Fin 12) (d : Fin 128) :
    pairKV k v (ix5 b s t h d) = if (t : ℕ) = 0 then k (ix4 b s h d) else v (ix4 b s h d) := by
  by_cases h0 : (t : ℕ) = 0
  · rw [if_pos h0]
    pointwise [pairKV]
    rw [dif_pos (by omega)]
  · rw [if_neg h0]
    pointwise [pairKV]
    rw [dif_neg (by omega)]

/-- The flat array of them. -/
def flatKV (a : FVec Ideal S4x2048x2x12x128 .f32) : FVec Ideal S8192x3072 .bf16 :=
  truncf .bf16 (shapeCast S8192x3072 (transpose S4x2048x12x2x128 [0, 1, 3, 2, 4] a transposes_S4x2048x2x12x128_S4x2048x12x2x128_0_1_3_2_4) shapeCasts_S4x2048x12x2x128_S8192x3072) bitsLt_bf16_f32

theorem flatKV_at (a : FVec Ideal S4x2048x2x12x128 .f32) (r : Fin 8192) (l : Fin 3072) :
    flatKV a (ix2 r l) = flat (fun b s t h d => a (ix5 b s t h d)) r l := by
  unfold flat
  pointwise [flatKV]
  blk_ext [seqOf, posOf]

theorem v34_at (b : Fin 4) (s : Fin 2048) (h : Fin 12) (d : Fin 128) :
    (shapeCast S4x2048x12x128 (extractStridedSlice S4x2048x1536 ![0, 0, 1536] (res_main_v13 V0) slices_S4x2048x18604_S4x2048x1536_0_0_1536) shapeCasts_S4x2048x1536_S4x2048x12x128 : FVec Ideal S4x2048x12x128 .f32) (ix4 b s h d)
      = P X G Wt b s ⟨1536 + h * 128 + d, by omega⟩ := by
  pointwise
  refine v13_eq V0 ?_ ?_ ?_
  all_goals (simp only <;> omega)
theorem v35_at (b : Fin 4) (s : Fin 2048) (h : Fin 12) (d : Fin 128) :
    (shapeCast S4x2048x12x128 (extractStridedSlice S4x2048x1536 ![0, 0, 3072] (res_main_v13 V0) slices_S4x2048x18604_S4x2048x1536_0_0_3072) shapeCasts_S4x2048x1536_S4x2048x12x128 : FVec Ideal S4x2048x12x128 .f32) (ix4 b s h d)
      = P X G Wt b s ⟨3072 + h * 128 + d, by omega⟩ := by
  pointwise
  refine v13_eq V0 ?_ ?_ ?_
  all_goals (simp only <;> omega)
theorem v40_at (b : Fin 4) (s : Fin 2048) (h : Fin 12) (d : Fin 128) :
    (shapeCast S4x2048x12x128 (extractStridedSlice S4x2048x1536 ![0, 0, 11276] (res_main_v13 V0) slices_S4x2048x18604_S4x2048x1536_0_0_11276) shapeCasts_S4x2048x1536_S4x2048x12x128 : FVec Ideal S4x2048x12x128 .f32) (ix4 b s h d)
      = P X G Wt b s ⟨11276 + h * 128 + d, by omega⟩ := by
  pointwise
  refine v13_eq V0 ?_ ?_ ?_
  all_goals (simp only <;> omega)

/-- The forgetting heads' keys and values. -/
def refAkv : FVec Ideal S4x2048x2x12x128 .f32 := pairKV
  (shapeCast S4x2048x12x128 (extractStridedSlice S4x2048x1536 ![0, 0, 1536] (res_main_v13 V0) slices_S4x2048x18604_S4x2048x1536_0_0_1536) shapeCasts_S4x2048x1536_S4x2048x12x128)
  (shapeCast S4x2048x12x128 (extractStridedSlice S4x2048x1536 ![0, 0, 3072] (res_main_v13 V0) slices_S4x2048x18604_S4x2048x1536_0_0_3072) shapeCasts_S4x2048x1536_S4x2048x12x128)

theorem refAkv_at (b : Fin 4) (s : Fin 2048) (t : Fin 2) (h : Fin 12) (d : Fin 128) :
    refAkv V0 (ix5 b s t h d) = akv X G Wt b s t h d := by
  refine (pairKV_at _ _ b s t h d).trans ?_
  rw [v34_at, v35_at]
  unfold akv
  split
  all_goals exact congrArg _ (Fin.ext (by simp only <;> omega))

/-- The sparse heads' keys, rotated, and values. -/
def refCkv : FVec Ideal S4x2048x2x12x128 .f32 := pairKV (rope12 (res_main_v38 V0) (res_main_v52 V0) (res_main_v54 V0))
  (shapeCast S4x2048x12x128 (extractStridedSlice S4x2048x1536 ![0, 0, 11276] (res_main_v13 V0) slices_S4x2048x18604_S4x2048x1536_0_0_11276) shapeCasts_S4x2048x1536_S4x2048x12x128)

theorem refCkv_at (b : Fin 4) (s : Fin 2048) (t : Fin 2) (h : Fin 12) (d : Fin 128) :
    refCkv V0 (ix5 b s t h d) = ckv X G Wt b s t h d := by
  refine (pairKV_at _ _ b s t h d).trans ?_
  rw [v40_at, rope12_at V0 _ 9740 (by omega) (v38_at V0)]
  rfl

theorem ref_akv : refAkv V0 = fun j => akv X G Wt (j 0) (j 1) (j 2) (j 3) (j 4) := by
  funext j
  idx_vars j
  exact refAkv_at V0 _ _ _ _ _

theorem ref_ckv : refCkv V0 = fun j => ckv X G Wt (j 0) (j 1) (j 2) (j 3) (j 4) := by
  funext j
  idx_vars j
  exact refCkv_at V0 _ _ _ _ _

theorem ref_akvb : flatKV (refAkv V0) = fun j => flat (akv X G Wt) (j 0) (j 1) := by
  funext j
  idx_vars j
  exact (flatKV_at _ _ _).trans (refAkv_at V0 _ _ _ _ _)

theorem ref_ckvb : flatKV (refCkv V0) = fun j => flat (ckv X G Wt) (j 0) (j 1) := by
  funext j
  idx_vars j
  exact (flatKV_at _ _ _).trans (refCkv_at V0 _ _ _ _ _)

/-! ## The forget gates -/

/-- The negated input of a gate. -/
theorem call0_at (b : Fin 4) (s : Fin 2048) (h : Fin 12) :
    (res_main_call0_v0 V0 : FVec Ideal S4x2048x12 .f32) (ix3 b s h) = -(P X G Wt b s ⟨6144 + h, by omega⟩ + Bf h) := by
  pointwise [res_main_call0_v0]
  refine congrArg _ (congrArg₂ (· + ·) (v13_eq V0 rfl rfl ?_) rfl)
  simp only <;> omega

/-- The logarithms of the gates. -/
theorem ref_logf : (Host.negf (select (cmpf .une (res_main_call0_call0_v3 V0) (res_main_call0_call0_v3 V0)) (addf (res_main_call0_v0 V0) (broadcastInDim S4x2048x12 ![] bcast_S_S4x2048x12 (res_main_call0_call0_cst V0))) (addf (maximumf (res_main_call0_v0 V0) (broadcastInDim S4x2048x12 ![] bcast_S_S4x2048x12 (res_main_call0_call0_cst V0))) (Host.log1p (Host.exp (Host.negf (Host.absf (res_main_call0_call0_v3 V0))))))) : FVec Ideal S4x2048x12 .f32)
    = fun j => gate X G Wt Bf (j 0) (j 1) (j 2) := by
  funext j
  idx_vars j
  unfold gate
  pointwise [res_main_call0_call0_v3, res_main_call0_call0_cst]
  rw [call0_at]
  refine Eq.trans ?_ (logSig_eq _)
  simp [show ∀ z : EReal, FloatOps.absf (F := Ideal) (φ := .f32) z = max z (-z) from fun _ => rfl]

end Cert.ProjReferenceIdeal.Value

end
-- ==== Proof.Proj.RefRun.lean ====
/- The run of the projections' reference: its fourteen results, in terms of the layer's arguments. -/
module

public import Idealize.ShloMosaic.Lib.Pipeline.ValueKit
public import Idealize.ShloMosaic.Lib.Pointwise
public import Idealize.ShloMosaic.Lib.WordCmp
public import Idealize.ShloMosaic.Lib.Claim
public import proofs.«01_k».proof.Proof.Proj.Reference

@[expose] public section

set_option maxRecDepth 16384

noncomputable section

namespace Cert.ProjReferenceIdeal.Value

open Idealize.ShloMosaic Idealize.ShloMosaic.TcCoe Idealize.SL.Sem
open Idealize.ShloMosaic.StableHlo
open Cert.ProjReferenceIdeal Cert.ProjReferenceIdeal.Gen Cert.Projections

variable (m : (ℓ : Loc nD τ sig) → Buf (Elt Ideal) ℓ) (ρ : Dev nD → PrngReg)

set_option maxHeartbeats 2000000 in
/-- The reference's fourteen results, and the arguments as they were. -/
theorem run_values : θ_run (defs (F := Ideal)) (onTc (τ := τ) (main (F := Ideal))) ⟨m, fun _ => 0, ρ⟩ (fun r => ∀ c : Dev nD,
      r.2.mem ((c.tc : Thread nD τ).loc main_v112) = (fun j => aq (argX (launchContents m c)) (argG (launchContents m c)) (argW (launchContents m c)) (j 0) (j 1) : FVec Ideal S8192x1536 .bf16)
      ∧ r.2.mem ((c.tc : Thread nD τ).loc main_v37) = (fun j => akv (argX (launchContents m c)) (argG (launchContents m c)) (argW (launchContents m c)) (j 0) (j 1) (j 2) (j 3) (j 4) : FVec Ideal S4x2048x2x12x128 .f32)
      ∧ r.2.mem ((c.tc : Thread nD τ).loc main_v115) = (fun j => flat (akv (argX (launchContents m c)) (argG (launchContents m c)) (argW (launchContents m c))) (j 0) (j 1) : FVec Ideal S8192x3072 .bf16)
      ∧ r.2.mem ((c.tc : Thread nD τ).loc main_v116) = (fun j => ag (argX (launchContents m c)) (argG (launchContents m c)) (argW (launchContents m c)) (j 0) (j 1) : FVec Ideal S8192x1536 .f32)
      ∧ r.2.mem ((c.tc : Thread nD τ).loc main_v118) = (fun j => pb (argX (launchContents m c)) (argG (launchContents m c)) (argW (launchContents m c)) (j 0) (j 1) : FVec Ideal S8192x2048 .f32)
      ∧ r.2.mem ((c.tc : Thread nD τ).loc main_v154) = (fun j => cq (argX (launchContents m c)) (argG (launchContents m c)) (argW (launchContents m c)) (j 0) (j 1) : FVec Ideal S8192x1536 .bf16)
      ∧ r.2.mem ((c.tc : Thread nD τ).loc main_v75) = (fun j => ckv (argX (launchContents m c)) (argG (launchContents m c)) (argW (launchContents m c)) (j 0) (j 1) (j 2) (j 3) (j 4) : FVec Ideal S4x2048x2x12x128 .f32)
      ∧ r.2.mem ((c.tc : Thread nD τ).loc main_v157) = (fun j => flat (ckv (argX (launchContents m c)) (argG (launchContents m c)) (argW (launchContents m c))) (j 0) (j 1) : FVec Ideal S8192x3072 .bf16)
      ∧ r.2.mem ((c.tc : Thread nD τ).loc main_v158) = (fun j => cg (argX (launchContents m c)) (argG (launchContents m c)) (argW (launchContents m c)) (j 0) (j 1) : FVec Ideal S8192x1536 .f32)
      ∧ r.2.mem ((c.tc : Thread nD τ).loc main_v194) = (fun j => iq (argX (launchContents m c)) (argG (launchContents m c)) (argW (launchContents m c)) (j 0) (j 1) : FVec Ideal S8192x4096 .bf16)
      ∧ r.2.mem ((c.tc : Thread nD τ).loc main_v32) = (fun j => gate (argX (launchContents m c)) (argG (launchContents m c)) (argW (launchContents m c)) (argB (launchContents m c)) (j 0) (j 1) (j 2) : FVec Ideal S4x2048x12 .f32)
      ∧ r.2.mem ((c.tc : Thread nD τ).loc main_v27) = (fun j => iw (argX (launchContents m c)) (argG (launchContents m c)) (argW (launchContents m c)) (j 0) (j 1) (j 2) : FVec Ideal S4x2048x32 .f32)
      ∧ r.2.mem ((c.tc : Thread nD τ).loc main_v110) = (fun j => ik (argX (launchContents m c)) (argG (launchContents m c)) (argW (launchContents m c)) (j 0) (j 1) (j 2) : FVec Ideal S4x2048x128 .f32)
      ∧ r.2.mem ((c.tc : Thread nD τ).loc main_v195) = (fun j => Cert.Projections.pool (argX (launchContents m c)) (argG (launchContents m c)) (argW (launchContents m c)) (j 0) (j 1) (j 2) : FVec Ideal S4x15x1024 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
  := (θ_run (defs (F := Ideal)) _ _).mono (fun r h c => by
    obtain ⟨h0, h1, h2, h3, h4, h5, h6, h7, h8, h9, h10, h11, h12, h13, hargs⟩ := h c
    exact ⟨h0.trans (ref_aq (launchContents m c)), h1.trans (ref_akv (launchContents m c)), h2.trans (ref_akvb (launchContents m c)), h3.trans (ref_ag (launchContents m c)), h4.trans (ref_pb (launchContents m c)), h5.trans (ref_cq (launchContents m c)), h6.trans (ref_ckv (launchContents m c)), h7.trans (ref_ckvb (launchContents m c)), h8.trans (ref_cg (launchContents m c)), h9.trans (ref_iq (launchContents m c)), h10.trans (ref_logf (launchContents m c)), h11.trans (ref_iw (launchContents m c)), h12.trans (ref_ik (launchContents m c)), h13.trans (ref_pool (launchContents m c)), hargs⟩) (run (F := Ideal) m ρ)

end Cert.ProjReferenceIdeal.Value

end
-- ==== Proof.Merge.Spec.lean ====
/- The layer's end in scalars: the row of the three mixes side by side against a column of the output weights, cut in three. -/
module

public import Idealize.ShloMosaic.Lib.Pipeline.ValueKit
public import Idealize.ShloMosaic.Lib.Pointwise
public import Idealize.ShloMosaic.Lib.WordCmp
public import Idealize.ShloMosaic.Lib.Claim
public import proofs.«01_k».proof.Proof.Proj.Spec

@[expose] public section

set_option maxRecDepth 16384

noncomputable section

namespace Cert.OutProj

open Idealize.ShloMosaic Idealize.ShloMosaic.TcCoe Idealize.SL.Sem
open Cert.Projections

/-- Three rows side by side. -/
def cat (a : Fin 1536 → EReal) (b : Fin 1024 → EReal) (c : Fin 1536 → EReal) (k : Fin 4096) : EReal :=
  if h : (k : ℕ) < 1536 then a ⟨k, h⟩ else if h : (k : ℕ) < 2560 then b ⟨k - 1536, by omega⟩ else c ⟨k - 2560, by omega⟩

/-- The product of three rows with three columns, one after the other. -/
def dot3 (a : Fin 1536 → EReal) (b : Fin 1024 → EReal) (c : Fin 1536 → EReal) (u : Fin 1536 → EReal) (v : Fin 1024 → EReal)
    (w : Fin 1536 → EReal) : EReal := ∑ k, a k * u k + ∑ k, b k * v k + ∑ k, c k * w k

/-- A sum over 4096 terms in three stretches. -/
theorem sum_split (f : Fin 4096 → EReal) : ∑ k, f k
    = ∑ k : Fin 1536, f ⟨k, by omega⟩ + ∑ k : Fin 1024, f ⟨1536 + k, by omega⟩ + ∑ k : Fin 1536, f ⟨2560 + k, by omega⟩ := by
  refine (Fin.sum_univ_add (a := 2560) (b := 1536) f).trans ?_
  exact congrArg₂ (· + ·) (Fin.sum_univ_add (a := 1536) (b := 1024) fun k => f (Fin.castAdd 1536 k)) rfl

/-- The product of the whole row is the sum of the three products. -/
theorem dot_cat (a : Fin 1536 → EReal) (b : Fin 1024 → EReal) (c : Fin 1536 → EReal) (w : Fin 4096 → EReal) :
    dot (cat a b c) w = dot3 a b c (fun k => w ⟨k, by omega⟩) (fun k => w ⟨1536 + k, by omega⟩) (fun k => w ⟨2560 + k, by omega⟩) := by
  unfold dot dot3
  rw [sum_split]
  refine congrArg₂ (· + ·) (congrArg₂ (· + ·) ?_ ?_) ?_
  · refine Finset.sum_congr rfl fun k _ => congrArg (· * _) ?_
    exact dif_pos k.isLt
  · refine Finset.sum_congr rfl fun k _ => congrArg (· * _) ?_
    refine (dif_neg (by simp only; omega)).trans ((dif_pos (by simp only; omega)).trans (congrArg b (Fin.ext ?_)))
    simp only; omega
  · refine Finset.sum_congr rfl fun k _ => congrArg (· * _) ?_
    refine (dif_neg (by simp only; omega)).trans ((dif_neg (by simp only; omega)).trans (congrArg c (Fin.ext ?_)))
    simp only; omega

/-- One element plus the normalised row's. -/
def plus (x : EReal) (y g : Fin 4096 → EReal) (n : Fin 4096) : EReal := x + rms y g n

/-- The layer's output: its input, and beside it the mixes' product normalised. -/
def merged (x : Fin 4 → Fin 2048 → Fin 4096 → EReal) (a : Fin 8192 → Fin 1536 → EReal) (b : Fin 8192 → Fin 1024 → EReal)
    (c : Fin 8192 → Fin 1536 → EReal) (w : Fin 4096 → Fin 4096 → EReal) (g : Fin 4096 → EReal)
    (s : Fin 4) (t : Fin 2048) (n : Fin 4096) : EReal :=
  plus (x s t n) (fun l => dot (cat (a ⟨s * 2048 + t, by omega⟩) (b ⟨s * 2048 + t, by omega⟩) (c ⟨s * 2048 + t, by omega⟩))
    (fun k => w k l)) g n

end Cert.OutProj

end
-- ==== Proof.Merge.Value.lean ====
/- The two calls of the layer's end: the arrays they leave. -/
module

public import Idealize.ShloMosaic.Lib.Pipeline.ValueKit
public import Idealize.ShloMosaic.Lib.Pointwise
public import Idealize.ShloMosaic.Lib.WordCmp
public import Idealize.ShloMosaic.Lib.Claim
public import proofs.«01_k».proof.Proof.Gen.MergeIdeal.Frame
public import proofs.«01_k».proof.Proof.Merge.Spec

@[expose] public section

set_option maxRecDepth 16384

noncomputable section

namespace Cert.MergeIdeal.Gen

open Idealize.ShloMosaic Idealize.ShloMosaic.TcCoe Idealize.SL.Sem
open Cert.MergeIdeal Cert.Projections Cert.OutProj

variable (V : (c : Dev nD) → (b : Ref sig .tc) → Buf (Elt Ideal) ((c : Thread nD τ).loc b))

/-- One element of a block of the product. -/
theorem mixed_at (xa : Vec Ideal S1024x1536 .bf16) (xb : Vec Ideal S1024x1024 .bf16) (xc : Vec Ideal S1024x1536 .bf16)
    (wa : Vec Ideal S1536x512 .bf16) (wb : Vec Ideal S1024x512 .bf16) (wc : Vec Ideal S1536x512 .bf16) (y : S1024x512.Idx) :
    out0_6 xa xb xc wa wb wc y = dot3 (fun k => xa (ix2 (y 0) k)) (fun k => xb (ix2 (y 0) k)) (fun k => xc (ix2 (y 0) k))
      (fun k => wa (ix2 k (y 1))) (fun k => wb (ix2 k (y 1))) (fun k => wc (ix2 k (y 1))) := by
  canon_tiles z hz
  idx_vars z
  have e0 : y 0 = z0 := Fin.ext hz0
  have e1 : y 1 = z1 := Fin.ext hz1
  rw [e0, e1]
  unfold dot3
  pointwise [k0_pay1]

/-- One element of a block of the normalised sum. -/
theorem post_at (x y : Vec Ideal S256x4096 .f32) (g : Vec Ideal S1x4096 .f32) (i : S256x4096.Idx) :
    out1_3 x y g i = plus (x (ix2 (i 0) (i 1))) (fun k => y (ix2 (i 0) k)) (fun k => g (ix2 0 k)) (i 1) := by
  canon_tiles z hz
  idx_vars z
  have e0 : i 0 = z0 := Fin.ext hz0
  have e1 : i 1 = z1 := Fin.ext hz1
  rw [e0, e1]
  unfold plus rms
  pointwise [k1_pay1]

/-- The index maps of the product: the eight column blocks run fastest. -/
theorem idx0 : ∀ t : Fin cfg0.N, win0_0.index t = ![t.val / 8, 0] ∧ win0_1.index t = ![t.val / 8, 0] ∧ win0_2.index t = ![t.val / 8, 0]
    ∧ win0_3.index t = ![0, t.val % 8] ∧ win0_4.index t = ![0, t.val % 8] ∧ win0_5.index t = ![0, t.val % 8]
    ∧ win0_6.index t = ![t.val / 8, t.val % 8] := (by decide +kernel : ∀ t : Fin grid0.N, _)

/-- The index maps of the normalisation. -/
theorem idx1 : ∀ t : Fin cfg1.N, win1_0.index t = ![t.val, 0] ∧ win1_1.index t = ![t.val, 0] ∧ win1_2.index t = ![0, 0]
    ∧ win1_3.index t = ![t.val, 0] := (by decide +kernel : ∀ t : Fin grid1.N, _)

/-- The rows' product. -/
def mixed (A : Vec Ideal S8192x1536 .bf16) (B : Vec Ideal S8192x1024 .bf16) (C : Vec Ideal S8192x1536 .bf16)
    (WA : Vec Ideal S1536x4096 .bf16) (WB : Vec Ideal S1024x4096 .bf16) (WC : Vec Ideal S1536x4096 .bf16) : Vec Ideal S8192x4096 .f32 := fun j =>
  dot3 (fun k => A (ix2 (j 0) k)) (fun k => B (ix2 (j 0) k)) (fun k => C (ix2 (j 0) k))
    (fun k => WA (ix2 k (j 1))) (fun k => WB (ix2 k (j 1))) (fun k => WC (ix2 k (j 1)))

/-- THE ARRAY the product leaves. -/
theorem final0 (c : Dev nD) : (dat0 V c).arrAt 6 cfg0.N
    = mixed (V c main_arg1) (V c main_arg2) (V c main_arg3) (V c main_v1) (V c main_v3) (V c main_v5) := by
  refine (dat0 V c).arrAt_eq_of_covers 6 _ (by decide +kernel) fun t _ y => ?_
  blk_simp
  rw [after0_6]
  refine (mixed_at _ _ _ _ _ _ _).trans ?_
  unfold mixed
  congr 1 <;> funext k
  all_goals blk_ext [iblk0, idx0 t]

/-- THE ARRAY the normalisation leaves. -/
theorem final1 (c : Dev nD) : (dat1 V c).arrAt 3 cfg1.N = (fun j : S8192x4096.Idx =>
    plus ((V c main_v6 : Vec Ideal S8192x4096 .f32) (ix2 (j 0) (j 1))) (fun k => (V c main_v7 : Vec Ideal S8192x4096 .f32) (ix2 (j 0) k))
      (fun k => (V c main_v8 : Vec Ideal S1x4096 .f32) (ix2 0 k)) (j 1) : Vec Ideal S8192x4096 .f32) := by
  refine (dat1 V c).arrAt_eq_of_covers 3 _ (by decide +kernel) fun t _ y => ?_
  blk_simp
  rw [after1_3]
  refine (post_at _ _ _ _).trans ?_
  congr 1
  · blk_ext [iblk1, idx1 t]
  · funext k; blk_ext [iblk1, idx1 t]
  · funext k; blk_ext [iblk1, idx1 t]
  · exact Fin.ext (by blk_simp [idx1 t])

end Cert.MergeIdeal.Gen

end
-- ==== Proof.Merge.Run.lean ====
/- The run of the layer's end: its result, in terms of its arguments. -/
module

public import Idealize.ShloMosaic.Lib.Pipeline.ValueKit
public import Idealize.ShloMosaic.Lib.Pointwise
public import Idealize.ShloMosaic.Lib.WordCmp
public import Idealize.ShloMosaic.Lib.Claim
public import proofs.«01_k».proof.Proof.Gen.MergeIdeal.Frame
public import proofs.«01_k».proof.Proof.Merge.Value

@[expose] public section

set_option maxRecDepth 16384

noncomputable section

namespace Cert.MergeIdeal.Gen

open Idealize.ShloMosaic Idealize.ShloMosaic.TcCoe Idealize.SL.Sem
open Idealize.ShloMosaic.Tactic
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat Cfg Window BodyObligation cellOf)
open Cert.MergeIdeal Cert.Projections Cert.OutProj

local notation "𝕄" => MT nD τ sig Unit (Elt Ideal) ℕ (UR sig nD τ) ℕ

variable (m : (ℓ : Loc nD τ sig) → Buf (Elt Ideal) ℓ) (ρ : Dev nD → PrngReg)

open StableHlo (after)

/-! ## What the host operations lay out -/

section Host

variable (V0 : Valuation τ sig (Elt Ideal))

theorem oa_at (k : Fin 1536) (l : Fin 4096) : (after hostOps0 V0 (Proc.devRef .tc main_v1) : Vec Ideal S1536x4096 .bf16) (ix2 k l)
    = (V0 (Proc.devRef .tc main_arg4) : Vec Ideal S4096x4096 .f32) (ix2 ⟨k, by omega⟩ l) := by
  simp only [hostOps0]
  entry_read
  pointwise

theorem ob_at (k : Fin 1024) (l : Fin 4096) : (after hostOps0 V0 (Proc.devRef .tc main_v3) : Vec Ideal S1024x4096 .bf16) (ix2 k l)
    = (V0 (Proc.devRef .tc main_arg4) : Vec Ideal S4096x4096 .f32) (ix2 ⟨1536 + k, by omega⟩ l) := by
  simp only [hostOps0]
  entry_read
  pointwise

theorem oc_at (k : Fin 1536) (l : Fin 4096) : (after hostOps0 V0 (Proc.devRef .tc main_v5) : Vec Ideal S1536x4096 .bf16) (ix2 k l)
    = (V0 (Proc.devRef .tc main_arg4) : Vec Ideal S4096x4096 .f32) (ix2 ⟨2560 + k, by omega⟩ l) := by
  simp only [hostOps0]
  entry_read
  pointwise

theorem x_at (b : Fin 4) (s : Fin 2048) (k : Fin 4096) :
    (after hostOps0 V0 (Proc.devRef .tc main_v6) : Vec Ideal S8192x4096 .f32) (ix2 ⟨b * 2048 + s, by omega⟩ k)
      = (V0 (Proc.devRef .tc main_arg0) : Vec Ideal S4x2048x4096 .f32) (ix3 b s k) := by
  simp only [hostOps0]
  entry_read
  pointwise
  all_goals (congr 1; omega)

theorem g_at (k : Fin 4096) : (after hostOps1 V0 (Proc.devRef .tc main_v8) : Vec Ideal S1x4096 .f32) (ix2 0 k)
    = (V0 (Proc.devRef .tc main_arg5) : Vec Ideal S4096 .f32) (ix1 k) := by
  simp only [hostOps1]
  entry_read
  pointwise

theorem out_at (b : Fin 4) (s : Fin 2048) (k : Fin 4096) : (after hostOps2 V0 (Proc.devRef .tc main_v10) : Vec Ideal S4x2048x4096 .f32) (ix3 b s k)
    = (V0 (Proc.devRef .tc main_v9) : Vec Ideal S8192x4096 .f32) (ix2 ⟨b * 2048 + s, by omega⟩ k) := by
  simp only [hostOps2]
  entry_read
  pointwise

end Host

/-! ## The arguments, by coordinates -/

def argX (c : Dev nD) (b : Fin 4) (s : Fin 2048) (k : Fin 4096) : EReal := (m ((c.tc : Thread nD τ).loc main_arg0) : Vec Ideal S4x2048x4096 .f32) (ix3 b s k)
def mixA (c : Dev nD) (r : Fin 8192) (k : Fin 1536) : EReal := (m ((c.tc : Thread nD τ).loc main_arg1) : Vec Ideal S8192x1536 .bf16) (ix2 r k)
def mixB (c : Dev nD) (r : Fin 8192) (k : Fin 1024) : EReal := (m ((c.tc : Thread nD τ).loc main_arg2) : Vec Ideal S8192x1024 .bf16) (ix2 r k)
def mixC (c : Dev nD) (r : Fin 8192) (k : Fin 1536) : EReal := (m ((c.tc : Thread nD τ).loc main_arg3) : Vec Ideal S8192x1536 .bf16) (ix2 r k)
def argW (c : Dev nD) (k l : Fin 4096) : EReal := (m ((c.tc : Thread nD τ).loc main_arg4) : Vec Ideal S4096x4096 .f32) (ix2 k l)
def argG (c : Dev nD) (k : Fin 4096) : EReal := (m ((c.tc : Thread nD τ).loc main_arg5) : Vec Ideal S4096 .f32) (ix1 k)

/-- The result by coordinates, from the arguments. -/
def out (c : Dev nD) : Vec Ideal S4x2048x4096 .f32 := fun j =>
  merged (argX m c) (mixA m c) (mixB m c) (mixC m c) (argW m c) (argG m c) (j 0) (j 1) (j 2)

/-! ## The arrays between the calls -/

/-- One element of the product. -/
theorem mixed_elem (c : Dev nD) (r : Fin 8192) (l : Fin 4096) : (W2 m ρ c (Proc.devRef .tc main_v7) : Vec Ideal S8192x4096 .f32) (ix2 r l)
    = dot (cat (mixA m c r) (mixB m c r) (mixC m c r)) (fun k => argW m c k l) := by
  refine (congrFun ((W2_arr m ρ c 6).trans (final0 (V1 m ρ) c)) (ix2 r l)).trans ?_
  refine Eq.trans ?_ (dot_cat _ _ _ _).symm
  unfold mixed
  congr 1
  · exact funext fun k => oa_at (W0 m ρ c) k l
  · exact funext fun k => ob_at (W0 m ρ c) k l
  · exact funext fun k => oc_at (W0 m ρ c) k l

/-- The layer's output. -/
theorem out_arr (c : Dev nD) : (W5 m ρ c (Proc.devRef .tc main_v10) : Vec Ideal S4x2048x4096 .f32) = out m c := by
  funext j
  idx_vars j
  refine (out_at (W4 m ρ c) _ _ _).trans ((congrFun ((W4_arr m ρ c 3).trans (final1 (V3 m ρ) c)) (ix2 _ _)).trans ?_)
  unfold out merged
  congr 1
  · refine (congrFun ((W3_of m ρ c main_v6 (by decide)).trans (W2_of m ρ c main_v6 (by decide +kernel))) _).trans ?_
    exact x_at (W0 m ρ c) _ _ _
  · funext l
    exact (congrFun (W3_of m ρ c main_v7 (by decide)) _).trans (mixed_elem m ρ c _ l)
  · funext k
    exact (g_at (W2 m ρ c) k).trans (congrFun (W2_args m ρ c main_arg5 (by decide)) (ix1 k))

/-! ## The run -/

set_option backward.isDefEq.respectTransparency.types false in
/-- Every buffer that outlives the calls ends with the last boundary's contents. -/
theorem run_all : θ_run defs (onTc (τ := τ) (main (F := Ideal))) ⟨m, fun _ => 0, ρ⟩ (fun r => ∀ c : Dev nD,
      ∀ b ∈ Pipeline.ucRefs τ sig, r.2.mem (((c : Thread nD τ)).1, b) = W5 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => h)

/-- The result, and the arguments as they were. -/
theorem run_values : θ_run defs (onTc (τ := τ) (main (F := Ideal))) ⟨m, fun _ => 0, ρ⟩ (fun r => ∀ c : Dev nD,
      r.2.mem ((c.tc : Thread nD τ).loc main_v10) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_v10 (by decide))).trans (out_arr m ρ c),
      (h c _ (mem_uc main_arg0 (by decide))).trans (W5_main_arg0 m ρ c),
      (h c _ (mem_uc main_arg1 (by decide))).trans (W5_main_arg1 m ρ c),
      (h c _ (mem_uc main_arg2 (by decide))).trans (W5_main_arg2 m ρ c),
      (h c _ (mem_uc main_arg3 (by decide))).trans (W5_main_arg3 m ρ c),
      (h c _ (mem_uc main_arg4 (by decide))).trans (W5_main_arg4 m ρ c),
      (h c _ (mem_uc main_arg5 (by decide))).trans (W5_main_arg5 m ρ c)⟩) (run_all m ρ)

end Cert.MergeIdeal.Gen

end
-- ==== Proof.Merge.Reference.lean ====
/- The reference of the layer's end: its result, element by element. -/
module

public import Idealize.ShloMosaic.Lib.Pipeline.ValueKit
public import Idealize.ShloMosaic.Lib.Pointwise
public import Idealize.ShloMosaic.Lib.WordCmp
public import Idealize.ShloMosaic.Lib.Claim
public import proofs.«01_k».proof.Proof.Gen.MergeReferenceIdeal.Run
public import proofs.«01_k».proof.Proof.Merge.Spec

@[expose] public section

set_option maxRecDepth 16384

noncomputable section

namespace Cert.MergeReferenceIdeal.Value

open Idealize.ShloMosaic Idealize.ShloMosaic.TcCoe Idealize.SL.Sem
open Idealize.ShloMosaic.StableHlo
open Cert.MergeReferenceIdeal Cert.MergeReferenceIdeal.Gen Cert.Projections Cert.OutProj

variable (m : (ℓ : Loc nD τ sig) → Buf (Elt Ideal) ℓ) (ρ : Dev nD → PrngReg)

/-- The arguments, by coordinates. -/
def argX (c : Dev nD) (b : Fin 4) (s : Fin 2048) (k : Fin 4096) : EReal := (m ((c.tc : Thread nD τ).loc main_arg0) : FVec Ideal S4x2048x4096 .f32) (ix3 b s k)
def mixA (c : Dev nD) (r : Fin 8192) (k : Fin 1536) : EReal := (m ((c.tc : Thread nD τ).loc main_arg1) : FVec Ideal S8192x1536 .bf16) (ix2 r k)
def mixB (c : Dev nD) (r : Fin 8192) (k : Fin 1024) : EReal := (m ((c.tc : Thread nD τ).loc main_arg2) : FVec Ideal S8192x1024 .bf16) (ix2 r k)
def mixC (c : Dev nD) (r : Fin 8192) (k : Fin 1536) : EReal := (m ((c.tc : Thread nD τ).loc main_arg3) : FVec Ideal S8192x1536 .bf16) (ix2 r k)
def argW (c : Dev nD) (k l : Fin 4096) : EReal := (m ((c.tc : Thread nD τ).loc main_arg4) : FVec Ideal S4096x4096 .f32) (ix2 k l)
def argG (c : Dev nD) (k : Fin 4096) : EReal := (m ((c.tc : Thread nD τ).loc main_arg5) : FVec Ideal S4096 .f32) (ix1 k)

/-! ## The pieces -/

/-- The three mixes side by side. -/
def catV (A : FVec Ideal S8192x1536 .bf16) (B : FVec Ideal S8192x1024 .bf16) (C : FVec Ideal S8192x1536 .bf16) : FVec Ideal S4x2048x4096 .f32 :=
  concatenate S4x2048x4096 2 [⟨S4x2048x1536, shapeCast S4x2048x1536 (extf .f32 A bitsLt_bf16_f32) shapeCasts_S8192x1536_S4x2048x1536⟩,
    ⟨S4x2048x1024, shapeCast S4x2048x1024 (extf .f32 B bitsLt_bf16_f32) shapeCasts_S8192x1024_S4x2048x1024⟩,
    ⟨S4x2048x1536, shapeCast S4x2048x1536 (extf .f32 C bitsLt_bf16_f32) shapeCasts_S8192x1536_S4x2048x1536⟩]
    concatenates_S4x2048x1536_S4x2048x1024_S4x2048x1536_S4x2048x4096_d2

theorem cat_at (A : FVec Ideal S8192x1536 .bf16) (B : FVec Ideal S8192x1024 .bf16) (C : FVec Ideal S8192x1536 .bf16)
    (b : Fin 4) (s : Fin 2048) (k : Fin 4096) : catV A B C (ix3 b s k) = cat (fun k => A (ix2 ⟨b * 2048 + s, by omega⟩ k))
      (fun k => B (ix2 ⟨b * 2048 + s, by omega⟩ k)) (fun k => C (ix2 ⟨b * 2048 + s, by omega⟩ k)) k := by
  unfold cat
  pointwise [catV]
  by_cases h : (k : ℕ) < 1536
  · rw [dif_pos h, dif_pos h]
  · rw [dif_neg h, dif_neg h]
    by_cases h' : (k : ℕ) < 2560
    · rw [dif_pos h', dif_pos (by omega)]
    · rw [dif_neg h', dif_neg (by omega)]
      congr 2

/-- The product of those rows with the output weights. -/
def prodV (Y : FVec Ideal S4x2048x4096 .f32) (W : FVec Ideal S4096x4096 .f32) : FVec Ideal S4x2048x4096 .f32 :=
  Host.dotGeneral dot_S4x2048x4096_S4096x4096_S4x2048x4096_2_0_01_1_n_n none Y W

theorem prod_at (Y : FVec Ideal S4x2048x4096 .f32) (W : FVec Ideal S4096x4096 .f32) (b : Fin 4) (s : Fin 2048) (n : Fin 4096) :
    prodV Y W (ix3 b s n) = dot (fun k => Y (ix3 b s k)) (fun k => W (ix2 k n)) := by
  unfold dot
  pointwise [prodV]

/-- The input plus the normalised product. -/
def postV (X Y : FVec Ideal S4x2048x4096 .f32) (G : FVec Ideal S4096 .f32) : FVec Ideal S4x2048x4096 .f32 :=
  addf X (mulf (mulf Y (broadcastInDim S4x2048x4096 ![0, 1, 2] bcast_S4x2048x1_S4x2048x4096_0_1_2 (Host.rsqrt (addf (Host.divf
    (broadcastInDim S4x2048x1 ![0, 1] bcast_S4x2048_S4x2048x1_0_1 (Host.reduceAdd (mulf Y Y) (constant S_ .f32 0x00000000#32)
      reducesTo_S4x2048x4096_S4x2048_d2 h_S_)) (broadcastInDim S4x2048x1 ![] bcast_S_S4x2048x1 (constant S_ .f32 0x45800000#32)))
    (broadcastInDim S4x2048x1 ![] bcast_S_S4x2048x1 (constant S_ .f32 0x358637BD#32))))))
    (broadcastInDim S4x2048x4096 ![0, 1, 2] bcast_S1x1x4096_S4x2048x4096_0_1_2 (broadcastInDim S1x1x4096 ![2] bcast_S4096_S1x1x4096_2 G)))

theorem post_at (X Y : FVec Ideal S4x2048x4096 .f32) (G : FVec Ideal S4096 .f32) (b : Fin 4) (s : Fin 2048) (n : Fin 4096) :
    postV X Y G (ix3 b s n) = plus (X (ix3 b s n)) (fun k => Y (ix3 b s k)) (fun k => G (ix1 k)) n := by
  unfold plus rms
  pointwise [postV]

/-- The result by coordinates, from the arguments. -/
def out (c : Dev nD) : FVec Ideal S4x2048x4096 .f32 := fun j =>
  merged (argX m c) (mixA m c) (mixB m c) (mixC m c) (argW m c) (argG m c) (j 0) (j 1) (j 2)

set_option maxHeartbeats 2000000 in
/-- The reference's result, and the arguments as they were. -/
theorem run_values : θ_run (defs (F := Ideal)) (onTc (τ := τ) (main (F := Ideal))) ⟨m, fun _ => 0, ρ⟩ (fun r => ∀ c : Dev nD,
      r.2.mem ((c.tc : Thread nD τ).loc main_v21) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run (defs (F := Ideal)) _ _).mono (fun r h c => by
    refine ⟨(h c).1.trans ((rfl : _ = postV (m ((c.tc : Thread nD τ).loc main_arg0)) (prodV (catV (m ((c.tc : Thread nD τ).loc main_arg1))
      (m ((c.tc : Thread nD τ).loc main_arg2)) (m ((c.tc : Thread nD τ).loc main_arg3))) (m ((c.tc : Thread nD τ).loc main_arg4)))
      (m ((c.tc : Thread nD τ).loc main_arg5))).trans ?_), (h c).2⟩
    funext j
    idx_vars j
    refine (post_at _ _ _ _ _ _).trans (congrArg (plus _ · _ _) (funext fun l => ?_))
    exact (prod_at _ _ _ _ _).trans (congrArg (dot · _) (funext fun k => cat_at _ _ _ _ _ k))) (run (F := Ideal) m ρ)

end Cert.MergeReferenceIdeal.Value

end
-- ==== Proof.Sample.Spec.lean ====
/- The projections of the eight sequences that take one token each, at position 16384: their results in scalars. -/
module

public import Idealize.ShloMosaic.Lib.Pipeline.ValueKit
public import Idealize.ShloMosaic.Lib.Pointwise
public import Idealize.ShloMosaic.Lib.WordCmp
public import Idealize.ShloMosaic.Lib.Claim
public import proofs.«01_k».proof.Proof.Proj.Spec

@[expose] public section

set_option maxRecDepth 16384

noncomputable section

namespace Cert.Sampled

open Idealize.ShloMosaic Idealize.ShloMosaic.TcCoe Idealize.SL.Sem
open Cert.Projections (rms dot half rot logSig)

/-- The rotary angle of the token at frequency `k` of 64: `16384 · 10000^(-k/64)`. -/
def ang (k : ℕ) : EReal :=
  FloatOps.sitofp (F := Ideal) .f32 16384#32 * Ideal.pow (Ideal.ofBits .f32 0x461C4000#32)
    (Ideal.div (-FloatOps.sitofp (F := Ideal) .f32 (BitVec.ofNat 32 k)) (Ideal.ofBits .f32 0x42800000#32))

/-- The cosines: each half of a head's 128 features has the 64 frequencies. -/
def cosT (d : Fin 128) : EReal := if (d : ℕ) < 64 then Ideal.cos (ang d) else Ideal.cos (ang (d - 64))

/-- The sines, negated in the first half. -/
def sinT (d : Fin 128) : EReal := if (d : ℕ) < 64 then -Ideal.sin (ang d) else Ideal.sin (ang (d - 64))

section Layer

variable (x : Fin 8 → Fin 4096 → EReal) (g : Fin 4096 → EReal) (w : Fin 4096 → Fin 18604 → EReal) (bf : Fin 12 → EReal)
  (st : Fin 8 → Fin 15 → Fin 1024 → EReal)

/-- Column `n` of the layer's product for the token of sequence `b`. -/
def P (b : Fin 8) (n : Fin 18604) : EReal := dot (rms (x b) g) (fun k => w k n)

/-- Feature `d` of the 128 columns from `n`, after the rotary embedding. -/
def R (b : Fin 8) (n : Fin 18477) (d : Fin 128) : EReal :=
  if h : (d : ℕ) < 64 then
    P x g w b ⟨n + d, by omega⟩ * Ideal.cos (ang d) - P x g w b ⟨n + (d + 64), by omega⟩ * Ideal.sin (ang d)
  else
    P x g w b ⟨n + d, by omega⟩ * Ideal.cos (ang (d - 64)) + P x g w b ⟨n + (d - 64), by omega⟩ * Ideal.sin (ang (d - 64))

/-- The product with its half-turned neighbour, from the two tables, is the rotary embedding. -/
theorem rot_eq (b : Fin 8) (n : Fin 18477) (d : Fin 128) :
    rot (rms (x b) g) (fun k e => w k ⟨n + e, by omega⟩) cosT sinT d = R x g w b n d := by
  unfold rot cosT sinT R P
  by_cases h : (d : ℕ) < 64
  · have hd : half d = ⟨d + 64, by omega⟩ := Fin.ext (by unfold half; simp only; omega)
    rw [if_pos h, if_pos h, dif_pos h, hd, mul_neg, ← sub_eq_add_neg]
  · have hd : half d = ⟨d - 64, by omega⟩ := Fin.ext (by unfold half; simp only; omega)
    rw [if_neg h, if_neg h, dif_neg h, hd]

/-- The logarithm of forget gate `h`. -/
def gate (b : Fin 8) (h : Fin 12) : EReal := logSig (P x g w b ⟨6144 + h, by omega⟩ + bf h)

/-- The forgetting heads' keys and values. -/
def akv (b : Fin 8) (t : Fin 2) (h : Fin 12) (d : Fin 128) : EReal := P x g w b ⟨1536 + t * 1536 + h * 128 + d, by omega⟩

/-- The sparse heads' keys, rotated, and values. -/
def ckv (b : Fin 8) (t : Fin 2) (h : Fin 12) (d : Fin 128) : EReal :=
  if (t : ℕ) = 0 then R x g w b ⟨9740 + h * 128, by omega⟩ d else P x g w b ⟨11276 + h * 128 + d, by omega⟩

/-- The indexer's key, rotated. -/
def ik (b : Fin 8) (d : Fin 128) : EReal := R x g w b ⟨18444, by omega⟩ d

/-- The pooling heads' last fifteen inputs: fourteen of the fifteen kept before, and the token's. -/
def pool (b : Fin 8) (s : Fin 15) (l : Fin 1024) : EReal :=
  if h : (s : ℕ) < 14 then st b ⟨s + 1, by omega⟩ l else P x g w b ⟨6156 + l, by omega⟩

end Layer

end Cert.Sampled

end
-- ==== Proof.Sample.Calls.lean ====
/- The five calls that project the tokens: the arrays they leave. -/
module

public import Idealize.ShloMosaic.Lib.Pipeline.ValueKit
public import Idealize.ShloMosaic.Lib.Pointwise
public import Idealize.ShloMosaic.Lib.WordCmp
public import Idealize.ShloMosaic.Lib.Claim
public import proofs.«01_k».proof.Proof.Gen.SampleIdeal.Frame
public import proofs.«01_k».proof.Proof.Proj.KvRope
public import proofs.«01_k».proof.Proof.Proj.Small
public import proofs.«01_k».proof.Proof.Sample.Spec

@[expose] public section

set_option maxRecDepth 16384

noncomputable section

namespace Cert.SampleIdeal.Gen

open Idealize.ShloMosaic Idealize.ShloMosaic.TcCoe Idealize.SL.Sem
open Cert.SampleIdeal Cert.Sampled
open Cert.Projections (rms dot half rot rot_congr logSig)
open Cert.ProjIdeal.Gen (rotEven rotEven_congr kvCol small small_congr)

variable (V : (c : Dev nD) → (b : Ref sig .tc) → Buf (Elt Ideal) ((c : Thread nD τ).loc b))

/-! ## The normalisation -/

/-- One element of the block. -/
theorem norm_at (x : Vec Ideal S16x4096 .f32) (g : Vec Ideal S1x4096 .f32) (y : S16x4096.Idx) :
    out0_2 x g y = rms (fun k => x (ix2 (y 0) k)) (fun k => g (ix2 0 k)) (y 1) := by
  canon_tiles z hz
  idx_vars z
  have e0 : y 0 = z0 := Fin.ext hz0
  have e1 : y 1 = z1 := Fin.ext hz1
  rw [e0, e1]
  unfold rms
  pointwise [k0_pay1]

/-- The index maps: one tile. -/
theorem idx0 : ∀ t : Fin cfg0.N, win0_0.index t = ![0, 0] ∧ win0_1.index t = ![0, 0] ∧ win0_2.index t = ![0, 0] :=
  (by decide +kernel : ∀ t : Fin grid0.N, _)

/-- The normalised rows. -/
def normed (X : Vec Ideal S16x4096 .f32) (G : Vec Ideal S1x4096 .f32) : Vec Ideal S16x4096 .bf16 := fun j =>
  rms (fun k => X (ix2 (j 0) k)) (fun k => G (ix2 0 k)) (j 1)

/-- THE ARRAY the normalisation leaves. -/
theorem final0 (c : Dev nD) : (dat0 V c).arrAt 2 cfg0.N = normed (V c main_v1) (V c main_v55) := by
  refine (dat0 V c).arrAt_eq_of_covers 2 _ (by decide +kernel) fun t _ y => ?_
  blk_simp
  rw [after0_2]
  refine (norm_at _ _ _).trans ?_
  unfold normed
  congr 1
  · funext k; blk_ext [iblk0, idx0 t]
  · funext k; blk_ext [iblk0, idx0 t]
  · exact Fin.ext (by blk_simp [idx0 t])

/-! ## The forgetting heads' keys and values -/

/-- One element of a block of the array by heads. -/
theorem kv_at (x : Vec Ideal S16x4096 .bf16) (w : Vec Ideal S4096x1024 .bf16) (y : S16x8x128.Idx) (l : Fin 1024)
    (hl : (l : ℕ) = y 1 * 128 + y 2) :
    out1_2 x w y = dot (fun k => x (ix2 (y 0) k)) (fun k => w (ix2 k l)) := by
  unfold dot
  canon_tiles z hz
  all_goals (open_payloads; pointwise; blk_point)

/-- The index maps: one tile of rows, and the three column blocks of the weights. -/
theorem idx1 : ∀ t : Fin cfg1.N, win1_0.index t = ![0, 0] ∧ win1_1.index t = ![0, t.val] ∧ win1_2.index t = ![0, t.val, 0] :=
  (by decide +kernel : ∀ t : Fin grid1.N, _)

/-- THE ARRAY by heads. -/
theorem final1 (c : Dev nD) : (dat1 V c).arrAt 2 cfg1.N = (fun j : S16x24x128.Idx =>
    dot (fun k => (V c main_v56 : Vec Ideal S16x4096 .bf16) (ix2 (j 0) k))
      (fun k => (V c main_v17 : Vec Ideal S4096x3072 .bf16) (ix2 k (kvCol (j 1) (j 2)))) : Vec Ideal S16x24x128 .f32) := by
  refine (dat1 V c).arrAt_eq_of_covers 2 _ (by decide +kernel) fun t _ y => ?_
  have h1 : (y 1 : ℕ) < 8 := (y 1).isLt
  have h2 : (y 2 : ℕ) < 128 := (y 2).isLt
  blk_simp
  rw [after1_2]
  refine (kv_at _ _ _ ⟨y 1 * 128 + y 2, by omega⟩ rfl).trans (congrArg₂ dot (funext fun k => ?_) (funext fun k => ?_))
  all_goals blk_ext [iblk1, idx1 t, kvCol]

/-! ## The pooling heads' inputs -/

/-- One element of a block. -/
theorem plain_at (x : Vec Ideal S16x4096 .bf16) (w : Vec Ideal S4096x512 .bf16) (y : S16x512.Idx) :
    out2_2 x w y = dot (fun k => x (ix2 (y 0) k)) (fun k => w (ix2 k (y 1))) := by
  canon_tiles z hz
  idx_vars z
  have e0 : y 0 = z0 := Fin.ext hz0
  have e1 : y 1 = z1 := Fin.ext hz1
  rw [e0, e1]
  unfold dot
  pointwise [k2_pay1]

/-- The index maps: one tile of rows, and the four column blocks of the weights. -/
theorem idx2 : ∀ t : Fin cfg2.N, win2_0.index t = ![0, 0] ∧ win2_1.index t = ![0, t.val] ∧ win2_2.index t = ![0, t.val] :=
  (by decide +kernel : ∀ t : Fin grid2.N, _)

/-- THE ARRAY. -/
theorem final2 (c : Dev nD) : (dat2 V c).arrAt 2 cfg2.N = (fun j : S16x2048.Idx =>
    dot (fun k => (V c main_v56 : Vec Ideal S16x4096 .bf16) (ix2 (j 0) k))
      (fun k => (V c main_v21 : Vec Ideal S4096x2048 .bf16) (ix2 k (j 1))) : Vec Ideal S16x2048 .f32) := by
  refine (dat2 V c).arrAt_eq_of_covers 2 _ (by decide +kernel) fun t _ y => ?_
  blk_simp
  rw [after2_2]
  refine (plain_at _ _ _).trans (congrArg₂ dot (funext fun k => ?_) (funext fun k => ?_))
  all_goals blk_ext [iblk2, idx2 t]

/-! ## The sparse heads' keys and values -/

/-- One element of a block of the array by heads. -/
theorem kvr_at (x : Vec Ideal S16x4096 .bf16) (w : Vec Ideal S4096x1024 .bf16) (c s : Vec Ideal S16x128 .f32)
    (y : S16x8x128.Idx) (j : Fin 8) (d : Fin 128) (hj : (y 1 : ℕ) = j) (hd : (y 2 : ℕ) = d) :
    out3_4 x w c s y = rotEven j (fun k => x (ix2 (y 0) k)) (fun k e => w (ix2 k ⟨j * 128 + e, by omega⟩))
      (fun e => c (ix2 (y 0) e)) (fun e => s (ix2 (y 0) e)) d := by
  unfold rotEven rot dot half
  canon_tiles z hz
  all_goals first
    | (rw [if_pos (by omega)]; open_payloads; pointwise; blk_point; done)
    | (rw [if_neg (by omega)]; open_payloads; pointwise; blk_point; done)

/-- The index maps: one tile of rows, and the three column blocks of the weights. -/
theorem idx3 : ∀ t : Fin cfg3.N, win3_0.index t = ![0, 0] ∧ win3_1.index t = ![0, t.val]
    ∧ win3_2.index t = ![0, 0] ∧ win3_3.index t = ![0, 0] ∧ win3_4.index t = ![0, t.val, 0] :=
  (by decide +kernel : ∀ t : Fin grid3.N, _)

/-- Feature `d` of chunk `h` of one row. -/
def kvrArr (X : Vec Ideal S16x4096 .bf16) (W : Vec Ideal S4096x3072 .bf16) (C S : Vec Ideal S16x128 .f32)
    (r : Fin 16) (h : Fin 24) (d : Fin 128) : EReal :=
  rotEven h (fun k => X (ix2 r k)) (fun k e => W (ix2 k (kvCol h e))) (fun e => C (ix2 r e)) (fun e => S (ix2 r e)) d

/-- The operands of a block's element, as the arrays' elements. -/
theorem kvr_pt (c : Dev nD) (t : Fin cfg3.N) (r : Fin 16) (j : Fin 8) (d : Fin 128) (R : Fin 16) (H : Fin 24) (D : Fin 128)
    (hR : (R : ℕ) = r) (hH : (H : ℕ) = t * 8 + j) (hD : (d : ℕ) = D) :
    rotEven j (fun k => (iblk3 V c 0 t : Vec Ideal S16x4096 .bf16) (ix2 r k))
      (fun k e => (iblk3 V c 1 t : Vec Ideal S4096x1024 .bf16) (ix2 k ⟨j * 128 + e, by omega⟩))
      (fun e => (iblk3 V c 2 t : Vec Ideal S16x128 .f32) (ix2 r e))
      (fun e => (iblk3 V c 3 t : Vec Ideal S16x128 .f32) (ix2 r e)) d
      = kvrArr (V c main_v56) (V c main_v30) (V c main_v52) (V c main_v54) R H D := by
  unfold kvrArr
  refine rotEven_congr (by omega) (fun k => ?_) (fun k e => ?_) (fun e => ?_) (fun e => ?_) hD
  all_goals blk_ext [iblk3, idx3 t, kvCol]

/-- THE ARRAY by heads. -/
theorem final3 (c : Dev nD) : (dat3 V c).arrAt 4 cfg3.N = (fun j : S16x24x128.Idx =>
    kvrArr (V c main_v56) (V c main_v30) (V c main_v52) (V c main_v54) (j 0) (j 1) (j 2) : Vec Ideal S16x24x128 .f32) := by
  refine (dat3 V c).arrAt_eq_of_covers 4 _ (by decide +kernel) fun t _ y => ?_
  blk_simp
  rw [after3_4]
  refine (kvr_at _ _ _ _ y (y 1) (y 2) rfl rfl).trans (kvr_pt V c t _ _ _ _ _ _ ?_ ?_ ?_)
  all_goals (blk_simp [idx3 t] <;> try omega)

/-! ## The small projections -/

/-- One element of the block. -/
theorem small_at (x : Vec Ideal S16x4096 .bf16) (w : Vec Ideal S4096x384 .bf16) (c s : Vec Ideal S16x128 .f32)
    (b : Vec Ideal S1x128 .f32) (y : S16x384.Idx) :
    out4_5 x w c s b y = small (fun k => x (ix2 (y 0) k)) (fun k l => w (ix2 k l)) (fun e => c (ix2 (y 0) e))
      (fun e => s (ix2 (y 0) e)) (fun e => b (ix2 0 e)) (y 1) := by
  unfold small logSig rot dot half
  canon_tiles z hz
  · rw [dif_neg (by omega), dif_neg (by omega)]
    open_payloads; pointwise; blk_point
  · rw [dif_neg (by omega), dif_pos (by omega)]
    open_payloads; pointwise; blk_point
  · rw [dif_pos (by omega)]
    open_payloads; pointwise; blk_point

/-- The index maps: one tile. -/
theorem idx4 : ∀ t : Fin cfg4.N, win4_0.index t = ![0, 0] ∧ win4_1.index t = ![0, 0]
    ∧ win4_2.index t = ![0, 0] ∧ win4_3.index t = ![0, 0] ∧ win4_4.index t = ![0, 0] ∧ win4_5.index t = ![0, 0] :=
  (by decide +kernel : ∀ t : Fin grid4.N, _)

/-- THE ARRAY the call leaves. -/
def smallArr (X : Vec Ideal S16x4096 .bf16) (W : Vec Ideal S4096x384 .bf16) (C S : Vec Ideal S16x128 .f32)
    (B : Vec Ideal S1x128 .f32) : Vec Ideal S16x384 .f32 := fun j =>
  small (fun k => X (ix2 (j 0) k)) (fun k l => W (ix2 k l)) (fun e => C (ix2 (j 0) e)) (fun e => S (ix2 (j 0) e))
    (fun e => B (ix2 0 e)) (j 1)

/-- The operands of the block's element, as the array's element. -/
theorem small_pt (c : Dev nD) (t : Fin cfg4.N) (r : Fin 16) (R : Fin 16) (l : Fin 384) (hR : (R : ℕ) = r) :
    small (fun k => (iblk4 V c 0 t : Vec Ideal S16x4096 .bf16) (ix2 r k))
      (fun k e => (iblk4 V c 1 t : Vec Ideal S4096x384 .bf16) (ix2 k e))
      (fun e => (iblk4 V c 2 t : Vec Ideal S16x128 .f32) (ix2 r e))
      (fun e => (iblk4 V c 3 t : Vec Ideal S16x128 .f32) (ix2 r e))
      (fun e => (iblk4 V c 4 t : Vec Ideal S1x128 .f32) (ix2 0 e)) l
      = smallArr (V c main_v56) (V c main_v8) (V c main_v52) (V c main_v54) (V c main_v36) (ix2 R l) := by
  unfold smallArr
  refine small_congr (fun k => ?_) (fun k e => ?_) (fun e => ?_) (fun e => ?_) (fun e => ?_) rfl
  all_goals blk_ext [iblk4, idx4 t]

theorem final4 (c : Dev nD) : (dat4 V c).arrAt 5 cfg4.N
    = smallArr (V c main_v56) (V c main_v8) (V c main_v52) (V c main_v54) (V c main_v36) := by
  refine (dat4 V c).arrAt_eq_of_covers 5 _ (by decide +kernel) fun t _ y => ?_
  blk_simp
  rw [after4_5]
  have e0 : (((cfg4.win 5).blk t).view.emb y 0 : ℕ) = y 0 := by blk_simp [idx4 t] <;> try omega
  refine (small_at _ _ _ _ _ _).trans ((small_pt V c t _ _ _ e0).trans (congrArg _ ?_))
  blk_ext [idx4 t]

end Cert.SampleIdeal.Gen

end
-- ==== Proof.Sample.Host.lean ====
/- What the host operations around the token calls lay out: the padded rows, the weights, the tables, the results' final
   shapes. -/
module

public import Idealize.ShloMosaic.Lib.Pipeline.ValueKit
public import Idealize.ShloMosaic.Lib.Pointwise
public import Idealize.ShloMosaic.Lib.WordCmp
public import Idealize.ShloMosaic.Lib.Claim
public import proofs.«01_k».proof.Proof.Gen.SampleIdeal.Frame
public import proofs.«01_k».proof.Proof.Sample.Spec

@[expose] public section

set_option maxRecDepth 16384

noncomputable section

namespace Cert.SampleIdeal.Gen

open Idealize.ShloMosaic Idealize.ShloMosaic.TcCoe Idealize.SL.Sem
open Cert.SampleIdeal Cert.Sampled
open StableHlo (after)

variable (V0 : Valuation τ sig (Elt Ideal))

/-- The tokens, the kept pooling inputs, the gain, the weights and the gate offsets, by coordinates. -/
def argX (b : Fin 8) (k : Fin 4096) : EReal := (V0 (Proc.devRef .tc main_arg0) : Vec Ideal S8x1x4096 .f32) (ix3 b 0 k)
def argS (b : Fin 8) (s : Fin 15) (l : Fin 1024) : EReal := (V0 (Proc.devRef .tc main_arg1) : Vec Ideal S8x15x1024 .f32) (ix3 b s l)
def argG (k : Fin 4096) : EReal := (V0 (Proc.devRef .tc main_arg2) : Vec Ideal S4096 .f32) (ix1 k)
def argW (k : Fin 4096) (n : Fin 18604) : EReal := (V0 (Proc.devRef .tc main_arg3) : Vec Ideal S4096x18604 .f32) (ix2 k n)
def argB (h : Fin 12) : EReal := (V0 (Proc.devRef .tc main_arg4) : Vec Ideal S12 .f32) (ix1 h)

/-! ## The tokens' rows -/

theorem flat_x (s : Fin 8) (k : Fin 4096) : (after hostOps0 V0 (Proc.devRef .tc main_v0) : Vec Ideal S8x4096 .f32) (ix2 s k)
    = argX V0 s k := by
  unfold argX
  simp only [hostOps0]
  entry_read
  pointwise

theorem pad_x (s : Fin 8) (k : Fin 4096) : (after hostOps0_1 V0 (Proc.devRef .tc main_v1) : Vec Ideal S16x4096 .f32) (ix2 ⟨s, by omega⟩ k)
    = (V0 (Proc.devRef .tc main_v0) : Vec Ideal S8x4096 .f32) (ix2 s k) := by
  simp only [hostOps0_1, StableHlo.TRef.binary, StableHlo.TRef.unary, StableHlo.TRef.toBuf, StableHlo.TRef.ofBuf, cast_eq]
  entry_read
  pointwise

/-! ## The weights of each call -/

theorem w_b (k : Fin 4096) (l : Fin 2048) : (after hostOps0_2 V0 (Proc.devRef .tc main_v21) : Vec Ideal S4096x2048 .bf16) (ix2 k l)
    = argW V0 k ⟨6156 + l, by omega⟩ := by
  unfold argW
  simp only [hostOps0_2]
  entry_read
  pointwise

/-- A head's 128 columns of keys, then its 128 columns of values. -/
theorem w_akv (k : Fin 4096) (l : Fin 3072) : (after hostOps0_2 V0 (Proc.devRef .tc main_v17) : Vec Ideal S4096x3072 .bf16) (ix2 k l)
    = argW V0 k ⟨1536 + l / 128 % 2 * 1536 + l / 256 * 128 + l % 128, by omega⟩ := by
  unfold argW
  simp only [hostOps0_2]
  entry_read
  pointwise
  split <;> blk_ext

/-- A head's 128 columns of keys, then its 128 columns of values. -/
theorem w_ckv (k : Fin 4096) (l : Fin 3072) : (after hostOps0_2 V0 (Proc.devRef .tc main_v30) : Vec Ideal S4096x3072 .bf16) (ix2 k l)
    = argW V0 k ⟨9740 + l / 128 % 2 * 1536 + l / 256 * 128 + l % 128, by omega⟩ := by
  unfold argW
  simp only [hostOps0_2]
  entry_read
  pointwise
  split <;> blk_ext

/-- A run of host operations in two parts. -/
theorem after_split (n : ℕ) : ∀ (ops : List (HloOp τ sig (Elt Ideal))) (V : Valuation τ sig (Elt Ideal)),
    after ops V = after (ops.drop n) (after (ops.take n) V) := by
  induction n with
  | zero => intro ops V; rfl
  | succ n ih =>
    intro ops V
    cases ops with
    | nil => rfl
    | cons op ops => exact ih ops _

/-- The five pieces of the small call's weights, side by side. -/
theorem cat_at (U : Valuation τ sig (Elt Ideal)) (k : Fin 4096) (l : Fin 384) :
    (after ((hostOps0_2.take 8).drop 7) U (Proc.devRef .tc main_v7) : Vec Ideal S4096x384 .f32) (ix2 k l)
      = if h0 : (l : ℕ) < 12 then (U (Proc.devRef .tc main_v2) : Vec Ideal S4096x12 .f32) (ix2 k ⟨l, h0⟩)
        else if h1 : (l : ℕ) < 128 then (U (Proc.devRef .tc main_v3) : Vec Ideal S4096x116 .f32) (ix2 k ⟨l - 12, by omega⟩)
        else if h2 : (l : ℕ) < 160 then (U (Proc.devRef .tc main_v4) : Vec Ideal S4096x32 .f32) (ix2 k ⟨l - 128, by omega⟩)
        else if h3 : (l : ℕ) < 256 then (U (Proc.devRef .tc main_v5) : Vec Ideal S4096x96 .f32) (ix2 k ⟨l - 160, by omega⟩)
        else (U (Proc.devRef .tc main_v6) : Vec Ideal S4096x128 .f32) (ix2 k ⟨l - 256, by omega⟩) := by
  simp only [hostOps0_2, List.take, List.drop, StableHlo.after_cons, StableHlo.after_nil]
  rw [StableHlo.nary_result]
  show concatenate S4096x384 1 [⟨S4096x12, (U (Proc.devRef .tc main_v2) : Vec Ideal S4096x12 .f32)⟩, ⟨S4096x116, (U (Proc.devRef .tc main_v3) : Vec Ideal S4096x116 .f32)⟩,
    ⟨S4096x32, (U (Proc.devRef .tc main_v4) : Vec Ideal S4096x32 .f32)⟩, ⟨S4096x96, (U (Proc.devRef .tc main_v5) : Vec Ideal S4096x96 .f32)⟩,
    ⟨S4096x128, (U (Proc.devRef .tc main_v6) : Vec Ideal S4096x128 .f32)⟩] _ (ix2 k l) = _
  pointwise
  refine dite_congr (propext (by omega)) (fun _ => by blk_ext) fun h0 => ?_
  refine dite_congr (propext (by omega)) (fun _ => by blk_ext) fun h1 => ?_
  refine dite_congr (propext (by omega)) (fun _ => by blk_ext) fun h2 => ?_
  exact dite_congr (propext (by omega)) (fun _ => by blk_ext) fun h3 => by blk_ext

/-- The 384 columns of the small call: the gates, the indexer's weights and its key, padded with zeros between. -/
theorem w_small (k : Fin 4096) (l : Fin 384) : (after hostOps0_2 V0 (Proc.devRef .tc main_v8) : Vec Ideal S4096x384 .bf16) (ix2 k l)
    = if h0 : (l : ℕ) < 12 then argW V0 k ⟨6144 + l, by omega⟩
      else if h1 : (l : ℕ) < 128 then (0 : EReal)
      else if h2 : (l : ℕ) < 160 then argW V0 k ⟨18572 + (l - 128), by omega⟩
      else if h3 : (l : ℕ) < 256 then (0 : EReal)
      else argW V0 k ⟨18444 + (l - 256), by omega⟩ := by
  unfold argW
  rw [after_split 8]
  refine Eq.trans (b := (after (hostOps0_2.take 8) V0 (Proc.devRef .tc main_v7) : Vec Ideal S4096x384 .f32) (ix2 k l)) ?_ ?_
  · generalize after (hostOps0_2.take 8) V0 = U
    simp only [hostOps0_2, List.drop]
    entry_read
    pointwise
  · rw [after_split 7]
    refine (cat_at _ k l).trans ?_
    simp only [hostOps0_2, List.take]
    entry_read
    pointwise

/-! ## The gates' offsets, the gain and the tables -/

theorem b_at (h : Fin 12) : (after hostOps0_3 V0 (Proc.devRef .tc main_v35) : Vec Ideal S128 .f32) (ix1 ⟨h, by omega⟩) = argB V0 h := by
  unfold argB
  simp only [hostOps0_3, StableHlo.TRef.binary, StableHlo.TRef.unary, StableHlo.TRef.toBuf, StableHlo.TRef.ofBuf, cast_eq]
  entry_read
  pointwise

theorem b2_at (d : Fin 128) : (after hostOps0_4 V0 (Proc.devRef .tc main_v36) : Vec Ideal S1x128 .f32) (ix2 0 d)
    = (V0 (Proc.devRef .tc main_v35) : Vec Ideal S128 .f32) (ix1 d) := by
  simp only [hostOps0_4]
  entry_read
  pointwise

theorem g_at (k : Fin 4096) : (after hostOps0_4 V0 (Proc.devRef .tc main_v55) : Vec Ideal S1x4096 .f32) (ix2 0 k) = argG V0 k := by
  unfold argG
  simp only [hostOps0_4]
  entry_read
  pointwise

theorem cos_at (s : Fin 16) (d : Fin 128) :
    (after hostOps0_4 V0 (Proc.devRef .tc main_v52) : Vec Ideal S16x128 .f32) (ix2 s d) = cosT d := by
  unfold cosT ang
  simp only [hostOps0_4]
  entry_read
  pointwise
  rfl

theorem sin_at (s : Fin 16) (d : Fin 128) :
    (after hostOps0_4 V0 (Proc.devRef .tc main_v54) : Vec Ideal S16x128 .f32) (ix2 s d) = sinT d := by
  unfold sinT ang
  simp only [hostOps0_4]
  entry_read
  pointwise
  rfl

/-! ## After the last call -/

theorem akv_out (b : Fin 8) (t : Fin 2) (h : Fin 12) (d : Fin 128) :
    (after hostOps5 V0 (Proc.devRef .tc main_v67) : Vec Ideal S8x1x2x12x128 .f32) (ix5 b 0 t h d)
      = (V0 (Proc.devRef .tc main_v57_0) : Vec Ideal S16x24x128 .f32) (ix3 ⟨b, by omega⟩ ⟨h * 2 + t, by omega⟩ d) := by
  simp only [hostOps5]
  entry_read
  pointwise
  blk_ext

theorem ckv_out (b : Fin 8) (t : Fin 2) (h : Fin 12) (d : Fin 128) :
    (after hostOps5 V0 (Proc.devRef .tc main_v71) : Vec Ideal S8x1x2x12x128 .f32) (ix5 b 0 t h d)
      = (V0 (Proc.devRef .tc main_v59_0) : Vec Ideal S16x24x128 .f32) (ix3 ⟨b, by omega⟩ ⟨h * 2 + t, by omega⟩ d) := by
  simp only [hostOps5]
  entry_read
  pointwise
  blk_ext

theorem logf_out (b : Fin 8) (h : Fin 12) :
    (after hostOps5 V0 (Proc.devRef .tc main_v68) : Vec Ideal S8x1x12 .f32) (ix3 b 0 h)
      = (V0 (Proc.devRef .tc main_v60) : Vec Ideal S16x384 .f32) (ix2 ⟨b, by omega⟩ ⟨h, by omega⟩) := by
  simp only [hostOps5]
  entry_read
  pointwise

theorem ik_out (b : Fin 8) (d : Fin 128) :
    (after hostOps5 V0 (Proc.devRef .tc main_v73) : Vec Ideal S8x1x128 .f32) (ix3 b 0 d)
      = (V0 (Proc.devRef .tc main_v60) : Vec Ideal S16x384 .f32) (ix2 ⟨b, by omega⟩ ⟨256 + d, by omega⟩) := by
  simp only [hostOps5]
  entry_read
  pointwise

theorem pool_out (b : Fin 8) (s : Fin 15) (l : Fin 1024) :
    (after hostOps5 V0 (Proc.devRef .tc main_v74) : Vec Ideal S8x15x1024 .f32) (ix3 b s l)
      = if h : (s : ℕ) < 14 then argS V0 b ⟨s + 1, by omega⟩ l
        else (V0 (Proc.devRef .tc main_v58) : Vec Ideal S16x2048 .f32) (ix2 ⟨b, by omega⟩ ⟨l, by omega⟩) := by
  unfold argS
  simp only [hostOps5]
  entry_read
  pointwise
  refine dite_congr (propext (by omega)) (fun _ => by blk_ext) fun _ => by blk_ext

end Cert.SampleIdeal.Gen

end
-- ==== Proof.Sample.Entry.lean ====
/- The arrays between the token calls, and the kernel's five results, in terms of the layer's arguments. -/
module

public import Idealize.ShloMosaic.Lib.Pipeline.ValueKit
public import Idealize.ShloMosaic.Lib.Pointwise
public import Idealize.ShloMosaic.Lib.WordCmp
public import Idealize.ShloMosaic.Lib.Claim
public import proofs.«01_k».proof.Proof.Gen.SampleIdeal.Frame
public import proofs.«01_k».proof.Proof.Sample.Calls
public import proofs.«01_k».proof.Proof.Sample.Host

@[expose] public section

set_option maxRecDepth 16384

noncomputable section

namespace Cert.SampleIdeal.Gen

open Idealize.ShloMosaic Idealize.ShloMosaic.TcCoe Idealize.SL.Sem
open Cert.SampleIdeal Cert.Sampled
open Cert.Projections (rms dot rot rot_congr logSig)
open Cert.ProjIdeal.Gen (rotEven kvCol small)

variable (m : (ℓ : Loc nD τ sig) → Buf (Elt Ideal) ℓ) (ρ : Dev nD → PrngReg) (c : Dev nD)

/-! ## What a call leaves alone -/

/-- The arrays the host lays out for the calls, and the kept pooling inputs. -/
def ins : List (Ref sig .tc) := [main_v8, main_v17, main_v21, main_v30, main_v36, main_v52, main_v54, main_arg1]
theorem keep6 (r : Ref sig .tc) (h : r ∈ ins) : W6 m ρ c (Proc.devRef .tc r) = W5 m ρ c (Proc.devRef .tc r) :=
  W6_of m ρ c r ((by decide +kernel : ∀ r ∈ ins, ∀ w : Fin cfg0.W,
    Pipeline.arrRef spec0 w = r → (cfg0.win w).isOut = false) r h)
theorem keep7 (r : Ref sig .tc) (h : r ∈ ins ++ [main_v56]) : W7 m ρ c (Proc.devRef .tc r) = W6 m ρ c (Proc.devRef .tc r) :=
  W7_of m ρ c r ((by decide +kernel : ∀ r ∈ ins ++ [main_v56], ∀ w : Fin cfg1.W,
    Pipeline.arrRef spec1 w = r → (cfg1.win w).isOut = false) r h)
theorem keep8 (r : Ref sig .tc) (h : r ∈ ins ++ [main_v56, main_v57_0]) : W8 m ρ c (Proc.devRef .tc r) = W7 m ρ c (Proc.devRef .tc r) :=
  W8_of m ρ c r ((by decide +kernel : ∀ r ∈ ins ++ [main_v56, main_v57_0], ∀ w : Fin cfg2.W,
    Pipeline.arrRef spec2 w = r → (cfg2.win w).isOut = false) r h)
theorem keep9 (r : Ref sig .tc) (h : r ∈ ins ++ [main_v56, main_v57_0, main_v58]) : W9 m ρ c (Proc.devRef .tc r) = W8 m ρ c (Proc.devRef .tc r) :=
  W9_of m ρ c r ((by decide +kernel : ∀ r ∈ ins ++ [main_v56, main_v57_0, main_v58], ∀ w : Fin cfg3.W,
    Pipeline.arrRef spec3 w = r → (cfg3.win w).isOut = false) r h)
theorem keep10 (r : Ref sig .tc) (h : r ∈ ins ++ [main_v56, main_v57_0, main_v58, main_v59_0]) : W10 m ρ c (Proc.devRef .tc r) = W9 m ρ c (Proc.devRef .tc r) :=
  W10_of m ρ c r ((by decide +kernel : ∀ r ∈ ins ++ [main_v56, main_v57_0, main_v58, main_v59_0], ∀ w : Fin cfg4.W,
    Pipeline.arrRef spec4 w = r → (cfg4.win w).isOut = false) r h)

/-! ## The calls' operands -/

local notation "X" => argX (W0 m ρ c)
local notation "G" => argG (W0 m ρ c)
local notation "Wt" => argW (W0 m ρ c)
local notation "Bf" => argB (W0 m ρ c)
local notation "St" => argS (W0 m ρ c)

theorem argW2 : argW (W2 m ρ c) = Wt := by
  funext k n
  exact congrFun (W2_args m ρ c main_arg3 (by decide)) (ix2 k n)

/-- A token's normalised row. -/
theorem h_at (b : Fin 8) (k : Fin 4096) :
    (W6 m ρ c (Proc.devRef .tc main_v56) : Vec Ideal S16x4096 .bf16) (ix2 ⟨b, by omega⟩ k) = rms (X b) G k := by
  refine (congrFun ((W6_arr m ρ c 2).trans (final0 (V5 m ρ) c)) (ix2 _ k)).trans ?_
  refine congrArg₂ (fun a b => rms a b k) (funext fun i => ?_) (funext fun i => ?_)
  · refine (congrFun ((W5_of m ρ c main_v1 (by decide)).trans ((W4_of m ρ c main_v1 (by decide)).trans (W3_of m ρ c main_v1 (by decide)))) (ix2 _ i)).trans ?_
    exact (pad_x (W1 m ρ c) b i).trans (flat_x (W0 m ρ c) b i)
  · exact (g_at (W4 m ρ c) i).trans (congrFun (W4_args m ρ c main_arg2 (by decide)) (ix1 i))

/-- A matrix of weights at the first projection's entry holds what the host laid out. -/
theorem lay (r : Ref sig .tc) (h : r ∈ ins) (h4 : r ∉ hostOps0_3_W) (h5 : r ∉ hostOps0_4_W) :
    W6 m ρ c (Proc.devRef .tc r) = StableHlo.after hostOps0_2 (W2 m ρ c) (Proc.devRef .tc r) :=
  (keep6 m ρ c r h).trans ((W5_of m ρ c r h5).trans (W4_of m ρ c r h4))

theorem akvW_at (k : Fin 4096) (l : Fin 3072) : (W6 m ρ c (Proc.devRef .tc main_v17) : Vec Ideal S4096x3072 .bf16) (ix2 k l)
    = Wt k ⟨1536 + l / 128 % 2 * 1536 + l / 256 * 128 + l % 128, by omega⟩ :=
  (congrFun (lay m ρ c main_v17 (by decide) (by decide) (by decide)) (ix2 k l)).trans
    ((w_akv (W2 m ρ c) k l).trans (congrFun (congrFun (argW2 m ρ c) k) _))

theorem bW_at (k : Fin 4096) (l : Fin 2048) : (W6 m ρ c (Proc.devRef .tc main_v21) : Vec Ideal S4096x2048 .bf16) (ix2 k l)
    = Wt k ⟨6156 + l, by omega⟩ :=
  (congrFun (lay m ρ c main_v21 (by decide) (by decide) (by decide)) (ix2 k l)).trans
    ((w_b (W2 m ρ c) k l).trans (congrFun (congrFun (argW2 m ρ c) k) _))

theorem ckvW_at (k : Fin 4096) (l : Fin 3072) : (W6 m ρ c (Proc.devRef .tc main_v30) : Vec Ideal S4096x3072 .bf16) (ix2 k l)
    = Wt k ⟨9740 + l / 128 % 2 * 1536 + l / 256 * 128 + l % 128, by omega⟩ :=
  (congrFun (lay m ρ c main_v30 (by decide) (by decide) (by decide)) (ix2 k l)).trans
    ((w_ckv (W2 m ρ c) k l).trans (congrFun (congrFun (argW2 m ρ c) k) _))

theorem smallW_at (k : Fin 4096) (l : Fin 384) : (W6 m ρ c (Proc.devRef .tc main_v8) : Vec Ideal S4096x384 .bf16) (ix2 k l)
    = if h0 : (l : ℕ) < 12 then Wt k ⟨6144 + l, by omega⟩
      else if h1 : (l : ℕ) < 128 then (0 : EReal)
      else if h2 : (l : ℕ) < 160 then Wt k ⟨18572 + (l - 128), by omega⟩
      else if h3 : (l : ℕ) < 256 then (0 : EReal)
      else Wt k ⟨18444 + (l - 256), by omega⟩ := by
  rw [← argW2 m ρ c]
  exact (congrFun (lay m ρ c main_v8 (by decide) (by decide) (by decide)) (ix2 k l)).trans (w_small (W2 m ρ c) k l)

theorem bias_at (h : Fin 12) : (W6 m ρ c (Proc.devRef .tc main_v36) : Vec Ideal S1x128 .f32) (ix2 0 ⟨h, by omega⟩) = Bf h :=
  (congrFun (keep6 m ρ c main_v36 (by decide)) (ix2 0 _)).trans ((b2_at (W4 m ρ c) _).trans ((b_at (W3 m ρ c) h).trans
    (congrFun (W3_args m ρ c main_arg4 (by decide)) (ix1 h))))

theorem cosT_at (s : Fin 16) (e : Fin 128) : (W6 m ρ c (Proc.devRef .tc main_v52) : Vec Ideal S16x128 .f32) (ix2 s e) = cosT e :=
  (congrFun (keep6 m ρ c main_v52 (by decide)) (ix2 s e)).trans (cos_at (W4 m ρ c) s e)

theorem sinT_at (s : Fin 16) (e : Fin 128) : (W6 m ρ c (Proc.devRef .tc main_v54) : Vec Ideal S16x128 .f32) (ix2 s e) = sinT e :=
  (congrFun (keep6 m ρ c main_v54 (by decide)) (ix2 s e)).trans (sin_at (W4 m ρ c) s e)

/-! ## From a call's rows and columns to the layer's -/

theorem toP {h u : Fin 4096 → EReal} {b : Fin 8} {n : Fin 18604} (hh : ∀ k, h k = rms (X b) G k)
    (hu : ∀ k, u k = Wt k n) : dot h u = P X G Wt b n := congrArg₂ dot (funext hh) (funext hu)

theorem toR {h : Fin 4096 → EReal} {u : Fin 4096 → Fin 128 → EReal} {t t' : Fin 128 → EReal} {b : Fin 8}
    {n : Fin 18477} (hh : ∀ k, h k = rms (X b) G k) (hu : ∀ k e, u k e = Wt k ⟨n + e, by omega⟩)
    (hc : ∀ e, t e = cosT e) (hs : ∀ e, t' e = sinT e) (d : Fin 128) : rot h u t t' d = Sampled.R X G Wt b n d :=
  (rot_congr hh hu hc hs rfl).trans (rot_eq X G Wt b n d)

/-! ## The arrays the calls leave -/

/-- The forgetting heads' keys and values, head by head. -/
theorem akv_elem (b : Fin 8) (p : Fin 24) (t : Fin 2) (h : Fin 12) (d : Fin 128) (hp : (p : ℕ) = h * 2 + t) :
    (W10 m ρ c (Proc.devRef .tc main_v57_0) : Vec Ideal S16x24x128 .f32) (ix3 ⟨b, by omega⟩ p d) = akv X G Wt b t h d := by
  refine (congrFun (((keep10 m ρ c main_v57_0 (by decide)).trans ((keep9 m ρ c main_v57_0 (by decide)).trans (keep8 m ρ c main_v57_0 (by decide)))).trans ((W7_arr m ρ c 2).trans (final1 (V6 m ρ) c))) (ix3 _ p d)).trans ?_
  refine toP m ρ c (h_at m ρ c b) fun k => (akvW_at m ρ c k _).trans (congrArg _ (Fin.ext ?_))
  show 1536 + ((p : ℕ) * 128 + d) / 128 % 2 * 1536 + ((p : ℕ) * 128 + d) / 256 * 128 + ((p : ℕ) * 128 + d) % 128 = 1536 + t * 1536 + h * 128 + d
  omega

/-- The pooling heads' inputs. -/
theorem b_elem (b : Fin 8) (l : Fin 2048) :
    (W10 m ρ c (Proc.devRef .tc main_v58) : Vec Ideal S16x2048 .f32) (ix2 ⟨b, by omega⟩ l) = P X G Wt b ⟨6156 + l, by omega⟩ := by
  refine (congrFun (((keep10 m ρ c main_v58 (by decide)).trans (keep9 m ρ c main_v58 (by decide))).trans ((W8_arr m ρ c 2).trans (final2 (V7 m ρ) c))) (ix2 _ l)).trans ?_
  refine toP m ρ c (fun k => ?_) fun k => ?_
  · exact (congrFun (keep7 m ρ c main_v56 (by decide)) (ix2 _ k)).trans (h_at m ρ c b k)
  · exact (congrFun (keep7 m ρ c main_v21 (by decide)) (ix2 k _)).trans (bW_at m ρ c k _)

/-- The sparse heads' keys and values, head by head. -/
theorem ckv_elem (b : Fin 8) (p : Fin 24) (t : Fin 2) (h : Fin 12) (d : Fin 128) (hp : (p : ℕ) = h * 2 + t) :
    (W10 m ρ c (Proc.devRef .tc main_v59_0) : Vec Ideal S16x24x128 .f32) (ix3 ⟨b, by omega⟩ p d) = ckv X G Wt b t h d := by
  refine (congrFun ((keep10 m ρ c main_v59_0 (by decide)).trans ((W9_arr m ρ c 4).trans (final3 (V8 m ρ) c))) (ix3 _ p d)).trans ?_
  have hrow : ∀ k, (V8 m ρ c main_v56 : Vec Ideal S16x4096 .bf16) (ix2 ⟨b, by omega⟩ k) = rms (X b) G k := fun k =>
    (congrFun ((keep8 m ρ c main_v56 (by decide)).trans (keep7 m ρ c main_v56 (by decide))) (ix2 _ k)).trans (h_at m ρ c b k)
  have hcol : ∀ k l, (V8 m ρ c main_v30 : Vec Ideal S4096x3072 .bf16) (ix2 k l)
      = Wt k ⟨9740 + l / 128 % 2 * 1536 + l / 256 * 128 + l % 128, by omega⟩ := fun k l =>
    (congrFun ((keep8 m ρ c main_v30 (by decide)).trans (keep7 m ρ c main_v30 (by decide))) (ix2 k l)).trans (ckvW_at m ρ c k l)
  show kvrArr (V8 m ρ c main_v56) (V8 m ρ c main_v30) (V8 m ρ c main_v52) (V8 m ρ c main_v54) ⟨b, by omega⟩ p d = _
  unfold kvrArr rotEven ckv
  by_cases h0 : (t : ℕ) = 0
  · rw [if_pos (show (p : ℕ) % 2 = 0 by omega), if_pos h0]
    refine toR m ρ c hrow (fun k e => (hcol k _).trans (congrArg _ (Fin.ext ?_))) (fun e => ?_) (fun e => ?_) _
    · unfold kvCol
      simp only [hp]
      omega
    · exact (congrFun ((keep8 m ρ c main_v52 (by decide)).trans (keep7 m ρ c main_v52 (by decide))) (ix2 _ e)).trans (cosT_at m ρ c _ e)
    · exact (congrFun ((keep8 m ρ c main_v54 (by decide)).trans (keep7 m ρ c main_v54 (by decide))) (ix2 _ e)).trans (sinT_at m ρ c _ e)
  · rw [if_neg (show ¬ (p : ℕ) % 2 = 0 by omega), if_neg h0]
    refine toP m ρ c hrow fun k => (hcol k _).trans (congrArg _ (Fin.ext ?_))
    unfold kvCol
    simp only [hp]
    omega

/-- The small projections' operands at their call's entry. -/
theorem small_row (b : Fin 8) (k : Fin 4096) : (V9 m ρ c main_v56 : Vec Ideal S16x4096 .bf16) (ix2 ⟨b, by omega⟩ k) = rms (X b) G k :=
  (congrFun ((keep9 m ρ c main_v56 (by decide)).trans ((keep8 m ρ c main_v56 (by decide)).trans (keep7 m ρ c main_v56 (by decide)))) (ix2 _ k)).trans (h_at m ρ c b k)

theorem small_col (k : Fin 4096) (l : Fin 384) : (V9 m ρ c main_v8 : Vec Ideal S4096x384 .bf16) (ix2 k l)
    = (W6 m ρ c (Proc.devRef .tc main_v8) : Vec Ideal S4096x384 .bf16) (ix2 k l) :=
  congrFun ((keep9 m ρ c main_v8 (by decide)).trans ((keep8 m ρ c main_v8 (by decide)).trans (keep7 m ρ c main_v8 (by decide)))) (ix2 k l)

/-- The small projections' array, at any column. -/
theorem small_elem (r : Fin 16) (l : Fin 384) :
    (W10 m ρ c (Proc.devRef .tc main_v60) : Vec Ideal S16x384 .f32) (ix2 r l)
      = smallArr (V9 m ρ c main_v56) (V9 m ρ c main_v8) (V9 m ρ c main_v52) (V9 m ρ c main_v54) (V9 m ρ c main_v36) (ix2 r l) :=
  congrFun ((W10_arr m ρ c 5).trans (final4 (V9 m ρ) c)) (ix2 r l)

/-- The logarithm of a forget gate. -/
theorem gate_elem (b : Fin 8) (h : Fin 12) :
    (W10 m ρ c (Proc.devRef .tc main_v60) : Vec Ideal S16x384 .f32) (ix2 ⟨b, by omega⟩ ⟨h, by omega⟩) = gate X G Wt Bf b h := by
  refine (small_elem m ρ c _ _).trans ?_
  unfold smallArr small gate
  rw [dif_pos (show ((ix2 (⟨b, by omega⟩ : Fin 16) (⟨h, by omega⟩ : Fin 384) : S16x384.Idx) 1 : ℕ) < 128 by show (h : ℕ) < 128; omega)]
  refine congrArg logSig (congrArg₂ (· + ·) (toP m ρ c (small_row m ρ c b) fun k => ?_) ?_)
  · exact (small_col m ρ c k _).trans ((smallW_at m ρ c k _).trans (dif_pos (show (h : ℕ) < 12 by omega)))
  · exact (congrFun ((keep9 m ρ c main_v36 (by decide)).trans ((keep8 m ρ c main_v36 (by decide)).trans (keep7 m ρ c main_v36 (by decide)))) (ix2 0 _)).trans (bias_at m ρ c h)

/-- The indexer's key. -/
theorem ik_elem (b : Fin 8) (d : Fin 128) :
    (W10 m ρ c (Proc.devRef .tc main_v60) : Vec Ideal S16x384 .f32) (ix2 ⟨b, by omega⟩ ⟨256 + d, by omega⟩) = ik X G Wt b d := by
  refine (small_elem m ρ c _ _).trans ?_
  unfold smallArr small
  rw [dif_neg (show ¬ ((ix2 (⟨b, by omega⟩ : Fin 16) (⟨256 + d, by omega⟩ : Fin 384) : S16x384.Idx) 1 : ℕ) < 128 by show ¬ 256 + (d : ℕ) < 128; omega),
    dif_neg (show ¬ ((ix2 (⟨b, by omega⟩ : Fin 16) (⟨256 + d, by omega⟩ : Fin 384) : S16x384.Idx) 1 : ℕ) < 256 by show ¬ 256 + (d : ℕ) < 256; omega)]
  refine (toR m ρ c (n := ⟨18444, by omega⟩) (small_row m ρ c b) (fun k e => ?_) (fun e => ?_) (fun e => ?_) _).trans
    (congrArg _ (Fin.ext (show 256 + (d : ℕ) - 256 = d by omega)))
  · refine (small_col m ρ c k _).trans ((smallW_at m ρ c k _).trans ?_)
    refine (dif_neg (show ¬ 256 + (e : ℕ) < 12 by omega)).trans ((dif_neg (show ¬ 256 + (e : ℕ) < 128 by omega)).trans
      ((dif_neg (show ¬ 256 + (e : ℕ) < 160 by omega)).trans ((dif_neg (show ¬ 256 + (e : ℕ) < 256 by omega)).trans (congrArg _ (Fin.ext ?_)))))
    show 18444 + (256 + (e : ℕ) - 256) = 18444 + e
    omega
  · exact (congrFun ((keep9 m ρ c main_v52 (by decide)).trans ((keep8 m ρ c main_v52 (by decide)).trans (keep7 m ρ c main_v52 (by decide)))) (ix2 _ e)).trans (cosT_at m ρ c _ e)
  · exact (congrFun ((keep9 m ρ c main_v54 (by decide)).trans ((keep8 m ρ c main_v54 (by decide)).trans (keep7 m ρ c main_v54 (by decide)))) (ix2 _ e)).trans (sinT_at m ρ c _ e)

/-! ## The results -/

theorem out_akv : (W11 m ρ c (Proc.devRef .tc main_v67) : Vec Ideal S8x1x2x12x128 .f32) = fun j => akv X G Wt (j 0) (j 2) (j 3) (j 4) := by
  funext j
  idx_vars j
  obtain rfl : j1 = 0 := Subsingleton.elim _ _
  exact (akv_out (W10 m ρ c) _ _ _ _).trans (akv_elem m ρ c _ _ _ _ _ rfl)

theorem out_gate : (W11 m ρ c (Proc.devRef .tc main_v68) : Vec Ideal S8x1x12 .f32) = fun j => gate X G Wt Bf (j 0) (j 2) := by
  funext j
  idx_vars j
  obtain rfl : j1 = 0 := Subsingleton.elim _ _
  exact (logf_out (W10 m ρ c) _ _).trans (gate_elem m ρ c _ _)

theorem out_ckv : (W11 m ρ c (Proc.devRef .tc main_v71) : Vec Ideal S8x1x2x12x128 .f32) = fun j => ckv X G Wt (j 0) (j 2) (j 3) (j 4) := by
  funext j
  idx_vars j
  obtain rfl : j1 = 0 := Subsingleton.elim _ _
  exact (ckv_out (W10 m ρ c) _ _ _ _).trans (ckv_elem m ρ c _ _ _ _ _ rfl)

theorem out_ik : (W11 m ρ c (Proc.devRef .tc main_v73) : Vec Ideal S8x1x128 .f32) = fun j => ik X G Wt (j 0) (j 2) := by
  funext j
  idx_vars j
  obtain rfl : j1 = 0 := Subsingleton.elim _ _
  exact (ik_out (W10 m ρ c) _ _).trans (ik_elem m ρ c _ _)

theorem out_pool : (W11 m ρ c (Proc.devRef .tc main_v74) : Vec Ideal S8x15x1024 .f32) = fun j => Cert.Sampled.pool X G Wt St (j 0) (j 1) (j 2) := by
  funext j
  idx_vars j
  refine (pool_out (W10 m ρ c) _ _ _).trans ?_
  unfold Cert.Sampled.pool
  refine dite_congr rfl (fun _ => ?_) fun _ => b_elem m ρ c _ _
  exact congrFun (W10_args m ρ c main_arg1 (by decide)) _

end Cert.SampleIdeal.Gen

end
-- ==== Proof.Sample.Run.lean ====
/- The token kernel's run: its five results, in terms of the layer's arguments. -/
module

public import Idealize.ShloMosaic.Lib.Pipeline.ValueKit
public import Idealize.ShloMosaic.Lib.Pointwise
public import Idealize.ShloMosaic.Lib.WordCmp
public import Idealize.ShloMosaic.Lib.Claim
public import proofs.«01_k».proof.Proof.Gen.SampleIdeal.Frame
public import proofs.«01_k».proof.Proof.Sample.Entry

@[expose] public section

set_option maxRecDepth 16384

noncomputable section

namespace Cert.SampleIdeal.Gen

open Idealize.ShloMosaic Idealize.ShloMosaic.TcCoe Idealize.SL.Sem
open Idealize.ShloMosaic.Tactic
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat Cfg Window BodyObligation cellOf)
open Cert.SampleIdeal Cert.Sampled

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every buffer that outlives the calls ends with the last boundary's contents. -/
theorem run_all : θ_run defs (onTc (τ := τ) (main (F := Ideal))) ⟨m, fun _ => 0, ρ⟩ (fun r => ∀ c : Dev nD,
      ∀ b ∈ Pipeline.ucRefs τ sig, r.2.mem (((c : Thread nD τ)).1, b) = W11 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h hz => h)

/-- The five results, and the arguments as they were. -/
theorem run_values : θ_run defs (onTc (τ := τ) (main (F := Ideal))) ⟨m, fun _ => 0, ρ⟩ (fun r => ∀ c : Dev nD,
      r.2.mem ((c.tc : Thread nD τ).loc main_v67) = (fun j => akv (argX (W0 m ρ c)) (argG (W0 m ρ c)) (argW (W0 m ρ c)) (j 0) (j 2) (j 3) (j 4) : FVec Ideal S8x1x2x12x128 .f32)
      ∧ r.2.mem ((c.tc : Thread nD τ).loc main_v68) = (fun j => gate (argX (W0 m ρ c)) (argG (W0 m ρ c)) (argW (W0 m ρ c)) (argB (W0 m ρ c)) (j 0) (j 2) : FVec Ideal S8x1x12 .f32)
      ∧ r.2.mem ((c.tc : Thread nD τ).loc main_v71) = (fun j => ckv (argX (W0 m ρ c)) (argG (W0 m ρ c)) (argW (W0 m ρ c)) (j 0) (j 2) (j 3) (j 4) : FVec Ideal S8x1x2x12x128 .f32)
      ∧ r.2.mem ((c.tc : Thread nD τ).loc main_v73) = (fun j => ik (argX (W0 m ρ c)) (argG (W0 m ρ c)) (argW (W0 m ρ c)) (j 0) (j 2) : FVec Ideal S8x1x128 .f32)
      ∧ r.2.mem ((c.tc : Thread nD τ).loc main_v74) = (fun j => Cert.Sampled.pool (argX (W0 m ρ c)) (argG (W0 m ρ c)) (argW (W0 m ρ c)) (argS (W0 m ρ c)) (j 0) (j 1) (j 2) : FVec Ideal S8x15x1024 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_v67 (by decide))).trans (out_akv m ρ c),
      (h c _ (mem_uc main_v68 (by decide))).trans (out_gate m ρ c),
      (h c _ (mem_uc main_v71 (by decide))).trans (out_ckv m ρ c),
      (h c _ (mem_uc main_v73 (by decide))).trans (out_ik m ρ c),
      (h c _ (mem_uc main_v74 (by decide))).trans (out_pool m ρ c),
      (h c _ (mem_uc main_arg0 (by decide))).trans (W11_main_arg0 m ρ c),
      (h c _ (mem_uc main_arg1 (by decide))).trans (W11_main_arg1 m ρ c),
      (h c _ (mem_uc main_arg2 (by decide))).trans (W11_main_arg2 m ρ c),
      (h c _ (mem_uc main_arg3 (by decide))).trans (W11_main_arg3 m ρ c),
      (h c _ (mem_uc main_arg4 (by decide))).trans (W11_main_arg4 m ρ c)⟩) (run_all m ρ)

end Cert.SampleIdeal.Gen

end
-- ==== Proof.Sample.Reference.lean ====
/- The tokens' reference: its five results, in terms of the layer's arguments. -/
module

public import Idealize.ShloMosaic.Lib.Pipeline.ValueKit
public import Idealize.ShloMosaic.Lib.Pointwise
public import Idealize.ShloMosaic.Lib.WordCmp
public import Idealize.ShloMosaic.Lib.Claim
public import proofs.«01_k».proof.Proof.Gen.SampleReferenceIdeal.Run
public import proofs.«01_k».proof.Proof.Sample.Spec
public import proofs.«01_k».proof.Proof.Proj.LogSig

@[expose] public section

set_option maxRecDepth 16384

noncomputable section

namespace Cert.SampleReferenceIdeal.Value

open Idealize.ShloMosaic Idealize.ShloMosaic.TcCoe Idealize.SL.Sem
open Cert.SampleReferenceIdeal Cert.SampleReferenceIdeal.Gen Cert.Sampled
open Cert.Projections (rms dot logSig logSig_eq)

variable (m : (ℓ : Loc nD τ sig) → Buf (Elt Ideal) ℓ) (ρ : Dev nD → PrngReg)

/-- The arguments, by coordinates. -/
def argX (c : Dev nD) (b : Fin 8) (k : Fin 4096) : EReal := (m ((c.tc : Thread nD τ).loc main_arg0) : FVec Ideal S8x1x4096 .f32) (ix3 b 0 k)
def argS (c : Dev nD) (b : Fin 8) (s : Fin 15) (l : Fin 1024) : EReal := (m ((c.tc : Thread nD τ).loc main_arg1) : FVec Ideal S8x15x1024 .f32) (ix3 b s l)
def argG (c : Dev nD) (k : Fin 4096) : EReal := (m ((c.tc : Thread nD τ).loc main_arg2) : FVec Ideal S4096 .f32) (ix1 k)
def argW (c : Dev nD) (k : Fin 4096) (n : Fin 18604) : EReal := (m ((c.tc : Thread nD τ).loc main_arg3) : FVec Ideal S4096x18604 .f32) (ix2 k n)
def argB (c : Dev nD) (h : Fin 12) : EReal := (m ((c.tc : Thread nD τ).loc main_arg4) : FVec Ideal S12 .f32) (ix1 h)

/-! ## The product and the tables -/

/-- The product of the normalised tokens with the weights. -/
def prodV (X : FVec Ideal S8x1x4096 .f32) (G : FVec Ideal S4096 .f32) (W : FVec Ideal S4096x18604 .f32) : FVec Ideal S8x1x18604 .f32 :=
  Host.dotGeneral dot_S8x1x4096_S4096x18604_S8x1x18604_2_0_01_1_n_n none
    (mulf (mulf X (broadcastInDim S8x1x4096 ![0, 1, 2] bcast_S8x1x1_S8x1x4096_0_1_2 (Host.rsqrt (addf (Host.divf
      (broadcastInDim S8x1x1 ![0, 1] bcast_S8x1_S8x1x1_0_1 (Host.reduceAdd (mulf X X) (constant S_ .f32 0x00000000#32)
        reducesTo_S8x1x4096_S8x1_d2 h_S_)) (broadcastInDim S8x1x1 ![] bcast_S_S8x1x1 (constant S_ .f32 0x45800000#32)))
      (broadcastInDim S8x1x1 ![] bcast_S_S8x1x1 (constant S_ .f32 0x358637BD#32))))))
      (broadcastInDim S8x1x4096 ![0, 1, 2] bcast_S1x1x4096_S8x1x4096_0_1_2 (broadcastInDim S1x1x4096 ![2] bcast_S4096_S1x1x4096_2 G))) W

theorem prod_at (X : FVec Ideal S8x1x4096 .f32) (G : FVec Ideal S4096 .f32) (W : FVec Ideal S4096x18604 .f32) (b : Fin 8) (n : Fin 18604) :
    prodV X G W (ix3 b 0 n) = dot (rms (fun k => X (ix3 b 0 k)) (fun k => G (ix1 k))) (fun k => W (ix2 k n)) := by
  unfold dot rms
  pointwise [prodV]

/-- The angles of the token's position. -/
def angV : FVec Ideal S1x64 .f32 :=
  mulf (broadcastInDim S1x64 ![0, 1] bcast_S1x1_S1x64_0_1 (broadcastInDim S1x1 ![0] bcast_S1_S1x1_0
      (sitofp .f32 (addi (broadcastInDim S1 ![] bcast_S_S1 (constantI S_ 32 16384#32)) (iotaInDim S1 32 0)))))
    (broadcastInDim S1x64 ![1] bcast_S64_S1x64_1 (Host.powf (broadcastInDim S64 ![] bcast_S_S64 (constant S_ .f32 0x461C4000#32))
      (Host.divf (Host.negf (sitofp .f32 (iotaInDim S64 32 0))) (broadcastInDim S64 ![] bcast_S_S64 (constant S_ .f32 0x42800000#32)))))

theorem ang_at (k : Fin 64) : angV (ix2 0 k) = ang k := by
  unfold ang
  pointwise [angV]
  rfl

/-- The tables. -/
def cosV : FVec Ideal S1x1x64 .f32 := broadcastInDim S1x1x64 ![0, 2] bcast_S1x64_S1x1x64_0_2 (Host.cos angV)
def sinV : FVec Ideal S1x1x64 .f32 := broadcastInDim S1x1x64 ![0, 2] bcast_S1x64_S1x1x64_0_2 (Host.sin angV)

theorem cos_at (k : Fin 64) : cosV (ix3 0 0 k) = Ideal.cos (ang k) := by
  rw [← ang_at]
  pointwise [cosV]

theorem sin_at (k : Fin 64) : sinV (ix3 0 0 k) = Ideal.sin (ang k) := by
  rw [← ang_at]
  pointwise [sinV]

/-! ## The rotary embedding -/

/-- One feature of the rotary embedding of a head's features. -/
def turn (u : Fin 128 → EReal) (c s : Fin 64 → EReal) (d : Fin 128) : EReal :=
  if h : (d : ℕ) < 64 then u d * c ⟨d, h⟩ - u ⟨64 + d, by omega⟩ * s ⟨d, h⟩
  else u d * c ⟨d - 64, by omega⟩ + u ⟨d - 64, by omega⟩ * s ⟨d - 64, by omega⟩

/-- Of 128 columns of the product, it is the layer's rotary embedding. -/
theorem turn_eq (x : Fin 8 → Fin 4096 → EReal) (g : Fin 4096 → EReal) (w : Fin 4096 → Fin 18604 → EReal) (u : Fin 128 → EReal)
    (b : Fin 8) (n : Fin 18477) (hu : ∀ e, u e = P x g w b ⟨n + e, by omega⟩) (d : Fin 128) :
    turn u (fun k => cosV (ix3 0 0 k)) (fun k => sinV (ix3 0 0 k)) d = R x g w b n d := by
  unfold turn R
  by_cases h : (d : ℕ) < 64
  · rw [dif_pos h, dif_pos h, hu, hu]
    simp only [cos_at, sin_at]
    refine congrArg₂ (· - ·) rfl (congrArg₂ (· * ·) (congrArg _ (Fin.ext ?_)) rfl)
    show (n : ℕ) + (64 + d) = n + (d + 64)
    omega
  · rw [dif_neg h, dif_neg h, hu, hu]
    simp only [cos_at, sin_at]

/-- The rotary embedding of twelve heads, from the two tables. -/
def rope12 (x : FVec Ideal S8x1x12x128 .f32) (c s : FVec Ideal S1x1x64 .f32) : FVec Ideal S8x1x12x128 .f32 :=
  concatenate S8x1x12x128 3
    [⟨S8x1x12x64, subf (mulf (extractStridedSlice S8x1x12x64 ![0, 0, 0, 0] x slices_S8x1x12x128_S8x1x12x64_0_0_0_0) (broadcastInDim S8x1x12x64 ![0, 1, 2, 3] bcast_S1x1x1x64_S8x1x12x64_0_1_2_3 (broadcastInDim S1x1x1x64 ![1, 2, 3] bcast_S1x1x64_S1x1x1x64_1_2_3 c))) (mulf (extractStridedSlice S8x1x12x64 ![0, 0, 0, 64] x slices_S8x1x12x128_S8x1x12x64_0_0_0_64) (broadcastInDim S8x1x12x64 ![0, 1, 2, 3] bcast_S1x1x1x64_S8x1x12x64_0_1_2_3 (broadcastInDim S1x1x1x64 ![1, 2, 3] bcast_S1x1x64_S1x1x1x64_1_2_3 s)))⟩,
     ⟨S8x1x12x64, addf (mulf (extractStridedSlice S8x1x12x64 ![0, 0, 0, 64] x slices_S8x1x12x128_S8x1x12x64_0_0_0_64) (broadcastInDim S8x1x12x64 ![0, 1, 2, 3] bcast_S1x1x1x64_S8x1x12x64_0_1_2_3 (broadcastInDim S1x1x1x64 ![1, 2, 3] bcast_S1x1x64_S1x1x1x64_1_2_3 c))) (mulf (extractStridedSlice S8x1x12x64 ![0, 0, 0, 0] x slices_S8x1x12x128_S8x1x12x64_0_0_0_0) (broadcastInDim S8x1x12x64 ![0, 1, 2, 3] bcast_S1x1x1x64_S8x1x12x64_0_1_2_3 (broadcastInDim S1x1x1x64 ![1, 2, 3] bcast_S1x1x64_S1x1x1x64_1_2_3 s)))⟩]
    concatenates_S8x1x12x64_S8x1x12x64_S8x1x12x128_d3

theorem rope12_at (x : FVec Ideal S8x1x12x128 .f32) (c s : FVec Ideal S1x1x64 .f32) (b : Fin 8) (h : Fin 12) (d : Fin 128) :
    rope12 x c s (ix4 b 0 h d) = turn (fun e => x (ix4 b 0 h e)) (fun k => c (ix3 0 0 k)) (fun k => s (ix3 0 0 k)) d := by
  unfold turn
  by_cases h0 : (d : ℕ) < 64
  · rw [dif_pos h0]
    pointwise [rope12]
    rw [dif_pos h0]
  · rw [dif_neg h0]
    pointwise [rope12]
    rw [dif_neg h0]
    refine congrArg₂ (· + ·) (congrArg₂ (· * ·) (congrArg _ ?_) rfl) rfl
    exact congrArg (fun e => ix4 b 0 h e) (Fin.ext (show 64 + ((d : ℕ) - 64) = d by omega))

/-- The rotary embedding of one head, from the two tables. -/
def rope1 (x : FVec Ideal S8x1x1x128 .f32) (c s : FVec Ideal S1x1x64 .f32) : FVec Ideal S8x1x1x128 .f32 :=
  concatenate S8x1x1x128 3
    [⟨S8x1x1x64, subf (mulf (extractStridedSlice S8x1x1x64 ![0, 0, 0, 0] x slices_S8x1x1x128_S8x1x1x64_0_0_0_0) (broadcastInDim S8x1x1x64 ![0, 1, 2, 3] bcast_S1x1x1x64_S8x1x1x64_0_1_2_3 (broadcastInDim S1x1x1x64 ![1, 2, 3] bcast_S1x1x64_S1x1x1x64_1_2_3 c))) (mulf (extractStridedSlice S8x1x1x64 ![0, 0, 0, 64] x slices_S8x1x1x128_S8x1x1x64_0_0_0_64) (broadcastInDim S8x1x1x64 ![0, 1, 2, 3] bcast_S1x1x1x64_S8x1x1x64_0_1_2_3 (broadcastInDim S1x1x1x64 ![1, 2, 3] bcast_S1x1x64_S1x1x1x64_1_2_3 s)))⟩,
     ⟨S8x1x1x64, addf (mulf (extractStridedSlice S8x1x1x64 ![0, 0, 0, 64] x slices_S8x1x1x128_S8x1x1x64_0_0_0_64) (broadcastInDim S8x1x1x64 ![0, 1, 2, 3] bcast_S1x1x1x64_S8x1x1x64_0_1_2_3 (broadcastInDim S1x1x1x64 ![1, 2, 3] bcast_S1x1x64_S1x1x1x64_1_2_3 c))) (mulf (extractStridedSlice S8x1x1x64 ![0, 0, 0, 0] x slices_S8x1x1x128_S8x1x1x64_0_0_0_0) (broadcastInDim S8x1x1x64 ![0, 1, 2, 3] bcast_S1x1x1x64_S8x1x1x64_0_1_2_3 (broadcastInDim S1x1x1x64 ![1, 2, 3] bcast_S1x1x64_S1x1x1x64_1_2_3 s)))⟩]
    concatenates_S8x1x1x64_S8x1x1x64_S8x1x1x128_d3

theorem rope1_at (x : FVec Ideal S8x1x1x128 .f32) (c s : FVec Ideal S1x1x64 .f32) (b : Fin 8) (h : Fin 1) (d : Fin 128) :
    rope1 x c s (ix4 b 0 h d) = turn (fun e => x (ix4 b 0 h e)) (fun k => c (ix3 0 0 k)) (fun k => s (ix3 0 0 k)) d := by
  obtain rfl : h = 0 := Subsingleton.elim _ _
  unfold turn
  by_cases h0 : (d : ℕ) < 64
  · rw [dif_pos h0]
    pointwise [rope1]
    rw [dif_pos h0]
  · rw [dif_neg h0]
    pointwise [rope1]
    rw [dif_neg h0]
    refine congrArg₂ (· + ·) (congrArg₂ (· * ·) (congrArg _ ?_) rfl) rfl
    exact congrArg (fun e : Fin 128 => (ix4 b 0 0 e : S8x1x1x128.Idx)) (Fin.ext (show 64 + ((d : ℕ) - 64) = d by omega))

/-! ## The results' pieces -/

/-- Keys and values, one after the other. -/
def pairV (k v : FVec Ideal S8x1x12x128 .f32) : FVec Ideal S8x1x2x12x128 .f32 :=
  concatenate S8x1x2x12x128 2
    [⟨S8x1x1x12x128, broadcastInDim S8x1x1x12x128 ![0, 1, 3, 4] bcast_S8x1x12x128_S8x1x1x12x128_0_1_3_4 k⟩,
     ⟨S8x1x1x12x128, broadcastInDim S8x1x1x12x128 ![0, 1, 3, 4] bcast_S8x1x12x128_S8x1x1x12x128_0_1_3_4 v⟩]
    concatenates_S8x1x1x12x128_S8x1x1x12x128_S8x1x2x12x128_d2

theorem pair_at (k v : FVec Ideal S8x1x12x128 .f32) (b : Fin 8) (t : Fin 2) (h : Fin 12) (d : Fin 128) :
    pairV k v (ix5 b 0 t h d) = if (t : ℕ) = 0 then k (ix4 b 0 h d) else v (ix4 b 0 h d) := by
  by_cases h0 : (t : ℕ) = 0
  · rw [if_pos h0]
    pointwise [pairV]
    rw [dif_pos (by omega)]
  · rw [if_neg h0]
    pointwise [pairV]
    rw [dif_neg (by omega)]

/-- Twelve heads' columns of the product. -/
def akV (p : FVec Ideal S8x1x18604 .f32) : FVec Ideal S8x1x12x128 .f32 :=
  shapeCast _ (extractStridedSlice S8x1x1536 ![0, 0, 1536] p slices_S8x1x18604_S8x1x1536_0_0_1536) shapeCasts_S8x1x1536_S8x1x12x128
def avV (p : FVec Ideal S8x1x18604 .f32) : FVec Ideal S8x1x12x128 .f32 :=
  shapeCast _ (extractStridedSlice S8x1x1536 ![0, 0, 3072] p slices_S8x1x18604_S8x1x1536_0_0_3072) shapeCasts_S8x1x1536_S8x1x12x128
def ckV (p : FVec Ideal S8x1x18604 .f32) : FVec Ideal S8x1x12x128 .f32 :=
  shapeCast _ (extractStridedSlice S8x1x1536 ![0, 0, 9740] p slices_S8x1x18604_S8x1x1536_0_0_9740) shapeCasts_S8x1x1536_S8x1x12x128
def cvV (p : FVec Ideal S8x1x18604 .f32) : FVec Ideal S8x1x12x128 .f32 :=
  shapeCast _ (extractStridedSlice S8x1x1536 ![0, 0, 11276] p slices_S8x1x18604_S8x1x1536_0_0_11276) shapeCasts_S8x1x1536_S8x1x12x128
def ikV (p : FVec Ideal S8x1x18604 .f32) : FVec Ideal S8x1x1x128 .f32 :=
  broadcastInDim S8x1x1x128 ![0, 1, 3] bcast_S8x1x128_S8x1x1x128_0_1_3 (extractStridedSlice S8x1x128 ![0, 0, 18444] p slices_S8x1x18604_S8x1x128_0_0_18444)

section Columns

variable (p : FVec Ideal S8x1x18604 .f32) (b : Fin 8) (h : Fin 12) (d : Fin 128)

theorem ak_at : akV p (ix4 b 0 h d) = p (ix3 b 0 ⟨1536 + h * 128 + d, by omega⟩) := by
  pointwise [akV]
  blk_ext
theorem av_at : avV p (ix4 b 0 h d) = p (ix3 b 0 ⟨3072 + h * 128 + d, by omega⟩) := by
  pointwise [avV]
  blk_ext
theorem ck_at : ckV p (ix4 b 0 h d) = p (ix3 b 0 ⟨9740 + h * 128 + d, by omega⟩) := by
  pointwise [ckV]
  blk_ext
theorem cv_at : cvV p (ix4 b 0 h d) = p (ix3 b 0 ⟨11276 + h * 128 + d, by omega⟩) := by
  pointwise [cvV]
  blk_ext
theorem ik_at : ikV p (ix4 b 0 0 d) = p (ix3 b 0 ⟨18444 + d, by omega⟩) := by
  pointwise [ikV]

end Columns

/-- The indexer's key without its head. -/
theorem flat_at (y : FVec Ideal S8x1x1x128 .f32) (b : Fin 8) (d : Fin 128) :
    shapeCast S8x1x128 y shapeCasts_S8x1x1x128_S8x1x128 (ix3 b 0 d) = y (ix4 b 0 0 d) := by
  pointwise

/-- The negated inputs of the gates. -/
def preV (p : FVec Ideal S8x1x18604 .f32) (f : FVec Ideal S12 .f32) : FVec Ideal S8x1x12 .f32 :=
  Host.negf (addf (extractStridedSlice S8x1x12 ![0, 0, 6144] p slices_S8x1x18604_S8x1x12_0_0_6144)
    (broadcastInDim S8x1x12 ![0, 1, 2] bcast_S1x1x12_S8x1x12_0_1_2 (broadcastInDim S1x1x12 ![2] bcast_S12_S1x1x12_2 f)))

/-- The logarithms of the gates, from their negated inputs. -/
def gateV (z : FVec Ideal S8x1x12 .f32) : FVec Ideal S8x1x12 .f32 :=
  Host.negf (select (cmpf .une (subf z (broadcastInDim S8x1x12 ![] bcast_S_S8x1x12 (constant S_ .f32 0x00000000#32))) (subf z (broadcastInDim S8x1x12 ![] bcast_S_S8x1x12 (constant S_ .f32 0x00000000#32))))
    (addf z (broadcastInDim S8x1x12 ![] bcast_S_S8x1x12 (constant S_ .f32 0x00000000#32)))
    (addf (maximumf z (broadcastInDim S8x1x12 ![] bcast_S_S8x1x12 (constant S_ .f32 0x00000000#32)))
      (Host.log1p (Host.exp (Host.negf (Host.absf (subf z (broadcastInDim S8x1x12 ![] bcast_S_S8x1x12 (constant S_ .f32 0x00000000#32)))))))))

theorem pre_at (p : FVec Ideal S8x1x18604 .f32) (f : FVec Ideal S12 .f32) (b : Fin 8) (h : Fin 12) :
    preV p f (ix3 b 0 h) = -(p (ix3 b 0 ⟨6144 + h, by omega⟩) + f (ix1 h)) := by
  pointwise [preV]

theorem gate_at (z : FVec Ideal S8x1x12 .f32) (q : EReal) (b : Fin 8) (h : Fin 12) (hz : z (ix3 b 0 h) = -q) :
    gateV z (ix3 b 0 h) = logSig q := by
  pointwise [gateV]
  rw [hz]
  refine Eq.trans ?_ (logSig_eq _)
  simp [show ∀ z : EReal, FloatOps.absf (F := Ideal) (φ := .f32) z = max z (-z) from fun _ => rfl]

/-- The kept inputs and the token's, without the first. -/
def poolV (s : FVec Ideal S8x15x1024 .f32) (p : FVec Ideal S8x1x18604 .f32) : FVec Ideal S8x15x1024 .f32 :=
  extractStridedSlice S8x15x1024 ![0, 1, 0] (concatenate S8x16x1024 1 [⟨S8x15x1024, s⟩,
    ⟨S8x1x1024, extractStridedSlice S8x1x1024 ![0, 0, 6156] p slices_S8x1x18604_S8x1x1024_0_0_6156⟩]
    concatenates_S8x15x1024_S8x1x1024_S8x16x1024_d1) slices_S8x16x1024_S8x15x1024_0_1_0

theorem pool_at (st : FVec Ideal S8x15x1024 .f32) (p : FVec Ideal S8x1x18604 .f32) (b : Fin 8) (s : Fin 15) (l : Fin 1024) :
    poolV st p (ix3 b s l) = if h : (s : ℕ) < 14 then st (ix3 b ⟨s + 1, by omega⟩ l) else p (ix3 b 0 ⟨6156 + l, by omega⟩) := by
  pointwise [poolV]
  refine dite_congr (propext (by omega)) (fun _ => by blk_ext) fun _ => by blk_ext

/-! ## The results -/

section Results

variable (X : FVec Ideal S8x1x4096 .f32) (S : FVec Ideal S8x15x1024 .f32) (G : FVec Ideal S4096 .f32) (W : FVec Ideal S4096x18604 .f32)
  (B : FVec Ideal S12 .f32) (b : Fin 8)

local notation "x" => fun (b : Fin 8) (k : Fin 4096) => X (ix3 b 0 k)
local notation "g" => fun (k : Fin 4096) => G (ix1 k)
local notation "w" => fun (k : Fin 4096) (n : Fin 18604) => W (ix2 k n)

theorem prod_P (n n' : Fin 18604) (h : (n : ℕ) = n') : prodV X G W (ix3 b 0 n) = P x g w b n' := by
  rw [Fin.ext h]
  exact prod_at X G W b n'

theorem akv_ref (t : Fin 2) (h : Fin 12) (d : Fin 128) :
    pairV (akV (prodV X G W)) (avV (prodV X G W)) (ix5 b 0 t h d) = akv x g w b t h d := by
  rw [pair_at, ak_at, av_at]
  unfold akv
  by_cases h0 : (t : ℕ) = 0
  · rw [if_pos h0]
    exact prod_P X G W b _ _ (by simp only [h0] <;> omega)
  · rw [if_neg h0]
    have h1 : (t : ℕ) = 1 := by omega
    exact prod_P X G W b _ _ (by simp only [h1] <;> omega)

theorem ckv_ref (t : Fin 2) (h : Fin 12) (d : Fin 128) :
    pairV (rope12 (ckV (prodV X G W)) cosV sinV) (cvV (prodV X G W)) (ix5 b 0 t h d) = ckv x g w b t h d := by
  rw [pair_at, rope12_at, cv_at]
  unfold ckv
  refine if_congr Iff.rfl (turn_eq x g w _ b _ (fun e => ?_) d) (prod_P X G W b _ _ rfl)
  rw [ck_at]
  exact prod_P X G W b _ _ rfl

theorem ik_ref (d : Fin 128) : rope1 (ikV (prodV X G W)) cosV sinV (ix4 b 0 0 d) = ik x g w b d := by
  rw [rope1_at]
  refine turn_eq x g w _ b _ (fun e => ?_) d
  rw [ik_at]
  exact prod_P X G W b _ _ rfl

theorem gate_ref (h : Fin 12) : gateV (preV (prodV X G W) B) (ix3 b 0 h) = gate x g w (fun h => B (ix1 h)) b h := by
  unfold gate
  refine gate_at _ _ b h ((pre_at _ _ b h).trans ?_)
  rw [prod_P X G W b _ _ rfl]

theorem pool_ref (s : Fin 15) (l : Fin 1024) :
    poolV S (prodV X G W) (ix3 b s l) = Cert.Sampled.pool x g w (fun b s l => S (ix3 b s l)) b s l := by
  rw [pool_at]
  unfold Cert.Sampled.pool
  exact dite_congr rfl (fun _ => rfl) fun _ => prod_P X G W b _ _ rfl

end Results

/-- The five results by coordinates, from the arguments. -/
def outAkv (c : Dev nD) : FVec Ideal S8x1x2x12x128 .f32 := fun j => akv (argX m c) (argG m c) (argW m c) (j 0) (j 2) (j 3) (j 4)
def outGate (c : Dev nD) : FVec Ideal S8x1x12 .f32 := fun j => gate (argX m c) (argG m c) (argW m c) (argB m c) (j 0) (j 2)
def outCkv (c : Dev nD) : FVec Ideal S8x1x2x12x128 .f32 := fun j => ckv (argX m c) (argG m c) (argW m c) (j 0) (j 2) (j 3) (j 4)
def outIk (c : Dev nD) : FVec Ideal S8x1x128 .f32 := fun j => ik (argX m c) (argG m c) (argW m c) (j 0) (j 2)
def outPool (c : Dev nD) : FVec Ideal S8x15x1024 .f32 := fun j =>
  Cert.Sampled.pool (argX m c) (argG m c) (argW m c) (argS m c) (j 0) (j 1) (j 2)

/-- The product, from the arguments. -/
def prod (c : Dev nD) : FVec Ideal S8x1x18604 .f32 :=
  prodV (m ((c.tc : Thread nD τ).loc main_arg0)) (m ((c.tc : Thread nD τ).loc main_arg2)) (m ((c.tc : Thread nD τ).loc main_arg3))

theorem res_akv (c : Dev nD) : pairV (akV (prod m c)) (avV (prod m c)) = outAkv m c := by
  funext j
  idx_vars j
  obtain rfl : j1 = 0 := Subsingleton.elim _ _
  exact akv_ref _ _ _ _ _ _ _

theorem res_gate (c : Dev nD) : gateV (preV (prod m c) (m ((c.tc : Thread nD τ).loc main_arg4))) = outGate m c := by
  funext j
  idx_vars j
  obtain rfl : j1 = 0 := Subsingleton.elim _ _
  exact gate_ref _ _ _ _ _ _

theorem res_ckv (c : Dev nD) : pairV (rope12 (ckV (prod m c)) cosV sinV) (cvV (prod m c)) = outCkv m c := by
  funext j
  idx_vars j
  obtain rfl : j1 = 0 := Subsingleton.elim _ _
  exact ckv_ref _ _ _ _ _ _ _

theorem res_ik (c : Dev nD) : shapeCast S8x1x128 (rope1 (ikV (prod m c)) cosV sinV) shapeCasts_S8x1x1x128_S8x1x128 = outIk m c := by
  funext j
  idx_vars j
  obtain rfl : j1 = 0 := Subsingleton.elim _ _
  exact (flat_at _ _ _).trans (ik_ref _ _ _ _ _)

theorem res_pool (c : Dev nD) : poolV (m ((c.tc : Thread nD τ).loc main_arg1)) (prod m c) = outPool m c := by
  funext j
  idx_vars j
  exact pool_ref _ _ _ _ _ _ _

set_option maxHeartbeats 2000000 in
/-- The reference's results, and the arguments as they were. -/
theorem run_values : θ_run (defs (F := Ideal)) (onTc (τ := τ) (main (F := Ideal))) ⟨m, fun _ => 0, ρ⟩ (fun r => ∀ c : Dev nD,
      r.2.mem ((c.tc : Thread nD τ).loc main_v39) = outAkv m c
      ∧ r.2.mem ((c.tc : Thread nD τ).loc main_v34) = outGate m c
      ∧ r.2.mem ((c.tc : Thread nD τ).loc main_v76) = outCkv m c
      ∧ r.2.mem ((c.tc : Thread nD τ).loc main_v110) = outIk m c
      ∧ r.2.mem ((c.tc : Thread nD τ).loc main_v112) = outPool m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run (defs (F := Ideal)) _ _).mono (fun r h c => by
    obtain ⟨h0, h1, h2, h3, h4, h5⟩ := h c
    refine ⟨h0.trans ?_, h1.trans ?_, h2.trans ?_, h3.trans ?_, h4.trans ?_, h5⟩
    · exact (rfl : _ = pairV (akV (prod m c)) (avV (prod m c))).trans (res_akv m c)
    · exact (rfl : _ = gateV (preV (prod m c) (m ((c.tc : Thread nD τ).loc main_arg4)))).trans (res_gate m c)
    · exact (rfl : _ = pairV (rope12 (ckV (prod m c)) cosV sinV) (cvV (prod m c))).trans (res_ckv m c)
    · exact (rfl : _ = shapeCast S8x1x128 (rope1 (ikV (prod m c)) cosV sinV) shapeCasts_S8x1x1x128_S8x1x128).trans (res_ik m c)
    · exact (rfl : _ = poolV (m ((c.tc : Thread nD τ).loc main_arg1)) (prod m c)).trans (res_pool m c)) (run (F := Ideal) m ρ)

end Cert.SampleReferenceIdeal.Value

end
-- ==== Proof.Close.Spec.lean ====
/- The layer's end at the eight sequences that take one token each, in scalars. -/
module

public import Idealize.ShloMosaic.Lib.Pipeline.ValueKit
public import Idealize.ShloMosaic.Lib.Pointwise
public import Idealize.ShloMosaic.Lib.WordCmp
public import Idealize.ShloMosaic.Lib.Claim
public import proofs.«01_k».proof.Proof.Merge.Spec

@[expose] public section

set_option maxRecDepth 16384

noncomputable section

namespace Cert.OutProj

open Idealize.ShloMosaic Idealize.ShloMosaic.TcCoe Idealize.SL.Sem
open Cert.Projections

/-- One token's output: its input, and beside it the product of its three mixes normalised. -/
def closed (x : Fin 8 → Fin 4096 → EReal) (a : Fin 8 → Fin 1536 → EReal) (b : Fin 8 → Fin 1024 → EReal)
    (c : Fin 8 → Fin 1536 → EReal) (w : Fin 4096 → Fin 4096 → EReal) (g : Fin 4096 → EReal) (s : Fin 8) (n : Fin 4096) : EReal :=
  plus (x s n) (fun l => dot (cat (a s) (b s) (c s)) (fun k => w k l)) g n

end Cert.OutProj

end
-- ==== Proof.Close.Value.lean ====
/- The two calls of the layer's end, at the eight sequences that take one token each: the arrays they leave. -/
module

public import Idealize.ShloMosaic.Lib.Pipeline.ValueKit
public import Idealize.ShloMosaic.Lib.Pointwise
public import Idealize.ShloMosaic.Lib.WordCmp
public import Idealize.ShloMosaic.Lib.Claim
public import proofs.«01_k».proof.Proof.Gen.CloseIdeal.Frame
public import proofs.«01_k».proof.Proof.Close.Spec

@[expose] public section

set_option maxRecDepth 16384

noncomputable section

namespace Cert.CloseIdeal.Gen

open Idealize.ShloMosaic Idealize.ShloMosaic.TcCoe Idealize.SL.Sem
open Cert.CloseIdeal Cert.Projections Cert.OutProj

variable (V : (c : Dev nD) → (b : Ref sig .tc) → Buf (Elt Ideal) ((c : Thread nD τ).loc b))

/-- One element of a block of the product. -/
theorem mixed_at (xa : Vec Ideal S16x1536 .bf16) (xb : Vec Ideal S16x1024 .bf16) (xc : Vec Ideal S16x1536 .bf16)
    (wa : Vec Ideal S1536x512 .bf16) (wb : Vec Ideal S1024x512 .bf16) (wc : Vec Ideal S1536x512 .bf16) (y : S16x512.Idx) :
    out0_6 xa xb xc wa wb wc y = dot3 (fun k => xa (ix2 (y 0) k)) (fun k => xb (ix2 (y 0) k)) (fun k => xc (ix2 (y 0) k))
      (fun k => wa (ix2 k (y 1))) (fun k => wb (ix2 k (y 1))) (fun k => wc (ix2 k (y 1))) := by
  canon_tiles z hz
  idx_vars z
  have e0 : y 0 = z0 := Fin.ext hz0
  have e1 : y 1 = z1 := Fin.ext hz1
  rw [e0, e1]
  unfold dot3
  pointwise [k0_pay1]

/-- One element of a block of the normalised sum. -/
theorem post_at (x y : Vec Ideal S16x4096 .f32) (g : Vec Ideal S1x4096 .f32) (i : S16x4096.Idx) :
    out1_3 x y g i = plus (x (ix2 (i 0) (i 1))) (fun k => y (ix2 (i 0) k)) (fun k => g (ix2 0 k)) (i 1) := by
  canon_tiles z hz
  idx_vars z
  have e0 : i 0 = z0 := Fin.ext hz0
  have e1 : i 1 = z1 := Fin.ext hz1
  rw [e0, e1]
  unfold plus rms
  pointwise [k1_pay1]

/-- The index maps of the product: one tile of rows, and the eight column blocks of the weights. -/
theorem idx0 : ∀ t : Fin cfg0.N, win0_0.index t = ![0, 0] ∧ win0_1.index t = ![0, 0] ∧ win0_2.index t = ![0, 0]
    ∧ win0_3.index t = ![0, t.val] ∧ win0_4.index t = ![0, t.val] ∧ win0_5.index t = ![0, t.val]
    ∧ win0_6.index t = ![0, t.val] := (by decide +kernel : ∀ t : Fin grid0.N, _)

/-- The index maps of the normalisation: one tile. -/
theorem idx1 : ∀ t : Fin cfg1.N, win1_0.index t = ![0, 0] ∧ win1_1.index t = ![0, 0] ∧ win1_2.index t = ![0, 0]
    ∧ win1_3.index t = ![0, 0] := (by decide +kernel : ∀ t : Fin grid1.N, _)

/-- The rows' product. -/
def mixed (A : Vec Ideal S16x1536 .bf16) (B : Vec Ideal S16x1024 .bf16) (C : Vec Ideal S16x1536 .bf16)
    (WA : Vec Ideal S1536x4096 .bf16) (WB : Vec Ideal S1024x4096 .bf16) (WC : Vec Ideal S1536x4096 .bf16) : Vec Ideal S16x4096 .f32 := fun j =>
  dot3 (fun k => A (ix2 (j 0) k)) (fun k => B (ix2 (j 0) k)) (fun k => C (ix2 (j 0) k))
    (fun k => WA (ix2 k (j 1))) (fun k => WB (ix2 k (j 1))) (fun k => WC (ix2 k (j 1)))

/-- THE ARRAY the product leaves. -/
theorem final0 (c : Dev nD) : (dat0 V c).arrAt 6 cfg0.N
    = mixed (V c main_v10) (V c main_v11) (V c main_v14) (V c main_v3) (V c main_v5) (V c main_v7) := by
  refine (dat0 V c).arrAt_eq_of_covers 6 _ (by decide +kernel) fun t _ y => ?_
  blk_simp
  rw [after0_6]
  refine (mixed_at _ _ _ _ _ _ _).trans ?_
  unfold mixed
  congr 1 <;> funext k
  all_goals blk_ext [iblk0, idx0 t]

/-- THE ARRAY the normalisation leaves. -/
theorem final1 (c : Dev nD) : (dat1 V c).arrAt 3 cfg1.N = (fun j : S16x4096.Idx =>
    plus ((V c main_v1 : Vec Ideal S16x4096 .f32) (ix2 (j 0) (j 1))) (fun k => (V c main_v15 : Vec Ideal S16x4096 .f32) (ix2 (j 0) k))
      (fun k => (V c main_v16 : Vec Ideal S1x4096 .f32) (ix2 0 k)) (j 1) : Vec Ideal S16x4096 .f32) := by
  refine (dat1 V c).arrAt_eq_of_covers 3 _ (by decide +kernel) fun t _ y => ?_
  blk_simp
  rw [after1_3]
  refine (post_at _ _ _ _).trans ?_
  congr 1
  · blk_ext [iblk1, idx1 t]
  · funext k; blk_ext [iblk1, idx1 t]
  · funext k; blk_ext [iblk1, idx1 t]
  · exact Fin.ext (by blk_simp [idx1 t])

end Cert.CloseIdeal.Gen

end
-- ==== Proof.Close.Run.lean ====
/- The run of the layer's end at the sequences that take one token each: its result, in terms of its arguments. -/
module

public import Idealize.ShloMosaic.Lib.Pipeline.ValueKit
public import Idealize.ShloMosaic.Lib.Pointwise
public import Idealize.ShloMosaic.Lib.WordCmp
public import Idealize.ShloMosaic.Lib.Claim
public import proofs.«01_k».proof.Proof.Gen.CloseIdeal.Frame
public import proofs.«01_k».proof.Proof.Close.Value

@[expose] public section

set_option maxRecDepth 16384

noncomputable section

namespace Cert.CloseIdeal.Gen

open Idealize.ShloMosaic Idealize.ShloMosaic.TcCoe Idealize.SL.Sem
open Idealize.ShloMosaic.Tactic
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat Cfg Window BodyObligation cellOf)
open Cert.CloseIdeal Cert.Projections Cert.OutProj

local notation "𝕄" => MT nD τ sig Unit (Elt Ideal) ℕ (UR sig nD τ) ℕ

variable (m : (ℓ : Loc nD τ sig) → Buf (Elt Ideal) ℓ) (ρ : Dev nD → PrngReg)

open StableHlo (after)

/-! ## What the host operations lay out -/

section Host

variable (V0 : Valuation τ sig (Elt Ideal))

theorem oa_at (k : Fin 1536) (l : Fin 4096) : (after hostOps0_2 V0 (Proc.devRef .tc main_v3) : Vec Ideal S1536x4096 .bf16) (ix2 k l)
    = (V0 (Proc.devRef .tc main_arg4) : Vec Ideal S4096x4096 .f32) (ix2 ⟨k, by omega⟩ l) := by
  simp only [hostOps0_2]
  entry_read
  pointwise

theorem ob_at (k : Fin 1024) (l : Fin 4096) : (after hostOps0_2 V0 (Proc.devRef .tc main_v5) : Vec Ideal S1024x4096 .bf16) (ix2 k l)
    = (V0 (Proc.devRef .tc main_arg4) : Vec Ideal S4096x4096 .f32) (ix2 ⟨1536 + k, by omega⟩ l) := by
  simp only [hostOps0_2]
  entry_read
  pointwise

theorem oc_at (k : Fin 1536) (l : Fin 4096) : (after hostOps0_2 V0 (Proc.devRef .tc main_v7) : Vec Ideal S1536x4096 .bf16) (ix2 k l)
    = (V0 (Proc.devRef .tc main_arg4) : Vec Ideal S4096x4096 .f32) (ix2 ⟨2560 + k, by omega⟩ l) := by
  simp only [hostOps0_2]
  entry_read
  pointwise

theorem flat_x (s : Fin 8) (k : Fin 4096) : (after hostOps0 V0 (Proc.devRef .tc main_v0) : Vec Ideal S8x4096 .f32) (ix2 s k)
    = (V0 (Proc.devRef .tc main_arg0) : Vec Ideal S8x1x4096 .f32) (ix3 s 0 k) := by
  simp only [hostOps0]
  entry_read
  pointwise

theorem pad_x (s : Fin 8) (k : Fin 4096) : (after hostOps0_1 V0 (Proc.devRef .tc main_v1) : Vec Ideal S16x4096 .f32) (ix2 ⟨s, by omega⟩ k)
    = (V0 (Proc.devRef .tc main_v0) : Vec Ideal S8x4096 .f32) (ix2 s k) := by
  simp only [hostOps0_1, StableHlo.TRef.binary, StableHlo.TRef.unary, StableHlo.TRef.toBuf, StableHlo.TRef.ofBuf, cast_eq]
  entry_read
  pointwise

theorem flat_a (s : Fin 8) (k : Fin 1536) : (after hostOps0_2 V0 (Proc.devRef .tc main_v8) : Vec Ideal S8x1536 .f32) (ix2 s k)
    = (V0 (Proc.devRef .tc main_arg1) : Vec Ideal S8x1x1536 .f32) (ix3 s 0 k) := by
  simp only [hostOps0_2]
  entry_read
  pointwise

theorem pad_a (s : Fin 8) (k : Fin 1536) : (after hostOps0_3 V0 (Proc.devRef .tc main_v9) : Vec Ideal S16x1536 .f32) (ix2 ⟨s, by omega⟩ k)
    = (V0 (Proc.devRef .tc main_v8) : Vec Ideal S8x1536 .f32) (ix2 s k) := by
  simp only [hostOps0_3, StableHlo.TRef.binary, StableHlo.TRef.unary, StableHlo.TRef.toBuf, StableHlo.TRef.ofBuf, cast_eq]
  entry_read
  pointwise

theorem cast_a (s : Fin 16) (k : Fin 1536) : (after hostOps0_4 V0 (Proc.devRef .tc main_v10) : Vec Ideal S16x1536 .bf16) (ix2 s k)
    = (V0 (Proc.devRef .tc main_v9) : Vec Ideal S16x1536 .f32) (ix2 s k) := by
  simp only [hostOps0_4]
  entry_read
  pointwise

theorem flat_c (s : Fin 8) (k : Fin 1536) : (after hostOps0_4 V0 (Proc.devRef .tc main_v12) : Vec Ideal S8x1536 .f32) (ix2 s k)
    = (V0 (Proc.devRef .tc main_arg3) : Vec Ideal S8x1x1536 .f32) (ix3 s 0 k) := by
  simp only [hostOps0_4]
  entry_read
  pointwise

theorem pad_c (s : Fin 8) (k : Fin 1536) : (after hostOps0_5 V0 (Proc.devRef .tc main_v13) : Vec Ideal S16x1536 .f32) (ix2 ⟨s, by omega⟩ k)
    = (V0 (Proc.devRef .tc main_v12) : Vec Ideal S8x1536 .f32) (ix2 s k) := by
  simp only [hostOps0_5, StableHlo.TRef.binary, StableHlo.TRef.unary, StableHlo.TRef.toBuf, StableHlo.TRef.ofBuf, cast_eq]
  entry_read
  pointwise

theorem cast_c (s : Fin 16) (k : Fin 1536) : (after hostOps0_6 V0 (Proc.devRef .tc main_v14) : Vec Ideal S16x1536 .bf16) (ix2 s k)
    = (V0 (Proc.devRef .tc main_v13) : Vec Ideal S16x1536 .f32) (ix2 s k) := by
  simp only [hostOps0_6]
  entry_read
  pointwise

theorem g_at (k : Fin 4096) : (after hostOps1 V0 (Proc.devRef .tc main_v16) : Vec Ideal S1x4096 .f32) (ix2 0 k)
    = (V0 (Proc.devRef .tc main_arg5) : Vec Ideal S4096 .f32) (ix1 k) := by
  simp only [hostOps1]
  entry_read
  pointwise

theorem out_at (s : Fin 8) (k : Fin 4096) : (after hostOps2 V0 (Proc.devRef .tc main_v19) : Vec Ideal S8x1x4096 .f32) (ix3 s 0 k)
    = (V0 (Proc.devRef .tc main_v17) : Vec Ideal S16x4096 .f32) (ix2 ⟨s, by omega⟩ k) := by
  simp only [hostOps2]
  entry_read
  pointwise

end Host

/-! ## The arguments, by coordinates -/

def argX (c : Dev nD) (s : Fin 8) (k : Fin 4096) : EReal := (m ((c.tc : Thread nD τ).loc main_arg0) : Vec Ideal S8x1x4096 .f32) (ix3 s 0 k)
def mixA (c : Dev nD) (s : Fin 8) (k : Fin 1536) : EReal := (m ((c.tc : Thread nD τ).loc main_arg1) : Vec Ideal S8x1x1536 .f32) (ix3 s 0 k)
def mixB (c : Dev nD) (s : Fin 8) (k : Fin 1024) : EReal := (m ((c.tc : Thread nD τ).loc main_arg2) : Vec Ideal S16x1024 .f32) (ix2 ⟨s, by omega⟩ k)
def mixC (c : Dev nD) (s : Fin 8) (k : Fin 1536) : EReal := (m ((c.tc : Thread nD τ).loc main_arg3) : Vec Ideal S8x1x1536 .f32) (ix3 s 0 k)
def argW (c : Dev nD) (k l : Fin 4096) : EReal := (m ((c.tc : Thread nD τ).loc main_arg4) : Vec Ideal S4096x4096 .f32) (ix2 k l)
def argG (c : Dev nD) (k : Fin 4096) : EReal := (m ((c.tc : Thread nD τ).loc main_arg5) : Vec Ideal S4096 .f32) (ix1 k)

/-- The result by coordinates, from the arguments. -/
def out (c : Dev nD) : Vec Ideal S8x1x4096 .f32 := fun j =>
  closed (argX m c) (mixA m c) (mixB m c) (mixC m c) (argW m c) (argG m c) (j 0) (j 2)

/-! ## The arrays at the product's entry -/

/-- The padded input's row of a sequence. -/
theorem x_in (c : Dev nD) (s : Fin 8) (k : Fin 4096) : (W9 m ρ c (Proc.devRef .tc main_v1) : Vec Ideal S16x4096 .f32) (ix2 ⟨s, by omega⟩ k)
    = argX m c s k := by
  refine (congrFun ((W9_of m ρ c main_v1 (by decide)).trans ((W8_of m ρ c main_v1 (by decide +kernel)).trans
    ((W7_of m ρ c main_v1 (by decide)).trans ((W6_of m ρ c main_v1 (by decide)).trans ((W5_of m ρ c main_v1 (by decide)).trans
    ((W4_of m ρ c main_v1 (by decide)).trans (W3_of m ρ c main_v1 (by decide)))))))) _).trans ?_
  exact (pad_x (W1 m ρ c) s k).trans (flat_x (W0 m ρ c) s k)

theorem a_in (c : Dev nD) (s : Fin 8) (k : Fin 1536) : (W7 m ρ c (Proc.devRef .tc main_v10) : Vec Ideal S16x1536 .bf16) (ix2 ⟨s, by omega⟩ k)
    = mixA m c s k := by
  refine (congrFun ((W7_of m ρ c main_v10 (by decide)).trans (W6_of m ρ c main_v10 (by decide))) _).trans ?_
  refine (cast_a (W4 m ρ c) _ k).trans ((pad_a (W3 m ρ c) s k).trans ((flat_a (W2 m ρ c) s k).trans ?_))
  exact congrFun (W2_args m ρ c main_arg1 (by decide)) _

theorem c_in (c : Dev nD) (s : Fin 8) (k : Fin 1536) : (W7 m ρ c (Proc.devRef .tc main_v14) : Vec Ideal S16x1536 .bf16) (ix2 ⟨s, by omega⟩ k)
    = mixC m c s k := by
  refine (cast_c (W6 m ρ c) _ k).trans ((pad_c (W5 m ρ c) s k).trans ((flat_c (W4 m ρ c) s k).trans ?_))
  exact congrFun (W4_args m ρ c main_arg3 (by decide)) _

/-- What the third stretch lays out is still there at the product's entry. -/
theorem lay (c : Dev nD) (r : Ref sig .tc) (h4 : r ∉ hostOps0_3_W) (h5 : r ∉ hostOps0_4_W) (h6 : r ∉ hostOps0_5_W) (h7 : r ∉ hostOps0_6_W) :
    W7 m ρ c (Proc.devRef .tc r) = after hostOps0_2 (W2 m ρ c) (Proc.devRef .tc r) :=
  (W7_of m ρ c r h7).trans ((W6_of m ρ c r h6).trans ((W5_of m ρ c r h5).trans (W4_of m ρ c r h4)))

/-! ## The arrays between the calls -/

/-- One element of the product. -/
theorem mixed_elem (c : Dev nD) (s : Fin 8) (l : Fin 4096) : (W8 m ρ c (Proc.devRef .tc main_v15) : Vec Ideal S16x4096 .f32) (ix2 ⟨s, by omega⟩ l)
    = dot (cat (mixA m c s) (mixB m c s) (mixC m c s)) (fun k => argW m c k l) := by
  refine (congrFun ((W8_arr m ρ c 6).trans (final0 (V7 m ρ) c)) (ix2 _ l)).trans ?_
  refine Eq.trans ?_ (dot_cat _ _ _ _).symm
  unfold mixed
  congr 1
  · exact funext fun k => a_in m ρ c s k
  · exact funext fun k => c_in m ρ c s k
  · exact funext fun k => (congrFun (lay m ρ c main_v3 (by decide) (by decide) (by decide) (by decide)) _).trans
      ((oa_at (W2 m ρ c) k l).trans (congrFun (W2_args m ρ c main_arg4 (by decide)) _))
  · exact funext fun k => (congrFun (lay m ρ c main_v5 (by decide) (by decide) (by decide) (by decide)) _).trans
      ((ob_at (W2 m ρ c) k l).trans (congrFun (W2_args m ρ c main_arg4 (by decide)) _))
  · exact funext fun k => (congrFun (lay m ρ c main_v7 (by decide) (by decide) (by decide) (by decide)) _).trans
      ((oc_at (W2 m ρ c) k l).trans (congrFun (W2_args m ρ c main_arg4 (by decide)) _))

/-- The layer's output. -/
theorem out_arr (c : Dev nD) : (W11 m ρ c (Proc.devRef .tc main_v19) : Vec Ideal S8x1x4096 .f32) = out m c := by
  funext j
  idx_vars j
  obtain rfl : j1 = 0 := Subsingleton.elim _ _
  refine (out_at (W10 m ρ c) _ _).trans ((congrFun ((W10_arr m ρ c 3).trans (final1 (V9 m ρ) c)) (ix2 _ _)).trans ?_)
  unfold out Cert.OutProj.closed
  congr 1
  · exact x_in m ρ c _ _
  · funext l
    exact (congrFun (W9_of m ρ c main_v15 (by decide)) _).trans (mixed_elem m ρ c _ l)
  · funext k
    exact (g_at (W8 m ρ c) k).trans (congrFun (W8_args m ρ c main_arg5 (by decide)) (ix1 k))

/-! ## The run -/

set_option backward.isDefEq.respectTransparency.types false in
/-- Every buffer that outlives the calls ends with the last boundary's contents. -/
theorem run_all : θ_run defs (onTc (τ := τ) (main (F := Ideal))) ⟨m, fun _ => 0, ρ⟩ (fun r => ∀ c : Dev nD,
      ∀ b ∈ Pipeline.ucRefs τ sig, r.2.mem (((c : Thread nD τ)).1, b) = W11 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h hz => h)

/-- The result, and the arguments as they were. -/
theorem run_values : θ_run defs (onTc (τ := τ) (main (F := Ideal))) ⟨m, fun _ => 0, ρ⟩ (fun r => ∀ c : Dev nD,
      r.2.mem ((c.tc : Thread nD τ).loc main_v19) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_v19 (by decide))).trans (out_arr m ρ c),
      (h c _ (mem_uc main_arg0 (by decide))).trans (W11_main_arg0 m ρ c),
      (h c _ (mem_uc main_arg1 (by decide))).trans (W11_main_arg1 m ρ c),
      (h c _ (mem_uc main_arg2 (by decide))).trans (W11_main_arg2 m ρ c),
      (h c _ (mem_uc main_arg3 (by decide))).trans (W11_main_arg3 m ρ c),
      (h c _ (mem_uc main_arg4 (by decide))).trans (W11_main_arg4 m ρ c),
      (h c _ (mem_uc main_arg5 (by decide))).trans (W11_main_arg5 m ρ c)⟩) (run_all m ρ)

end Cert.CloseIdeal.Gen

end
-- ==== Proof.Close.Reference.lean ====
/- The reference of the layer's end at the sequences that take one token each: its result, element by element. -/
module

public import Idealize.ShloMosaic.Lib.Pipeline.ValueKit
public import Idealize.ShloMosaic.Lib.Pointwise
public import Idealize.ShloMosaic.Lib.WordCmp
public import Idealize.ShloMosaic.Lib.Claim
public import proofs.«01_k».proof.Proof.Gen.CloseReferenceIdeal.Run
public import proofs.«01_k».proof.Proof.Close.Spec

@[expose] public section

set_option maxRecDepth 16384

noncomputable section

namespace Cert.CloseReferenceIdeal.Value

open Idealize.ShloMosaic Idealize.ShloMosaic.TcCoe Idealize.SL.Sem
open Idealize.ShloMosaic.StableHlo
open Cert.CloseReferenceIdeal Cert.CloseReferenceIdeal.Gen Cert.Projections Cert.OutProj

variable (m : (ℓ : Loc nD τ sig) → Buf (Elt Ideal) ℓ) (ρ : Dev nD → PrngReg)

/-- The arguments, by coordinates. -/
def argX (c : Dev nD) (s : Fin 8) (k : Fin 4096) : EReal := (m ((c.tc : Thread nD τ).loc main_arg0) : FVec Ideal S8x1x4096 .f32) (ix3 s 0 k)
def mixA (c : Dev nD) (s : Fin 8) (k : Fin 1536) : EReal := (m ((c.tc : Thread nD τ).loc main_arg1) : FVec Ideal S8x1x1536 .f32) (ix3 s 0 k)
def mixB (c : Dev nD) (s : Fin 8) (k : Fin 1024) : EReal := (m ((c.tc : Thread nD τ).loc main_arg2) : FVec Ideal S16x1024 .f32) (ix2 ⟨s, by omega⟩ k)
def mixC (c : Dev nD) (s : Fin 8) (k : Fin 1536) : EReal := (m ((c.tc : Thread nD τ).loc main_arg3) : FVec Ideal S8x1x1536 .f32) (ix3 s 0 k)
def argW (c : Dev nD) (k l : Fin 4096) : EReal := (m ((c.tc : Thread nD τ).loc main_arg4) : FVec Ideal S4096x4096 .f32) (ix2 k l)
def argG (c : Dev nD) (k : Fin 4096) : EReal := (m ((c.tc : Thread nD τ).loc main_arg5) : FVec Ideal S4096 .f32) (ix1 k)

/-! ## The pieces -/

/-- The three mixes side by side. -/
def catV (A : FVec Ideal S8x1x1536 .f32) (B : FVec Ideal S16x1024 .f32) (C : FVec Ideal S8x1x1536 .f32) : FVec Ideal S8x1x4096 .f32 :=
  concatenate S8x1x4096 2 [⟨S8x1x1536, A⟩,
    ⟨S8x1x1024, broadcastInDim S8x1x1024 ![0, 2] bcast_S8x1024_S8x1x1024_0_2 (extractStridedSlice S8x1024 ![0, 0] B slices_S16x1024_S8x1024_0_0)⟩,
    ⟨S8x1x1536, C⟩] concatenates_S8x1x1536_S8x1x1024_S8x1x1536_S8x1x4096_d2

theorem cat_at (A : FVec Ideal S8x1x1536 .f32) (B : FVec Ideal S16x1024 .f32) (C : FVec Ideal S8x1x1536 .f32)
    (b : Fin 8) (k : Fin 4096) : catV A B C (ix3 b 0 k) = cat (fun k => A (ix3 b 0 k))
      (fun k => B (ix2 ⟨b, by omega⟩ k)) (fun k => C (ix3 b 0 k)) k := by
  unfold cat
  pointwise [catV]
  by_cases h : (k : ℕ) < 1536
  · rw [dif_pos h, dif_pos h]
  · rw [dif_neg h, dif_neg h]
    by_cases h' : (k : ℕ) < 2560
    · rw [dif_pos h', dif_pos (by omega)]
    · rw [dif_neg h', dif_neg (by omega)]
      congr 2

/-- The product of those rows with the output weights. -/
def prodV (Y : FVec Ideal S8x1x4096 .f32) (W : FVec Ideal S4096x4096 .f32) : FVec Ideal S8x1x4096 .f32 :=
  Host.dotGeneral dot_S8x1x4096_S4096x4096_S8x1x4096_2_0_01_1_n_n none Y W

theorem prod_at (Y : FVec Ideal S8x1x4096 .f32) (W : FVec Ideal S4096x4096 .f32) (b : Fin 8) (n : Fin 4096) :
    prodV Y W (ix3 b 0 n) = dot (fun k => Y (ix3 b 0 k)) (fun k => W (ix2 k n)) := by
  unfold dot
  pointwise [prodV]

/-- The input plus the normalised product. -/
def postV (X Y : FVec Ideal S8x1x4096 .f32) (G : FVec Ideal S4096 .f32) : FVec Ideal S8x1x4096 .f32 :=
  addf X (mulf (mulf Y (broadcastInDim S8x1x4096 ![0, 1, 2] bcast_S8x1x1_S8x1x4096_0_1_2 (Host.rsqrt (addf (Host.divf
    (broadcastInDim S8x1x1 ![0, 1] bcast_S8x1_S8x1x1_0_1 (Host.reduceAdd (mulf Y Y) (constant S_ .f32 0x00000000#32)
      reducesTo_S8x1x4096_S8x1_d2 h_S_)) (broadcastInDim S8x1x1 ![] bcast_S_S8x1x1 (constant S_ .f32 0x45800000#32)))
    (broadcastInDim S8x1x1 ![] bcast_S_S8x1x1 (constant S_ .f32 0x358637BD#32))))))
    (broadcastInDim S8x1x4096 ![0, 1, 2] bcast_S1x1x4096_S8x1x4096_0_1_2 (broadcastInDim S1x1x4096 ![2] bcast_S4096_S1x1x4096_2 G)))

theorem post_at (X Y : FVec Ideal S8x1x4096 .f32) (G : FVec Ideal S4096 .f32) (b : Fin 8) (n : Fin 4096) :
    postV X Y G (ix3 b 0 n) = plus (X (ix3 b 0 n)) (fun k => Y (ix3 b 0 k)) (fun k => G (ix1 k)) n := by
  unfold plus rms
  pointwise [postV]

/-- The result by coordinates, from the arguments. -/
def out (c : Dev nD) : FVec Ideal S8x1x4096 .f32 := fun j =>
  closed (argX m c) (mixA m c) (mixB m c) (mixC m c) (argW m c) (argG m c) (j 0) (j 2)

set_option maxHeartbeats 2000000 in
/-- The reference's result, and the arguments as they were. -/
theorem run_values : θ_run (defs (F := Ideal)) (onTc (τ := τ) (main (F := Ideal))) ⟨m, fun _ => 0, ρ⟩ (fun r => ∀ c : Dev nD,
      r.2.mem ((c.tc : Thread nD τ).loc main_v17) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run (defs (F := Ideal)) _ _).mono (fun r h c => by
    refine ⟨(h c).1.trans ((rfl : _ = postV (m ((c.tc : Thread nD τ).loc main_arg0)) (prodV (catV (m ((c.tc : Thread nD τ).loc main_arg1))
      (m ((c.tc : Thread nD τ).loc main_arg2)) (m ((c.tc : Thread nD τ).loc main_arg3))) (m ((c.tc : Thread nD τ).loc main_arg4)))
      (m ((c.tc : Thread nD τ).loc main_arg5))).trans ?_), (h c).2⟩
    funext j
    idx_vars j
    obtain rfl : j1 = 0 := Subsingleton.elim _ _
    refine (post_at _ _ _ _ _).trans (congrArg (plus _ · _ _) (funext fun l => ?_))
    exact (prod_at _ _ _ _).trans (congrArg (dot · _) (funext fun k => cat_at _ _ _ _ k))) (run (F := Ideal) m ρ)

end Cert.CloseReferenceIdeal.Value

end
-- ==== Proof.Pool.Spec.lean ====
/- The sum of the last few entries of a column, in the two ways the two programs compute it: by doubling the number of
   entries summed, and as a difference of two cumulated sums. -/
module

public import Idealize.ShloMosaic.Lib.Pipeline.ValueKit
public import Idealize.ShloMosaic.Lib.Pointwise

@[expose] public section

noncomputable section

namespace Cert.Pooling

open Idealize.ShloMosaic Finset

/-- The entry `k` rows before row `r`: zero before the column's start. -/
def back (u : Fin 2048 → EReal) (r k : ℕ) : EReal := if h : k ≤ r ∧ r < 2048 then u ⟨r - k, by omega⟩ else 0

/-- The sum of the `w` entries that end at row `r`. -/
def win (u : Fin 2048 → EReal) (w r : ℕ) : EReal := ∑ k ∈ range w, back u r k

/-- A window of one entry. -/
theorem win_one (u : Fin 2048 → EReal) (r : Fin 2048) : win u 1 r = u r := by
  unfold win back
  rw [sum_range_one, dif_pos ⟨Nat.zero_le _, r.isLt⟩]
  rfl

/-- DOUBLING: a window of `w + w` entries is the window of `w` there and the one `w` rows before it. -/
theorem win_double (u : Fin 2048 → EReal) (w r : ℕ) (hr : r < 2048) :
    win u (w + w) r = win u w r + (if w ≤ r then win u w (r - w) else 0) := by
  unfold win
  rw [sum_range_add]
  congr 1
  split_ifs with h
  · refine sum_congr rfl fun k _ => ?_
    unfold back
    by_cases hk : w + k ≤ r
    · rw [dif_pos ⟨hk, hr⟩, dif_pos ⟨by omega, by omega⟩]
      exact congrArg u (Fin.ext (by simp only; omega))
    · rw [dif_neg (by omega), dif_neg (by omega)]
  · refine sum_eq_zero fun k _ => ?_
    unfold back
    rw [dif_neg (by omega)]

/-- The column with fifteen zeros before it. -/
def padded (u : Fin 2048 → EReal) (n : ℕ) : EReal := if h : 15 ≤ n ∧ n < 2063 then u ⟨n - 15, by omega⟩ else 0

/-- Its cumulated sum: the first `n` entries. -/
def cum (u : Fin 2048 → EReal) (n : ℕ) : EReal := ∑ i ∈ range n, padded u i

/-- A cumulated sum of reals is a real. -/
theorem cum_real (u : Fin 2048 → EReal) (hu : ∀ i, u i ≠ ⊤ ∧ u i ≠ ⊥) (n : ℕ) : ∃ x : ℝ, cum u n = (x : EReal) := by
  induction n with
  | zero => exact ⟨0, by simp [cum]⟩
  | succ n ih =>
    obtain ⟨x, hx⟩ := ih
    have hp : ∃ y : ℝ, padded u n = (y : EReal) := by
      unfold padded
      split_ifs with h
      · exact ⟨_, (EReal.coe_toReal (hu _).1 (hu _).2).symm⟩
      · exact ⟨0, by simp⟩
    obtain ⟨y, hy⟩ := hp
    refine ⟨x + y, ?_⟩
    unfold cum at hx ⊢
    rw [sum_range_succ, hx, hy, EReal.coe_add]

/-- A DIFFERENCE OF CUMULATED SUMS of a finite column is the window between them. -/
theorem cum_sub (u : Fin 2048 → EReal) (hu : ∀ i, u i ≠ ⊤ ∧ u i ≠ ⊥) (w r : ℕ) (hw : w ≤ 16) (hr : r < 2048) :
    cum u (16 + r) - cum u (16 - w + r) = win u w r := by
  have hs : cum u (16 + r) = cum u (16 - w + r) + ∑ k ∈ range w, padded u (16 - w + r + k) := by
    unfold cum
    rw [← sum_range_add]
    congr 2
    omega
  obtain ⟨x, hx⟩ := cum_real u hu (16 - w + r)
  rw [hs, hx, EReal.add_sub_cancel_left, ← sum_range_reflect]
  unfold win
  refine sum_congr rfl fun k hk => ?_
  have hk' := mem_range.mp hk
  unfold padded back
  by_cases h : k ≤ r
  · rw [dif_pos ⟨by omega, by omega⟩, dif_pos ⟨h, hr⟩]
    exact congrArg u (Fin.ext (by simp only; omega))
  · rw [dif_neg (by omega), dif_neg (by omega)]

/-- How many entries a window of `w` holds at row `r`, as the float it is divided by. -/
def count (w : BitVec 32) (r : ℕ) : EReal := (((IntOp.minsi w (IntOp.addi (BitVec.ofNat 32 r) 1#32)).toInt : ℝ) : EReal)

/-- A group's window, by its number: 2, 4, 8, 16. -/
def width (g : ℕ) : ℕ := 2 ^ (g + 1)

/-- A pooled entry: the window's mean, less the entry itself. -/
def pooled (u : Fin 2048 → EReal) (g : ℕ) (r : Fin 2048) : EReal :=
  Ideal.div (win u (width g) r) (count (BitVec.ofNat 32 (width g)) r) - u r

/-- Element `(r, g * 256 + d)` of the result: the pooled entries of the group's columns against the group's weights, scaled,
    gated by the SiLU of the other half of the columns. -/
def element (p : Fin 256 → EReal) (w : Fin 256 → EReal) (s z : EReal) : EReal := (∑ e, p e * w e) * s * (z * Ideal.logistic z)

/-- A column of the pooled half, in one batch. -/
def column (a : Vec Ideal ⟨2, ![8192, 2048]⟩ .f32) (b : Fin 4) (l : Fin 1024) (r : Fin 2048) : EReal :=
  a (ix2 ⟨b * 2048 + r, by omega⟩ ⟨l, by omega⟩)

/-- The result at batch `b`, row `r`, column `d` of group `g`, from the three arguments. -/
def result (a : Vec Ideal ⟨2, ![8192, 2048]⟩ .f32) (w : Vec Ideal ⟨3, ![4, 256, 256]⟩ .f32) (s : Vec Ideal ⟨1, ![1024]⟩ .f32)
    (b : Fin 4) (r : Fin 2048) (g : Fin 4) (d : Fin 256) : EReal :=
  element (fun e => pooled (column a b ⟨g * 256 + e, by omega⟩) g r) (fun e => w (ix3 g e d)) (s (ix1 ⟨g * 256 + d, by omega⟩))
    (a (ix2 ⟨b * 2048 + r, by omega⟩ ⟨1024 + (g * 256 + d), by omega⟩))

/-- The result at row `R` and column `C` of the array. -/
def cell (a : Vec Ideal ⟨2, ![8192, 2048]⟩ .f32) (w : Vec Ideal ⟨3, ![4, 256, 256]⟩ .f32) (s : Vec Ideal ⟨1, ![1024]⟩ .f32)
    (R : Fin 8192) (C : Fin 1024) : EReal :=
  result a w s ⟨R / 2048, by omega⟩ ⟨R % 2048, by omega⟩ ⟨C / 256, by omega⟩ ⟨C % 256, by omega⟩

/-- It is the result at the coordinates the row and the column stand for. -/
theorem cell_eq (a : Vec Ideal ⟨2, ![8192, 2048]⟩ .f32) (w : Vec Ideal ⟨3, ![4, 256, 256]⟩ .f32) (s : Vec Ideal ⟨1, ![1024]⟩ .f32)
    (R : Fin 8192) (C : Fin 1024) (b : Fin 4) (r : Fin 2048) (g : Fin 4) (d : Fin 256) (hR : (R : ℕ) = b * 2048 + r) (hC : (C : ℕ) = g * 256 + d) :
    cell a w s R C = result a w s b r g d := by
  unfold cell
  congr 1 <;> exact Fin.ext (by simp only; omega)

end Cert.Pooling

end
-- ==== Proof.Pool.Pre.lean ====
/- The pooling heads' precondition, read: no infinity in the pooled half of the columns. -/
module

public import Idealize.ShloMosaic.Lib.Pipeline.ValueKit
public import Idealize.ShloMosaic.Lib.Pointwise
public import Idealize.ShloMosaic.Lib.ReduceAll
public import proofs.«01_k».proof.Pre_finite_rows
public import proofs.«01_k».proof.Proof.Fox.Pre
public import proofs.«01_k».proof.Proof.Pool.Spec

@[expose] public section

set_option maxRecDepth 16384

noncomputable section

namespace Cert.Pre_finite_rows

open Idealize.ShloMosaic Cert.Pooling

/-- The predicate's side conditions, all of literal shapes. -/
theorem facts : Facts where
  slices_S8192x2048_S8192x1024_0_0 := by decide
  bcast_S_S8192x1024 := by decide
  reducesTo_S8192x1024_S_d0_1 := by decide
  h_S_ := by decide

/-- The pooled half of the columns, as the predicate takes it, at an element. -/
theorem half_at [Facts] (a : FVec Ideal S8192x2048 .f32) (r : Fin 8192) (l : Fin 1024) :
    extractStridedSlice S8192x1024 ![0, 0] a Facts.slices_S8192x2048_S8192x1024_0_0 (ix2 r l) = a (ix2 r ⟨l, by omega⟩) := by
  pointwise

/-- WHAT THE PRECONDITION SAYS. -/
theorem finite_of_pre [Facts] (a : FVec Ideal S8192x2048 .f32) (w : FVec Ideal S4x256x256 .f32) (s : FVec Ideal S1024 .f32)
    (h : fn (F := Ideal) a w s = fun _ => 1#1) (b : Fin 4) (l : Fin 1024) (r : Fin 2048) : column a b l r ≠ ⊤ ∧ column a b l r ≠ ⊥ := by
  have h0 := congrFun h ix0
  unfold fn at h0
  have : Subsingleton S_.Idx := ⟨fun a b => by ext x; exact x.elim0⟩
  have e := Host.reduce_andi_all _ _ _ _ ix0 h0 (ix2 ⟨b * 2048 + r, by omega⟩ l)
  unfold column
  rw [← half_at a ⟨b * 2048 + r, by omega⟩ l]
  refine Cert.Pre_finite_logits.finite_of_abs _ ?_
  rw [← Cert.Math.pos_inf]; exact e

end Cert.Pre_finite_rows

end
-- ==== Proof.Pool.Block.lean ====
/- The pooling call's block: what one grid point stores, at one element of its block. -/
module

public import Idealize.ShloMosaic.Lib.Pipeline.ValueKit
public import Idealize.ShloMosaic.Lib.Pointwise
public import Idealize.ShloMosaic.Lib.KernelVsHost
public import Idealize.ShloMosaic.Lib.WordCmp
public import proofs.«01_k».proof.Proof.Gen.PoolIdeal.Value
public import proofs.«01_k».proof.Proof.Pool.Spec

@[expose] public section

set_option maxRecDepth 16384

noncomputable section

namespace Cert.PoolIdeal.Gen

open Idealize.ShloMosaic Idealize.ShloMosaic.TcCoe Idealize.SL.Sem
open Cert.PoolIdeal Cert.Pooling

/-- The row numbers of a block. -/
def rows : IVec S2048x256 32 := iota .tc S2048x256 32 [0] iota_S2048x256_d0_w32

theorem rows_at (r : Fin 2048) (d : Fin 256) : rows (ix2 r d) = BitVec.ofNat 32 r := by
  pointwise [rows]

/-- A block added to itself moved down by `w` rows, zeros coming in at the top. -/
def shiftAdd (w : BitVec 32) (x : FVec Ideal S2048x256 .f32) : FVec Ideal S2048x256 .f32 :=
  addf x (select (cmpi .sge rows (broadcast S2048x256 w)) (dynamicRotate 0 w none x rotates_S2048x256_d0)
    (broadcast S2048x256 (Scalar.ofBits (F := Ideal) .f32 0x00000000#32)))

/-- The sums over windows of 2, 4, 8 and 16 rows. -/
def levels (x : FVec Ideal S2048x256 .f32) : Fin 4 → FVec Ideal S2048x256 .f32
  | 0 => shiftAdd 1#32 x
  | 1 => shiftAdd 2#32 (shiftAdd 1#32 x)
  | 2 => shiftAdd 4#32 (shiftAdd 2#32 (shiftAdd 1#32 x))
  | 3 => shiftAdd 8#32 (shiftAdd 4#32 (shiftAdd 2#32 (shiftAdd 1#32 x)))

/-- How many rows a window of `w` holds, at every row. -/
def counts (w : BitVec 32) : FVec Ideal S2048x256 .f32 :=
  sitofp .f32 (minsi (broadcast S2048x256 w) (addi rows (broadcast S2048x256 1#32)))

theorem counts_at (w : BitVec 32) (r : Fin 2048) (d : Fin 256) : counts w (ix2 r d) = count w r := by
  show (((IntOp.minsi w (IntOp.addi (rows (ix2 r d)) 1#32)).toInt : ℝ) : EReal) = _
  rw [rows_at]
  rfl

/-- The grid's second coordinate picks the level and the count. -/
theorem mean_eq (i : grid0.Coords) (g : Fin 4) (hg : (i 1).val = g.val) (x : FVec Ideal S2048x256 .f32) :
    k0_pay2 i x = divf (levels x g) (counts (BitVec.ofNat 32 (width g))) := by
  unfold k0_pay2
  rw [hg]
  fin_cases g <;> rfl

/-- A moved block at an element. -/
theorem rotate_at (n : ℕ) (hn : n < 2048) (x : FVec Ideal S2048x256 .f32) (r : Fin 2048) (d : Fin 256) (h : n ≤ r) :
    dynamicRotate 0 (BitVec.ofNat 32 n) none x rotates_S2048x256_d0 (ix2 r d) = x (ix2 ⟨r - n, by omega⟩ d) := by
  refine dynamicRotate_apply 0 _ x _ _ _ fun b => ?_
  fin_cases b
  · show (r : ℕ) - n = ((r : ℕ) + 2048 - (BitVec.ofNat 32 n).toNat % 2048) % 2048
    rw [BitVec.toNat_ofNat]
    omega
  · rfl

/-- Doubling, at an element: a block that holds windows of `n` rows becomes one that holds windows of `n + n`. -/
theorem shiftAdd_at (n : ℕ) (hn : n < 2048) (x : FVec Ideal S2048x256 .f32) (u : Fin 2048 → EReal) (d : Fin 256)
    (hx : ∀ r : Fin 2048, x (ix2 r d) = win u n r) (r : Fin 2048) :
    shiftAdd (BitVec.ofNat 32 n) x (ix2 r d) = win u (n + n) r := by
  have hm : cmpi .sge rows (broadcast S2048x256 (BitVec.ofNat 32 n)) (ix2 r d) = BitVec.ofBool (decide (n ≤ (r : ℕ))) := by
    show IntOp.cmpi .sge (rows (ix2 r d)) (BitVec.ofNat 32 n) = _
    rw [rows_at]
    exact WordCmp.cmpi_sge_ofNat (by omega) (by omega)
  have hz : (broadcast S2048x256 (Scalar.ofBits (F := Ideal) .f32 0x00000000#32)) (ix2 r d) = (0 : EReal) := by
    show Ideal.ofBits .f32 0x00000000#32 = 0
    simp [Ideal.ofBits, Ideal.ieee]
  show (x (ix2 r d) : EReal) + Scalar.select (cmpi .sge rows (broadcast S2048x256 (BitVec.ofNat 32 n)) (ix2 r d))
      (dynamicRotate 0 (BitVec.ofNat 32 n) none x rotates_S2048x256_d0 (ix2 r d))
      ((broadcast S2048x256 (Scalar.ofBits (F := Ideal) .f32 0x00000000#32)) (ix2 r d)) = _
  rw [hm, hz, hx r, win_double u n r r.isLt]
  congr 1
  by_cases h : n ≤ (r : ℕ)
  · rw [if_pos h, rotate_at n hn x r d h, hx]
    simp [h, Scalar.select]
  · rw [if_neg h]
    simp [h, Scalar.select]

/-- A level, at an element: the window's sum. -/
theorem levels_at (x : FVec Ideal S2048x256 .f32) (g : Fin 4) (r : Fin 2048) (d : Fin 256) :
    levels x g (ix2 r d) = win (fun r => x (ix2 r d)) (width g) r := by
  have h1 : ∀ r : Fin 2048, x (ix2 r d) = win (fun r => x (ix2 r d)) 1 r := fun r => (win_one (fun r => x (ix2 r d)) r).symm
  have h2 := shiftAdd_at 1 (by omega) x _ d h1
  have h4 := shiftAdd_at 2 (by omega) _ _ d h2
  have h8 := shiftAdd_at 4 (by omega) _ _ d h4
  have h16 := shiftAdd_at 8 (by omega) _ _ d h8
  fin_cases g
  · exact h2 r
  · exact h4 r
  · exact h8 r
  · exact h16 r

/-- The mean of the window less the entry itself, at an element. -/
theorem mean_at (i : grid0.Coords) (g : Fin 4) (hg : (i 1).val = g.val) (x : FVec Ideal S2048x256 .f32) (r : Fin 2048) (d : Fin 256) :
    (k0_pay2 (F := Ideal) i x (ix2 r d) : EReal) - x (ix2 r d) = pooled (fun r => x (ix2 r d)) g r := by
  rw [mean_eq i g hg]
  unfold pooled
  rw [← levels_at x g r d, ← counts_at _ r d]
  rfl

/-- The payload from the mean, at an element. -/
theorem payload_at (x y z : Vec Ideal S2048x256 .f32) (w : Vec Ideal S1x256x256 .bf16) (s : Vec Ideal S1x256 .f32) (r : Fin 2048) (d : Fin 256) :
    k0_pay1 x y w s z (ix2 r d)
      = element (fun e => (y (ix2 r e) : EReal) - x (ix2 r e)) (fun e => w (ix3 0 e d)) (s (ix2 0 d)) (z (ix2 r d)) := by
  pointwise [k0_pay1, element]

/-- WHAT ONE GRID POINT STORES, at an element of its block. -/
theorem block_at (i : grid0.Coords) (g : Fin 4) (hg : (i 1).val = g.val) (x0 x1 : Vec Ideal S2048x256 .f32)
    (x2 : Vec Ideal S1x256x256 .bf16) (x3 : Vec Ideal S1x256 .f32) (y : S2048x256.Idx) :
    out0_4 i x0 x1 x2 x3 y
      = element (fun e => pooled (fun r => x0 (ix2 r e)) g (y 0)) (fun e => x2 (ix3 0 e (y 1))) (x3 (ix2 0 (y 1))) (x1 y) := by
  have key : ∀ z : S2048x256.Idx, k0_pay1 x0 (k0_pay2 i x0) x2 x3 x1 z
      = element (fun e => pooled (fun r => x0 (ix2 r e)) g (z 0)) (fun e => x2 (ix3 0 e (z 1))) (x3 (ix2 0 (z 1))) (x1 z) := fun z => by
    idx_vars z
    rw [payload_at]
    simp only [mean_at i g hg]
  rw [← key]
  canon_tiles z hz
  have hy : y = z := by
    funext b; exact Fin.ext (by fin_cases b <;> assumption)
  rw [hy, show View.ld x0 r0_0 = x0 from View.ld_unit_lit _ x0 (by decide), show View.ld x1 r0_0 = x1 from View.ld_unit_lit _ x1 (by decide),
    show View.ld x2 r0_1 = x2 from View.ld_unit_lit _ x2 (by decide), show View.ld x3 r0_2 = x3 from View.ld_unit_lit _ x3 (by decide)]

end Cert.PoolIdeal.Gen

end
-- ==== Proof.Pool.Value.lean ====
/- The array the pooling call leaves, element by element. -/
module

public import Idealize.ShloMosaic.Lib.Pipeline.ValueKit
public import Idealize.ShloMosaic.Lib.Pointwise
public import Idealize.ShloMosaic.Lib.Claim
public import proofs.«01_k».proof.Proof.Pool.Block

@[expose] public section

set_option maxRecDepth 16384

noncomputable section

namespace Cert.PoolIdeal.Gen

open Idealize.ShloMosaic Idealize.ShloMosaic.TcCoe Idealize.SL.Sem
open Idealize.ShloMosaic.Pipeline (Dat)
open Cert.PoolIdeal Cert.Pooling

variable (m : (ℓ : Loc nD τ sig) → Buf (Elt Ideal) ℓ)

/-- The index maps: grid point `t` is group `t mod 4` of batch `t / 4`. -/
theorem idx : ∀ t : Fin cfg0.N, win0_0.index t = ![t.val / 4, t.val % 4] ∧ win0_1.index t = ![t.val / 4, 4 + t.val % 4]
    ∧ win0_2.index t = ![t.val % 4, 0, 0] ∧ win0_3.index t = ![0, t.val % 4] ∧ win0_4.index t = ![t.val / 4, t.val % 4]
    ∧ (grid0.coords t 1).val = t.val % 4 ∧ t.val < 16 :=
  (by decide +kernel : ∀ t : Fin grid0.N, _)

/-- The scale's row, as the call finds it. -/
theorem scale_at (c : Dev nD) (l : Fin 1024) :
    (V m c main_v0 : Vec Ideal S1x1024 .f32) (ix2 0 l) = (m ((c.tc : Thread nD τ).loc main_arg2) : Vec Ideal S1024 .f32) (ix1 l) := by
  simp only [V, hostOps0]
  entry_read
  pointwise

/-- The weights, as the call finds them. -/
theorem weight_at (c : Dev nD) (g : Fin 4) (e d : Fin 256) :
    (V m c main_v1 : Vec Ideal S4x256x256 .bf16) (ix3 g e d) = (m ((c.tc : Thread nD τ).loc main_arg1) : Vec Ideal S4x256x256 .f32) (ix3 g e d) := by
  simp only [V, hostOps0]
  entry_read
  pointwise

/-- The call's result, from its three arguments. -/
def mix (a : Vec Ideal S8192x2048 .f32) (w : Vec Ideal S4x256x256 .f32) (s : Vec Ideal S1024 .f32) : Vec Ideal S8192x1024 .bf16 := fun j =>
  cell a w s (j 0) (j 1)

/-- One element of one block, as that element of the array. -/
theorem point (c : Dev nD) (t : Fin cfg0.N) (y : S2048x256.Idx) :
    out0_4 (grid0.coords t) (iblk m c 0 t) (iblk m c 1 t) (iblk m c 2 t) (iblk m c 3 t) y
      = mix (V m c main_arg0) (m ((c.tc : Thread nD τ).loc main_arg1)) (m ((c.tc : Thread nD τ).loc main_arg2)) (((cfg0.win 4).blk t).view.emb y) := by
  obtain ⟨i0, i1, i2, i3, i4, hg, hN⟩ := idx t
  have h0 : (y 0 : ℕ) < 2048 := (y 0).isLt
  have h1 : (y 1 : ℕ) < 256 := (y 1).isLt
  refine (block_at (grid0.coords t) ⟨t.val % 4, by omega⟩ hg _ _ _ _ y).trans ?_
  refine Eq.trans ?_ (cell_eq _ _ _ _ _ ⟨t.val / 4, by omega⟩ (y 0) ⟨t.val % 4, by omega⟩ (y 1) ?_ ?_).symm
  · unfold result column
    have hw := weight_at m c
    have hs := scale_at m c
    congr 1
    · funext e
      congr 1
      funext r; blk_ext [iblk, idx t]
    · funext e
      refine Eq.trans ?_ (hw ⟨t.val % 4, by omega⟩ e (y 1))
      blk_ext [iblk, idx t]
    · refine Eq.trans ?_ (hs ⟨t.val % 4 * 256 + y 1, by omega⟩)
      blk_ext [iblk, idx t]
    · blk_ext [iblk, idx t]
  · blk_simp [idx t]
  · blk_simp [idx t]

/-- THE ARRAY the call leaves. -/
theorem final (c : Dev nD) :
    (dats m 0 c).arrAt 4 (cfgs 0).N = mix (V m c main_arg0) (m ((c.tc : Thread nD τ).loc main_arg1)) (m ((c.tc : Thread nD τ).loc main_arg2)) := by
  refine (dats m 0 c).arrAt_eq_of_covers 4 _ (by decide +kernel) fun t _ y => ?_
  blk_simp
  rw [after0_4]
  exact point m c t y

end Cert.PoolIdeal.Gen

end
-- ==== Proof.Pool.Cumsum.lean ====
/- A float window sum whose window reaches from the first entry, read at an element: the cumulated sum. -/
module

public import Idealize.ShloMosaic.Lib.Pipeline.ValueKit
public import Idealize.ShloMosaic.Lib.Pointwise

@[expose] public section

noncomputable section

namespace Cert.Pooling

open Idealize.ShloMosaic Finset

/-- Folding by adding is adding the list's sum. -/
theorem foldl_add {α : Type} (g : α → EReal) (l : List α) (v : EReal) : l.foldl (fun r n => r + g n) v = v + (l.map g).sum := by
  induction l generalizing v with
  | nil => simp
  | cons a l ih => rw [List.foldl_cons, ih, List.map_cons, List.sum_cons, add_assoc]

/-- The indices of a window that is one entry wide but on the middle axis. -/
def midEquiv (N : ℕ) : (⟨3, ![1, N, 1]⟩ : Shape).Idx ≃ Fin N where
  toFun w := w 1
  invFun i := ix3 0 i 0
  left_inv w := by
    funext b
    fin_cases b
    · exact Subsingleton.elim (α := Fin 1) _ _
    · rfl
    · exact Subsingleton.elim (α := Fin 1) _ _
  right_inv i := rfl

/-- A sum over the entries of a window ending at entry `j`, of those it has, is the sum of the first `j + 1` entries. -/
theorem sum_window (L j : ℕ) (hj : j ≤ L) (X : ℕ → EReal) :
    (∑ i ∈ range (L + 1), if L ≤ j + i then X (j + i - L) else 0) = ∑ k ∈ range (j + 1), X k := by
  rw [show L + 1 = (L - j) + (j + 1) by omega, sum_range_add, sum_eq_zero, zero_add]
  · refine sum_congr rfl fun k _ => ?_
    rw [if_pos (by omega)]
    exact congrArg X (by omega)
  · intro i hi
    have := mem_range.mp hi
    rw [if_neg (by omega)]

/-- THE CUMULATED SUM: entry `j` of each column is the sum of the column's first `j + 1` entries. -/
theorem cumsum_at {A L C : ℕ} (x : (⟨3, ![A, L + 1, C]⟩ : Shape).Idx → EReal)
    (h : (⟨3, ![A, L + 1, C]⟩ : Shape).ReduceWindows ![1, L + 1, 1] ![1, 1, 1] ![0, L, 0] ![0, 0, 0] ⟨3, ![A, L + 1, C]⟩)
    (a : Fin A) (j : Fin (L + 1)) (c : Fin C) :
    Ideal.hostReduceWindowAdd ![1, L + 1, 1] ![1, 1, 1] ![0, L, 0] ![0, 0, 0] h x 0 (ix3 a j c)
      = ∑ i ∈ range ((j : ℕ) + 1), if hi : i < L + 1 then x (ix3 a ⟨i, hi⟩ c) else 0 := by
  rw [← sum_window L j (by omega) (fun i => if hi : i < L + 1 then x (ix3 a ⟨i, hi⟩ c) else 0),
    ← Fin.sum_univ_eq_sum_range (fun i => if L ≤ (j : ℕ) + i then (if hi : (j : ℕ) + i - L < L + 1 then x (ix3 a ⟨(j : ℕ) + i - L, hi⟩ c) else 0) else 0)]
  unfold Ideal.hostReduceWindowAdd Host.reduceWindow
  dsimp only
  rw [foldl_add, zero_add, ← Fin.sum_univ_def]
  refine Fintype.sum_equiv ((Shape.rowMajor (⟨3, ![1, L + 1, 1]⟩ : Shape)).symm.trans (midEquiv (L + 1))) _ _ fun n => ?_
  have e1 : (((Shape.rowMajor (⟨3, ![1, L + 1, 1]⟩ : Shape)).symm.trans (midEquiv (L + 1))) n : ℕ)
      = ((Shape.rowMajor (⟨3, ![1, L + 1, 1]⟩ : Shape)).symm n 1 : ℕ) := rfl
  rw [e1]
  let w := (Shape.rowMajor (⟨3, ![1, L + 1, 1]⟩ : Shape)).symm n
  change _ = if L ≤ (j : ℕ) + (w 1).val then (if hi : (j : ℕ) + (w 1).val - L < L + 1 then x (ix3 a ⟨(j : ℕ) + (w 1).val - L, hi⟩ c) else 0) else 0
  have h0 : (w 0 : ℕ) < 1 := (w 0).isLt
  have h1 : (w 1 : ℕ) < L + 1 := (w 1).isLt
  have h2 : (w 2 : ℕ) < 1 := (w 2).isLt
  by_cases hl : L ≤ (j : ℕ) + w 1
  · rw [if_pos hl, dif_pos (by omega : (j : ℕ) + w 1 - L < L + 1), dif_pos]
    · refine congrArg x (funext fun b => Fin.ext ?_)
      fin_cases b
      · show (a : ℕ) * 1 + (w 0 : ℕ) - 0 = a; omega
      · show (j : ℕ) * 1 + (w 1 : ℕ) - L = (j : ℕ) + w 1 - L; omega
      · show (c : ℕ) * 1 + (w 2 : ℕ) - 0 = c; omega
    · intro b
      fin_cases b
      · show 0 ≤ (a : ℕ) * 1 + (w 0 : ℕ) ∧ (a : ℕ) * 1 + (w 0 : ℕ) - 0 < A; omega
      · show L ≤ (j : ℕ) * 1 + (w 1 : ℕ) ∧ (j : ℕ) * 1 + (w 1 : ℕ) - L < L + 1; omega
      · show 0 ≤ (c : ℕ) * 1 + (w 2 : ℕ) ∧ (c : ℕ) * 1 + (w 2 : ℕ) - 0 < C; omega
  · rw [if_neg hl, dif_neg]
    intro hin
    have := (hin 1).1
    have h' : L ≤ (j : ℕ) * 1 + (w 1 : ℕ) := this
    omega

/-- The same at a window whose length is written as a number. -/
theorem cumsum_lit {A N C : ℕ} (L : ℕ) (hN : N = L + 1) (x : (⟨3, ![A, N, C]⟩ : Shape).Idx → EReal) (v : EReal) (hv : v = 0)
    (h : (⟨3, ![A, N, C]⟩ : Shape).ReduceWindows ![1, N, 1] ![1, 1, 1] ![0, L, 0] ![0, 0, 0] ⟨3, ![A, N, C]⟩)
    (a : Fin A) (j : Fin N) (c : Fin C) :
    Ideal.hostReduceWindowAdd ![1, N, 1] ![1, 1, 1] ![0, L, 0] ![0, 0, 0] h x v (ix3 a j c)
      = ∑ i ∈ range ((j : ℕ) + 1), if hi : i < N then x (ix3 a ⟨i, hi⟩ c) else 0 := by
  subst hN hv
  exact cumsum_at x h a j c

end Cert.Pooling

end
-- ==== Proof.Pool.Reference.lean ====
/- The reference of the pooling heads, read at one element of its result. -/
module

public import Idealize.ShloMosaic.Lib.Pipeline.ValueKit
public import Idealize.ShloMosaic.Lib.Pointwise
public import proofs.«01_k».proof.Proof.Gen.PoolReferenceIdeal.Run
public import proofs.«01_k».proof.Proof.Pool.Cumsum
public import proofs.«01_k».proof.Proof.Pool.Spec

@[expose] public section

set_option maxRecDepth 16384

noncomputable section

namespace Cert.PoolReferenceIdeal.Value

open Idealize.ShloMosaic Idealize.ShloMosaic.TcCoe Idealize.SL.Sem
open Cert.PoolReferenceIdeal Cert.PoolReferenceIdeal.Gen Cert.Pooling

/-- The pooled half of the columns, by batch. -/
def half (a : FVec Ideal S8192x2048 .f32) : FVec Ideal S4x2048x1024 .f32 :=
  extractStridedSlice S4x2048x1024 ![0, 0, 0] (shapeCast S4x2048x2048 a shapeCasts_S8192x2048_S4x2048x2048) slices_S4x2048x2048_S4x2048x1024_0_0_0

/-- The gating half. -/
def gate (a : FVec Ideal S8192x2048 .f32) : FVec Ideal S4x2048x1024 .f32 :=
  extractStridedSlice S4x2048x1024 ![0, 0, 1024] (shapeCast S4x2048x2048 a shapeCasts_S8192x2048_S4x2048x2048) slices_S4x2048x2048_S4x2048x1024_0_0_1024

/-- The pooled half with fifteen rows of zeros before it. -/
def extended (u : FVec Ideal S4x2048x1024 .f32) : FVec Ideal S4x2063x1024 .f32 :=
  concatenate S4x2063x1024 1 [⟨S4x15x1024, broadcastInDim S4x15x1024 ![] bcast_S_S4x15x1024 (constant S_ .f32 0x00000000#32)⟩, ⟨S4x2048x1024, u⟩]
    concatenates_S4x15x1024_S4x2048x1024_S4x2063x1024_d1

/-- Its cumulated sum along the rows. -/
def cumulated (x : FVec Ideal S4x2063x1024 .f32) : FVec Ideal S4x2063x1024 .f32 :=
  Host.reduceWindowAdd ![1, 2063, 1] ![1, 1, 1] ![0, 2062, 0] ![0, 0, 0] x (broadcastInDim S_ ![] bcast_S_S_ (constant S_ .f32 0x00000000#32))
    reduceWindows_S4x2063x1024_S4x2063x1024_w1s1p0_0_w2063s1p2062_0_w1s1p0_0 h_S_

/-- The cumulated sum with a row of zeros before it. -/
def sums (y : FVec Ideal S4x2063x1024 .f32) : FVec Ideal S4x2064x1024 .f32 :=
  concatenate S4x2064x1024 1 [⟨S4x1x1024, broadcastInDim S4x1x1024 ![] bcast_S_S4x1x1024 (constant S_ .f32 0x00000000#32)⟩, ⟨S4x2063x1024, y⟩]
    concatenates_S4x1x1024_S4x2063x1024_S4x2064x1024_d1

/-- The counts a window of `w` rows is divided by. -/
def counts (w : BitVec 32) : FVec Ideal S4x2048x256 .f32 :=
  broadcastInDim S4x2048x256 ![0, 1, 2] bcast_S1x2048x1_S4x2048x256_0_1_2 (broadcastInDim S1x2048x1 ![1] bcast_S2048_S1x2048x1_1
    (sitofp .f32 (minsi (broadcastInDim S2048 ![] bcast_S_S2048 (constantI S_ 32 w)) (addi (iotaInDim S2048 32 0) (broadcastInDim S2048 ![] bcast_S_S2048 (constantI S_ 32 1#32))))))

/-- One group: columns `C` on, windows that begin at row `O` of the sums, weights `G`. -/
def group (C O G : ℕ) (w : BitVec 32) (h1 : S4x2048x1024.Slices ![0, 0, C] S4x2048x256) (h2 : S4x2064x1024.Slices ![0, O, C] S4x2048x256)
    (h3 : S4x256x256.Slices ![G, 0, 0] S1x256x256) (u : FVec Ideal S4x2048x1024 .f32) (s : FVec Ideal S4x2064x1024 .f32)
    (wts : FVec Ideal S4x256x256 .f32) : FVec Ideal S4x2048x256 .f32 :=
  Host.dotGeneral dot_S4x2048x256_S256x256_S4x2048x256_2_0_01_1_n_n none
    (subf (Host.divf (subf (extractStridedSlice S4x2048x256 ![0, 0, C] (extractStridedSlice S4x2048x1024 ![0, 16, 0] s slices_S4x2064x1024_S4x2048x1024_0_16_0) h1)
        (extractStridedSlice S4x2048x256 ![0, O, C] s h2)) (counts w)) (extractStridedSlice S4x2048x256 ![0, 0, C] u h1))
    (shapeCast S256x256 (extractStridedSlice S1x256x256 ![G, 0, 0] wts h3) shapeCasts_S1x256x256_S256x256)

/-- The four groups, by number. -/
def groups (u : FVec Ideal S4x2048x1024 .f32) (s : FVec Ideal S4x2064x1024 .f32) (wts : FVec Ideal S4x256x256 .f32) :
    Fin 4 → FVec Ideal S4x2048x256 .f32
  | 0 => group 0 14 0 2#32 slices_S4x2048x1024_S4x2048x256_0_0_0 slices_S4x2064x1024_S4x2048x256_0_14_0 slices_S4x256x256_S1x256x256_0_0_0 u s wts
  | 1 => group 256 12 1 4#32 slices_S4x2048x1024_S4x2048x256_0_0_256 slices_S4x2064x1024_S4x2048x256_0_12_256 slices_S4x256x256_S1x256x256_1_0_0 u s wts
  | 2 => group 512 8 2 8#32 slices_S4x2048x1024_S4x2048x256_0_0_512 slices_S4x2064x1024_S4x2048x256_0_8_512 slices_S4x256x256_S1x256x256_2_0_0 u s wts
  | 3 => group 768 0 3 16#32 slices_S4x2048x1024_S4x2048x256_0_0_768 slices_S4x2064x1024_S4x2048x256_0_0_768 slices_S4x256x256_S1x256x256_3_0_0 u s wts

/-- The groups side by side. -/
def beside (p : Fin 4 → FVec Ideal S4x2048x256 .f32) : FVec Ideal S4x2048x1024 .f32 :=
  concatenate S4x2048x1024 2 [⟨S4x2048x256, p 0⟩, ⟨S4x2048x256, p 1⟩, ⟨S4x2048x256, p 2⟩, ⟨S4x2048x256, p 3⟩]
    concatenates_S4x2048x256_S4x2048x256_S4x2048x256_S4x2048x256_S4x2048x1024_d2

/-- Scaled and gated. -/
def gated (p z : FVec Ideal S4x2048x1024 .f32) (s : FVec Ideal S1024 .f32) : FVec Ideal S8192x1024 .bf16 :=
  truncf .bf16 (shapeCast S8192x1024 (mulf (mulf p (broadcastInDim S4x2048x1024 ![0, 1, 2] bcast_S1x1x1024_S4x2048x1024_0_1_2 (broadcastInDim S1x1x1024 ![2] bcast_S1024_S1x1x1024_2 s)))
    (mulf z (Host.divf (broadcastInDim S4x2048x1024 ![] bcast_S_S4x2048x1024 (constant S_ .f32 0x3F800000#32))
      (addf (broadcastInDim S4x2048x1024 ![] bcast_S_S4x2048x1024 (constant S_ .f32 0x3F800000#32)) (Host.exp (Host.negf z)))))) shapeCasts_S4x2048x1024_S8192x1024) bitsLt_bf16_f32

/-- The reference's result is these, in turn. -/
theorem res_eq (m : (ℓ : Loc nD τ sig) → Buf (Elt Ideal) ℓ) (c : Dev nD) :
    res_out0 m c = gated (beside (groups (half (m ((c.tc : Thread nD τ).loc main_arg0)))
        (sums (cumulated (extended (half (m ((c.tc : Thread nD τ).loc main_arg0)))))) (m ((c.tc : Thread nD τ).loc main_arg1))))
      (gate (m ((c.tc : Thread nD τ).loc main_arg0))) (m ((c.tc : Thread nD τ).loc main_arg2)) := rfl

theorem half_at (a : FVec Ideal S8192x2048 .f32) (b : Fin 4) (r : Fin 2048) (l : Fin 1024) :
    half a (ix3 b r l) = a (ix2 ⟨b * 2048 + r, by omega⟩ ⟨l, by omega⟩) := by
  pointwise [half]

theorem gate_at (a : FVec Ideal S8192x2048 .f32) (b : Fin 4) (r : Fin 2048) (l : Fin 1024) :
    gate a (ix3 b r l) = a (ix2 ⟨b * 2048 + r, by omega⟩ ⟨1024 + l, by omega⟩) := by
  pointwise [gate]

theorem zero_word : Ideal.ofBits .f32 0x00000000#32 = 0 := by simp [Ideal.ofBits, Ideal.ieee]

theorem extended_at (u : FVec Ideal S4x2048x1024 .f32) (b : Fin 4) (n : Fin 2063) (l : Fin 1024) :
    extended u (ix3 b n l) = padded (fun r => u (ix3 b r l)) n := by
  pointwise [extended]
  unfold padded
  by_cases h : (n : ℕ) < 15
  · rw [dif_pos h, dif_neg (by omega)]
  · rw [dif_neg h, dif_pos ⟨by omega, n.isLt⟩]

/-- The window sum, as the ideal instance reads it: from zero. -/
theorem cumulated_eq (x : FVec Ideal S4x2063x1024 .f32) :
    cumulated x = Ideal.hostReduceWindowAdd ![1, 2063, 1] ![1, 1, 1] ![0, 2062, 0] ![0, 0, 0]
      reduceWindows_S4x2063x1024_S4x2063x1024_w1s1p0_0_w2063s1p2062_0_w1s1p0_0 x 0 := by
  unfold cumulated Host.reduceWindowAdd
  rw [Ideal.hostReduceWindowAdd_def,
    show (broadcastInDim S_ ![] bcast_S_S_ (constant (F := Ideal) S_ .f32 0x00000000#32)) (Shape.Idx.first h_S_) = (0 : EReal) from zero_word]

theorem cumulated_at (u : FVec Ideal S4x2048x1024 .f32) (b : Fin 4) (n : Fin 2063) (l : Fin 1024) :
    cumulated (extended u) (ix3 b n l) = cum (fun r => u (ix3 b r l)) (n + 1) := by
  rw [cumulated_eq]
  generalize hx : extended u = x
  refine (cumsum_lit (A := 4) (N := 2063) (C := 1024) 2062 rfl x 0 rfl
    reduceWindows_S4x2063x1024_S4x2063x1024_w1s1p0_0_w2063s1p2062_0_w1s1p0_0 b n l).trans ?_
  subst hx
  unfold cum
  refine Finset.sum_congr rfl fun i hi => ?_
  have := Finset.mem_range.mp hi
  rw [dif_pos (by omega)]
  exact extended_at u b ⟨i, by omega⟩ l

theorem sums_at (u : FVec Ideal S4x2048x1024 .f32) (b : Fin 4) (n : Fin 2064) (l : Fin 1024) :
    sums (cumulated (extended u)) (ix3 b n l) = cum (fun r => u (ix3 b r l)) n := by
  have hc := cumulated_at u
  generalize cumulated (extended u) = y at hc ⊢
  pointwise [sums]
  by_cases h : (n : ℕ) < 1
  · have h0 : (n : ℕ) = 0 := by omega
    simp [h0, zero_word, cum]
  · rw [dif_neg h, hc]
    congr 1
    simp only
    omega

theorem counts_at (w : BitVec 32) (b : Fin 4) (r : Fin 2048) (e : Fin 256) : counts w (ix3 b r e) = count w r := by
  pointwise [counts]
  rfl

/-- One group at an element. -/
theorem group_at (C O G : ℕ) (w : BitVec 32) (h1 : S4x2048x1024.Slices ![0, 0, C] S4x2048x256) (h2 : S4x2064x1024.Slices ![0, O, C] S4x2048x256)
    (h3 : S4x256x256.Slices ![G, 0, 0] S1x256x256) (u : FVec Ideal S4x2048x1024 .f32) (s : FVec Ideal S4x2064x1024 .f32)
    (wts : FVec Ideal S4x256x256 .f32) (hC : C + 256 ≤ 1024) (hO : O ≤ 16) (hG : G < 4) (b : Fin 4) (r : Fin 2048) (d : Fin 256) :
    group C O G w h1 h2 h3 u s wts (ix3 b r d)
      = ∑ e : Fin 256, (Ideal.div ((s (ix3 b ⟨16 + r, by omega⟩ ⟨C + e, by omega⟩) : EReal) - s (ix3 b ⟨O + r, by omega⟩ ⟨C + e, by omega⟩)) (count w r)
            - u (ix3 b r ⟨C + e, by omega⟩)) * wts (ix3 ⟨G, hG⟩ e d) := by
  have hc := counts_at w
  unfold group
  generalize counts w = k at hc ⊢
  pointwise
  simp only [hc]

theorem beside_at (p : Fin 4 → FVec Ideal S4x2048x256 .f32) (b : Fin 4) (r : Fin 2048) (g : Fin 4) (d : Fin 256) :
    beside p (ix3 b r ⟨g * 256 + d, by omega⟩) = p g (ix3 b r d) := by
  pointwise [beside]
  have hd := d.isLt
  fin_cases g
  all_goals
    dsimp only
    repeat first
      | rw [dif_pos (by omega)]
      | rw [dif_neg (by omega)]
    refine congrArg (fun x => p _ (ix3 b r x)) (Fin.ext ?_)
    simp only
    omega

theorem gated_at (p z : FVec Ideal S4x2048x1024 .f32) (s : FVec Ideal S1024 .f32) (b : Fin 4) (r : Fin 2048) (l : Fin 1024) :
    gated p z s (ix2 ⟨b * 2048 + r, by omega⟩ l)
      = (p (ix3 b r l) : EReal) * s (ix1 l) * ((z (ix3 b r l) : EReal) * Ideal.logistic (z (ix3 b r l))) := by
  pointwise [gated]
  rfl

/-- A group at an element, on finite columns: the pooled entries against the group's weights. -/
theorem groups_at (u : FVec Ideal S4x2048x1024 .f32) (hu : ∀ b r l, (u (ix3 b r l) : EReal) ≠ ⊤ ∧ (u (ix3 b r l) : EReal) ≠ ⊥)
    (wts : FVec Ideal S4x256x256 .f32) (b : Fin 4) (r : Fin 2048) (g : Fin 4) (d : Fin 256) :
    groups u (sums (cumulated (extended u))) wts g (ix3 b r d)
      = ∑ e : Fin 256, pooled (fun r => u (ix3 b r ⟨g * 256 + e, by omega⟩)) g r * (wts (ix3 g e d) : EReal) := by
  have hr := r.isLt
  have key : ∀ (C O G : ℕ) (h1 h2 h3) (hC : C = g * 256) (hO : O = 16 - width g) (hG : G = g) (hw : width g ≤ 16),
      group C O G (BitVec.ofNat 32 (width g)) h1 h2 h3 u (sums (cumulated (extended u))) wts (ix3 b r d)
        = ∑ e : Fin 256, pooled (fun r => u (ix3 b r ⟨g * 256 + e, by omega⟩)) g r * (wts (ix3 g e d) : EReal) := by
    intro C O G h1 h2 h3 hC hO hG hw
    subst hC hO hG
    rw [group_at _ _ _ _ h1 h2 h3 u _ wts (by omega) (by omega) g.isLt]
    refine Finset.sum_congr rfl fun e _ => ?_
    rw [sums_at, sums_at]
    unfold pooled
    rw [← cum_sub (fun r => u (ix3 b r ⟨g * 256 + e, by omega⟩)) (fun r => hu b r _) (width g) r hw hr]
  fin_cases g
  · exact key 0 14 0 _ _ _ rfl rfl rfl (by decide)
  · exact key 256 12 1 _ _ _ rfl rfl rfl (by decide)
  · exact key 512 8 2 _ _ _ rfl rfl rfl (by decide)
  · exact key 768 0 3 _ _ _ rfl rfl rfl (by decide)

/-- THE REFERENCE at an element: the row formula `result` of the arguments, where the pooled columns are finite. -/
theorem res_at (m : (ℓ : Loc nD τ sig) → Buf (Elt Ideal) ℓ) (c : Dev nD)
    (hu : ∀ (b : Fin 4) (l : Fin 1024) (r : Fin 2048), column (m ((c.tc : Thread nD τ).loc main_arg0)) b l r ≠ ⊤
      ∧ column (m ((c.tc : Thread nD τ).loc main_arg0)) b l r ≠ ⊥) (R : Fin 8192) (C : Fin 1024) :
    (res_out0 m c : FVec Ideal S8192x1024 .bf16) (ix2 R C)
      = cell (m ((c.tc : Thread nD τ).loc main_arg0)) (m ((c.tc : Thread nD τ).loc main_arg1)) (m ((c.tc : Thread nD τ).loc main_arg2)) R C := by
  rw [res_eq]
  generalize (m ((c.tc : Thread nD τ).loc main_arg0) : FVec Ideal S8192x2048 .f32) = a at hu ⊢
  have hh : ∀ b r l, (half a (ix3 b r l) : EReal) = column a b l r := fun b r l => half_at a b r l
  obtain ⟨b, r, hR⟩ : ∃ (b : Fin 4) (r : Fin 2048), R = ⟨b * 2048 + r, by omega⟩ :=
    ⟨⟨R / 2048, by omega⟩, ⟨R % 2048, by omega⟩, Fin.ext (by simp only; omega)⟩
  obtain ⟨g, d, hC⟩ : ∃ (g : Fin 4) (d : Fin 256), C = ⟨g * 256 + d, by omega⟩ :=
    ⟨⟨C / 256, by omega⟩, ⟨C % 256, by omega⟩, Fin.ext (by simp only; omega)⟩
  subst hR hC
  rw [cell_eq _ _ _ _ _ b r g d rfl rfl]
  refine (gated_at _ _ _ b r _).trans ?_
  rw [beside_at, gate_at, groups_at _ (fun b r l => by rw [hh]; exact hu b l r)]
  simp only [hh]
  rfl

end Cert.PoolReferenceIdeal.Value

end
-- ==== Proof.Sparse.Spec.lean ====
/- Which scores one element of the sparse attention's result is made of, and why the two ways of masking agree. -/
module

public import Idealize.ShloMosaic.Lib.Pipeline.ValueKit
public import Idealize.ShloMosaic.Lib.Pointwise
public import proofs.«01_k».proof.Proof.Math.Head
public import proofs.«01_k».proof.Proof.Fox.Spec

@[expose] public section

noncomputable section

namespace Cert.Picked

open Idealize.ShloMosaic Cert.Math

/-- A row of scores with a bias ADDED to each: `0` leaves a score, `⊥` masks it. -/
def biased (b : Fin 2048 → EReal) (q : Fin 128 → EReal) (k : Fin 2048 → Fin 128 → EReal) (j : Fin 2048) : EReal :=
  (∑ e, q e * k j e) * Ideal.ofBits .f32 0x3DB504F3#32 + b j

/-- A row of scores SELECTED by the bias: the score where the bias is zero, `⊥` elsewhere. -/
def selected (b : Fin 2048 → EReal) (q : Fin 128 → EReal) (k : Fin 2048 → Fin 128 → EReal) (j : Fin 2048) : EReal :=
  Scalar.select (Ideal.cmp .oeq (b j) 0) ((∑ e, q e * k j e) * Ideal.ofBits .f32 0x3DB504F3#32) (Ideal.ofBits .f32 0xFF800000#32)

/-- The two rows are the same one when every bias is `0` or `⊥`. -/
theorem biased_eq_selected (b : Fin 2048 → EReal) (hb : ∀ j, b j = 0 ∨ b j = ⊥) (q : Fin 128 → EReal)
    (k : Fin 2048 → Fin 128 → EReal) : biased b q k = selected b q k := by
  funext j
  unfold biased selected
  rcases hb j with h | h
  · rw [h, add_zero]; simp [Ideal.cmp, Scalar.select]
  · rw [h, EReal.add_bot, neg_inf]; simp [Ideal.cmp, Scalar.select]

/-- The query's features that element `(r, l)` of the result is made of: head `l / 128` of row `r`. -/
def query (q : Vec Ideal ⟨2, ![8192, 1536]⟩ .bf16) (r : Fin 8192) (l : Fin 1536) (e : Fin 128) : EReal :=
  q (ix2 r ⟨l / 128 * 128 + e, by omega⟩)

/-- The keys it is scored against: those of batch `r / 2048`, in the same head. -/
def keys (kv : Vec Ideal ⟨2, ![8192, 3072]⟩ .bf16) (r : Fin 8192) (l : Fin 1536) (j : Fin 2048) (e : Fin 128) : EReal :=
  kv (ix2 ⟨r / 2048 * 2048 + j, by omega⟩ ⟨l / 128 * 256 + e, by omega⟩)

/-- The biases of row `r`. -/
def bias (b : Vec Ideal ⟨2, ![8192, 2048]⟩ .bf16) (r : Fin 8192) (j : Fin 2048) : EReal := b (ix2 r j)

/-- ADDING THE BIAS AND NORMALISING AFTER, against SELECTING BY IT AND NORMALISING BEFORE: the same element, when queries, keys and
    values are finite, every bias is `0` or `⊥`, and the row has a `0` among its biases. -/
theorem head_agree (q : Vec Ideal ⟨2, ![8192, 1536]⟩ .bf16) (kv : Vec Ideal ⟨2, ![8192, 3072]⟩ .bf16)
    (b : Vec Ideal ⟨2, ![8192, 2048]⟩ .bf16) (hq : Cert.Fox.Finite (φ := .bf16) q) (hkv : Cert.Fox.Finite (φ := .bf16) kv)
    (hb : ∀ r j, bias b r j = 0 ∨ bias b r j = ⊥) (hp : ∀ r, ∃ j, bias b r j = 0) (r : Fin 8192) (l : Fin 1536)
    (v : Fin 2048 → EReal) (g : EReal) :
    headOut (biased (bias b r) (query q r l) (keys kv r l)) v g = headRef (selected (bias b r) (query q r l) (keys kv r l)) v g := by
  rw [← biased_eq_selected _ (hb r)]
  have hs : ∀ j, ∃ x : ℝ, (∑ e, query q r l e * keys kv r l j e) * Ideal.ofBits .f32 0x3DB504F3#32 = (x : EReal) := fun j => by
    obtain ⟨a, ha⟩ := sum_mul_coe (query q r l) (keys kv r l j) (fun e => hq _) (fun e => hkv _)
    obtain ⟨s, hs⟩ := scale_real
    exact ⟨a * s, by rw [ha, hs, EReal.coe_mul]⟩
  refine headOut_eq _ v g (fun j => ?_) ?_
  · obtain ⟨x, hx⟩ := hs j
    unfold biased
    rw [hx]
    rcases hb r j with h | h
    · rw [h, add_zero]; exact EReal.coe_ne_top x
    · rw [h, EReal.add_bot]; exact bot_ne_top
  · obtain ⟨j, hj⟩ := hp r
    obtain ⟨x, hx⟩ := hs j
    exact ⟨j, by unfold biased; rw [hx, hj, add_zero]; exact EReal.coe_ne_bot x⟩

end Cert.Picked

end
-- ==== Proof.Sparse.Pre.lean ====
/- The sparse attention's precondition, read: finite queries, keys and values; biases `0` or `⊥`; a `0` in every row. -/
module

public import Idealize.ShloMosaic.Lib.Pipeline.ValueKit
public import Idealize.ShloMosaic.Lib.Pointwise
public import Idealize.ShloMosaic.Lib.ReduceAll
public import proofs.«01_k».proof.Pre_picked_keys
public import proofs.«01_k».proof.Proof.Fox.Pre
public import proofs.«01_k».proof.Proof.Sparse.Spec

@[expose] public section

set_option maxRecDepth 16384

noncomputable section

namespace Cert.Pre_picked_keys

open Idealize.ShloMosaic Cert.Fox Cert.Picked Cert.Pre_finite_logits

/-- The predicate's side conditions, all of literal shapes. -/
theorem facts : Facts where
  bitsLt_bf16_f32 := by decide
  bcast_S_S8192x1536 := by decide
  reducesTo_S8192x1536_S_d0_1 := by decide
  h_S_ := by decide
  bcast_S_S8192x3072 := by decide
  reducesTo_S8192x3072_S_d0_1 := by decide
  bcast_S_S8192x2048 := by decide
  reducesTo_S8192x2048_S_d0_1 := by decide
  reducesTo_S8192x2048_S8192_d1 := by decide
  bcast_S_S8192 := by decide
  reducesTo_S8192_S_d0 := by decide

/-- A disjunction of two bits that is one has one of them one. -/
theorem or_one (a b : BitVec 1) (h : IntOp.ori a b = 1#1) : a = 1#1 ∨ b = 1#1 := by
  revert a b; decide

/-- An equality test that is one is an equality. -/
theorem eq_of_cmp (x y : EReal) (h : Ideal.cmp .oeq x y = 1#1) : x = y := by
  by_contra hc
  simp [Ideal.cmp, hc] at h

/-- The word of zero. -/
theorem zero_word : Ideal.ofBits .f32 0x00000000#32 = 0 := by simp [Ideal.ofBits, Ideal.ieee]

/-- A row whose maximum is zero has a zero among its entries. -/
theorem zero_of_max {n : ℕ} (s : Fin n → EReal) (h : Finset.univ.fold max ⊥ s = 0) : ∃ k, s k = 0 := by
  have hn : (Finset.univ : Finset (Fin n)).Nonempty := by
    by_contra hc
    rw [Finset.not_nonempty_iff_eq_empty.mp hc, Finset.fold_empty] at h
    exact EReal.bot_ne_zero h
  obtain ⟨k, -, hk⟩ := Finset.exists_mem_eq_sup Finset.univ hn s
  exact ⟨k, hk.symm.trans h⟩

/-- A `reduce` by `max` over the second of two axes is, at an index, the fold of that row's entries. -/
theorem reduceMax_row {A N : ℕ} {u : Shape} (s : FVec Ideal ⟨2, ![A, N]⟩ .f32) (init : u.Idx → EReal)
    (h' : (⟨2, ![A, N]⟩ : Shape).ReducesTo [1] ⟨1, ![A]⟩) (h : (⟨2, ![A, N]⟩ : Shape).Reduces [1] ⟨1, ![A]⟩)
    (hu : 0 < u.numel) (a : Fin A) :
    Host.reduce (FloatOps.maximumf (F := Ideal) (φ := .f32)) s init h' hu (ix1 a)
      = Finset.univ.fold max (init (Shape.Idx.first hu)) (fun k => s (ix2 a k)) := by
  rw [Host.reduce_eq_fold_single FloatOps.maximumf s _ h' h hu]
  show Finset.univ.fold max _ _ = _
  congr 1
  funext k
  refine congrArg s (funext fun x => Fin.ext ?_)
  rw [h.lift_val]
  fin_cases x <;> rfl

/-- Every row's largest bias, as the predicate takes it. -/
def rowMax [Facts] (b : FVec Ideal S8192x2048 .bf16) : FVec Ideal S8192 .f32 :=
  Host.reduce (FloatOps.maximumf (F := Ideal) (φ := .f32)) (extf .f32 b Facts.bitsLt_bf16_f32) (constant S_ .f32 0xFF800000#32)
    Facts.reducesTo_S8192x2048_S8192_d1 Facts.h_S_

/-- It is the fold of that row's biases. -/
theorem rowMax_at [Facts] (b : FVec Ideal S8192x2048 .bf16) (r : Fin 8192) :
    rowMax b (ix1 r) = Finset.univ.fold max ⊥ (bias b r) := by
  unfold rowMax
  refine (reduceMax_row _ _ _ (by decide) _ r).trans ?_
  rw [← Cert.Math.neg_inf]
  rfl

/-- An entry tested equal to the constant zero is zero. -/
theorem zero_of_test [Facts] (y : FVec Ideal S8192 .f32) (i : S8192.Idx)
    (h : cmpf (F := Ideal) .oeq y (broadcastInDim S8192 ![] Facts.bcast_S_S8192 (constant S_ .f32 0x00000000#32)) i = 1#1) : y i = (0 : EReal) :=
  (eq_of_cmp _ _ h).trans zero_word

/-- The predicate's last conjunct: every row's largest bias is zero. -/
theorem max_of_pre [Facts] (b : FVec Ideal S8192x2048 .bf16)
    (h : Host.reduce IntOp.andi (cmpf (F := Ideal) .oeq (rowMax b) (broadcastInDim S8192 ![] Facts.bcast_S_S8192 (constant S_ .f32 0x00000000#32)))
      (constantI S_ 1 1#1) Facts.reducesTo_S8192_S_d0 Facts.h_S_ ix0 = 1#1) (r : Fin 8192) : ∃ j, bias b r j = 0 := by
  have : Subsingleton S_.Idx := ⟨fun a b => by ext x; exact x.elim0⟩
  refine zero_of_max (bias b r) ((rowMax_at b r).symm.trans ?_)
  generalize rowMax b = y at h ⊢
  exact zero_of_test y (ix1 r) (Host.reduce_andi_all _ _ _ _ ix0 h (ix1 r))

/-- WHAT THE PRECONDITION SAYS. -/
theorem picked_of_pre [Facts] (q : FVec Ideal S8192x1536 .bf16) (kv : FVec Ideal S8192x3072 .bf16) (g : FVec Ideal S8192x1536 .f32)
    (b : FVec Ideal S8192x2048 .bf16) (h : fn (F := Ideal) q kv g b = fun _ => 1#1) :
    Finite q ∧ Finite kv ∧ (∀ r j, bias b r j = 0 ∨ bias b r j = ⊥) ∧ ∀ r, ∃ j, bias b r j = 0 := by
  have h0 := congrFun h ix0
  unfold fn fn_part1 at h0
  obtain ⟨h1, hmax⟩ := and_one _ _ h0
  obtain ⟨h2, hval⟩ := and_one _ _ h1
  obtain ⟨hq, hkv⟩ := and_one _ _ h2
  have : Subsingleton S_.Idx := ⟨fun a b => by ext x; exact x.elim0⟩
  refine ⟨fun i => ?_, fun i => ?_, fun r j => ?_, fun r => ?_⟩
  · have e := Host.reduce_andi_all _ _ _ _ ix0 hq i
    refine finite_of_abs _ ?_
    rw [← Cert.Math.pos_inf]; exact e
  · have e := Host.reduce_andi_all _ _ _ _ ix0 hkv i
    refine finite_of_abs _ ?_
    rw [← Cert.Math.pos_inf]; exact e
  · have e := Host.reduce_andi_all _ _ _ _ ix0 hval (ix2 r j)
    rcases or_one _ _ e with e | e
    · exact .inl ((eq_of_cmp _ _ e).trans zero_word)
    · exact .inr ((eq_of_cmp _ _ e).trans Cert.Math.neg_inf)
  · exact max_of_pre b hmax r

end Cert.Pre_picked_keys

end
-- ==== Proof.Sparse.Block.lean ====
/- The sparse attention's block: what one grid point stores, at one element of its block. -/
module

public import Idealize.ShloMosaic.Lib.Pipeline.ValueKit
public import Idealize.ShloMosaic.Lib.Pointwise
public import proofs.«01_k».proof.Proof.Gen.SparseIdeal.Value
public import proofs.«01_k».proof.Proof.Sparse.Spec

@[expose] public section

set_option maxRecDepth 16384

noncomputable section

namespace Cert.SparseIdeal.Gen

open Idealize.ShloMosaic Idealize.ShloMosaic.TcCoe Idealize.SL.Sem
open Cert.SparseIdeal Cert.Math Cert.Picked

/-- The payload of one head, at one of its elements, from the biases already widened. -/
theorem head_at (b : Vec Ideal S256x2048 .f32) (q : Vec Ideal S256x128 .bf16) (k v : Vec Ideal S2048x128 .bf16)
    (g : Vec Ideal S256x128 .f32) (r : Fin 256) (l : Fin 128) :
    k0_pay1 b q k v g (ix2 r l)
      = headOut (biased (fun j => b (ix2 r j)) (fun e => q (ix2 r e)) (fun j e => k (ix2 j e))) (fun j => v (ix2 j l)) (g (ix2 r l)) := by
  pointwise [k0_pay1, headOut, biased]

/-- The same, from the scalars its operands are read as. -/
theorem head_eq (b : Vec Ideal S256x2048 .f32) (q : Vec Ideal S256x128 .bf16) (k v : Vec Ideal S2048x128 .bf16)
    (g : Vec Ideal S256x128 .f32) (x : S256x128.Idx)
    {B : Fin 2048 → EReal} {Q : Fin 128 → EReal} {K : Fin 2048 → Fin 128 → EReal} {V : Fin 2048 → EReal} {G : EReal}
    (hB : ∀ j, b (ix2 (x 0) j) = B j) (hQ : ∀ e, q (ix2 (x 0) e) = Q e) (hK : ∀ j e, k (ix2 j e) = K j e)
    (hV : ∀ j, v (ix2 j (x 1)) = V j) (hG : g x = G) :
    k0_pay1 b q k v g x = headOut (biased B Q K) V G := by
  idx_vars x
  have hB' : ∀ j, b (ix2 x0 j) = B j := hB
  have hQ' : ∀ e, q (ix2 x0 e) = Q e := hQ
  have hV' : ∀ j, v (ix2 j x1) = V j := hV
  rw [head_at]
  simp only [hB', hQ', hK, hV', hG]

/-- WHAT ONE GRID POINT STORES: element `y` of its block, in head `h` at feature `d`, is the head formula of row `y 0`
    of the query block, the batch's keys and values of that head, the row's biases and the output gate. -/
theorem block_at (x0 : Vec Ideal S256x1536 .bf16) (x1 : Vec Ideal S2048x3072 .bf16)
    (x2 : Vec Ideal S256x1536 .f32) (x3 : Vec Ideal S256x2048 .bf16) (y : S256x1536.Idx)
    (h : Fin 12) (d : Fin 128) (hy : (y 1 : ℕ) = h * 128 + d) :
    out0_4 x0 x1 x2 x3 y
      = headOut (biased (fun j => x3 (ix2 (y 0) j))
          (fun e => x0 (ix2 (y 0) ⟨h * 128 + e, by omega⟩)) (fun j e => x1 (ix2 j ⟨h * 256 + e, by omega⟩)))
        (fun j => x1 (ix2 j ⟨h * 256 + 128 + d, by omega⟩)) (x2 y) := by
  canon_tiles x hx
  all_goals refine head_eq _ _ _ _ _ x (fun j => ?_) (fun e => ?_) (fun j e => ?_) (fun j => ?_) ?_
  all_goals first
    | (pointwise; blk_ext; done)
    | (pointwise [k0_pay26, k0_pay2]; blk_ext)

end Cert.SparseIdeal.Gen

end
-- ==== Proof.Sparse.Value.lean ====
/- The array the sparse attention's call leaves, element by element. -/
module

public import Idealize.ShloMosaic.Lib.Pipeline.ValueKit
public import Idealize.ShloMosaic.Lib.Pointwise
public import Idealize.ShloMosaic.Lib.Claim
public import proofs.«01_k».proof.Proof.Sparse.Block

@[expose] public section

set_option maxRecDepth 16384

noncomputable section

namespace Cert.SparseIdeal.Gen

open Idealize.ShloMosaic Idealize.ShloMosaic.TcCoe Idealize.SL.Sem
open Idealize.ShloMosaic.Pipeline (Dat)
open Cert.SparseIdeal Cert.Math Cert.Picked

variable (m : (ℓ : Loc nD τ sig) → Buf (Elt Ideal) ℓ)

/-- The index maps: grid point `t` is query tile `t mod 8` of batch `t / 8`. -/
theorem idx : ∀ t : Fin cfg0.N, win0_0.index t = ![t.val, 0] ∧ win0_1.index t = ![t.val / 8, 0] ∧ win0_2.index t = ![t.val, 0]
    ∧ win0_3.index t = ![t.val, 0] ∧ win0_4.index t = ![t.val, 0] ∧ t.val < 32 :=
  (by decide +kernel : ∀ t : Fin grid0.N, _)

/-- The call's result, from its four arguments. -/
def mix (q : Vec Ideal S8192x1536 .bf16) (kv : Vec Ideal S8192x3072 .bf16) (g : Vec Ideal S8192x1536 .f32)
    (b : Vec Ideal S8192x2048 .bf16) : Vec Ideal S8192x1536 .bf16 := fun j =>
  headOut (biased (bias b (j 0)) (query q (j 0) (j 1)) (keys kv (j 0) (j 1))) (Cert.Fox.vals kv (j 0) (j 1)) (g j)

/-- One element of one block, as that element of the array. -/
theorem point (c : Dev nD) (t : Fin cfg0.N) (y : S256x1536.Idx) :
    out0_4 (iblk m c 0 t) (iblk m c 1 t) (iblk m c 2 t) (iblk m c 3 t) y
      = mix (V m c main_arg0) (V m c main_arg1) (V m c main_arg2) (V m c main_arg3) (((cfg0.win 4).blk t).view.emb y) := by
  obtain ⟨i0, i1, i2, i3, i4, hN⟩ := idx t
  have h0 : (y 0 : ℕ) < 256 := (y 0).isLt
  have h1 : (y 1 : ℕ) < 1536 := (y 1).isLt
  refine (block_at _ _ _ _ y ⟨y 1 / 128, by omega⟩ ⟨y 1 % 128, Nat.mod_lt _ (by omega)⟩ (by simp only; omega)).trans ?_
  unfold mix bias query keys Cert.Fox.vals
  congr 1
  · congr 1
    · funext j; blk_ext [iblk, V, idx t]
    · funext e; blk_ext [iblk, V, idx t]
    · funext j e; blk_ext [iblk, V, idx t]
  · funext j; blk_ext [iblk, V, idx t]

/-- THE ARRAY the call leaves. -/
theorem final (c : Dev nD) :
    (dats m 0 c).arrAt 4 (cfgs 0).N = mix (V m c main_arg0) (V m c main_arg1) (V m c main_arg2) (V m c main_arg3) := by
  refine (dats m 0 c).arrAt_eq_of_covers 4 _ (by decide +kernel) fun t _ y => ?_
  blk_simp
  rw [after0_4]
  exact point m c t y

end Cert.SparseIdeal.Gen

end
-- ==== Proof.Sparse.Reference.lean ====
/- The reference of the sparse attention, read at one element of its result. Past the scores it is the forgetting
   attention's reference: the softmax of the scores, the gated mix of the values. -/
module

public import Idealize.ShloMosaic.Lib.Pipeline.ValueKit
public import Idealize.ShloMosaic.Lib.Pointwise
public import proofs.«01_k».proof.Proof.Gen.SparseReferenceIdeal.Run
public import proofs.«01_k».proof.Proof.Fox.Reference
public import proofs.«01_k».proof.Proof.Sparse.Spec

@[expose] public section

set_option maxRecDepth 16384

noncomputable section

namespace Cert.SparseReferenceIdeal.Value

open Idealize.ShloMosaic Idealize.ShloMosaic.TcCoe Idealize.SL.Sem
open Cert.SparseReferenceIdeal Cert.SparseReferenceIdeal.Gen
open Cert.ReferenceIdeal.Value (foxMix foxSoftmax foxMix_at foxSoftmax_at)

/-- The reference's scores, of every batch, head, query and key: the scaled product where the bias is zero, `-inf` elsewhere. -/
def pickedScores (q : FVec Ideal S8192x1536 .bf16) (kv : FVec Ideal S8192x3072 .bf16) (b : FVec Ideal S8192x2048 .bf16) :
    FVec Ideal S4x12x2048x2048 .f32 :=
  select (broadcastInDim S4x12x2048x2048 ![0, 1, 2, 3] bcast_S4x1x2048x2048_S4x12x2048x2048_0_1_2_3
      (broadcastInDim S4x1x2048x2048 ![0, 2, 3] bcast_S4x2048x2048_S4x1x2048x2048_0_2_3
        (cmpf .oeq (shapeCast S4x2048x2048 (extf .f32 b bitsLt_bf16_f32) shapeCasts_S8192x2048_S4x2048x2048)
          (broadcastInDim S4x2048x2048 ![] bcast_S_S4x2048x2048 (constant S_ .f32 0x00000000#32)))))
    (mulf (Host.dotGeneral dot_S4x2048x12x128_S4x2048x12x128_S4x12x2048x2048_3_3_1_1_02_02 none
        (shapeCast S4x2048x12x128 (extf .f32 q bitsLt_bf16_f32) shapeCasts_S8192x1536_S4x2048x12x128)
        (shapeCast S4x2048x12x128 (extractStridedSlice S4x2048x12x1x128 ![0, 0, 0, 0, 0] (shapeCast S4x2048x12x2x128 (extf .f32 kv bitsLt_bf16_f32) shapeCasts_S8192x3072_S4x2048x12x2x128) slices_S4x2048x12x2x128_S4x2048x12x1x128_0_0_0_0_0) shapeCasts_S4x2048x12x1x128_S4x2048x12x128))
      (broadcastInDim S4x12x2048x2048 ![] bcast_S_S4x12x2048x2048 (constant S_ .f32 0x3DB504F3#32)))
    (broadcastInDim S4x12x2048x2048 ![] bcast_S_S4x12x2048x2048 (constant S_ .f32 0xFF800000#32))

/-- The reference's result is the gated mix of the softmax of the scores. -/
theorem res_eq (m : (ℓ : Loc nD τ sig) → Buf (Elt Ideal) ℓ) (c : Dev nD) :
    res_out0 m c = foxMix (m ((c.tc : Thread nD τ).loc main_arg1))
      (foxSoftmax (pickedScores (m ((c.tc : Thread nD τ).loc main_arg0)) (m ((c.tc : Thread nD τ).loc main_arg1)) (m ((c.tc : Thread nD τ).loc main_arg3))))
      (m ((c.tc : Thread nD τ).loc main_arg2)) := rfl

/-- A score is the row formula `selected` of the query's row, the batch's keys and the row's biases. -/
theorem pickedScores_at (q : FVec Ideal S8192x1536 .bf16) (kv : FVec Ideal S8192x3072 .bf16) (b : FVec Ideal S8192x2048 .bf16)
    (n : Fin 4) (h : Fin 12) (i j : Fin 2048) :
    pickedScores q kv b (ix4 n h i j)
      = Cert.Picked.selected (fun j => b (ix2 ⟨n * 2048 + i, by omega⟩ j))
          (fun e => q (ix2 ⟨n * 2048 + i, by omega⟩ ⟨h * 128 + e, by omega⟩))
          (fun j e => kv (ix2 ⟨n * 2048 + j, by omega⟩ ⟨h * 256 + e, by omega⟩)) j := by
  pointwise [pickedScores, Cert.Picked.selected]

/-- THE REFERENCE at an element: the head formula `headRef` of that element's scores, values and gate. -/
theorem res_at (m : (ℓ : Loc nD τ sig) → Buf (Elt Ideal) ℓ) (c : Dev nD) (r : Fin 8192) (l : Fin 1536) :
    (res_out0 m c : FVec Ideal S8192x1536 .bf16) (ix2 r l)
      = Cert.Math.headRef (Cert.Picked.selected (Cert.Picked.bias (m ((c.tc : Thread nD τ).loc main_arg3)) r)
            (Cert.Picked.query (m ((c.tc : Thread nD τ).loc main_arg0)) r l) (Cert.Picked.keys (m ((c.tc : Thread nD τ).loc main_arg1)) r l))
          (Cert.Fox.vals (m ((c.tc : Thread nD τ).loc main_arg1)) r l)
          ((m ((c.tc : Thread nD τ).loc main_arg2) : FVec Ideal S8192x1536 .f32) (ix2 r l)) := by
  rw [res_eq]
  refine (foxMix_at _ _ _ r l).trans ?_
  simp only [foxSoftmax_at, pickedScores_at]
  have hr : (⟨(r : ℕ) / 2048 * 2048 + (r : ℕ) % 2048, by omega⟩ : Fin 8192) = r := Fin.ext (by simp only; omega)
  simp only [hr]
  rfl

end Cert.SparseReferenceIdeal.Value

end
-- ==== Proof.lean ====
module

public import proofs.«01_k».proof.Proof.Gen.KernelIdeal.Value
public import proofs.«01_k».proof.Proof.Gen.Proj.Frame
public import proofs.«01_k».proof.Proof.Gen.ProjIdeal.Frame
public import proofs.«01_k».proof.Proof.Gen.ProjReferenceIdeal.Run
public import proofs.«01_k».proof.Proof.Gen.Merge.Frame
public import proofs.«01_k».proof.Proof.Gen.MergeIdeal.Frame
public import proofs.«01_k».proof.Proof.Gen.MergeReferenceIdeal.Run
public import proofs.«01_k».proof.Proof.Gen.Pool.Frame
public import proofs.«01_k».proof.Proof.Gen.PoolIdeal.Value
public import proofs.«01_k».proof.Proof.Gen.PoolReferenceIdeal.Run
public import proofs.«01_k».proof.Proof.Gen.Sample.Frame
public import proofs.«01_k».proof.Proof.Gen.SampleIdeal.Frame
public import proofs.«01_k».proof.Proof.Gen.SampleReferenceIdeal.Run
public import proofs.«01_k».proof.Proof.Gen.Close.Frame
public import proofs.«01_k».proof.Proof.Gen.CloseIdeal.Frame
public import proofs.«01_k».proof.Proof.Gen.CloseReferenceIdeal.Run
public import proofs.«01_k».proof.Proof.Gen.Sparse.Frame
public import proofs.«01_k».proof.Proof.Gen.SparseIdeal.Value
public import proofs.«01_k».proof.Proof.Gen.SparseReferenceIdeal.Run
public import proofs.«01_k».proof.Proof.Gen.ReferenceIdeal.Run
public import proofs.«01_k».proof.Proof.Fox.Pre
public import proofs.«01_k».proof.Proof.Fox.Value
public import proofs.«01_k».proof.Proof.Fox.Reference
public import proofs.«01_k».proof.Proof.Proj.Run
public import proofs.«01_k».proof.Proof.Proj.RefRun
public import proofs.«01_k».proof.Proof.Merge.Run
public import proofs.«01_k».proof.Proof.Merge.Reference
public import proofs.«01_k».proof.Proof.Sample.Run
public import proofs.«01_k».proof.Proof.Sample.Reference
public import proofs.«01_k».proof.Proof.Close.Run
public import proofs.«01_k».proof.Proof.Close.Reference
public import proofs.«01_k».proof.Proof.Pool.Pre
public import proofs.«01_k».proof.Proof.Pool.Value
public import proofs.«01_k».proof.Proof.Pool.Reference
public import proofs.«01_k».proof.Proof.Sparse.Pre
public import proofs.«01_k».proof.Proof.Sparse.Value
public import proofs.«01_k».proof.Proof.Sparse.Reference
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init

@[expose] public section

noncomputable section

namespace Cert.Proof

open Idealize.ShloMosaic Idealize.SL.Sem Cert.Kernel

/-- The forgetting attention's reference runs, leaves its arguments as they were and every counter at zero: it is host
    code alone, so it has no counter at all. -/
theorem fox_reference_frame : haveI := Cert.ReferenceIdeal.Gen.facts; Cert.quiescent_ReferenceIdeal := fun m ρ _ =>
  (θ_run (Cert.ReferenceIdeal.defs (F := Ideal)) _ _).mono
    (fun r h => ⟨fun c => (h c).2, sem_eq_zero_of_no_sems (by decide) r.2⟩)
    (Cert.ReferenceIdeal.Value.run (F := Ideal) m ρ)

/-- The forgetting attention's call against its reference: on finite queries, keys, values and gates the two results
    are equal, element by element. -/
theorem fox : haveI := Cert.Pre_finite_logits.facts; Cert.algebraic_KernelIdeal_ReferenceIdeal_pre_finite_logits := by
  haveI := Cert.Pre_finite_logits.facts
  pair_intro
  · run_from Cert.KernelIdeal.Gen.run_main m g
  · run_from Cert.ReferenceIdeal.Value.run m' g'
    obtain ⟨h0, h1, h2, h3⟩ := hagree c
    obtain ⟨hq, hkv, hc⟩ := Cert.Pre_finite_logits.finite_of_pre _ _ _ _ (hpre c)
    rw [Cert.KernelIdeal.Gen.final, Cert.KernelIdeal.Gen.V_main_arg0, Cert.KernelIdeal.Gen.V_main_arg1,
      Cert.KernelIdeal.Gen.V_main_arg2, Cert.KernelIdeal.Gen.V_main_arg3]
    funext j
    idx_vars j
    refine (Cert.ReferenceIdeal.Value.res_at m' c _ _).trans ?_
    rw [h0, h1, h2, h3]
    exact (Cert.Fox.head_agree _ _ _ hq hkv hc _ _ _).symm

/-- The projections' reference runs, leaves its arguments as they were and every counter at zero. -/
theorem proj_reference_frame : haveI := Cert.ProjReferenceIdeal.Gen.facts; Cert.quiescent_ProjReferenceIdeal := fun m ρ _ =>
  (θ_run (Cert.ProjReferenceIdeal.defs (F := Ideal)) _ _).mono
    (fun r h => ⟨fun c => (h c).2.2.2.2.2.2.2.2.2.2.2.2.2.2, sem_eq_zero_of_no_sems (by decide) r.2⟩)
    (Cert.ProjReferenceIdeal.Value.run_values m ρ)

/-- The projections' calls against their reference: the fourteen results are equal, element by element, for any
    arguments. -/
theorem proj : Cert.algebraic_ProjIdeal_ProjReferenceIdeal := by
  pair_intro
  · run_from Cert.ProjIdeal.Gen.run_values m g
  · run_from Cert.ProjReferenceIdeal.Value.run_values m' g'
    all_goals
      obtain ⟨h0, h1, h2, h3⟩ := hagree c
      have hX : Cert.ProjReferenceIdeal.Value.argX (StableHlo.launchContents m' c) = Cert.ProjIdeal.Gen.argX (Cert.ProjIdeal.Gen.W0 m g c) := by
        funext b s k; exact congrFun h0 _
      have hG : Cert.ProjReferenceIdeal.Value.argG (StableHlo.launchContents m' c) = Cert.ProjIdeal.Gen.argG (Cert.ProjIdeal.Gen.W0 m g c) := by
        funext k; exact congrFun h1 _
      have hW : Cert.ProjReferenceIdeal.Value.argW (StableHlo.launchContents m' c) = Cert.ProjIdeal.Gen.argW (Cert.ProjIdeal.Gen.W0 m g c) := by
        funext k n; exact congrFun h2 _
      have hB : Cert.ProjReferenceIdeal.Value.argB (StableHlo.launchContents m' c) = Cert.ProjIdeal.Gen.argB (Cert.ProjIdeal.Gen.W0 m g c) := by
        funext h; exact congrFun h3 _
      first
        | rw [hX, hG, hW, hB]
        | rw [hX, hG, hW]

/-- The layer's end: its reference runs, leaves its arguments as they were and every counter at zero. -/
theorem merge_reference_frame : haveI := Cert.MergeReferenceIdeal.Gen.facts; Cert.quiescent_MergeReferenceIdeal := fun m ρ _ =>
  (θ_run (Cert.MergeReferenceIdeal.defs (F := Ideal)) _ _).mono
    (fun r h => ⟨fun c => (h c).2, sem_eq_zero_of_no_sems (by decide) r.2⟩)
    (Cert.MergeReferenceIdeal.Value.run_values m ρ)

/-- The output projection's and the closing normalisation's calls against their reference: the results are equal,
    element by element, for any arguments. -/
theorem merge : Cert.algebraic_MergeIdeal_MergeReferenceIdeal := by
  pair_intro
  · run_from Cert.MergeIdeal.Gen.run_values m g
  · run_from Cert.MergeReferenceIdeal.Value.run_values m' g'
    obtain ⟨h0, h1, h2, h3, h4, h5⟩ := hagree c
    unfold Cert.MergeReferenceIdeal.Value.out Cert.MergeReferenceIdeal.Value.argX Cert.MergeReferenceIdeal.Value.mixA
      Cert.MergeReferenceIdeal.Value.mixB Cert.MergeReferenceIdeal.Value.mixC Cert.MergeReferenceIdeal.Value.argW
      Cert.MergeReferenceIdeal.Value.argG
    rw [h0, h1, h2, h3, h4, h5]
    rfl

/-- The pooling heads' reference runs, leaves its arguments as they were and every counter at zero. -/
theorem pool_reference_frame : haveI := Cert.PoolReferenceIdeal.Gen.facts; Cert.quiescent_PoolReferenceIdeal := fun m ρ _ =>
  (θ_run (Cert.PoolReferenceIdeal.defs (F := Ideal)) _ _).mono
    (fun r h => ⟨fun c => (h c).2, sem_eq_zero_of_no_sems (by decide) r.2⟩)
    (Cert.PoolReferenceIdeal.Value.run (F := Ideal) m ρ)

/-- The pooling heads' call against its reference: where the pooled rows are finite the two results are equal, element
    by element. -/
theorem pool : haveI := Cert.Pre_finite_rows.facts; Cert.algebraic_PoolIdeal_PoolReferenceIdeal_pre_finite_rows := by
  haveI := Cert.Pre_finite_rows.facts
  pair_intro
  · run_from Cert.PoolIdeal.Gen.run_main m g
  · run_from Cert.PoolReferenceIdeal.Value.run m' g'
    obtain ⟨h0, h1, h2⟩ := hagree c
    have hu := Cert.Pre_finite_rows.finite_of_pre _ _ _ (hpre c)
    rw [Cert.PoolIdeal.Gen.final, Cert.PoolIdeal.Gen.V_main_arg0]
    funext j
    idx_vars j
    refine (Cert.PoolReferenceIdeal.Value.res_at m' c (by rw [h0]; exact hu) _ _).trans ?_
    rw [h0, h1, h2]
    rfl

/-- The sparse attention's reference runs, leaves its arguments as they were and every counter at zero. -/
theorem sparse_reference_frame : haveI := Cert.SparseReferenceIdeal.Gen.facts; Cert.quiescent_SparseReferenceIdeal := fun m ρ _ =>
  (θ_run (Cert.SparseReferenceIdeal.defs (F := Ideal)) _ _).mono
    (fun r h => ⟨fun c => (h c).2, sem_eq_zero_of_no_sems (by decide) r.2⟩)
    (Cert.SparseReferenceIdeal.Value.run (F := Ideal) m ρ)

/-- The sparse attention's call against its reference: on finite queries, keys and values, and biases that pick at least
    one key a query, the two results are equal, element by element. -/
theorem sparse : haveI := Cert.Pre_picked_keys.facts; Cert.algebraic_SparseIdeal_SparseReferenceIdeal_pre_picked_keys := by
  haveI := Cert.Pre_picked_keys.facts
  pair_intro
  · run_from Cert.SparseIdeal.Gen.run_main m g
  · run_from Cert.SparseReferenceIdeal.Value.run m' g'
    obtain ⟨h0, h1, h2, h3⟩ := hagree c
    obtain ⟨hq, hkv, hb, hp⟩ := Cert.Pre_picked_keys.picked_of_pre _ _ _ _ (hpre c)
    rw [Cert.SparseIdeal.Gen.final, Cert.SparseIdeal.Gen.V_main_arg0, Cert.SparseIdeal.Gen.V_main_arg1,
      Cert.SparseIdeal.Gen.V_main_arg2, Cert.SparseIdeal.Gen.V_main_arg3]
    funext j
    idx_vars j
    refine (Cert.SparseReferenceIdeal.Value.res_at m' c _ _).trans ?_
    rw [h0, h1, h2, h3]
    exact (Cert.Picked.head_agree _ _ _ hq hkv hb hp _ _ _ _).symm

/-- The tokens' reference runs, leaves its arguments as they were and every counter at zero. -/
theorem sample_reference_frame : haveI := Cert.SampleReferenceIdeal.Gen.facts; Cert.quiescent_SampleReferenceIdeal := fun m ρ _ =>
  (θ_run (Cert.SampleReferenceIdeal.defs (F := Ideal)) _ _).mono
    (fun r h => ⟨fun c => (h c).2.2.2.2.2, sem_eq_zero_of_no_sems (by decide) r.2⟩)
    (Cert.SampleReferenceIdeal.Value.run_values m ρ)

/-- The token projections' calls against their reference: the five results are equal, element by element, for any
    arguments. -/
theorem sample : Cert.algebraic_SampleIdeal_SampleReferenceIdeal := by
  pair_intro
  · run_from Cert.SampleIdeal.Gen.run_values m g
  · run_from Cert.SampleReferenceIdeal.Value.run_values m' g'
    all_goals
      obtain ⟨h0, h1, h2, h3, h4⟩ := hagree c
      have hX : Cert.SampleReferenceIdeal.Value.argX m' c = Cert.SampleIdeal.Gen.argX (Cert.SampleIdeal.Gen.W0 m g c) := by
        funext b k; exact congrFun h0 _
      have hS : Cert.SampleReferenceIdeal.Value.argS m' c = Cert.SampleIdeal.Gen.argS (Cert.SampleIdeal.Gen.W0 m g c) := by
        funext b s l; exact congrFun h1 _
      have hG : Cert.SampleReferenceIdeal.Value.argG m' c = Cert.SampleIdeal.Gen.argG (Cert.SampleIdeal.Gen.W0 m g c) := by
        funext k; exact congrFun h2 _
      have hW : Cert.SampleReferenceIdeal.Value.argW m' c = Cert.SampleIdeal.Gen.argW (Cert.SampleIdeal.Gen.W0 m g c) := by
        funext k n; exact congrFun h3 _
      have hB : Cert.SampleReferenceIdeal.Value.argB m' c = Cert.SampleIdeal.Gen.argB (Cert.SampleIdeal.Gen.W0 m g c) := by
        funext h; exact congrFun h4 _
      first
        | unfold Cert.SampleReferenceIdeal.Value.outAkv; rw [hX, hG, hW]
        | unfold Cert.SampleReferenceIdeal.Value.outGate; rw [hX, hG, hW, hB]
        | unfold Cert.SampleReferenceIdeal.Value.outCkv; rw [hX, hG, hW]
        | unfold Cert.SampleReferenceIdeal.Value.outIk; rw [hX, hG, hW]
        | unfold Cert.SampleReferenceIdeal.Value.outPool; rw [hX, hG, hW, hS]

/-- The end of the tokens' layer: its reference runs, leaves its arguments as they were and every counter at zero. -/
theorem close_reference_frame : haveI := Cert.CloseReferenceIdeal.Gen.facts; Cert.quiescent_CloseReferenceIdeal := fun m ρ _ =>
  (θ_run (Cert.CloseReferenceIdeal.defs (F := Ideal)) _ _).mono
    (fun r h => ⟨fun c => (h c).2, sem_eq_zero_of_no_sems (by decide) r.2⟩)
    (Cert.CloseReferenceIdeal.Value.run_values m ρ)

/-- The tokens' output projection and closing normalisation against their reference: the results are equal, element by
    element, for any arguments. -/
theorem close : Cert.algebraic_CloseIdeal_CloseReferenceIdeal := by
  pair_intro
  · run_from Cert.CloseIdeal.Gen.run_values m g
  · run_from Cert.CloseReferenceIdeal.Value.run_values m' g'
    obtain ⟨h0, h1, h2, h3, h4, h5⟩ := hagree c
    unfold Cert.CloseReferenceIdeal.Value.out Cert.CloseReferenceIdeal.Value.argX Cert.CloseReferenceIdeal.Value.mixA
      Cert.CloseReferenceIdeal.Value.mixB Cert.CloseReferenceIdeal.Value.mixC Cert.CloseReferenceIdeal.Value.argW
      Cert.CloseReferenceIdeal.Value.argG
    rw [h0, h1, h2, h3, h4, h5]
    rfl

theorem claim : Cert.Claim :=
  ⟨Cert.Kernel.Gen.facts, Cert.KernelIdeal.Gen.facts, Cert.ReferenceIdeal.Gen.facts, Cert.Proj.Gen.facts, Cert.ProjIdeal.Gen.facts,
    Cert.ProjReferenceIdeal.Gen.facts, Cert.Merge.Gen.facts, Cert.MergeIdeal.Gen.facts, Cert.MergeReferenceIdeal.Gen.facts,
    Cert.Pool.Gen.facts, Cert.PoolIdeal.Gen.facts, Cert.PoolReferenceIdeal.Gen.facts,
    Cert.Sparse.Gen.facts, Cert.SparseIdeal.Gen.facts, Cert.SparseReferenceIdeal.Gen.facts,
    Cert.Sample.Gen.facts, Cert.SampleIdeal.Gen.facts, Cert.SampleReferenceIdeal.Gen.facts,
    Cert.Close.Gen.facts, Cert.CloseIdeal.Gen.facts, Cert.CloseReferenceIdeal.Gen.facts,
    Cert.Pre_finite_logits.facts, Cert.Pre_finite_rows.facts, Cert.Pre_picked_keys.facts,
    fun m ρ _ => Cert.Kernel.Gen.frame m ρ, fun m ρ _ => Cert.KernelIdeal.Gen.frame m ρ, fun m ρ _ => Cert.KernelIdeal.Gen.frame m ρ,
    fox_reference_frame, fun m ρ _ => fox_reference_frame m ρ trivial,
    fun m ρ _ => Cert.Proj.Gen.frame m ρ, fun m ρ _ => Cert.ProjIdeal.Gen.frame m ρ, proj_reference_frame,
    fun m ρ _ => Cert.Merge.Gen.frame m ρ, fun m ρ _ => Cert.MergeIdeal.Gen.frame m ρ, merge_reference_frame,
    fun m ρ _ => Cert.Pool.Gen.frame m ρ, fun m ρ _ => Cert.PoolIdeal.Gen.frame m ρ, fun m ρ _ => Cert.PoolIdeal.Gen.frame m ρ,
    pool_reference_frame, fun m ρ _ => pool_reference_frame m ρ trivial,
    fun m ρ _ => Cert.Sparse.Gen.frame m ρ, fun m ρ _ => Cert.SparseIdeal.Gen.frame m ρ, fun m ρ _ => Cert.SparseIdeal.Gen.frame m ρ,
    sparse_reference_frame, fun m ρ _ => sparse_reference_frame m ρ trivial,
    fun m ρ _ => Cert.Sample.Gen.frame m ρ, fun m ρ _ => Cert.SampleIdeal.Gen.frame m ρ, sample_reference_frame,
    fun m ρ _ => Cert.Close.Gen.frame m ρ, fun m ρ _ => Cert.CloseIdeal.Gen.frame m ρ, close_reference_frame,
    trivial, fox, trivial, proj, trivial, merge, trivial, pool, trivial, sparse, trivial, sample, trivial, close⟩

end Cert.Proof

end
